-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 8192]⟩ ⟨2, ![4096, 8192]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x8192 : Shape := ⟨2, ![1024, 8192]⟩
abbrev S_ : Shape := ⟨0, ![]⟩
abbrev S1024x1024 : Shape := ⟨2, ![1024, 1024]⟩
abbrev S1024x4096 : Shape := ⟨2, ![1024, 4096]⟩
abbrev S8x128 : Shape := ⟨2, ![8, 128]⟩
abbrev S2x1024x4096 : Shape := ⟨3, ![2, 1024, 4096]⟩
abbrev S256x1024 : Shape := ⟨2, ![256, 1024]⟩
abbrev S256x4096 : Shape := ⟨2, ![256, 4096]⟩
abbrev S12 : Shape := ⟨1, ![12]⟩
abbrev S8 : Shape := ⟨1, ![8]⟩
abbrev S4 : Shape := ⟨1, ![4]⟩
abbrev S1 : Shape := ⟨1, ![1]⟩
abbrev S1x256x4096 : Shape := ⟨3, ![1, 256, 4096]⟩
abbrev S1x1x1 : Shape := ⟨3, ![1, 1, 1]⟩
abbrev S32x128 : Shape := ⟨2, ![32, 128]⟩
abbrev S3 : Shape := ⟨1, ![3]⟩
abbrev S1x32x128 : Shape := ⟨3, ![1, 32, 128]⟩
abbrev S4096x8192 : Shape := ⟨2, ![4096, 8192]⟩
abbrev S2 : Shape := ⟨1, ![2]⟩
abbrev S256x8192 : Shape := ⟨2, ![256, 8192]⟩

abbrev nBuf : Space → Nat
  | .hbm => 31
  | .vmem => 23
  | .smem => 0
  | _ => 0

abbrev bufTy : (tb : Table) → Fin (tcTables nBuf tb) → BufTy
  | .hbm, ⟨0, _⟩ => ⟨S4096x1024, .bf16⟩
  | .hbm, ⟨1, _⟩ => ⟨S1024x8192, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S1024x1024, .bf16⟩
  | .hbm, ⟨17, _⟩ => ⟨S1024x8192, .f32⟩
  | .hbm, ⟨18, _⟩ => ⟨S1024x8192, .bf16⟩
  | .hbm, ⟨19, _⟩ => ⟨S1024x4096, .f32⟩
  | .hbm, ⟨20, _⟩ => ⟨S1024x4096, .f32⟩
  | .hbm, ⟨21, _⟩ => ⟨S8x128, .f32⟩
  | .hbm, ⟨22, _⟩ => ⟨S2x1024x4096, .f32⟩
  | .hbm, ⟨23, _⟩ => ⟨S2x1024x4096, .f32⟩
  | .hbm, ⟨24, _⟩ => ⟨S1024x4096, .bf16⟩
  | .hbm, ⟨25, _⟩ => ⟨S1024x4096, .bf16⟩
  | .hbm, ⟨26, _⟩ => ⟨S32x128, .f32⟩
  | .hbm, ⟨27, _⟩ => ⟨S1024x4096, .fp8e4m3⟩
  | .hbm, ⟨28, _⟩ => ⟨S1024x4096, .fp8e4m3⟩
  | .hbm, ⟨29, _⟩ => ⟨S4096x8192, .fp8e4m3⟩
  | .hbm, ⟨30, _⟩ => ⟨S4096x8192, .bf16⟩
  | .local _ .vmem, ⟨0, _⟩ => ⟨S8x128, .f32⟩
  | .local _ .vmem, ⟨1, _⟩ => ⟨S1024x8192, .bf16⟩
  | .local _ .vmem, ⟨2, _⟩ => ⟨S256x1024, .bf16⟩
  | .local _ .vmem, ⟨3, _⟩ => ⟨S1024x4096, .f32⟩
  | .local _ .vmem, ⟨4, _⟩ => ⟨S1024x4096, .f32⟩
  | .local _ .vmem, ⟨5, _⟩ => ⟨S256x4096, .f32⟩
  | .local _ .vmem, ⟨6, _⟩ => ⟨S256x4096, .bf16⟩
  | .local _ .vmem, ⟨7, _⟩ => ⟨S8x128, .f32⟩
  | .local _ .vmem, ⟨8, _⟩ => ⟨S32x128, .f32⟩
  | .local _ .vmem, ⟨9, _⟩ => ⟨S256x4096, .f32⟩
  | .local _ .vmem, ⟨10, _⟩ => ⟨S256x4096, .f32⟩
  | .local _ .vmem, ⟨11, _⟩ => ⟨S256x4096, .f32⟩
  | .local _ .vmem, ⟨12, _⟩ => ⟨S256x4096, .f32⟩
  | .local _ .vmem, ⟨13, _⟩ => ⟨S32x128, .f32⟩
  | .local _ .vmem, ⟨14, _⟩ => ⟨S256x4096, .fp8e4m3⟩
  | .local _ .vmem, ⟨15, _⟩ => ⟨S256x4096, .fp8e4m3⟩
  | .local _ .vmem, ⟨16, _⟩ => ⟨S256x4096, .fp8e4m3⟩
  | .local _ .vmem, ⟨17, _⟩ => ⟨S256x4096, .fp8e4m3⟩
  | .local _ .vmem, ⟨18, _⟩ => ⟨S256x8192, .fp8e4m3⟩
  | .local _ .vmem, ⟨19, _⟩ => ⟨S256x8192, .fp8e4m3⟩
  | .local _ .vmem, ⟨20, _⟩ => ⟨S32x128, .f32⟩
  | .local _ .vmem, ⟨21, _⟩ => ⟨S256x8192, .bf16⟩
  | .local _ .vmem, ⟨22, _⟩ => ⟨S256x8192, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 6 → Bool
  | ⟨0, _⟩ => true
  | ⟨1, _⟩ => false
  | ⟨2, _⟩ => true
  | ⟨3, _⟩ => false
  | ⟨4, _⟩ => true
  | ⟨5, _⟩ => false
  | _ => false

abbrev dmaSemScoped : Fin 97 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | _ => false

abbrev sig : RefSig :=
  (ofTc nBuf bufTy 6 97 bufScoped semScoped dmaSemScoped tileCredit tileCredit_eq_zero tileCredit_pos).withBarriers [(0, 1), (1, 3), (2, 5)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_c_2 : Ref sig .tc := ⟨.hbm, 10, rfl⟩
abbrev main_v6 : Ref sig .tc := ⟨.hbm, 11, rfl⟩
abbrev main_c_3 : Ref sig .tc := ⟨.hbm, 12, rfl⟩
abbrev main_v7 : Ref sig .tc := ⟨.hbm, 13, rfl⟩
abbrev main_v8 : Ref sig .tc := ⟨.hbm, 14, rfl⟩
abbrev main_c_4 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v12_2 : Ref sig .tc := ⟨.hbm, 21, rfl⟩
abbrev main_v12_3 : Ref sig .tc := ⟨.hbm, 22, rfl⟩
abbrev main_v12_4 : Ref sig .tc := ⟨.hbm, 23, rfl⟩
abbrev main_v12_5 : Ref sig .tc := ⟨.hbm, 24, rfl⟩
abbrev main_v12_6 : Ref sig .tc := ⟨.hbm, 25, rfl⟩
abbrev main_v13 : Ref sig .tc := ⟨.hbm, 26, rfl⟩
abbrev main_v14_0 : Ref sig .tc := ⟨.hbm, 27, rfl⟩
abbrev main_v14_1 : Ref sig .tc := ⟨.hbm, 28, rfl⟩
abbrev main_v15 : Ref sig .tc := ⟨.hbm, 29, rfl⟩
abbrev main_v16 : Ref sig .tc := ⟨.hbm, 30, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc1_stg0_0 : Ref sig .tc := ⟨.vmem, 7, rfl⟩
abbrev cc1_stg1_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc2_stg4_0 : Ref sig .tc := ⟨.vmem, 16, rfl⟩
abbrev cc2_stg4_1 : Ref sig .tc := ⟨.vmem, 17, rfl⟩
abbrev cc4_stg0_0 : Ref sig .tc := ⟨.vmem, 18, rfl⟩
abbrev cc4_stg0_1 : Ref sig .tc := ⟨.vmem, 19, rfl⟩
abbrev cc4_stg1_0 : Ref sig .tc := ⟨.vmem, 20, rfl⟩
abbrev cc4_stg2_0 : Ref sig .tc := ⟨.vmem, 21, rfl⟩
abbrev cc4_stg2_1 : Ref sig .tc := ⟨.vmem, 22, rfl⟩
abbrev cc0_sem0_0 : DmaSem sig := 0
abbrev cc1_sem0_0 : DmaSem sig := 61
abbrev cc1_sem1_0 : DmaSem sig := 62
abbrev cc2_sem0_0 : DmaSem sig := 69
abbrev cc2_sem0_1 : DmaSem sig := 70
abbrev cc2_sem1_0 : DmaSem sig := 71
abbrev cc2_sem1_1 : DmaSem sig := 72
abbrev cc2_sem2_0 : DmaSem sig := 73
abbrev cc2_sem3_0 : DmaSem sig := 74
abbrev cc2_sem3_1 : DmaSem sig := 75
abbrev cc2_sem4_0 : DmaSem sig := 76
abbrev cc2_sem4_1 : DmaSem sig := 77
abbrev cc4_sem0_0 : DmaSem sig := 92
abbrev cc4_sem0_1 : DmaSem sig := 93
abbrev cc4_sem1_0 : DmaSem sig := 94
abbrev cc4_sem2_0 : DmaSem sig := 95
abbrev cc4_sem2_1 : DmaSem sig := 96
abbrev barrier0 : Sem sig := 1
abbrev barrier1 : Sem sig := 3
abbrev barrier2 : Sem sig := 5

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v28 : BitVec 32 := Scalar.muli v13 c1_i32_14
  let v29 : BitVec 32 := Scalar.addi c0_i32_15 v28
  v29.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v30 : BitVec 32 := Scalar.muli v24 c1_i32_17
  let v31 : BitVec 32 := Scalar.addi c0_i32_18 v30
  v31.toNat
def k0_dev3 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_22 : BitVec 32 := 1#32
  let v34 : BitVec 32 := Scalar.muli v24 c1_i32_22
  let v35 : BitVec 32 := Scalar.addi c0_i32_23 v34
  v35.toNat
def k0_dev4 (d0 : Dev nD) : Nat :=
  let c0_i32_31 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_30 : BitVec 32 := 1#32
  let v42 : BitVec 32 := Scalar.muli v13 c1_i32_30
  let v43 : BitVec 32 := Scalar.addi c0_i32_31 v42
  v43.toNat
def k0_dev5 (d0 : Dev nD) : Nat :=
  let c0_i32_38 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_37 : BitVec 32 := 1#32
  let v50 : BitVec 32 := Scalar.muli v24 c1_i32_37
  let v51 : BitVec 32 := Scalar.addi c0_i32_38 v50
  v51.toNat
def k0_dev6 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_44 : BitVec 32 := 1#32
  let v58 : BitVec 32 := Scalar.muli v13 c1_i32_44
  let v59 : BitVec 32 := Scalar.addi c0_i32_45 v58
  v59.toNat
def k0_dev7 (d0 : Dev nD) : Nat :=
  let c0_i32_53 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_52 : BitVec 32 := 1#32
  let v66 : BitVec 32 := Scalar.muli v24 c1_i32_52
  let v67 : BitVec 32 := Scalar.addi c0_i32_53 v66
  v67.toNat
def k0_dev8 (d0 : Dev nD) : Nat :=
  let c0_i32_60 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_59 : BitVec 32 := 1#32
  let v74 : BitVec 32 := Scalar.muli v13 c1_i32_59
  let v75 : BitVec 32 := Scalar.addi c0_i32_60 v74
  v75.toNat
def k0_dev9 (d0 : Dev nD) : Nat :=
  let c0_i32_68 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_67 : BitVec 32 := 1#32
  let v82 : BitVec 32 := Scalar.muli v24 c1_i32_67
  let v83 : BitVec 32 := Scalar.addi c0_i32_68 v82
  v83.toNat
def k0_dev10 (d0 : Dev nD) : Nat :=
  let c0_i32_75 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_74 : BitVec 32 := 1#32
  let v90 : BitVec 32 := Scalar.muli v13 c1_i32_74
  let v91 : BitVec 32 := Scalar.addi c0_i32_75 v90
  v91.toNat
def k0_off1 (d0 : Dev nD) (c0_i32_80 : BitVec 32) (c0_i32_114 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v98 : BitVec 32 := Scalar.subi v2 c0_i32_80
  let c1_i32_81 : BitVec 32 := 1#32
  let v99 : BitVec 32 := Scalar.subi v98 c1_i32_81
  let c4_i32_82 : BitVec 32 := 4#32
  let c0_i32_83 : BitVec 32 := 0#32
  let v100 : BitVec 1 := Scalar.cmpi .eq c4_i32_82 c0_i32_83
  let c1_i32_84 : BitVec 32 := 1#32
  let v101 : BitVec 32 := Scalar.select v100 c1_i32_84 c4_i32_82
  let v102 : BitVec 32 := Scalar.remsi v99 v101
  let c0_i32_86 : BitVec 32 := 0#32
  let v104 : BitVec 1 := Scalar.cmpi .slt v102 c0_i32_86
  let c0_i32_87 : BitVec 32 := 0#32
  let v105 : BitVec 1 := Scalar.cmpi .slt v101 c0_i32_87
  let v106 : BitVec 1 := Scalar.xori v104 v105
  let c0_i32_85 : BitVec 32 := 0#32
  let v103 : BitVec 1 := Scalar.cmpi .ne v102 c0_i32_85
  let v107 : BitVec 1 := Scalar.andi v106 v103
  let v108 : BitVec 32 := Scalar.addi v102 v101
  let v109 : BitVec 32 := Scalar.select v107 v108 v102
  let c1024_i32 : BitVec 32 := 1024#32
  let v135 : BitVec 32 := Scalar.muli v109 c1024_i32
  let v136 : BitVec 32 := Scalar.addi v135 c0_i32_114
  let c0_i32_116 : BitVec 32 := 0#32
  ![v136.toNat, 0]
def k0_dev11 (d0 : Dev nD) : Nat :=
  let c0_i32_133 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_132 : BitVec 32 := 1#32
  let v155 : BitVec 32 := Scalar.muli v24 c1_i32_132
  let v156 : BitVec 32 := Scalar.addi c0_i32_133 v155
  v156.toNat
def k0_off2 (d0 : Dev nD) (c0_i32_88 : BitVec 32) (c0_i32_157 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v110 : BitVec 32 := Scalar.addi v2 c0_i32_88
  let c1_i32_89 : BitVec 32 := 1#32
  let v111 : BitVec 32 := Scalar.addi v110 c1_i32_89
  let c4_i32_90 : BitVec 32 := 4#32
  let c0_i32_91 : BitVec 32 := 0#32
  let v112 : BitVec 1 := Scalar.cmpi .eq c4_i32_90 c0_i32_91
  let c1_i32_92 : BitVec 32 := 1#32
  let v113 : BitVec 32 := Scalar.select v112 c1_i32_92 c4_i32_90
  let v114 : BitVec 32 := Scalar.remsi v111 v113
  let c0_i32_94 : BitVec 32 := 0#32
  let v116 : BitVec 1 := Scalar.cmpi .slt v114 c0_i32_94
  let c0_i32_95 : BitVec 32 := 0#32
  let v117 : BitVec 1 := Scalar.cmpi .slt v113 c0_i32_95
  let v118 : BitVec 1 := Scalar.xori v116 v117
  let c0_i32_93 : BitVec 32 := 0#32
  let v115 : BitVec 1 := Scalar.cmpi .ne v114 c0_i32_93
  let v119 : BitVec 1 := Scalar.andi v118 v115
  let v120 : BitVec 32 := Scalar.addi v114 v113
  let v121 : BitVec 32 := Scalar.select v119 v120 v114
  let c1024_i32_156 : BitVec 32 := 1024#32
  let v177 : BitVec 32 := Scalar.muli v121 c1024_i32_156
  let v178 : BitVec 32 := Scalar.addi v177 c0_i32_157
  let c0_i32_159 : BitVec 32 := 0#32
  ![v178.toNat, 0]
def k0_dev12 (d0 : Dev nD) : Nat :=
  let c0_i32_177 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_176 : BitVec 32 := 1#32
  let v197 : BitVec 32 := Scalar.muli v13 c1_i32_176
  let v198 : BitVec 32 := Scalar.addi c0_i32_177 v197
  v198.toNat
def k0_dev13 (d0 : Dev nD) : Nat :=
  let c0_i32_220 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_219 : BitVec 32 := 1#32
  let v239 : BitVec 32 := Scalar.muli v24 c1_i32_219
  let v240 : BitVec 32 := Scalar.addi c0_i32_220 v239
  v240.toNat
def k0_dev14 (d0 : Dev nD) : Nat :=
  let c0_i32_265 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_264 : BitVec 32 := 1#32
  let v281 : BitVec 32 := Scalar.muli v13 c1_i32_264
  let v282 : BitVec 32 := Scalar.addi c0_i32_265 v281
  v282.toNat
def k0_dev15 (d0 : Dev nD) : Nat :=
  let c0_i32_308 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_307 : BitVec 32 := 1#32
  let v323 : BitVec 32 := Scalar.muli v24 c1_i32_307
  let v324 : BitVec 32 := Scalar.addi c0_i32_308 v323
  v324.toNat
def k0_dev16 (d0 : Dev nD) : Nat :=
  let c0_i32_353 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_352 : BitVec 32 := 1#32
  let v365 : BitVec 32 := Scalar.muli v13 c1_i32_352
  let v366 : BitVec 32 := Scalar.addi c0_i32_353 v365
  v366.toNat
def k0_dev17 (d0 : Dev nD) : Nat :=
  let c0_i32_396 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_395 : BitVec 32 := 1#32
  let v407 : BitVec 32 := Scalar.muli v24 c1_i32_395
  let v408 : BitVec 32 := Scalar.addi c0_i32_396 v407
  v408.toNat
def k0_dev18 (d0 : Dev nD) : Nat :=
  let c0_i32_441 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_440 : BitVec 32 := 1#32
  let v449 : BitVec 32 := Scalar.muli v13 c1_i32_440
  let v450 : BitVec 32 := Scalar.addi c0_i32_441 v449
  v450.toNat
def k0_dev19 (d0 : Dev nD) : Nat :=
  let c0_i32_505 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_504 : BitVec 32 := 1#32
  let v518 : BitVec 32 := Scalar.muli v24 c1_i32_504
  let v519 : BitVec 32 := Scalar.addi c0_i32_505 v518
  v519.toNat
def k0_dev20 (d0 : Dev nD) : Nat :=
  let c0_i32_554 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_553 : BitVec 32 := 1#32
  let v563 : BitVec 32 := Scalar.muli v13 c1_i32_553
  let v564 : BitVec 32 := Scalar.addi c0_i32_554 v563
  v564.toNat
def k0_dev21 (d0 : Dev nD) : Nat :=
  let c0_i32_602 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_601 : BitVec 32 := 1#32
  let v608 : BitVec 32 := Scalar.muli v24 c1_i32_601
  let v609 : BitVec 32 := Scalar.addi c0_i32_602 v608
  v609.toNat
def k0_dev22 (d0 : Dev nD) : Nat :=
  let c0_i32_651 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_650 : BitVec 32 := 1#32
  let v653 : BitVec 32 := Scalar.muli v13 c1_i32_650
  let v654 : BitVec 32 := Scalar.addi c0_i32_651 v653
  v654.toNat
def k0_dev23 (d0 : Dev nD) : Nat :=
  let c0_i32_699 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_698 : BitVec 32 := 1#32
  let v698 : BitVec 32 := Scalar.muli v24 c1_i32_698
  let v699 : BitVec 32 := Scalar.addi c0_i32_699 v698
  v699.toNat
def k0_dev24 (d0 : Dev nD) : Nat :=
  let c0_i32_748 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_747 : BitVec 32 := 1#32
  let v743 : BitVec 32 := Scalar.muli v13 c1_i32_747
  let v744 : BitVec 32 := Scalar.addi c0_i32_748 v743
  v744.toNat
def k0_dev25 (d0 : Dev nD) : Nat :=
  let c0_i32_796 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_795 : BitVec 32 := 1#32
  let v788 : BitVec 32 := Scalar.muli v24 c1_i32_795
  let v789 : BitVec 32 := Scalar.addi c0_i32_796 v788
  v789.toNat
def k0_dev26 (d0 : Dev nD) : Nat :=
  let c0_i32_845 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_844 : BitVec 32 := 1#32
  let v833 : BitVec 32 := Scalar.muli v13 c1_i32_844
  let v834 : BitVec 32 := Scalar.addi c0_i32_845 v833
  v834.toNat
def k0_dev27 (d0 : Dev nD) : Nat :=
  let c0_i32_1279 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1278 : BitVec 32 := 1#32
  let v1268 : BitVec 32 := Scalar.muli v13 c1_i32_1278
  let v1269 : BitVec 32 := Scalar.addi c0_i32_1279 v1268
  v1269.toNat
def k0_dev28 (d0 : Dev nD) : Nat :=
  let c0_i32_1282 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1281 : BitVec 32 := 1#32
  let v1270 : BitVec 32 := Scalar.muli v24 c1_i32_1281
  let v1271 : BitVec 32 := Scalar.addi c0_i32_1282 v1270
  v1271.toNat
abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev grid1 : Pipeline.Grid := .none

def k1_dev1 (d0 : Dev nD) : Nat :=
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_19 : BitVec 32 := 1#32
  let v37 : BitVec 32 := Scalar.muli v13 c1_i32_19
  let v38 : BitVec 32 := Scalar.addi c0_i32_20 v37
  v38.toNat
def k1_dev2 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v14 : BitVec 32 := Scalar.addi v2 c2_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_22 : BitVec 32 := 1#32
  let v39 : BitVec 32 := Scalar.muli v24 c1_i32_22
  let v40 : BitVec 32 := Scalar.addi c0_i32_23 v39
  v40.toNat
def k1_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v25 : BitVec 32 := Scalar.addi v2 c3_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c1_i32_25 : BitVec 32 := 1#32
  let v41 : BitVec 32 := Scalar.muli v35 c1_i32_25
  let v42 : BitVec 32 := Scalar.addi c0_i32_26 v41
  v42.toNat
def k1_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v45 : BitVec 32 := Scalar.muli v2 c8_i32
  let v46 : Index := Scalar.indexCast v45
  let c0_29 : Index := 0#32
  ![v46.toNat, 0]
def k1_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_31 : BitVec 32 := 8#32
  let v49 : BitVec 32 := Scalar.muli v2 c8_i32_31
  let c0_i32_36 : BitVec 32 := 0#32
  ![v49.toNat, 0]
def k1_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_34 : BitVec 32 := 1#32
  let v50 : BitVec 32 := Scalar.muli v13 c1_i32_34
  let v51 : BitVec 32 := Scalar.addi c0_i32_35 v50
  v51.toNat
def k1_dev5 (d0 : Dev nD) : Nat :=
  let c0_i32_43 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v14 : BitVec 32 := Scalar.addi v2 c2_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_42 : BitVec 32 := 1#32
  let v60 : BitVec 32 := Scalar.muli v24 c1_i32_42
  let v61 : BitVec 32 := Scalar.addi c0_i32_43 v60
  v61.toNat
def k1_dev6 (d0 : Dev nD) : Nat :=
  let c0_i32_51 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v25 : BitVec 32 := Scalar.addi v2 c3_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c1_i32_50 : BitVec 32 := 1#32
  let v70 : BitVec 32 := Scalar.muli v35 c1_i32_50
  let v71 : BitVec 32 := Scalar.addi c0_i32_51 v70
  v71.toNat
def k1_dev7 (d0 : Dev nD) : Nat :=
  let c0_i32_89 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_88 : BitVec 32 := 1#32
  let v108 : BitVec 32 := Scalar.muli v13 c1_i32_88
  let v109 : BitVec 32 := Scalar.addi c0_i32_89 v108
  v109.toNat
def k1_dev8 (d0 : Dev nD) : Nat :=
  let c0_i32_92 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v14 : BitVec 32 := Scalar.addi v2 c2_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_91 : BitVec 32 := 1#32
  let v110 : BitVec 32 := Scalar.muli v24 c1_i32_91
  let v111 : BitVec 32 := Scalar.addi c0_i32_92 v110
  v111.toNat
def k1_dev9 (d0 : Dev nD) : Nat :=
  let c0_i32_95 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v25 : BitVec 32 := Scalar.addi v2 c3_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c1_i32_94 : BitVec 32 := 1#32
  let v112 : BitVec 32 := Scalar.muli v35 c1_i32_94
  let v113 : BitVec 32 := Scalar.addi c0_i32_95 v112
  v113.toNat
abbrev stage1_0 : Fin 1 → Memref sig .tc .vmem S8x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S32x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S256x4096 .fp8e4m3 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S256x4096 .fp8e4m3 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := .none

def k3_dev1 (d0 : Dev nD) : Nat :=
  let c0_i32_28 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_27 : BitVec 32 := 1#32
  let v48 : BitVec 32 := Scalar.muli v13 c1_i32_27
  let v49 : BitVec 32 := Scalar.addi c0_i32_28 v48
  v49.toNat
def k3_dev2 (d0 : Dev nD) : Nat :=
  let c0_i32_31 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_30 : BitVec 32 := 1#32
  let v50 : BitVec 32 := Scalar.muli v24 c1_i32_30
  let v51 : BitVec 32 := Scalar.addi c0_i32_31 v50
  v51.toNat
def k3_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v25 : BitVec 32 := Scalar.addi v2 c1_i32_13
  let c4_i32_14 : BitVec 32 := 4#32
  let c0_i32_15 : BitVec 32 := 0#32
  let v26 : BitVec 1 := Scalar.cmpi .eq c4_i32_14 c0_i32_15
  let c1_i32_16 : BitVec 32 := 1#32
  let v27 : BitVec 32 := Scalar.select v26 c1_i32_16 c4_i32_14
  let v28 : BitVec 32 := Scalar.remsi v25 v27
  let c0_i32_18 : BitVec 32 := 0#32
  let v30 : BitVec 1 := Scalar.cmpi .slt v28 c0_i32_18
  let c0_i32_19 : BitVec 32 := 0#32
  let v31 : BitVec 1 := Scalar.cmpi .slt v27 c0_i32_19
  let v32 : BitVec 1 := Scalar.xori v30 v31
  let c0_i32_17 : BitVec 32 := 0#32
  let v29 : BitVec 1 := Scalar.cmpi .ne v28 c0_i32_17
  let v33 : BitVec 1 := Scalar.andi v32 v29
  let v34 : BitVec 32 := Scalar.addi v28 v27
  let v35 : BitVec 32 := Scalar.select v33 v34 v28
  let c1024_i32 : BitVec 32 := 1024#32
  let v52 : BitVec 32 := Scalar.muli v35 c1024_i32
  let c0_i32_34 : BitVec 32 := 0#32
  ![v52.toNat, 0]
def k3_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v36 : BitVec 32 := Scalar.addi v2 c3_i32
  let c4_i32_20 : BitVec 32 := 4#32
  let c0_i32_21 : BitVec 32 := 0#32
  let v37 : BitVec 1 := Scalar.cmpi .eq c4_i32_20 c0_i32_21
  let c1_i32_22 : BitVec 32 := 1#32
  let v38 : BitVec 32 := Scalar.select v37 c1_i32_22 c4_i32_20
  let v39 : BitVec 32 := Scalar.remsi v36 v38
  let c0_i32_24 : BitVec 32 := 0#32
  let v41 : BitVec 1 := Scalar.cmpi .slt v39 c0_i32_24
  let c0_i32_25 : BitVec 32 := 0#32
  let v42 : BitVec 1 := Scalar.cmpi .slt v38 c0_i32_25
  let v43 : BitVec 1 := Scalar.xori v41 v42
  let c0_i32_23 : BitVec 32 := 0#32
  let v40 : BitVec 1 := Scalar.cmpi .ne v39 c0_i32_23
  let v44 : BitVec 1 := Scalar.andi v43 v40
  let v45 : BitVec 32 := Scalar.addi v39 v38
  let v46 : BitVec 32 := Scalar.select v44 v45 v39
  let c1024_i32_32 : BitVec 32 := 1024#32
  let v53 : BitVec 32 := Scalar.muli v46 c1024_i32_32
  let c4096_i32 : BitVec 32 := 4096#32
  ![v53.toNat, 4096]
def k3_off3 (d0 : Dev nD) (c0_i32_36 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v25 : BitVec 32 := Scalar.addi v2 c1_i32_13
  let c4_i32_14 : BitVec 32 := 4#32
  let c0_i32_15 : BitVec 32 := 0#32
  let v26 : BitVec 1 := Scalar.cmpi .eq c4_i32_14 c0_i32_15
  let c1_i32_16 : BitVec 32 := 1#32
  let v27 : BitVec 32 := Scalar.select v26 c1_i32_16 c4_i32_14
  let v28 : BitVec 32 := Scalar.remsi v25 v27
  let c0_i32_18 : BitVec 32 := 0#32
  let v30 : BitVec 1 := Scalar.cmpi .slt v28 c0_i32_18
  let c0_i32_19 : BitVec 32 := 0#32
  let v31 : BitVec 1 := Scalar.cmpi .slt v27 c0_i32_19
  let v32 : BitVec 1 := Scalar.xori v30 v31
  let c0_i32_17 : BitVec 32 := 0#32
  let v29 : BitVec 1 := Scalar.cmpi .ne v28 c0_i32_17
  let v33 : BitVec 1 := Scalar.andi v32 v29
  let v34 : BitVec 32 := Scalar.addi v28 v27
  let v35 : BitVec 32 := Scalar.select v33 v34 v28
  let v60 : BitVec 32 := Scalar.subi v35 c0_i32_36
  let c4_i32_37 : BitVec 32 := 4#32
  let c0_i32_38 : BitVec 32 := 0#32
  let v61 : BitVec 1 := Scalar.cmpi .eq c4_i32_37 c0_i32_38
  let c1_i32_39 : BitVec 32 := 1#32
  let v62 : BitVec 32 := Scalar.select v61 c1_i32_39 c4_i32_37
  let v63 : BitVec 32 := Scalar.remsi v60 v62
  let c0_i32_41 : BitVec 32 := 0#32
  let v65 : BitVec 1 := Scalar.cmpi .slt v63 c0_i32_41
  let c0_i32_42 : BitVec 32 := 0#32
  let v66 : BitVec 1 := Scalar.cmpi .slt v62 c0_i32_42
  let v67 : BitVec 1 := Scalar.xori v65 v66
  let c0_i32_40 : BitVec 32 := 0#32
  let v64 : BitVec 1 := Scalar.cmpi .ne v63 c0_i32_40
  let v68 : BitVec 1 := Scalar.andi v67 v64
  let v69 : BitVec 32 := Scalar.addi v63 v62
  let v70 : BitVec 32 := Scalar.select v68 v69 v63
  let c1024_i32_50 : BitVec 32 := 1024#32
  let v82 : BitVec 32 := Scalar.muli v70 c1024_i32_50
  let c0_i32_56 : BitVec 32 := 0#32
  ![v82.toNat, 0]
def k3_dev3 (d0 : Dev nD) : Nat :=
  let c0_i32_55 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_54 : BitVec 32 := 1#32
  let v84 : BitVec 32 := Scalar.muli v24 c1_i32_54
  let v85 : BitVec 32 := Scalar.addi c0_i32_55 v84
  v85.toNat
def k3_off4 (d0 : Dev nD) (c0_i32_43 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v36 : BitVec 32 := Scalar.addi v2 c3_i32
  let c4_i32_20 : BitVec 32 := 4#32
  let c0_i32_21 : BitVec 32 := 0#32
  let v37 : BitVec 1 := Scalar.cmpi .eq c4_i32_20 c0_i32_21
  let c1_i32_22 : BitVec 32 := 1#32
  let v38 : BitVec 32 := Scalar.select v37 c1_i32_22 c4_i32_20
  let v39 : BitVec 32 := Scalar.remsi v36 v38
  let c0_i32_24 : BitVec 32 := 0#32
  let v41 : BitVec 1 := Scalar.cmpi .slt v39 c0_i32_24
  let c0_i32_25 : BitVec 32 := 0#32
  let v42 : BitVec 1 := Scalar.cmpi .slt v38 c0_i32_25
  let v43 : BitVec 1 := Scalar.xori v41 v42
  let c0_i32_23 : BitVec 32 := 0#32
  let v40 : BitVec 1 := Scalar.cmpi .ne v39 c0_i32_23
  let v44 : BitVec 1 := Scalar.andi v43 v40
  let v45 : BitVec 32 := Scalar.addi v39 v38
  let v46 : BitVec 32 := Scalar.select v44 v45 v39
  let v71 : BitVec 32 := Scalar.addi v46 c0_i32_43
  let c4_i32_44 : BitVec 32 := 4#32
  let c0_i32_45 : BitVec 32 := 0#32
  let v72 : BitVec 1 := Scalar.cmpi .eq c4_i32_44 c0_i32_45
  let c1_i32_46 : BitVec 32 := 1#32
  let v73 : BitVec 32 := Scalar.select v72 c1_i32_46 c4_i32_44
  let v74 : BitVec 32 := Scalar.remsi v71 v73
  let c0_i32_48 : BitVec 32 := 0#32
  let v76 : BitVec 1 := Scalar.cmpi .slt v74 c0_i32_48
  let c0_i32_49 : BitVec 32 := 0#32
  let v77 : BitVec 1 := Scalar.cmpi .slt v73 c0_i32_49
  let v78 : BitVec 1 := Scalar.xori v76 v77
  let c0_i32_47 : BitVec 32 := 0#32
  let v75 : BitVec 1 := Scalar.cmpi .ne v74 c0_i32_47
  let v79 : BitVec 1 := Scalar.andi v78 v75
  let v80 : BitVec 32 := Scalar.addi v74 v73
  let v81 : BitVec 32 := Scalar.select v79 v80 v74
  let c1024_i32_51 : BitVec 32 := 1024#32
  let v83 : BitVec 32 := Scalar.muli v81 c1024_i32_51
  let c4096_i32_61 : BitVec 32 := 4096#32
  ![v83.toNat, 4096]
def k3_dev4 (d0 : Dev nD) : Nat :=
  let c0_i32_60 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_59 : BitVec 32 := 1#32
  let v91 : BitVec 32 := Scalar.muli v13 c1_i32_59
  let v92 : BitVec 32 := Scalar.addi c0_i32_60 v91
  v92.toNat
def k3_dev5 (d0 : Dev nD) : Nat :=
  let c0_i32_101 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_100 : BitVec 32 := 1#32
  let v140 : BitVec 32 := Scalar.muli v24 c1_i32_100
  let v141 : BitVec 32 := Scalar.addi c0_i32_101 v140
  v141.toNat
def k3_dev6 (d0 : Dev nD) : Nat :=
  let c0_i32_107 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_106 : BitVec 32 := 1#32
  let v148 : BitVec 32 := Scalar.muli v13 c1_i32_106
  let v149 : BitVec 32 := Scalar.addi c0_i32_107 v148
  v149.toNat
def k3_dev7 (d0 : Dev nD) : Nat :=
  let c0_i32_153 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_152 : BitVec 32 := 1#32
  let v202 : BitVec 32 := Scalar.muli v24 c1_i32_152
  let v203 : BitVec 32 := Scalar.addi c0_i32_153 v202
  v203.toNat
def k3_dev8 (d0 : Dev nD) : Nat :=
  let c0_i32_159 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_158 : BitVec 32 := 1#32
  let v210 : BitVec 32 := Scalar.muli v13 c1_i32_158
  let v211 : BitVec 32 := Scalar.addi c0_i32_159 v210
  v211.toNat
def k3_dev9 (d0 : Dev nD) : Nat :=
  let c0_i32_190 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_189 : BitVec 32 := 1#32
  let v244 : BitVec 32 := Scalar.muli v13 c1_i32_189
  let v245 : BitVec 32 := Scalar.addi c0_i32_190 v244
  v245.toNat
def k3_dev10 (d0 : Dev nD) : Nat :=
  let c0_i32_193 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_192 : BitVec 32 := 1#32
  let v246 : BitVec 32 := Scalar.muli v24 c1_i32_192
  let v247 : BitVec 32 := Scalar.addi c0_i32_193 v246
  v247.toNat
abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x8192 .fp8e4m3 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S256x8192 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 25
  | .vmem => 2
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x4096, .f32⟩
  | .hbm, ⟨3, _⟩ => ⟨S4096x8192, .f32⟩
  | .hbm, ⟨4, _⟩ => ⟨S4096x8192, .f32⟩
  | .hbm, ⟨5, _⟩ => ⟨S4096x8192, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S_, .f32⟩
  | .hbm, ⟨18, _⟩ => ⟨S4096x8192, .f32⟩
  | .hbm, ⟨19, _⟩ => ⟨S4096x8192, .f32⟩
  | .hbm, ⟨20, _⟩ => ⟨S4096x8192, .fp8e4m3⟩
  | .hbm, ⟨21, _⟩ => ⟨S4096x8192, .f32⟩
  | .hbm, ⟨22, _⟩ => ⟨S4096x8192, .f32⟩
  | .hbm, ⟨23, _⟩ => ⟨S4096x8192, .f32⟩
  | .hbm, ⟨24, _⟩ => ⟨S4096x8192, .bf16⟩
  | .local _ .vmem, ⟨0, _⟩ => ⟨S4096x8192, .fp8e4m3⟩
  | .local _ .vmem, ⟨1, _⟩ => ⟨S4096x8192, .f32⟩
  | _, _ => ⟨S4096x4096, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_cst_2 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4096x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.RsProg.lean ====
/-
# The reduce-scatter's body as a chain of steps

The printed body of the first call is one long sequence. Here it is cut, by unfolding alone, into the steps the algorithm is
made of: the opening, eight sends of the host's product, twenty-four landings (each followed by a send on, or by the copy to
the result), and the closing. A step is stated once for a direction and a tile.
-/
module

public import proofs.«01_k».proof.Proof.Gen.KernelIdeal.Skeleton
public import proofs.«01_k».proof.Proof.Gen.KernelIdeal.Points

@[expose] public section

set_option maxRecDepth 65536

noncomputable section

namespace Cert.K

open Cert.KernelIdeal Cert.KernelIdeal.Gen
open Idealize.ShloMosaic Idealize.ShloMosaic.TcCoe
open Idealize.SL.Sem

variable {F : FTy → Type} [FloatOps F]

/-- The direction of a link: `true` to the right neighbour, `false` to the left one. -/
abbrev Dir : Type := Bool

/-! ## The buffers of a direction -/

abbrev xA : Memref sig .tc .hbm S4096x1024 .bf16 := Memref.whole main_arg0
abbrev wA : Memref sig .tc .hbm S1024x8192 .bf16 := Memref.whole main_arg1
abbrev pA : Memref sig .tc .hbm S1024x8192 .bf16 := Memref.whole main_v11
abbrev wV : Memref sig .tc .vmem S1024x8192 .bf16 := Memref.whole cc0_scratch0
abbrev xV : Memref sig .tc .vmem S256x1024 .bf16 := Memref.whole cc0_scratch1
abbrev bV : Memref sig .tc .vmem S256x4096 .f32 := Memref.whole cc0_scratch4
abbrev hV : Memref sig .tc .vmem S256x4096 .bf16 := Memref.whole cc0_scratch5

def ownRef : Dir → Ref sig .tc | true => main_v12_0 | false => main_v12_1

/-- The result half, the landing buffers and the accumulator of a direction. -/
def ownA : Dir → Memref sig .tc .hbm S1024x4096 .f32 | true => Memref.whole main_v12_0 | false => Memref.whole main_v12_1
def recvA : Dir → Memref sig .tc .hbm S2x1024x4096 .f32 | true => Memref.whole main_v12_3 | false => Memref.whole main_v12_4
def landA : Dir → Memref sig .tc .hbm S1024x4096 .bf16 | true => Memref.whole main_v12_5 | false => Memref.whole main_v12_6
def accV : Dir → Memref sig .tc .vmem S1024x4096 .f32 | true => Memref.whole cc0_scratch2 | false => Memref.whole cc0_scratch3

theorem landA_whole : ∀ d, (landA d).IsWhole | true => Memref.isWhole_whole _ | false => Memref.isWhole_whole _

/-- The columns of the product a direction carries. -/
def colOf : Dir → ℕ | true => 0 | false => 4096

theorem inb_row : ∀ (t : Fin 4) (a : Fin 2), (![256 * t.val, 0] : Fin 2 → ℕ) a + S256x4096.size a ≤ S1024x4096.size a := by decide
theorem inb_pair : ∀ (s : Fin 2) (t : Fin 4) (a : Fin 3), (![s.val, 256 * t.val, 0] : Fin 3 → ℕ) a + S1x256x4096.size a ≤ S2x1024x4096.size a := by decide
theorem inb_half : ∀ (d : Dir) (t : Fin 4) (a : Fin 2), (![256 * t.val, colOf d] : Fin 2 → ℕ) a + S256x4096.size a ≤ S1024x8192.size a := by decide
theorem inb_cols : ∀ (d : Dir) (a : Fin 2), (![0, colOf d] : Fin 2 → ℕ) a + S1024x4096.size a ≤ S1024x8192.size a := by decide

abbrev rowRect (t : Fin 4) : Rect S1024x4096 := Rect.unit ![256 * t.val, 0] S256x4096.size (inb_row t)
abbrev pairRect (s : Fin 2) (t : Fin 4) : Rect S2x1024x4096 := Rect.unit ![s.val, 256 * t.val, 0] S1x256x4096.size (inb_pair s t)
abbrev halfRect (d : Dir) (t : Fin 4) : Rect S1024x8192 := Rect.unit ![256 * t.val, colOf d] S256x4096.size (inb_half d t)
abbrev colRect (d : Dir) : Rect S1024x8192 := Rect.unit ![0, colOf d] S1024x4096.size (inb_cols d)

theorem words_row : ∀ t : Fin 4, (rowRect t).WholeWords (EltTy.packing .bf16) := by decide
theorem words_half : ∀ (d : Dir) (t : Fin 4), (halfRect d t).WholeWords (EltTy.packing .bf16) := by decide

/-- Tile `t` of a buffer of 1024 rows; slot `(s, t)` of a two-slot buffer; tile `t` of the host product's half. -/
abbrev rowT {sp : Space} {e : EltTy} (M : Memref sig .tc sp S1024x4096 e) (t : Fin 4) : Memref sig .tc sp S256x4096 e := M.slice (rowRect t) (fun _ => rfl)
abbrev slotT (d : Dir) (s : Fin 2) (t : Fin 4) : Memref sig .tc .hbm S256x4096 .f32 := ((recvA d).slice (pairRect s t) (fun _ => rfl)).squeeze S256x4096 squeezes_S1x256x4096_S256x4096
abbrev halfT (d : Dir) (t : Fin 4) : Memref sig .tc .hbm S256x4096 .bf16 := pA.slice (halfRect d t) (fun _ => rfl)

/-- Where the rows of `x` a step multiplies start. -/
def xoff (d : Dir) (c : Dev nD) (s : Fin 3) (t : Fin 4) : Fin 2 → ℕ :=
  match d with
  | true => k0_off1 c (BitVec.ofNat 32 s.val) (BitVec.ofNat 32 (256 * t.val))
  | false => k0_off2 c (BitVec.ofNat 32 s.val) (BitVec.ofNat 32 (256 * t.val))
theorem xoff_inb : ∀ (d : Dir) (c : Dev nD) (s : Fin 3) (t : Fin 4) (a : Fin 2), xoff d c s t a + S256x1024.size a ≤ S4096x1024.size a
  | true => k0_off1_inb
  | false => k0_off2_inb
theorem xoff_words : ∀ (d : Dir) (c : Dev nD) (s : Fin 3) (t : Fin 4), (Rect.unit (s := S4096x1024) (xoff d c s t) S256x1024.size (xoff_inb d c s t)).WholeWords (EltTy.packing .bf16)
  | true => k0_off1_wordsbf16
  | false => k0_off2_wordsbf16
abbrev xT (d : Dir) (c : Dev nD) (s : Fin 3) (t : Fin 4) : Memref sig .tc .hbm S256x1024 .bf16 := xA.slice (Rect.unit (xoff d c s t) S256x1024.size (xoff_inb d c s t)) (fun _ => rfl)

/-! ## The semaphores -/

/-- Link `(s, t)` of a direction: its send semaphore, and its receive semaphore. -/
def sendS (d : Dir) (s : Fin 3) (t : Fin 4) : DmaSem sig := match d with
  | true => ⟨1 + (4 * s.val + t.val), by have := s.isLt; have := t.isLt; show _ < 97; omega⟩
  | false => ⟨25 + (4 * s.val + t.val), by have := s.isLt; have := t.isLt; show _ < 97; omega⟩
def recvS (d : Dir) (s : Fin 3) (t : Fin 4) : DmaSem sig := match d with
  | true => ⟨13 + (4 * s.val + t.val), by have := s.isLt; have := t.isLt; show _ < 97; omega⟩
  | false => ⟨37 + (4 * s.val + t.val), by have := s.isLt; have := t.isLt; show _ < 97; omega⟩
/-- The semaphore of the copy of tile `t` to the result; of the copies into `x`'s, the addend's and `w`'s scratch. -/
def storeS (d : Dir) (t : Fin 4) : DmaSem sig := match d with
  | true => ⟨49 + t.val, by have := t.isLt; show _ < 97; omega⟩
  | false => ⟨53 + t.val, by have := t.isLt; show _ < 97; omega⟩
def addS : Dir → DmaSem sig | true => ⟨58, by decide⟩ | false => ⟨59, by decide⟩
abbrev barS : Sem sig := (SemArray.scalar (sig.barrier 0 rfl) : Sems sig S_).sem
abbrev xS : DmaSem sig := ⟨57, by decide⟩
abbrev wS : DmaSem sig := ⟨60, by decide⟩

/-! ## The steps -/

abbrev Op (α : Type) : Type 1 := Prog (TpuEff nD τ sig (Elt F) Λ₀ .tc) α

/-- What a landing stores: the product of the rows of `x` with the columns of `w`, plus the landed tile. -/
def partV (x : Vec F S256x1024 .bf16) (w : Vec F S1024x4096 .bf16) (b : FVec F S256x4096 .f32) : FVec F S256x4096 .f32 :=
  addf (matmul dot_S256x1024_S1024x4096_S256x4096_1_0_0_1_n_n none x w (constant S256x4096 .f32 0x00000000#32)) b

def tile0V (x : Vec F S256x1024 .bf16) (w : Vec F S1024x4096 .bf16) (b : Vec F S256x4096 .bf16) : FVec F S256x4096 .f32 :=
  shapeCast S256x4096 (partV x w (extf .f32 b bitsLt_bf16_f32)) shapeCasts_S256x4096_S256x4096
def tileV (x : Vec F S256x1024 .bf16) (w : Vec F S1024x4096 .bf16) (b : Vec F S256x4096 .f32) : FVec F S256x4096 .f32 :=
  shapeCast S256x4096 (partV x w b) shapeCasts_S256x4096_S256x4096

/-- The largest absolute value met so far, with another tile's. -/
def peakV (a : F .f32) (v : FVec F S256x4096 .f32) : F .f32 :=
  Scalar.maximumf a (extractAt ![0, 0, 0] (shapeCast S1x1x1 (multiReduction .maximumf [1, 2] S1 (shapeCast S1x256x4096 (absf v) shapeCasts_S256x4096_S1x256x4096) 0xFF800000#32 reduces_S1x256x4096_S1 (.inl rfl) rfl) shapeCasts_S1_S1x1x1) inpos_S1x1x1_p0_0_0)

/-- Sending tile `t` of the host's product. -/
def send0 (d : Dir) (p : Dev nD) (t : Fin 4) : Op (F := F) PUnit :=
  Prog.lift (.enqueueDma (halfT d t) (.remote (Dev.tc p) (rowT (landA d) t) (.dma (sendS d 0 t))) (.dma (recvS d 0 t))
    ((Memref.isWhole_whole _).wordExact_slice rfl _ (words_half d t)) ((landA_whole d).wordExact_slice rfl _ (words_row t)) ⟨⟨rfl, Or.inl rfl⟩, trivial⟩)

/-- Sending tile `t` of the accumulator on, after step `s`. -/
def sendOn (d : Dir) (p : Dev nD) (s : Fin 2) (t : Fin 4) : Op (F := F) PUnit :=
  Prog.lift (.enqueueDma (rowT (accV d) t) (.remote (Dev.tc p) (slotT d s t) (.dma (sendS d s.succ t))) (.dma (recvS d s.succ t))
    (View.wordExact_bits rfl) ((View.wordExact_bits rfl).reshape _ _) ⟨⟨rfl, Or.inl rfl⟩, trivial⟩)

/-- Copying tile `t` of the accumulator to the result. -/
def keepT (d : Dir) (t : Fin 4) : Op (F := F) PUnit :=
  Prog.lift (.enqueueDma (rowT (accV d) t) (.here (rowT (ownA d) t)) (.dma (storeS d t)) (View.wordExact_bits rfl) (View.wordExact_bits rfl) ⟨Or.inl rfl, trivial⟩)

/-- What follows both waits of a landing, up to the store: the landed tile and the rows of `x` are copied in, and multiplied. -/
def fetchT {e : EltTy} (src : Memref sig .tc .hbm S256x4096 e) (hsrc : src.view.WordExact) (bM : Memref sig .tc .vmem S256x4096 e) (hb : bM.view.WordExact)
    (d : Dir) (c : Dev nD) (s : Fin 3) (t : Fin 4) : Op (F := F) (Vec F S256x1024 .bf16 × Vec F S1024x4096 .bf16 × Vec F S256x4096 e) := do
  Prog.lift (.enqueueDma src (.here bM) (.dma (addS d)) hsrc hb ⟨Or.inl rfl, trivial⟩)
  Prog.lift (.enqueueDma (xT d c s t) (.here xV) (.dma xS) ((Memref.isWhole_whole _).wordExact_slice rfl _ (xoff_words d c s t)) (Memref.isWhole_whole _).wordExact ⟨Or.inl rfl, trivial⟩)
  Prog.lift (.waitDma2 xS (xT d c s t) xV ((Memref.isWhole_whole _).wordExact_slice rfl _ (xoff_words d c s t)) (Memref.isWhole_whole _).wordExact)
  let x : Vec F S256x1024 .bf16 ← Prog.lift (.load xV (Rect.unit (s := S256x1024) ![0, 0] S256x1024.size inb_S256x1024_S256x1024_0_0).toLoadRect (View.loadsAt_vmem h_S256x1024))
  let w : Vec F S1024x4096 .bf16 ← Prog.lift (.load wV (colRect d).toLoadRect (View.loadsAt_vmem h_S1024x4096))
  Prog.lift (.waitDma2 (addS d) src bM hsrc hb)
  let b : Vec F S256x4096 e ← Prog.lift (.load bM (Rect.unit (s := S256x4096) ![0, 0] S256x4096.size inb_S256x4096_S256x4096_0_0).toLoadRect (View.loadsAt_vmem h_S256x4096))
  pure (x, w, b)

/-- Storing a tile of the accumulator (the tile is read first, and the value read unused). -/
def storeT (d : Dir) (t : Fin 4) (v : FVec F S256x4096 .f32) : Op (F := F) PUnit := do
  let _ : Vec F S256x4096 .f32 ← Prog.lift (.load (accV d) (rowRect t).toLoadRect (View.loadsAt_vmem h_S256x4096))
  Prog.lift (.store (accV d) (rowRect t) v Finset.univ (View.stores_vmem_bits_univ h_S256x4096 rfl) (.inl rfl))

/-- The landing of tile `t` of the first step. -/
def land0 (d : Dir) (c : Dev nD) (t : Fin 4) : Op (F := F) PUnit := do
  Prog.lift (.waitDma2 (sendS d 0 t) (rowT (landA d) t) (halfT d t) ((landA_whole d).wordExact_slice rfl _ (words_row t)) ((Memref.isWhole_whole _).wordExact_slice rfl _ (words_half d t)))
  Prog.lift (.waitDma2 (recvS d 0 t) (halfT d t) (rowT (landA d) t) ((Memref.isWhole_whole _).wordExact_slice rfl _ (words_half d t)) ((landA_whole d).wordExact_slice rfl _ (words_row t)))
  let r ← fetchT (rowT (landA d) t) ((landA_whole d).wordExact_slice rfl _ (words_row t)) hV (Memref.isWhole_whole _).wordExact d c 0 t
  storeT d t (tile0V r.1 r.2.1 r.2.2)

/-- The landing of tile `t` of a later step; what it leaves is the value stored, before the cast to its own shape. -/
def landOn (d : Dir) (c : Dev nD) (s : Fin 2) (t : Fin 4) : Op (F := F) (FVec F S256x4096 .f32) := do
  Prog.lift (.waitDma2 (sendS d s.succ t) (slotT d s t) (rowT (accV d) t) ((View.wordExact_bits rfl).reshape _ _) (View.wordExact_bits rfl))
  Prog.lift (.waitDma2 (recvS d s.succ t) (rowT (accV d) t) (slotT d s t) (View.wordExact_bits rfl) ((View.wordExact_bits rfl).reshape _ _))
  let r ← fetchT (slotT d s t) ((View.wordExact_bits rfl).reshape _ _) bV (Memref.isWhole_whole _).wordExact d c s.succ t
  storeT d t (tileV r.1 r.2.1 r.2.2)
  pure (partV r.1 r.2.1 r.2.2)

/-- The opening: `w` starts to be copied in, both neighbours are told this device is ready, both are waited for. -/
def openT (l r : Dev nD) : Op (F := F) PUnit := do
  Prog.lift (.enqueueDma wA (.here wV) (.dma wS) (Memref.isWhole_whole _).wordExact (Memref.isWhole_whole _).wordExact ⟨Or.inl rfl, trivial⟩)
  semSignalWord l barS 1#32
  semSignalWord r barS 1#32
  semWaitWord barS 2#32
  Prog.lift (.waitDma2 wS wA wV (Memref.isWhole_whole _).wordExact (Memref.isWhole_whole _).wordExact)

/-- The copy of tile `t` to the result is waited for. -/
def keptT (d : Dir) (t : Fin 4) : Op (F := F) PUnit :=
  Prog.lift (.waitDma2 (storeS d t) (rowT (accV d) t) (rowT (ownA d) t) (View.wordExact_bits rfl) (View.wordExact_bits rfl))

/-- The largest absolute value is stored over the whole of its window. -/
def peakT (arg5 : Memref sig .tc .vmem S8x128 .f32) (a : F .f32) : Op (F := F) PUnit := do
  let _ : Vec F S8x128 .f32 ← Prog.lift (.load arg5 (Rect.unit (s := S8x128) ![0, 0] S8x128.size inb_S8x128_S8x128_0_0).toLoadRect (View.loadsAt_vmem h_S8x128))
  Prog.lift (.store arg5 (Rect.unit (s := S8x128) ![0, 0] S8x128.size inb_S8x128_S8x128_0_0) (broadcast S8x128 a) Finset.univ (View.stores_vmem_bits_univ h_S8x128 rfl) (.inl rfl))

/-- The closing: both neighbours are told this device is done, both are waited for. -/
def closeT (l r : Dev nD) : Op (F := F) PUnit := do
  semSignalWord l cc0_scratch12.sem 1#32
  semSignalWord r cc0_scratch12.sem 1#32
  semWaitWord cc0_scratch12.sem 2#32

/-- The whole body. -/
def rsProg (arg5 : Memref sig .tc .vmem S8x128 .f32) : Op (F := F) PUnit := do
  let c : Dev nD ← Prog.lift .deviceId
  openT ⟨k0_dev1 c, k0_dev1_lt c⟩ ⟨k0_dev2 c, k0_dev2_lt c⟩
  send0 true ⟨k0_dev3 c, k0_dev3_lt c⟩ 0
  send0 false ⟨k0_dev4 c, k0_dev4_lt c⟩ 0
  send0 true ⟨k0_dev5 c, k0_dev5_lt c⟩ 1
  send0 false ⟨k0_dev6 c, k0_dev6_lt c⟩ 1
  send0 true ⟨k0_dev7 c, k0_dev7_lt c⟩ 2
  send0 false ⟨k0_dev8 c, k0_dev8_lt c⟩ 2
  send0 true ⟨k0_dev9 c, k0_dev9_lt c⟩ 3
  send0 false ⟨k0_dev10 c, k0_dev10_lt c⟩ 3
  land0 true c 0
  sendOn true ⟨k0_dev11 c, k0_dev11_lt c⟩ 0 0
  land0 false c 0
  sendOn false ⟨k0_dev12 c, k0_dev12_lt c⟩ 0 0
  land0 true c 1
  sendOn true ⟨k0_dev13 c, k0_dev13_lt c⟩ 0 1
  land0 false c 1
  sendOn false ⟨k0_dev14 c, k0_dev14_lt c⟩ 0 1
  land0 true c 2
  sendOn true ⟨k0_dev15 c, k0_dev15_lt c⟩ 0 2
  land0 false c 2
  sendOn false ⟨k0_dev16 c, k0_dev16_lt c⟩ 0 2
  land0 true c 3
  sendOn true ⟨k0_dev17 c, k0_dev17_lt c⟩ 0 3
  land0 false c 3
  sendOn false ⟨k0_dev18 c, k0_dev18_lt c⟩ 0 3
  let _ ← landOn true c 0 0
  sendOn true ⟨k0_dev19 c, k0_dev19_lt c⟩ 1 0
  let _ ← landOn false c 0 0
  sendOn false ⟨k0_dev20 c, k0_dev20_lt c⟩ 1 0
  let _ ← landOn true c 0 1
  sendOn true ⟨k0_dev21 c, k0_dev21_lt c⟩ 1 1
  let _ ← landOn false c 0 1
  sendOn false ⟨k0_dev22 c, k0_dev22_lt c⟩ 1 1
  let _ ← landOn true c 0 2
  sendOn true ⟨k0_dev23 c, k0_dev23_lt c⟩ 1 2
  let _ ← landOn false c 0 2
  sendOn false ⟨k0_dev24 c, k0_dev24_lt c⟩ 1 2
  let _ ← landOn true c 0 3
  sendOn true ⟨k0_dev25 c, k0_dev25_lt c⟩ 1 3
  let _ ← landOn false c 0 3
  sendOn false ⟨k0_dev26 c, k0_dev26_lt c⟩ 1 3
  let v0 ← landOn true c 1 0
  keepT true 0
  let v1 ← landOn false c 1 0
  keepT false 0
  let v2 ← landOn true c 1 1
  keepT true 1
  let v3 ← landOn false c 1 1
  keepT false 1
  let v4 ← landOn true c 1 2
  keepT true 2
  let v5 ← landOn false c 1 2
  keepT false 2
  let v6 ← landOn true c 1 3
  keepT true 3
  let v7 ← landOn false c 1 3
  keepT false 3
  peakT arg5 (peakV (peakV (peakV (peakV (peakV (peakV (peakV (peakV (Scalar.ofBits .f32 0x00000000#32) v0) v1) v2) v3) v4) v5) v6) v7)
  keptT true 0
  keptT false 0
  keptT true 1
  keptT false 1
  keptT true 2
  keptT false 2
  keptT true 3
  keptT false 3
  closeT ⟨k0_dev27 c, k0_dev27_lt c⟩ ⟨k0_dev28 c, k0_dev28_lt c⟩

set_option maxHeartbeats 4000000 in
/-- The printed body is the chain of steps: by unfolding. -/
theorem rs_eq (t : Fin cfg0.N) : bodyAt0 (F := F) t = rsProg (win0_0.stage (cfg0.slots t 0)) := rfl

end Cert.K
-- ==== Proof.Kit.lean ====
/-
# Local copies, loads and stores of owned memrefs

The kernels' local steps, each stated on memrefs that a core owns at what it reads through them: a local copy is in flight
between its start and its wait, and gives both memrefs back, the destination at the source's contents.
-/
module

public import proofs.«01_k».proof.Proof.RsProg
public import Idealize.ShloMosaic.Lib.Memref
public import Idealize.ShloMosaic.Lib.Rounds
public import Idealize.ShloMosaic.Lib.Transfers
public import Idealize.ShloMosaic.Lib.Pipeline.RegionTalk
public import Idealize.ShloMosaic.Lib.Pipeline.Regions

@[expose] public section

set_option maxRecDepth 16384

noncomputable section

namespace Cert.K

open Cert.KernelIdeal Cert.KernelIdeal.Gen
open Idealize.ShloMosaic Idealize.ShloMosaic.TcCoe
open Idealize.SL.Sem
open Idealize.SL
open Idealize.SL.BI (sProp bigSep)
open scoped Idealize.SL.BI
open Idealize.SL.BI.BIBase Idealize.SL.BI.Laws Idealize.SL.ProofMode
open Idealize.SL.RA
open Idealize.ShloMosaic.Transfers

variable {F : FTy → Type} [FloatOps F]

/-! ## The resource algebra: the pipeline's, the protocol's rounds, the local copies' counters -/

abbrev Nm : Type := Fin 3
abbrev RR : Type := Rounds.URounds (GSem nD τ sig) Nm
abbrev UU : Type := UR sig nD τ × (RR × Counters)
local notation "𝕄" => MT nD τ sig Unit (Elt F) ℕ UU ℕ

abbrev EP : Emb (UR sig nD τ) (MT nD τ sig Unit (Elt F) ℕ UU ℕ) := embL
abbrev ER : Emb RR (MT nD τ sig Unit (Elt F) ℕ UU ℕ) := (Emb.inl : Emb RR (RR × Counters)).trans embR
abbrev EC : UEmb Counters (MT nD τ sig Unit (Elt F) ℕ UU ℕ) := countersEmb

instance : (ER : Emb RR 𝕄).LandsIn (upEmb : UEmb _ 𝕄) := by infer_instance
instance : (EC : UEmb Counters 𝕄).LandsIn (upEmb : UEmb _ 𝕄) := by infer_instance

abbrev 𝒱₀ : Variants := Variants.none

/-- A weakest precondition of a piece of a kernel body on device `c`. -/
abbrev W {α : Type} (c : Dev nD) (p : Op (F := F) α) (Q : α → sProp 𝕄) : sProp 𝕄 :=
  wp frame (wpE (defs₀ (F := F)) 𝒱₀ (c : Thread nD τ) none) Set.univ p Q

abbrev own (c : Dev nD) {sp : Space} {s : Shape} {e : EltTy} (M : Memref sig .tc sp s e) (X : s.Idx → Elt F e) : sProp 𝕄 :=
  owns (c : Thread nD τ) M fullShare X
/-- Owned at contents not chosen. -/
abbrev some' (c : Dev nD) {sp : Space} {s : Shape} {e : EltTy} (M : Memref sig .tc sp s e) : sProp 𝕄 :=
  iprop(∃ X : s.Idx → Elt F e, own c M X)

theorem own_some (c : Dev nD) {sp : Space} {s : Shape} {e : EltTy} (M : Memref sig .tc sp s e) (X : s.Idx → Elt F e) :
    own c M X ⊢ (some' c M : sProp 𝕄) := by iintro H; iexists X; iexact H

/-! ## A local copy -/

section Copy
variable (c : Dev nD) {sp sp' : Space} {s : Shape} {e : EltTy} (src : Memref sig .tc sp s e) (dst : Memref sig .tc sp' s e) (sm : DmaSem sig)

/-- A local copy in flight: its wait gives both memrefs back. -/
def Copying (q : PosShare TreeShare) (X : s.Idx → Elt F e) : sProp 𝕄 :=
  Flight EC (c : Thread nD τ) (.dma sm) () dst.view.dmaCredit iprop(owns (c : Thread nD τ) src q X ∗ own c dst X)

theorem copy_start (hpos : 0 < s.numel) {α : Type} {q : PosShare TreeShare} {X : s.Idx → Elt F e} {hsrc : src.view.WordExact} {hdst : dst.view.WordExact}
    {hsem : DmaTarget.Typed (nD := nD) sp (SemLoc.dma sm) (DmaTarget.here (τ := τ) (p := .tc) dst)} {k : PUnit → Op (F := F) α} {Q : α → sProp 𝕄} :
    iprop(owns (c : Thread nD τ) src q X ∗ some' c dst ∗ semVal ((c : Thread nD τ), SemLoc.dma sm) 0)
      ⊢ iprop((Copying c src dst sm q X -∗ W c (k ⟨⟩) Q) -∗ W c (.op (.enqueueDma src (.here dst) (.dma sm) hsrc hdst hsem) k) Q) := by
  unfold some' own owns
  iintro ⟨⟨%fs, %hfs, Hs⟩, ⟨%Y, %fd, -, Hd⟩, Hv⟩ Hk
  iapply (wp_dmaLocal EC 𝒱₀ (c : Thread nD τ) none (q := q) (fs := fs) (Sd := dst.view.set) (fd := fd) () dst.view.dmaCredit rfl
    (View.dmaCredit_pos _ hpos) (Finset.Subset.refl _)) $$ [Hs Hd Hv]
  · isplitl [Hs]; · iexact Hs
    isplitl [Hd] <;> iassumption
  iintro Hf
  iapply Hk
  unfold Copying
  iapply (Flight_mono EC (c : Thread nD τ) (D' := iprop(owns (c : Thread nD τ) src q X ∗ own c dst X)) ?_) $$ Hf
  unfold own owns
  iintro ⟨Hd, Hs⟩
  isplitl [Hs]
  · iexists fs; isplitr; · ipureintro; exact hfs
    iexact Hs
  iexists _; isplitr [Hd]
  rotate_left
  · iexact Hd
  ipureintro
  rw [View.read_write_univ]
  exact hfs

theorem copy_wait {α : Type} {q : PosShare TreeShare} {X : s.Idx → Elt F e} {hsrc : src.view.WordExact} {hdst : dst.view.WordExact}
    {k : PUnit → Op (F := F) α} {Q : α → sProp 𝕄} {O : CellTallies nD τ sig Unit} {Wt : Waits sig Unit} :
    iprop(Copying c src dst sm q X ∗ owes (c : Thread nD τ) O Wt ∗ MayWait (c : Thread nD τ) (.dma sm) () O)
      ⊢ iprop((iprop((owns (c : Thread nD τ) src q X ∗ own c dst X) ∗ semVal ((c : Thread nD τ), SemLoc.dma sm) 0
            ∗ owes (c : Thread nD τ) O (insert (SemLoc.dma sm, ()) Wt)) -∗ W c (k ⟨⟩) Q)
          -∗ W c (.op (.waitDma2 sm src dst hsrc hdst) k) Q) :=
  wp_waitLocalO EC 𝒱₀ (c : Thread nD τ) none () rfl

end Copy

/-! ## Loads and stores -/

theorem load_own (c : Dev nD) {cs : CoreSpace} {s : Shape} {e : EltTy} (M : Memref sig .tc cs s e) (r : Rect s) {hl : M.view.LoadsAt r.toLoadRect} {α : Type}
    {k : (r.shape.Idx → Elt F e) → Op (F := F) α} {Q : α → sProp 𝕄} {q : PosShare TreeShare} {X : s.Idx → Elt F e} :
    owns (c : Thread nD τ) M q X
      ⊢ iprop((owns (c : Thread nD τ) M q X -∗ W c (k fun j => X (r.emb j)) Q) -∗ W c (.op (.load M r.toLoadRect hl) k) Q) := by
  unfold owns
  iintro ⟨%f, %hf, H⟩ Hk
  iapply (wp_load_rect 𝒱₀ (c : Thread nD τ) none Set.univ (m := M) (r := r) (S := M.view.set) (f := f) (View.set_slice_subset _ _)) $$ H
  iintro H
  have e : (M.access r).read (Elt F) f = fun j => X (r.emb j) := by rw [← hf]; rfl
  rw [e]
  iapply Hk
  iexists f; isplitr; · ipureintro; exact hf
  iexact H

theorem store_own (c : Dev nD) {cs : CoreSpace} {s : Shape} {e : EltTy} (M : Memref sig .tc cs s e) (r : Rect s) (hr : ∀ a, r.stride a = 1) {α : Type}
    {w : r.shape.Idx → Elt F e} {hx : (M.access r).Stores Finset.univ} {hm : Finset.univ = Finset.univ ∨ ∀ a, r.stride a = 1}
    {k : PUnit → Op (F := F) α} {Q : α → sProp 𝕄} :
    some' c (M.slice r hr) ⊢ iprop((own c (M.slice r hr) w -∗ W c (k ⟨⟩) Q) -∗ W c (.op (.store M r w Finset.univ hx hm) k) Q) := by
  unfold some' own owns
  iintro ⟨%X, %f, -, H⟩ Hk
  iapply (wp_store 𝒱₀ (c : Thread nD τ) none Set.univ (m := M) (r := r) (S := (M.access r).set) (f := f) (View.setOn_subset_set _ _)) $$ H
  iintro H
  iapply Hk
  iexists _; isplitr [H]
  rotate_left
  · iexact H
  ipureintro
  show (M.access r).read _ _ = _
  rw [View.read_write_univ]

/-- A dead load of the slice about to be stored. -/
theorem load_slice (c : Dev nD) {cs : CoreSpace} {s : Shape} {e : EltTy} (M : Memref sig .tc cs s e) (r : Rect s) (hr : ∀ a, r.stride a = 1) {hl : M.view.LoadsAt r.toLoadRect} {α : Type}
    {k : (r.shape.Idx → Elt F e) → Op (F := F) α} {Q : α → sProp 𝕄} {q : PosShare TreeShare} {X : r.shape.Idx → Elt F e} :
    owns (c : Thread nD τ) (M.slice r hr) q X
      ⊢ iprop((owns (c : Thread nD τ) (M.slice r hr) q X -∗ W c (k X) Q) -∗ W c (.op (.load M r.toLoadRect hl) k) Q) := by
  unfold owns
  iintro ⟨%f, %hf, H⟩ Hk
  iapply (wp_load_rect 𝒱₀ (c : Thread nD τ) none Set.univ (m := M) (r := r) (S := (M.access r).set) (f := f) (Finset.Subset.refl _)) $$ H
  iintro H
  have e : (M.access r).read (Elt F) f = X := hf
  rw [e]
  iapply Hk
  iexists f; isplitr; · ipureintro; exact hf
  iexact H

theorem own_whole_iff (c : Dev nD) (b : Ref sig .tc) (X : b.ty.Contents (Elt F)) :
    (own c (Memref.whole b) X : sProp 𝕄) = (((c : Thread nD τ).loc b) ↦{fullShare} X) := owns_whole _ _ _ _

/-! ## Parts of a memref, and the whole of it through a rectangle -/

theorem own_part (c : Dev nD) {sp : Space} {s : Shape} {e : EltTy} (M : Memref sig .tc sp s e) (r : Rect s) (hr : ∀ a, r.stride a = 1)
    (q : PosShare TreeShare) (X : s.Idx → Elt F e) :
    (owns (c : Thread nD τ) M q X : sProp 𝕄)
      ⊢ iprop(owns (c : Thread nD τ) (M.slice r hr) q (fun j => X (r.emb j)) ∗ (owns (c : Thread nD τ) (M.slice r hr) q (fun j => X (r.emb j)) -∗ owns (c : Thread nD τ) M q X)) := by
  iintro H
  ihave H' := (owns_slice_split (c : Thread nD τ) M q r hr X) $$ H
  icases H' with ⟨Hs, ⟨%f, %hf, Hr⟩⟩
  isplitl [Hs]; · iexact Hs
  iintro Hs
  ihave HJ := (owns_slice_join (c : Thread nD τ) M q r hr (fun j => X (r.emb j)) f) $$ [Hs Hr]
  · isplitl [Hs] <;> iassumption
  have e : r.overlay (M.view.read (Elt F) f) (fun j => X (r.emb j)) = X := by
    funext i
    by_cases hi : i ∈ r.set
    · rw [← Rect.map_emb_univ] at hi
      obtain ⟨j, -, rfl⟩ := Finset.mem_map.mp hi
      exact Rect.overlay_emb r _ _ j
    · rw [Rect.overlay_of_not_mem r _ _ hi, hf]
  rw [e]
  iexact HJ

theorem emb_unit_zero {s : Shape} {off : Fin s.rank → ℕ} (h : ∀ a, off a + s.size a ≤ s.size a) (j : (Rect.unit (s := s) off s.size h).shape.Idx) :
    (Rect.unit (s := s) off s.size h).emb j = j := by
  funext a
  apply Fin.ext
  have := h a
  rw [Rect.emb_apply]
  show off a + 1 * _ = _
  have h0 : off a = 0 := by omega
  rw [h0, Nat.zero_add, Nat.one_mul]

theorem own_full (c : Dev nD) {sp : Space} {s : Shape} {e : EltTy} (M : Memref sig .tc sp s e) {off : Fin s.rank → ℕ} (h : ∀ a, off a + s.size a ≤ s.size a)
    (q : PosShare TreeShare) (X : s.Idx → Elt F e) :
    (owns (c : Thread nD τ) (M.slice (Rect.unit (s := s) off s.size h) (fun _ => rfl)) q X : sProp 𝕄) = owns (c : Thread nD τ) M q X := by
  have e1 : ∀ f, (M.slice (Rect.unit (s := s) off s.size h) (fun _ => rfl)).view.read (Elt F) f = M.view.read (Elt F) f := fun f => by
    funext j
    show M.view.read (Elt F) f ((Rect.unit (s := s) off s.size h).emb j) = _
    rw [emb_unit_zero]
  have e2 : (M.slice (Rect.unit (s := s) off s.size h) (fun _ => rfl)).view.set = M.view.set := by
    show (M.view.slice (Rect.unit (s := s) off s.size h)).set = _
    rw [View.set_slice]
    have : (Rect.unit (s := s) off s.size h).set = Finset.univ := by
      ext i
      rw [← Rect.map_emb_univ]
      simp only [Finset.mem_map, Finset.mem_univ, true_and, iff_true]
      exact ⟨i, emb_unit_zero h i⟩
    rw [this]; rfl
  unfold owns
  simp only [e1, e2]

/-- A store over the whole of a memref. -/
theorem store_full (c : Dev nD) {cs : CoreSpace} {s : Shape} {e : EltTy} (M : Memref sig .tc cs s e) {off : Fin s.rank → ℕ} (h : ∀ a, off a + s.size a ≤ s.size a) {α : Type}
    {w : s.Idx → Elt F e} {hx : (M.access (Rect.unit (s := s) off s.size h)).Stores Finset.univ} {hm : Finset.univ = Finset.univ ∨ ∀ a, (Rect.unit (s := s) off s.size h).stride a = 1}
    {k : PUnit → Op (F := F) α} {Q : α → sProp 𝕄} :
    some' c M ⊢ iprop((own c M w -∗ W c (k ⟨⟩) Q) -∗ W c (.op (.store M (Rect.unit (s := s) off s.size h) w Finset.univ hx hm) k) Q) := by
  have e := own_full c M h fullShare w
  iintro ⟨%X, H⟩ Hk
  ihave H := (Entails.of_eq (own_full c M h fullShare X).symm) $$ H
  iapply (store_own c M (Rect.unit (s := s) off s.size h) (fun _ => rfl) (w := w)) $$ [H]
  · iexists X; iexact H
  iintro H
  iapply Hk
  iapply (Entails.of_eq e) $$ H

/-- A load of the whole of a memref. -/
theorem load_full (c : Dev nD) {cs : CoreSpace} {s : Shape} {e : EltTy} (M : Memref sig .tc cs s e) {off : Fin s.rank → ℕ} (h : ∀ a, off a + s.size a ≤ s.size a)
    {hl : M.view.LoadsAt (Rect.unit (s := s) off s.size h).toLoadRect} {α : Type}
    {k : (s.Idx → Elt F e) → Op (F := F) α} {Q : α → sProp 𝕄} {q : PosShare TreeShare} {X : s.Idx → Elt F e} :
    owns (c : Thread nD τ) M q X
      ⊢ iprop((owns (c : Thread nD τ) M q X -∗ W c (k X) Q) -∗ W c (.op (.load M (Rect.unit (s := s) off s.size h).toLoadRect hl) k) Q) := by
  iintro H Hk
  iapply (load_own c M (Rect.unit (s := s) off s.size h) (X := X)) $$ H
  iintro H
  have e : (fun j => X ((Rect.unit (s := s) off s.size h).emb j)) = X := funext fun j => congrArg X (emb_unit_zero h j)
  rw [e]
  iapply Hk $$ H

end Cert.K
-- ==== Proof.GatherProg.lean ====
/-
# The two gathering bodies as chains of steps

The body that gathers the devices' largest absolute values, and the body that gathers their quantised blocks, each cut by
unfolding alone into the steps the algorithm is made of.
-/
module

public import proofs.«01_k».proof.Proof.RsProg

@[expose] public section

set_option maxRecDepth 65536

noncomputable section

namespace Cert.K

open Cert.KernelIdeal Cert.KernelIdeal.Gen
open Idealize.ShloMosaic Idealize.ShloMosaic.TcCoe
open Idealize.SL.Sem

variable {F : FTy → Type} [FloatOps F]

/-! ## The gathering of the largest absolute values -/

abbrev a0 : Memref sig .tc .vmem S8x128 .f32 := Memref.whole cc1_stg0_0
abbrev a1 : Memref sig .tc .vmem S32x128 .f32 := Memref.whole cc1_stg1_0

theorem inb_eight : ∀ (c : Dev nD) (a : Fin 2), (![8 * c.val, 0] : Fin 2 → ℕ) a + S8x128.size a ≤ S32x128.size a := by decide
/-- Device `c`'s eight rows of the gathered buffer. -/
abbrev eightRect (c : Dev nD) : Rect S32x128 := Rect.unit ![8 * c.val, 0] S8x128.size (inb_eight c)
abbrev ownRows (c : Dev nD) : Memref sig .tc .vmem S8x128 .f32 := a1.slice (Rect.unit (s := S32x128) (k1_off2 c) S8x128.size (k1_off2_inb c)) (fun _ => rfl)

/-- The semaphores of the copy to the device `k + 1` further on, and of the copy from the one `k + 1` back. -/
abbrev axSendS (k : Fin 3) : DmaSem sig := ⟨63 + k.val, by have := k.isLt; show _ < 97; omega⟩
abbrev axRecvS (k : Fin 3) : DmaSem sig := ⟨66 + k.val, by have := k.isLt; show _ < 97; omega⟩
abbrev barS1 : Sem sig := (SemArray.scalar (sig.barrier 1 rfl) : Sems sig S_).sem

def openA (p q r : Dev nD) : Op (F := F) PUnit := do
  semSignalWord p barS1 1#32
  semSignalWord q barS1 1#32
  semSignalWord r barS1 1#32
  semWaitWord barS1 3#32

/-- The device's own largest absolute value goes to its own rows. -/
def putA (c : Dev nD) : Op (F := F) PUnit := do
  let v : Vec F S8x128 .f32 ← Prog.lift (.load a0 (Rect.unit (s := S8x128) ![0, 0] S8x128.size inb_S8x128_S8x128_0_0).toLoadRect (View.loadsAt_vmem h_S8x128))
  let _ : Vec F S8x128 .f32 ← Prog.lift (.load a1 (Rect.unit (s := S32x128) (k1_off1 c) S8x128.size (k1_off1_inb c)).toLoadRect (View.loadsAt_vmem h_S8x128))
  Prog.lift (.store a1 (Rect.unit (s := S32x128) (k1_off1 c) S8x128.size (k1_off1_inb c)) (shapeCast S8x128 v shapeCasts_S8x128_S8x128) Finset.univ (View.stores_vmem_bits_univ h_S8x128 rfl) (.inl rfl))

def sendA (c p : Dev nD) (k : Fin 3) : Op (F := F) PUnit :=
  Prog.lift (.enqueueDma (ownRows c) (.remote (Dev.tc p) (ownRows c) (.dma (axSendS k))) (.dma (axRecvS k)) (View.wordExact_bits rfl) (View.wordExact_bits rfl) ⟨⟨rfl, Or.inl rfl⟩, trivial⟩)

def waitA (c : Dev nD) (k : Fin 3) : Op (F := F) PUnit := do
  Prog.lift (.waitDma2 (axSendS k) (ownRows c) (ownRows c) (View.wordExact_bits rfl) (View.wordExact_bits rfl))
  Prog.lift (.waitDma2 (axRecvS k) (ownRows c) (ownRows c) (View.wordExact_bits rfl) (View.wordExact_bits rfl))

def closeA (p q r : Dev nD) : Op (F := F) PUnit := do
  semSignalWord p cc1_scratch2.sem 1#32
  semSignalWord q cc1_scratch2.sem 1#32
  semSignalWord r cc1_scratch2.sem 1#32
  semWaitWord cc1_scratch2.sem 3#32

def amProg : Op (F := F) PUnit := do
  let c : Dev nD ← Prog.lift .deviceId
  openA ⟨k1_dev1 c, k1_dev1_lt c⟩ ⟨k1_dev2 c, k1_dev2_lt c⟩ ⟨k1_dev3 c, k1_dev3_lt c⟩
  putA c
  sendA c ⟨k1_dev4 c, k1_dev4_lt c⟩ 0
  sendA c ⟨k1_dev5 c, k1_dev5_lt c⟩ 1
  sendA c ⟨k1_dev6 c, k1_dev6_lt c⟩ 2
  waitA c 0
  waitA c 1
  waitA c 2
  closeA ⟨k1_dev7 c, k1_dev7_lt c⟩ ⟨k1_dev8 c, k1_dev8_lt c⟩ ⟨k1_dev9 c, k1_dev9_lt c⟩

set_option maxHeartbeats 4000000 in
theorem am_eq (t : Fin cfg1.N) : bodyAt1 (F := F) t = amProg := rfl

/-! ## The gathering of the quantised blocks -/

def qA : Dir → Memref sig .tc .hbm S1024x4096 .fp8e4m3 | true => Memref.whole main_v14_0 | false => Memref.whole main_v14_1
abbrev gA : Memref sig .tc .hbm S4096x8192 .fp8e4m3 := Memref.whole main_v15
theorem qA_whole : ∀ d, (qA d).IsWhole | true => Memref.isWhole_whole _ | false => Memref.isWhole_whole _

/-- Where a device's own block goes; where the block it passes on at step `t` lies. -/
def goff (d : Dir) (c : Dev nD) : Fin 2 → ℕ := match d with | true => k3_off1 c | false => k3_off2 c
theorem goff_inb : ∀ (d : Dir) (c : Dev nD) (a : Fin 2), goff d c a + S1024x4096.size a ≤ S4096x8192.size a
  | true => k3_off1_inb
  | false => k3_off2_inb
theorem goff_words : ∀ (d : Dir) (c : Dev nD), (Rect.unit (s := S4096x8192) (goff d c) S1024x4096.size (goff_inb d c)).WholeWords (EltTy.packing .fp8e4m3)
  | true => k3_off1_wordsfp8e4m3
  | false => k3_off2_wordsfp8e4m3
def soff (d : Dir) (c : Dev nD) (t : Fin 3) : Fin 2 → ℕ := match d with
  | true => k3_off3 c (BitVec.ofNat 32 t.val)
  | false => k3_off4 c (BitVec.ofNat 32 t.val)
theorem soff_inb : ∀ (d : Dir) (c : Dev nD) (t : Fin 3) (a : Fin 2), soff d c t a + S1024x4096.size a ≤ S4096x8192.size a
  | true => k3_off3_inb
  | false => k3_off4_inb
theorem soff_words : ∀ (d : Dir) (c : Dev nD) (t : Fin 3), (Rect.unit (s := S4096x8192) (soff d c t) S1024x4096.size (soff_inb d c t)).WholeWords (EltTy.packing .fp8e4m3)
  | true => k3_off3_wordsfp8e4m3
  | false => k3_off4_wordsfp8e4m3
abbrev gT (d : Dir) (c : Dev nD) : Memref sig .tc .hbm S1024x4096 .fp8e4m3 := gA.slice (Rect.unit (goff d c) S1024x4096.size (goff_inb d c)) (fun _ => rfl)
abbrev sT (d : Dir) (c : Dev nD) (t : Fin 3) : Memref sig .tc .hbm S1024x4096 .fp8e4m3 := gA.slice (Rect.unit (soff d c t) S1024x4096.size (soff_inb d c t)) (fun _ => rfl)

def agSendS (d : Dir) (t : Fin 3) : DmaSem sig := match d with
  | true => ⟨78 + t.val, by have := t.isLt; show _ < 97; omega⟩
  | false => ⟨84 + t.val, by have := t.isLt; show _ < 97; omega⟩
def agRecvS (d : Dir) (t : Fin 3) : DmaSem sig := match d with
  | true => ⟨81 + t.val, by have := t.isLt; show _ < 97; omega⟩
  | false => ⟨87 + t.val, by have := t.isLt; show _ < 97; omega⟩
/-- The semaphore of the copy of the device's own block to its place. -/
def homeS : Dir → DmaSem sig | true => ⟨90, by decide⟩ | false => ⟨91, by decide⟩
abbrev barS2 : Sem sig := (SemArray.scalar (sig.barrier 2 rfl) : Sems sig S_).sem

def openG (l r : Dev nD) : Op (F := F) PUnit := do
  semSignalWord l barS2 1#32
  semSignalWord r barS2 1#32
  semWaitWord barS2 2#32

def homeG (d : Dir) (c : Dev nD) : Op (F := F) PUnit :=
  Prog.lift (.enqueueDma (qA d) (.here (gT d c)) (.dma (homeS d)) (qA_whole d).wordExact ((Memref.isWhole_whole _).wordExact_slice rfl _ (goff_words d c)) ⟨Or.inl rfl, trivial⟩)

def sendG0 (d : Dir) (c p : Dev nD) : Op (F := F) PUnit :=
  Prog.lift (.enqueueDma (qA d) (.remote (Dev.tc p) (sT d c 0) (.dma (agSendS d 0))) (.dma (agRecvS d 0)) (qA_whole d).wordExact ((Memref.isWhole_whole _).wordExact_slice rfl _ (soff_words d c 0)) ⟨⟨rfl, Or.inl rfl⟩, trivial⟩)

def sendG (d : Dir) (c p : Dev nD) (t : Fin 2) : Op (F := F) PUnit :=
  Prog.lift (.enqueueDma (sT d c t.succ) (.remote (Dev.tc p) (sT d c t.succ) (.dma (agSendS d t.succ))) (.dma (agRecvS d t.succ)) ((Memref.isWhole_whole _).wordExact_slice rfl _ (soff_words d c t.succ)) ((Memref.isWhole_whole _).wordExact_slice rfl _ (soff_words d c t.succ)) ⟨⟨rfl, Or.inl rfl⟩, trivial⟩)

def waitG0 (d : Dir) (c : Dev nD) : Op (F := F) PUnit := do
  Prog.lift (.waitDma2 (agSendS d 0) (sT d c 0) (qA d) ((Memref.isWhole_whole _).wordExact_slice rfl _ (soff_words d c 0)) (qA_whole d).wordExact)
  Prog.lift (.waitDma2 (agRecvS d 0) (qA d) (sT d c 0) (qA_whole d).wordExact ((Memref.isWhole_whole _).wordExact_slice rfl _ (soff_words d c 0)))

def waitG (d : Dir) (c : Dev nD) (t : Fin 2) : Op (F := F) PUnit := do
  Prog.lift (.waitDma2 (agSendS d t.succ) (sT d c t.succ) (sT d c t.succ) ((Memref.isWhole_whole _).wordExact_slice rfl _ (soff_words d c t.succ)) ((Memref.isWhole_whole _).wordExact_slice rfl _ (soff_words d c t.succ)))
  Prog.lift (.waitDma2 (agRecvS d t.succ) (sT d c t.succ) (sT d c t.succ) ((Memref.isWhole_whole _).wordExact_slice rfl _ (soff_words d c t.succ)) ((Memref.isWhole_whole _).wordExact_slice rfl _ (soff_words d c t.succ)))

def homedG (d : Dir) (c : Dev nD) : Op (F := F) PUnit :=
  Prog.lift (.waitDma2 (homeS d) (qA d) (gT d c) (qA_whole d).wordExact ((Memref.isWhole_whole _).wordExact_slice rfl _ (goff_words d c)))

def closeG (l r : Dev nD) : Op (F := F) PUnit := do
  semSignalWord l cc3_scratch5.sem 1#32
  semSignalWord r cc3_scratch5.sem 1#32
  semWaitWord cc3_scratch5.sem 2#32

def agProg : Op (F := F) PUnit := do
  let c : Dev nD ← Prog.lift .deviceId
  openG ⟨k3_dev1 c, k3_dev1_lt c⟩ ⟨k3_dev2 c, k3_dev2_lt c⟩
  homeG true c
  homeG false c
  sendG0 true c ⟨k3_dev3 c, k3_dev3_lt c⟩
  sendG0 false c ⟨k3_dev4 c, k3_dev4_lt c⟩
  waitG0 true c
  waitG0 false c
  sendG true c ⟨k3_dev5 c, k3_dev5_lt c⟩ 0
  sendG false c ⟨k3_dev6 c, k3_dev6_lt c⟩ 0
  waitG true c 0
  waitG false c 0
  sendG true c ⟨k3_dev7 c, k3_dev7_lt c⟩ 1
  sendG false c ⟨k3_dev8 c, k3_dev8_lt c⟩ 1
  waitG true c 1
  waitG false c 1
  homedG true c
  homedG false c
  closeG ⟨k3_dev9 c, k3_dev9_lt c⟩ ⟨k3_dev10 c, k3_dev10_lt c⟩

set_option maxHeartbeats 4000000 in
theorem ag_eq (t : Fin cfg3.N) : bodyAt3 (F := F) t = agProg := rfl

end Cert.K
-- ==== Proof.Sched.lean ====
/-
# The protocol of the three communicating calls

The messages between devices are *links*: a link names a copy that every device makes once, to one peer. For each link there is
a send counter (the sender's own, raised when the source has been read) and a receive counter (the peer's, raised when the
destination has been written). Each communicating call opens with an entry barrier and ends with an exit barrier. Every counter
is used for one round. The schedule says what each increment hands over:

* a send increment hands the source back;
* a receive increment hands the destination over, at the contents sent;
* an entry-barrier increment hands the payer's destinations to the device that will write them;
* an exit-barrier increment hands nothing.
-/
module

public import proofs.«01_k».proof.Proof.Kit
public import proofs.«01_k».proof.Proof.GatherProg
public import Mathlib.Tactic.DeriveFintype

@[expose] public section

set_option maxRecDepth 16384

noncomputable section

namespace Cert.K

open Cert.KernelIdeal Cert.KernelIdeal.Gen
open Idealize.ShloMosaic Idealize.ShloMosaic.TcCoe
open Idealize.SL.Sem
open Idealize.SL
open Idealize.SL.BI (sProp bigSep)
open scoped Idealize.SL.BI
open Idealize.SL.BI.BIBase Idealize.SL.BI.Laws Idealize.SL.ProofMode
open Idealize.SL.RA
open Idealize.ShloMosaic.Rounds

variable {F : FTy → Type} [FloatOps F]

local notation "𝕄" => MT nD τ sig Unit (Elt F) ℕ UU ℕ

/-! ## Links, counters, peers -/

/-- A copy every device makes once: step 0 of the reduce-scatter, a later step, the gathering of the largest absolute values,
    step 0 of the gathering of the blocks, a later step. -/
inductive Ln where
  | rs0 (d : Bool) (t : Fin 4)
  | rsN (d : Bool) (s : Fin 2) (t : Fin 4)
  | ax (k : Fin 3)
  | ag0 (d : Bool)
  | agN (d : Bool) (t : Fin 2)
deriving DecidableEq, Fintype

/-- The counters of the protocol: a link's two, and a communicating call's entry and exit barriers. -/
inductive Kd where
  | snd (l : Ln)
  | rcv (l : Ln)
  | bar (r : Fin 3)
  | fin (r : Fin 3)
deriving DecidableEq, Fintype

def sndS : Ln → DmaSem sig
  | .rs0 d t => sendS d 0 t
  | .rsN d s t => sendS d s.succ t
  | .ax k => axSendS k
  | .ag0 d => agSendS d 0
  | .agN d t => agSendS d t.succ
def rcvS : Ln → DmaSem sig
  | .rs0 d t => recvS d 0 t
  | .rsN d s t => recvS d s.succ t
  | .ax k => axRecvS k
  | .ag0 d => agRecvS d 0
  | .agN d t => agRecvS d t.succ
def barOf : Fin 3 → Sem sig | 0 => barS | 1 => barS1 | 2 => barS2
def finOf : Fin 3 → Sem sig | 0 => cc0_scratch12.sem | 1 => cc1_scratch2.sem | 2 => cc3_scratch5.sem

def semOf : Kd → SemLoc sig
  | .snd l => .dma (sndS l)
  | .rcv l => .dma (rcvS l)
  | .bar r => .reg (barOf r)
  | .fin r => .reg (finOf r)

/-- A counter's place among its class: distinct for distinct counters. -/
def semCode : SemLoc sig → ℕ × ℕ
  | .dma s => (0, s.val)
  | .reg s => (1, s.val)

theorem semOf_inj : Function.Injective semOf := by
  have h : ∀ a b : Kd, semCode (semOf a) = semCode (semOf b) → a = b := by decide +kernel
  exact fun a b e => h a b (by rw [e])

open Classical in
/-- The counter of the protocol a semaphore is, if it is one. -/
def kindOf (sm : SemLoc sig) : Option Kd := if h : ∃ k, semOf k = sm then some h.choose else none

theorem kindOf_semOf (k : Kd) : kindOf (semOf k) = some k := by
  unfold kindOf
  have h : ∃ k', semOf k' = semOf k := ⟨k, rfl⟩
  rw [dif_pos h]
  exact congrArg some (semOf_inj h.choose_spec)

theorem kindOf_none {sm : SemLoc sig} (h : ∀ k, semOf k ≠ sm) : kindOf sm = none := by
  unfold kindOf
  exact dif_neg fun ⟨k, hk⟩ => h k hk

theorem kindOf_some {sm : SemLoc sig} {k : Kd} (h : kindOf sm = some k) : semOf k = sm := by
  unfold kindOf at h
  split at h
  · rename_i hx
    have := Option.some.inj h
    rw [← this]; exact hx.choose_spec
  · exact absurd h (by simp)

/-- The device `k` places further on. -/
def plus (k : Fin 4) : Dev nD ≃ Dev nD where
  toFun c := (show Fin 4 from c) + k
  invFun c := (show Fin 4 from c) - k
  left_inv := by revert k; decide
  right_inv := by revert k; decide

/-- The neighbour in a direction. -/
def nx : Dir → Dev nD ≃ Dev nD | true => plus 1 | false => plus 3

/-- Who pays name `n` of a barrier of call `r`. -/
def prs : Fin 3 → Nm → Dev nD ≃ Dev nD
  | 1, 0 => plus 1
  | 1, 1 => plus 2
  | 1, 2 => plus 3
  | _, 0 => plus 1
  | _, _ => plus 3

/-- The names of the barriers of call `r`. -/
def names : Fin 3 → Finset Nm | 1 => {0, 1, 2} | _ => {0, 1}
def nm : Dir → Nm | true => 0 | false => 1
/-- The name `n'` with payer the inverse of `n`'s. -/
def opp : Fin 3 → Nm → Nm
  | 1, 0 => 2
  | 1, 1 => 1
  | 1, 2 => 0
  | _, 0 => 1
  | _, _ => 0

theorem prs_symm : ∀ (r : Fin 3) (n : Nm) (c : Dev nD), (prs r n).symm c = prs r (opp r n) c := by decide
theorem opp_mem : ∀ (r : Fin 3) (n : Nm), n ∈ names r → opp r n ∈ names r := by decide

/-- The call a link belongs to, and the name its receiver pays to the sender's entry barrier. -/
def region : Ln → Fin 3 | .rs0 .. => 0 | .rsN .. => 0 | .ax _ => 1 | .ag0 _ => 2 | .agN .. => 2
def nameOf : Ln → Nm | .rs0 d _ => nm d | .rsN d _ _ => nm d | .ax k => k | .ag0 d => nm d | .agN d _ => nm d
abbrev peer (l : Ln) : Dev nD ≃ Dev nD := prs (region l) (nameOf l)

theorem nameOf_mem : ∀ l : Ln, nameOf l ∈ names (region l) := by decide

/-- The links of a call; those whose receiver pays name `n`; the counters of a call. -/
def links (r : Fin 3) : Finset Ln := Finset.univ.filter fun l => region l = r
def linksAt (r : Fin 3) (n : Nm) : Finset Ln := Finset.univ.filter fun l => region l = r ∧ nameOf l = n
def stage : Kd → Fin 3 | .snd l => region l | .rcv l => region l | .bar r => r | .fin r => r
def kinds (r : Fin 3) : Finset Kd := Finset.univ.filter fun k => stage k = r

theorem linksAt_disjoint (r : Fin 3) (m n : Nm) (h : m ≠ n) : Disjoint (linksAt r m) (linksAt r n) := by
  revert r m n; decide +kernel
theorem links_eq (r : Fin 3) : links r = (names r).biUnion (linksAt r) := by revert r; decide +kernel

/-! ## What a link carries -/

/-- The memrefs of a link, as its sender names them. -/
structure Pkt where
  sp : Space
  sp' : Space
  s : Shape
  e : EltTy
  src : Dev nD → Memref sig .tc sp s e
  dst : Dev nD → Memref sig .tc sp' s e

def pk : Ln → Pkt
  | .rs0 d t => ⟨.hbm, .hbm, S256x4096, .bf16, fun _ => halfT d t, fun _ => rowT (landA d) t⟩
  | .rsN d s t => ⟨.vmem, .hbm, S256x4096, .f32, fun _ => rowT (accV d) t, fun _ => slotT d s t⟩
  | .ax _ => ⟨.vmem, .vmem, S8x128, .f32, fun c => ownRows c, fun c => ownRows c⟩
  | .ag0 d => ⟨.hbm, .hbm, S1024x4096, .fp8e4m3, fun _ => qA d, fun c => sT d c 0⟩
  | .agN d t => ⟨.hbm, .hbm, S1024x4096, .fp8e4m3, fun c => sT d c t.succ, fun c => sT d c t.succ⟩

theorem pk_pos : ∀ l, 0 < (pk l).s.numel
  | .rs0 _ _ => show 0 < S256x4096.numel by decide
  | .rsN _ _ _ => show 0 < S256x4096.numel by decide
  | .ax _ => show 0 < S8x128.numel by decide
  | .ag0 _ => show 0 < S1024x4096.numel by decide
  | .agN _ _ => show 0 < S1024x4096.numel by decide

/-- The units of a link's copy. -/
def amt (l : Ln) : ℕ := ((pk l).dst 0).view.dmaCredit
theorem amt_pos (l : Ln) : 0 < amt l := View.dmaCredit_pos _ (pk_pos l)
theorem amt_eq : ∀ (l : Ln) (c : Dev nD), ((pk l).dst c).view.dmaCredit = amt l
  | .rs0 _ _, _ => rfl
  | .rsN _ _ _, _ => rfl
  | .ax _, _ => rfl
  | .ag0 _, _ => rfl
  | .agN _ _, _ => rfl

/-- The share of the source a link's copy borrows: a source read by several copies at once is split between them. -/
def shr : Ln → PosShare TreeShare
  | .ax 0 => fullShare.left
  | .ax 1 => fullShare.right.left
  | .ax 2 => fullShare.right.right
  | .ag0 _ => fullShare.left
  | _ => fullShare

/-- The contents the protocol's messages are made of, on each device: the reduce-scatter's operands and the host's product, the
    largest absolute value, the quantised blocks. -/
structure Info (F : FTy → Type) where
  x : Dev nD → S4096x1024.Idx → Elt F .bf16
  w : Dev nD → S1024x8192.Idx → Elt F .bf16
  p : Dev nD → S1024x8192.Idx → Elt F .bf16
  a : Dev nD → S8x128.Idx → Elt F .f32
  q : Dir → Dev nD → S1024x4096.Idx → Elt F .fp8e4m3

section Contents
variable (I : Info F)

def xt (d : Dir) (c : Dev nD) (s : Fin 3) (t : Fin 4) : S256x1024.Idx → Elt F .bf16 :=
  fun j => I.x c ((Rect.unit (s := S4096x1024) (xoff d c s t) S256x1024.size (xoff_inb d c s t)).emb j)
def wc (d : Dir) (c : Dev nD) : S1024x4096.Idx → Elt F .bf16 := fun j => I.w c ((colRect d).emb j)
def pt (d : Dir) (c : Dev nD) (t : Fin 4) : S256x4096.Idx → Elt F .bf16 := fun j => I.p c ((halfRect d t).emb j)

/-- The tile of partial sums on device `c` after each of the three steps. -/
def sum0 (d : Dir) (c : Dev nD) (t : Fin 4) : S256x4096.Idx → Elt F .f32 := tile0V (xt I d c 0 t) (wc I d c) (pt I d ((nx d).symm c) t)
def sum1 (d : Dir) (c : Dev nD) (t : Fin 4) : S256x4096.Idx → Elt F .f32 := tileV (xt I d c 1 t) (wc I d c) (sum0 I d ((nx d).symm c) t)
def sumS (d : Dir) (c : Dev nD) (t : Fin 4) : Fin 2 → S256x4096.Idx → Elt F .f32 | 0 => sum0 I d c t | 1 => sum1 I d c t
def sum2 (d : Dir) (c : Dev nD) (t : Fin 4) : S256x4096.Idx → Elt F .f32 := tileV (xt I d c 2 t) (wc I d c) (sum1 I d ((nx d).symm c) t)

/-- A device's quantised block, as it has come round `t + 1` links. -/
def qAt (d : Dir) (c : Dev nD) : Fin 2 → S1024x4096.Idx → Elt F .fp8e4m3
  | 0 => I.q d ((nx d).symm c)
  | 1 => I.q d ((nx d).symm ((nx d).symm c))

/-- What device `c` sends on a link. -/
def msg : (l : Ln) → Dev nD → (pk l).s.Idx → Elt F (pk l).e
  | .rs0 d t, c => pt I d c t
  | .rsN d s t, c => sumS I d c t s
  | .ax _, c => shapeCast S8x128 (I.a c) shapeCasts_S8x128_S8x128
  | .ag0 d, c => I.q d c
  | .agN d t, c => qAt I d c t

/-- The source of a link on the sender `c`; its destination on the peer, at any contents; at what was sent. -/
def srcO (l : Ln) (c : Dev nD) : sProp 𝕄 := owns (c : Thread nD τ) ((pk l).src c) (shr l) (msg I l c)
def dstAny (l : Ln) (c : Dev nD) : sProp 𝕄 := some' (peer l c) ((pk l).dst c)
def dstGot (l : Ln) (c : Dev nD) : sProp 𝕄 := own (peer l c) ((pk l).dst c) (msg I l c)

end Contents

/-! ## The schedule -/

abbrev cell (c : Dev nD) (k : Kd) : GSem nD τ sig := ((c : Thread nD τ), semOf k)

def dutyK : Kd → Finset Nm
  | .snd _ => {0}
  | .rcv _ => {0}
  | .bar r => names r
  | .fin r => names r
def amtK : Kd → ℕ
  | .snd l => amt l
  | .rcv l => amt l
  | .bar _ => 1
  | .fin _ => 1
theorem amtK_pos : ∀ k, 0 < amtK k
  | .snd l => amt_pos l
  | .rcv l => amt_pos l
  | .bar _ => Nat.one_pos
  | .fin _ => Nat.one_pos

/-- Paid by a device to the entry barrier of a sender: its destinations for the sender's links, and that its counters are open. -/
def barPay (r : Fin 3) (c : Dev nD) (n : Nm) : sProp 𝕄 :=
  iprop(bigSep (linksAt r n) (fun l => iprop(dstAny l c ∗ reached ER (cell (peer l c) (.rcv l)) 0)) ∗ reached ER (cell (prs r n c) (.fin r)) 0)

def payK (I : Info F) : Kd → Dev nD → Nm → sProp 𝕄
  | .snd l, c, _ => srcO I l c
  | .rcv l, c, _ => dstGot I l ((peer l).symm c)
  | .bar r, c, n => barPay r c n
  | .fin _, _, _ => iprop(emp)

instance payK_storable (I : Info F) (k : Kd) (c : Dev nD) (n : Nm) : BI.Storable (upEmb : UEmb _ 𝕄) (payK I k c n) := by
  cases k <;> unfold payK
  · unfold srcO; infer_instance
  · unfold dstGot; infer_instance
  · unfold barPay dstAny; infer_instance
  · infer_instance

def sched (I : Info F) : Schedule (GSem nD τ sig) Nm 𝕄 where
  duties g r := if r = 0 ∧ g.1.2 = .tc then (kindOf g.2).elim ∅ dutyK else ∅
  amount g _ _ := (kindOf g.2).elim 1 amtK
  payload g _ n := (kindOf g.2).elim iprop(emp) (fun k => payK I k g.1.1 n)
  amount_pos g r n _ := by
    cases h : kindOf g.2 with
    | none => exact Nat.one_pos
    | some k => exact amtK_pos k
  unitless _ := False

instance sched_storable (I : Info F) (g : GSem nD τ sig) (r : ℕ) (n : Nm) : BI.Storable (upEmb : UEmb _ 𝕄) ((sched I).payload g r n) := by
  show BI.Storable upEmb ((kindOf g.2).elim iprop(emp) (fun k => payK I k g.1.1 n))
  cases kindOf g.2 <;> simp only [Option.elim] <;> infer_instance

section Sched
variable (I : Info F) (c : Dev nD) (k : Kd)

theorem duties_cell : (sched I).duties (cell c k) 0 = dutyK k := by
  dsimp only [sched]; rw [if_pos ⟨rfl, rfl⟩, kindOf_semOf]; rfl
theorem duties_later (g : GSem nD τ sig) : ∀ r, 1 ≤ r → (sched I).duties g r = ∅ := fun r hr => by
  dsimp only [sched]; rw [if_neg (fun h => by omega)]
theorem amount_cell (n : Nm) : (sched I).amount (cell c k) 0 n = amtK k := by
  dsimp only [sched]; rw [kindOf_semOf]; rfl
theorem payload_cell (n : Nm) : (sched I).payload (cell c k) 0 n = payK I k c n := by
  dsimp only [sched]; rw [kindOf_semOf]; rfl
theorem expect_cell : (sched I).expect (cell c k) 0 = (dutyK k).card * amtK k := by
  unfold Schedule.expect Schedule.amountOf
  rw [duties_cell, Finset.sum_congr rfl (fun n _ => amount_cell I c k n), Finset.sum_const, smul_eq_mul]
theorem rest_cell : bigSep ((sched I).duties (cell c k) 0 \ ∅) (fun n => (sched I).payload (cell c k) 0 n) = bigSep (dutyK k) (payK I k c) := by
  rw [Finset.sdiff_empty, duties_cell]
  exact BI.bigSep_congr fun n _ => payload_cell I c k n

end Sched

/-! ## Levels -/

/-- Where a counter stands: a wait is allowed while only higher counters are owed. -/
def lvK : Kd → ℕ
  | .snd _ => 0
  | .bar 0 => 1
  | .rcv (.rs0 ..) => 2
  | .rcv (.rsN _ s _) => 3 + s.val
  | .fin 0 => 5
  | .bar 1 => 6
  | .rcv (.ax _) => 7
  | .fin 1 => 8
  | .bar 2 => 9
  | .rcv (.ag0 _) => 10
  | .rcv (.agN _ t) => 11 + t.val
  | .fin 2 => 13
def L (g : GSem nD τ sig) : Finset Unit := if g.1.2 = .tc then {()} else ∅
def lv (g : GSem nD τ sig) (_ : Unit) : ℕ := (kindOf g.2).elim 0 lvK

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Kd) (u : Unit) : lv (cell c k) u = lvK k := by unfold lv; rw [kindOf_semOf]; rfl
theorem lv_none (c : Dev nD) (sm : SemLoc sig) (h : ∀ k, semOf k ≠ sm) (u : Unit) : lv ((c : Thread nD τ), sm) u = 0 := by
  unfold lv; rw [kindOf_none h]; rfl

/-- Everything owed is on TensorCore counters above level `n`. -/
def Above (n : ℕ) (O : CellTallies nD τ sig Unit) : Prop := ∀ g u, 0 < O g u → g.1.2 = .tc ∧ n < lv g u

theorem Above.zero (n : ℕ) : Above n 0 := fun g u h => absurd h (Nat.lt_irrefl 0)
theorem Above.add {n : ℕ} {O O' : CellTallies nD τ sig Unit} (h : Above n O) (h' : Above n O') : Above n (O + O') := by
  intro g u hg
  rcases Nat.pos_of_ne_zero (Nat.ne_of_gt hg) with hp
  by_cases h0 : 0 < O g u
  · exact h g u h0
  · refine h' g u ?_
    have : (O + O') g u = O g u + O' g u := rfl
    omega
theorem Above.tally {n : ℕ} (c : Dev nD) (k : Kd) (m : ℕ) (h : n < lvK k) : Above n (tallyAt (cell c k) () m) := by
  intro g u hg
  rw [tallyAt_apply] at hg
  by_cases e : g = cell c k ∧ u = ()
  · rw [e.1, lv_cell]; exact ⟨rfl, h⟩
  · rw [if_neg e] at hg; exact absurd hg (Nat.lt_irrefl 0)
theorem Above.sum {n : ℕ} {J : Type} [DecidableEq J] (s : Finset J) (f : J → CellTallies nD τ sig Unit) (h : ∀ j ∈ s, Above n (f j)) : Above n (∑ j ∈ s, f j) := by
  induction s using Finset.induction_on with
  | empty => exact Above.zero n
  | insert a s ha ih =>
    rw [Finset.sum_insert ha]
    exact (h a (Finset.mem_insert_self a s)).add (ih fun j hj => h j (Finset.mem_insert_of_mem hj))
theorem Above.mono {m n : ℕ} (h : m ≤ n) {O : CellTallies nD τ sig Unit} (ho : Above n O) : Above m O := fun g u hg => ⟨(ho g u hg).1, lt_of_le_of_lt h (ho g u hg).2⟩

theorem mayWait_lv (c : Dev nD) (sm : SemLoc sig) (O : CellTallies nD τ sig Unit) (h : Above (lv ((c : Thread nD τ), sm) ()) O) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by rw [L, if_pos (h g u hg).1]; exact Finset.mem_singleton_self _)
    (fun p hp => by rw [Finset.mem_singleton.mp hp])
    (fun g u hg => (h g u hg).2)
theorem mayWait_cell (c : Dev nD) (k : Kd) (O : CellTallies nD τ sig Unit) (h : Above (lvK k) O) :
    (levAts L lv : sProp 𝕄) ⊢ MayWait (c : Thread nD τ) (semOf k) () O := mayWait_lv c _ O (by rw [lv_cell c k]; exact h)
theorem mayWait_local (c : Dev nD) (sm : SemLoc sig) (hs : ∀ k, semOf k ≠ sm) (O : CellTallies nD τ sig Unit) (h : Above 0 O) :
    (levAts L lv : sProp 𝕄) ⊢ MayWait (c : Thread nD τ) sm () O := mayWait_lv c _ O (by rw [lv_none c sm hs]; exact h)

end Cert.K
-- ==== Proof.Talk.lean ====
/-
# The protocol's steps

A signal, a send and a wait of the protocol, each stated on the counters' own resources; opening and closing a call's counters.
-/
module

public import proofs.«01_k».proof.Proof.Sched

@[expose] public section

set_option maxRecDepth 16384

noncomputable section

namespace Cert.K

open Cert.KernelIdeal Cert.KernelIdeal.Gen
open Idealize.ShloMosaic Idealize.ShloMosaic.TcCoe
open Idealize.SL.Sem
open Idealize.SL
open Idealize.SL.BI (sProp bigSep)
open scoped Idealize.SL.BI
open Idealize.SL.BI.BIBase Idealize.SL.BI.Laws Idealize.SL.ProofMode
open Idealize.SL.RA
open Idealize.ShloMosaic.Rounds

variable {F : FTy → Type} [FloatOps F]

local notation "𝕄" => MT nD τ sig Unit (Elt F) ℕ UU ℕ

/-- What everybody knows: every counter's invariant, that the entry barriers are open, the counters' levels. -/
def recs (κ : GSem nD τ sig → ℕ) (I : Info F) : sProp 𝕄 :=
  iprop(bigSep Finset.univ (fun x : Dev nD × Kd => cellInv ER (sched I) (κ (cell x.1 x.2)) (cell x.1 x.2))
    ∗ bigSep Finset.univ (fun x : Dev nD × Fin 3 => reached ER (cell x.1 (.bar x.2)) 0) ∗ levAts L lv)

instance recs_persistent (κ : GSem nD τ sig → ℕ) (I : Info F) : BI.Persistent (recs κ I) := by unfold recs; infer_instance

theorem bigSep_ins {J : Type} [DecidableEq J] {s : Finset J} {j : J} (h : j ∉ s) {Φ : J → sProp 𝕄} :
    bigSep (insert j s) Φ = iprop(Φ j ∗ bigSep s Φ) := BI.bigSep_insert h

/-- One member of a family taken out, to be put back as another family's, the two agreeing elsewhere. -/
theorem bigSep_step {J : Type} [DecidableEq J] {s : Finset J} {j : J} (h : j ∈ s) {Φ Ψ : J → sProp 𝕄} (e : ∀ i ∈ s, i ≠ j → Φ i = Ψ i) :
    bigSep s Φ ⊢ iprop(Φ j ∗ (Ψ j -∗ bigSep s Ψ)) := by
  have e1 : bigSep s Φ = iprop(Φ j ∗ bigSep (s.erase j) Φ) := BI.bigSep_erase h
  have e2 : bigSep s Ψ = iprop(Ψ j ∗ bigSep (s.erase j) Ψ) := BI.bigSep_erase h
  have e3 : bigSep (s.erase j) Φ = bigSep (s.erase j) Ψ := BI.bigSep_congr fun i hi => e i (Finset.mem_of_mem_erase hi) (Finset.ne_of_mem_erase hi)
  rw [e1, e2, e3]
  iintro ⟨Hj, Hr⟩
  isplitl [Hj]; · iexact Hj
  iintro Hj
  isplitl [Hj] <;> iassumption

section Recs
variable (κ : GSem nD τ sig → ℕ) (I : Info F) (c : Dev nD)

theorem recs_inv (k : Kd) : recs κ I ⊢ cellInv ER (sched I) (κ (cell c k)) (cell c k) := by
  unfold recs
  iintro ⟨#H, -, -⟩
  have h : bigSep Finset.univ (fun x : Dev nD × Kd => cellInv ER (sched I) (κ (cell x.1 x.2)) (cell x.1 x.2)) ⊢ cellInv ER (sched I) (κ (cell c k)) (cell c k) :=
    BI.bigSep_elim (Φ := fun x : Dev nD × Kd => cellInv ER (sched I) (κ (cell x.1 x.2)) (cell x.1 x.2)) (Finset.mem_univ (c, k))
  iapply h $$ H
theorem recs_bar (r : Fin 3) : recs κ I ⊢ (reached ER (cell c (.bar r)) 0 : sProp 𝕄) := by
  unfold recs
  iintro ⟨-, #H, -⟩
  have h : bigSep Finset.univ (fun x : Dev nD × Fin 3 => reached ER (cell x.1 (.bar x.2)) 0) ⊢ (reached ER (cell c (.bar r)) 0 : sProp 𝕄) :=
    BI.bigSep_elim (Φ := fun x : Dev nD × Fin 3 => reached ER (cell x.1 (.bar x.2)) 0) (Finset.mem_univ (c, r))
  iapply h $$ H
theorem recs_lev : recs κ I ⊢ (levAts L lv : sProp 𝕄) := by unfold recs; iintro ⟨-, -, #H⟩; iexact H

theorem payK_snd (l : Ln) (n : Nm) : payK I (.snd l) c n = srcO I l c := rfl
theorem payK_rcv (l : Ln) (n : Nm) : payK I (.rcv l) c n = dstGot I l ((peer l).symm c) := rfl
theorem payK_bar (r : Fin 3) (n : Nm) : payK I (.bar r) c n = barPay r c n := rfl
theorem payK_fin (r : Fin 3) (n : Nm) : payK I (.fin r) c n = iprop(emp) := rfl

/-! ## What a device owes for one of its increments -/

abbrev owL (l : Ln) : CellTallies nD τ sig Unit := tallyAt (cell (peer l c) (.rcv l)) () (amt l)
abbrev owB (r : Fin 3) (n : Nm) : CellTallies nD τ sig Unit := tallyAt (cell ((prs r n).symm c) (.bar r)) () 1
abbrev owF (r : Fin 3) (n : Nm) : CellTallies nD τ sig Unit := tallyAt (cell ((prs r n).symm c) (.fin r)) () 1

/-! ## A send -/

theorem send_ln (l : Ln) {α : Type} {hsc : ((pk l).dst c).view.ref.isScScratch = false} {hs : ((pk l).src c).view.WordExact} {hd : ((pk l).dst c).view.WordExact}
    {ht : DmaTarget.Typed (pk l).sp (SemLoc.dma (rcvS l)) (.remote (Dev.tc (τ := τ) (peer l c)) ((pk l).dst c) (.dma (sndS l)) hsc)}
    {k : PUnit → Op (F := F) α} {Q : α → sProp 𝕄} {O : CellTallies nD τ sig Unit} {Wt : Waits sig Unit} :
    iprop(recs κ I ∗ srcO I l c ∗ dstAny l c ∗ owes (c : Thread nD τ) (O + owL c l) Wt
        ∗ dutyTok ER (cell c (.snd l)) 0 0 ∗ reached ER (cell c (.snd l)) 0
        ∗ dutyTok ER (cell (peer l c) (.rcv l)) 0 0 ∗ reached ER (cell (peer l c) (.rcv l)) 0)
      ⊢ iprop((iprop(cred (tallyAt (cell c (.snd l)) () (amt l)) ∗ owes (c : Thread nD τ) O Wt) -∗ W c (k ⟨⟩) Q)
          -∗ W c (.op (.enqueueDma ((pk l).src c) (.remote (Dev.tc (peer l c)) ((pk l).dst c) (.dma (sndS l)) hsc) (.dma (rcvS l)) hs hd ht) k) Q) := by
  unfold srcO dstAny some' own owns
  iintro ⟨#HR, ⟨%fs, %hfs, Hs⟩, ⟨%Y, %fd, -, Hd⟩, HO, HtS, #HrS, HtR, #HrR⟩
  iapply (Rounds.wp_send_pointsTo 𝒱₀ ER (sched I) (c : Thread nD τ) none (c' := (peer l c : Thread nD τ)) (src := (pk l).src c) (dst := (pk l).dst c)
      (sS := .dma (sndS l)) (sem := .dma (rcvS l)) (q := shr l) (fs := fs) (κ₁ := κ (cell c (.snd l))) (κ₂ := κ (cell (peer l c) (.rcv l)))
      (r₁ := 0) (r₂ := 0) (d₁ := 0) (d₂ := 0) (fd := fd)
      (by rw [show (((c : Thread nD τ), SemLoc.dma (sndS l)) : GSem nD τ sig) = cell c (.snd l) from rfl, duties_cell]; exact Finset.mem_singleton_self _)
      (by rw [show (((peer l c : Thread nD τ), SemLoc.dma (rcvS l)) : GSem nD τ sig) = cell (peer l c) (.rcv l) from rfl, duties_cell]; exact Finset.mem_singleton_self _)
      () () (amt l) (amt_eq l c) (amount_cell I c (.snd l) 0) (amount_cell I (peer l c) (.rcv l) 0) O rfl (W := Wt)
      (by
        rw [show (((c : Thread nD τ), SemLoc.dma (sndS l)) : GSem nD τ sig) = cell c (.snd l) from rfl, payload_cell]
        rw [payK_snd]; unfold srcO owns
        iintro H; iexists fs; isplitr; · ipureintro; exact hfs
        iexact H)
      (by
        rw [show (((peer l c : Thread nD τ), SemLoc.dma (rcvS l)) : GSem nD τ sig) = cell (peer l c) (.rcv l) from rfl, payload_cell]
        rw [payK_rcv]; unfold dstGot own owns
        rw [Equiv.symm_apply_apply]
        iintro H; iexists _; isplitr [H]
        rotate_left
        · iexact H
        ipureintro
        rw [View.read_write_univ]; exact hfs)) $$ [Hs Hd HO HtS HtR]
  · isplitr; · iapply (recs_inv κ I c (.snd l)); iexact HR
    isplitr; · iapply (recs_inv κ I (peer l c) (.rcv l)); iexact HR
    isplitl [Hs]; · iexact Hs
    isplitl [Hd]; · iexact Hd
    isplitl [HO]; · iexact HO
    isplitl [HtS]; · iexact HtS
    isplitr; · iexact HrS
    isplitl [HtR]; · iexact HtR
    iexact HrR

/-! ## Waits -/

theorem wait_cell (k : Kd) {w : TpuEff nD τ sig (Elt F) Λ₀ .tc PUnit} {m : ℕ}
    (hw : ∀ K : PUnit → sProp 𝕄, wpE (defs₀ (F := F)) 𝒱₀ (c : Thread nD τ) none Set.univ w K = waitSpec (c : Thread nD τ) Set.univ (semOf k) m K)
    (hm : m = (dutyK k).card * amtK k) {α : Type} {k' : PUnit → Op (F := F) α} {Q : α → sProp 𝕄} {O : CellTallies nD τ sig Unit} {Wt : Waits sig Unit}
    (hO : Above (lvK k) O) :
    iprop(recs κ I ∗ cred (tallyAt (cell c k) () m) ∗ owes (c : Thread nD τ) O Wt ∗ atPos ER (cell c k) 0 ∅ 0)
      ⊢ iprop((iprop(owes (c : Thread nD τ) O (insert (semOf k, ()) Wt) ∗ atPos ER (cell c k) 1 ∅ 0 ∗ bigSep (dutyK k) (payK I k c)) -∗ W c (k' ⟨⟩) Q)
          -∗ W c (.op w k') Q) := by
  iintro ⟨#HR, Hc, HO, Hat⟩ Hk
  iapply (Rounds.wp_wait_rest_token 𝒱₀ ER (sched I) (c : Thread nD τ) none (κ := κ (cell c k))
      hw (Set.mem_univ _) () (O := O) (W := Wt) (R := 0) (m := 0) (T := ∅) ((Nat.zero_add m).trans (hm.trans (expect_cell I c k).symm))) $$ [Hc HO Hat]
  · isplitr; · iapply (recs_inv κ I c k); iexact HR
    isplitl [Hc]; · iexact Hc
    isplitl [HO]; · iexact HO
    isplitr; · iapply (mayWait_cell c k O hO); iapply (recs_lev κ I); iexact HR
    iexact Hat
  iintro ⟨HO, Hat, -, Hp⟩
  ihave Hp := (Entails.of_eq (rest_cell I c k)) $$ Hp
  iapply Hk
  isplitl [HO]; · iexact HO
  isplitl [Hat]; · iexact Hat
  iexact Hp

theorem wait_snd (l : Ln) {sp sp' : Space} {s : Shape} {e : EltTy} {src : Memref sig .tc sp s e} {dst : Memref sig .tc sp' s e} (hc : dst.view.dmaCredit = amt l)
    {hs : src.view.WordExact} {hd : dst.view.WordExact} {α : Type} {k' : PUnit → Op (F := F) α} {Q : α → sProp 𝕄} {O : CellTallies nD τ sig Unit} {Wt : Waits sig Unit}
    (hO : Above 0 O) :
    iprop(recs κ I ∗ cred (tallyAt (cell c (.snd l)) () (amt l)) ∗ owes (c : Thread nD τ) O Wt ∗ atPos ER (cell c (.snd l)) 0 ∅ 0)
      ⊢ iprop((iprop(owes (c : Thread nD τ) O (insert (SemLoc.dma (sndS l), ()) Wt) ∗ atPos ER (cell c (.snd l)) 1 ∅ 0 ∗ srcO I l c) -∗ W c (k' ⟨⟩) Q)
          -∗ W c (.op (.waitDma2 (sndS l) src dst hs hd) k') Q) := by
  iintro ⟨#HR, Hc, HO, Hat⟩ Hk
  iapply (wait_cell κ I c (.snd l) (m := amt l) (fun K => by rw [← hc]; exact wpE_waitDma2_eq 𝒱₀ (c : Thread nD τ) none Set.univ K) (Nat.one_mul _).symm (O := O) hO) $$ [Hc HO Hat]
  · isplitr; · iexact HR
    isplitl [Hc]; · iexact Hc
    isplitl [HO]; · iexact HO
    iexact Hat
  iintro ⟨HO, Hat, Hp⟩
  iapply Hk
  isplitl [HO]; · iexact HO
  isplitl [Hat]; · iexact Hat
  iapply (Entails.of_eq (show bigSep (dutyK (.snd l)) (payK I (.snd l) c) = srcO I l c from BI.bigSep_singleton)) $$ Hp

theorem wait_rcv (l : Ln) {sp sp' : Space} {s : Shape} {e : EltTy} {src : Memref sig .tc sp s e} {dst : Memref sig .tc sp' s e} (hc : dst.view.dmaCredit = amt l)
    {hs : src.view.WordExact} {hd : dst.view.WordExact} {α : Type} {k' : PUnit → Op (F := F) α} {Q : α → sProp 𝕄} {O : CellTallies nD τ sig Unit} {Wt : Waits sig Unit}
    (hO : Above (lvK (.rcv l)) O) :
    iprop(recs κ I ∗ cred (tallyAt (cell c (.rcv l)) () (amt l)) ∗ owes (c : Thread nD τ) O Wt ∗ atPos ER (cell c (.rcv l)) 0 ∅ 0)
      ⊢ iprop((iprop(owes (c : Thread nD τ) O (insert (SemLoc.dma (rcvS l), ()) Wt) ∗ atPos ER (cell c (.rcv l)) 1 ∅ 0 ∗ dstGot I l ((peer l).symm c)) -∗ W c (k' ⟨⟩) Q)
          -∗ W c (.op (.waitDma2 (rcvS l) src dst hs hd) k') Q) := by
  iintro ⟨#HR, Hc, HO, Hat⟩ Hk
  iapply (wait_cell κ I c (.rcv l) (m := amt l) (fun K => by rw [← hc]; exact wpE_waitDma2_eq 𝒱₀ (c : Thread nD τ) none Set.univ K) (Nat.one_mul _).symm (O := O) hO) $$ [Hc HO Hat]
  · isplitr; · iexact HR
    isplitl [Hc]; · iexact Hc
    isplitl [HO]; · iexact HO
    iexact Hat
  iintro ⟨HO, Hat, Hp⟩
  iapply Hk
  isplitl [HO]; · iexact HO
  isplitl [Hat]; · iexact Hat
  iapply (Entails.of_eq (show bigSep (dutyK (.rcv l)) (payK I (.rcv l) c) = dstGot I l ((peer l).symm c) from BI.bigSep_singleton)) $$ Hp

/-! ## Barriers -/

/-- A device's own destination for a link, at any contents. -/
def slotAny (l : Ln) : sProp 𝕄 := dstAny l ((peer l).symm c)

/-- What a device hands its peer at the entry barrier: its destinations for the peer's links, and that its counters are open. -/
def giveAt (r : Fin 3) (n : Nm) : sProp 𝕄 :=
  bigSep (linksAt r n) (fun l => iprop(slotAny c l ∗ reached ER (cell c (.rcv l)) 0))

theorem giveAt_eq (r : Fin 3) (n : Nm) :
    (giveAt c r n : sProp 𝕄) = bigSep (linksAt r n) (fun l => iprop(dstAny l ((prs r n).symm c) ∗ reached ER (cell (peer l ((prs r n).symm c)) (.rcv l)) 0)) := by
  unfold giveAt
  refine BI.bigSep_congr fun l hl => ?_
  have h := (Finset.mem_filter.mp hl).2
  have e : peer l = prs r n := by unfold peer; rw [h.1, h.2]
  unfold slotAny
  rw [e, Equiv.apply_symm_apply]

theorem signal_bar (r : Fin 3) (n : Nm) (hn : n ∈ names r) {sm : Sem sig} (hsm : sm = barOf r) {p : Dev nD} (hp : p = (prs r n).symm c)
    {α : Type} {k : PUnit → Op (F := F) α} {Q : α → sProp 𝕄} {O : CellTallies nD τ sig Unit} {Wt : Waits sig Unit} :
    iprop(recs κ I ∗ owes (c : Thread nD τ) (O + owB c r n) Wt ∗ dutyTok ER (cell ((prs r n).symm c) (.bar r)) 0 n ∗ giveAt c r n ∗ reached ER (cell c (.fin r)) 0)
      ⊢ iprop((owes (c : Thread nD τ) O Wt -∗ W c (k ⟨⟩) Q) -∗ W c (Prog.bind (semSignalWord p sm 1#32) k) Q) := by
  subst hsm hp
  show _ ⊢ iprop(_ -∗ W c (.op (.semSignal (Dev.tc ((prs r n).symm c)) (barOf r) ((1 : ℕ) : ℤ)) fun x => k x) Q)
  rw [giveAt_eq]
  iintro ⟨#HR, HO, Ht, Hg, #Hf⟩
  iapply (Rounds.wp_signal 𝒱₀ ER (sched I) (c : Thread nD τ) none (dst := (((prs r n).symm c : Dev nD) : Thread nD τ)) (sem := barOf r) (r := 0) (d := n)
      (κ := κ (cell ((prs r n).symm c) (.bar r)))
      (by rw [show ((((prs r n).symm c : Dev nD) : Thread nD τ), SemLoc.reg (barOf r)) = cell ((prs r n).symm c) (.bar r) from rfl, duties_cell]; exact hn)
      (amount_cell I ((prs r n).symm c) (.bar r) n) () O rfl) $$ [HO Ht Hg]
  · isplitr; · iapply (recs_inv κ I ((prs r n).symm c) (.bar r)); iexact HR
    isplitl [HO]; · iexact HO
    isplitl [Ht]; · iexact Ht
    isplitl [Hg]
    · rw [show ((((prs r n).symm c : Dev nD) : Thread nD τ), SemLoc.reg (barOf r)) = cell ((prs r n).symm c) (.bar r) from rfl, payload_cell]
      rw [payK_bar]; unfold barPay
      rw [Equiv.apply_symm_apply]
      isplitl [Hg]; · iexact Hg
      iexact Hf
    · iapply (recs_bar κ I ((prs r n).symm c) r); iexact HR

theorem signal_fin (r : Fin 3) (n : Nm) (hn : n ∈ names r) {sm : Sem sig} (hsm : sm = finOf r) {p : Dev nD} (hp : p = (prs r n).symm c)
    {α : Type} {k : PUnit → Op (F := F) α} {Q : α → sProp 𝕄} {O : CellTallies nD τ sig Unit} {Wt : Waits sig Unit} :
    iprop(recs κ I ∗ owes (c : Thread nD τ) (O + owF c r n) Wt ∗ dutyTok ER (cell ((prs r n).symm c) (.fin r)) 0 n ∗ reached ER (cell ((prs r n).symm c) (.fin r)) 0)
      ⊢ iprop((owes (c : Thread nD τ) O Wt -∗ W c (k ⟨⟩) Q) -∗ W c (Prog.bind (semSignalWord p sm 1#32) k) Q) := by
  subst hsm hp
  show _ ⊢ iprop(_ -∗ W c (.op (.semSignal (Dev.tc ((prs r n).symm c)) (finOf r) ((1 : ℕ) : ℤ)) fun x => k x) Q)
  iintro ⟨#HR, HO, Ht, #Hf⟩
  iapply (Rounds.wp_signal 𝒱₀ ER (sched I) (c : Thread nD τ) none (dst := (((prs r n).symm c : Dev nD) : Thread nD τ)) (sem := finOf r) (r := 0) (d := n)
      (κ := κ (cell ((prs r n).symm c) (.fin r)))
      (by rw [show ((((prs r n).symm c : Dev nD) : Thread nD τ), SemLoc.reg (finOf r)) = cell ((prs r n).symm c) (.fin r) from rfl, duties_cell]; exact hn)
      (amount_cell I ((prs r n).symm c) (.fin r) n) () O rfl) $$ [HO Ht]
  · isplitr; · iapply (recs_inv κ I ((prs r n).symm c) (.fin r)); iexact HR
    isplitl [HO]; · iexact HO
    isplitl [Ht]; · iexact Ht
    isplitr
    · rw [show ((((prs r n).symm c : Dev nD) : Thread nD τ), SemLoc.reg (finOf r)) = cell ((prs r n).symm c) (.fin r) from rfl, payload_cell]
      rw [payK_fin]
      iempintro
    · iexact Hf

/-- What an entry barrier's round hands over: the peers' destinations for all of the call's links, and that their counters are open. -/
def gained (r : Fin 3) : sProp 𝕄 :=
  iprop(bigSep (links r) (fun l => iprop(dstAny l c ∗ reached ER (cell (peer l c) (.rcv l)) 0))
    ∗ bigSep (names r) (fun n => reached ER (cell (prs r n c) (.fin r)) 0))

theorem gained_of (r : Fin 3) : bigSep (names r) (payK I (.bar r) c) ⊢ gained c r := by
  unfold gained
  rw [links_eq]
  exact (Entails.of_eq (BI.bigSep_sep _ _ _)).trans (sep_mono_left (BI.bigSep_biUnion _ _))

theorem wait_bar (r : Fin 3) {sm : Sem sig} (hsm : sm = barOf r) {m : ℕ} (hm : m = (names r).card) {z : BitVec 32} (hz : z.toInt = (m : ℤ))
    {α : Type} {k' : PUnit → Op (F := F) α} {Q : α → sProp 𝕄} {O : CellTallies nD τ sig Unit} {Wt : Waits sig Unit} (hO : Above (lvK (.bar r)) O) :
    iprop(recs κ I ∗ cred (tallyAt (cell c (.bar r)) () (names r).card) ∗ owes (c : Thread nD τ) O Wt ∗ atPos ER (cell c (.bar r)) 0 ∅ 0)
      ⊢ iprop((iprop((∃ Wt', owes (c : Thread nD τ) O Wt') ∗ atPos ER (cell c (.bar r)) 1 ∅ 0 ∗ gained c r) -∗ W c (k' ⟨⟩) Q)
          -∗ W c (Prog.bind (semWaitWord sm z) k') Q) := by
  subst hsm hm
  show _ ⊢ iprop(_ -∗ W c (.op (.semWait (barOf r) z.toInt) fun x => k' x) Q)
  rw [hz]
  iintro ⟨#HR, Hc, HO, Hat⟩ Hk
  iapply (wait_cell κ I c (.bar r) (m := (names r).card) (fun K => wpE_semWait_eq 𝒱₀ (c : Thread nD τ) none Set.univ K) (Nat.mul_one _).symm (O := O) hO) $$ [Hc HO Hat]
  · isplitr; · iexact HR
    isplitl [Hc]; · iexact Hc
    isplitl [HO]; · iexact HO
    iexact Hat
  iintro ⟨HO, Hat, Hp⟩
  iapply Hk
  isplitl [HO]; · iexists _; iexact HO
  isplitl [Hat]; · iexact Hat
  iapply (show bigSep (dutyK (.bar r)) (payK I (.bar r) c) ⊢ gained c r from gained_of I c r) $$ Hp

theorem wait_fin (r : Fin 3) {sm : Sem sig} (hsm : sm = finOf r) {m : ℕ} (hm : m = (names r).card) {z : BitVec 32} (hz : z.toInt = (m : ℤ))
    {α : Type} {k' : PUnit → Op (F := F) α} {Q : α → sProp 𝕄} {O : CellTallies nD τ sig Unit} {Wt : Waits sig Unit} (hO : Above (lvK (.fin r)) O) :
    iprop(recs κ I ∗ cred (tallyAt (cell c (.fin r)) () (names r).card) ∗ owes (c : Thread nD τ) O Wt ∗ atPos ER (cell c (.fin r)) 0 ∅ 0)
      ⊢ iprop((iprop((∃ Wt', owes (c : Thread nD τ) O Wt') ∗ atPos ER (cell c (.fin r)) 1 ∅ 0) -∗ W c (k' ⟨⟩) Q)
          -∗ W c (Prog.bind (semWaitWord sm z) k') Q) := by
  subst hsm hm
  show _ ⊢ iprop(_ -∗ W c (.op (.semWait (finOf r) z.toInt) fun x => k' x) Q)
  rw [hz]
  iintro ⟨#HR, Hc, HO, Hat⟩ Hk
  iapply (wait_cell κ I c (.fin r) (m := (names r).card) (fun K => wpE_semWait_eq 𝒱₀ (c : Thread nD τ) none Set.univ K) (Nat.mul_one _).symm (O := O) hO) $$ [Hc HO Hat]
  · isplitr; · iexact HR
    isplitl [Hc]; · iexact Hc
    isplitl [HO]; · iexact HO
    iexact Hat
  iintro ⟨HO, Hat, Hp⟩
  iapply Hk
  isplitl [HO]; · iexists _; iexact HO
  iexact Hat

/-! ## Opening and closing the counters of a call -/

theorem close_cell (k : Kd) : iprop(recs κ I ∗ atPos ER (cell c k) 1 ∅ 0) ⊢ (|={Set.univ}=> semVal (cell c k) 0 : sProp 𝕄) := by
  iintro ⟨#HR, Hat⟩
  iapply (Rounds.cell_close ER (sched I) (Set.mem_univ (κ (cell c k))) id (R := 1) (duties_later I (cell c k)))
  isplitr; · iapply (recs_inv κ I c k); iexact HR
  iexact Hat

theorem close_cells (S : Finset Kd) : iprop(recs κ I ∗ bigSep S (fun k => atPos ER (cell c k) 1 ∅ 0)) ⊢ (|={Set.univ}=> bigSep S (fun k => semVal (cell c k) 0) : sProp 𝕄) := by
  induction S using Finset.induction_on with
  | empty => simp only [BI.bigSep_empty]; iintro ⟨-, -⟩; imodintro; iempintro
  | insert k S hk ih =>
    rw [bigSep_ins hk, bigSep_ins hk]
    iintro ⟨#HR, Hat, Hs⟩
    imod (close_cell κ I c k) $$ [Hat] with Hv
    · isplitr; · iexact HR
      iexact Hat
    imod ih $$ [Hs] with Hw
    · isplitr; · iexact HR
      iexact Hs
    imodintro
    isplitl [Hv] <;> iassumption

theorem open_cells (S : Finset Kd) : iprop(recs κ I ∗ bigSep S (fun k => openTok ER (cell c k)) ∗ bigSep S (fun k => semVal (cell c k) 0))
    ⊢ (|={Set.univ}=> bigSep S (fun k => iprop(atPos ER (cell c k) 0 ∅ 0 ∗ reached ER (cell c k) 0)) : sProp 𝕄) := by
  induction S using Finset.induction_on with
  | empty => simp only [BI.bigSep_empty]; iintro ⟨-, -, -⟩; imodintro; iempintro
  | insert k S hk ih =>
    rw [bigSep_ins hk, bigSep_ins hk, bigSep_ins hk]
    iintro ⟨#HR, ⟨Ht, Hs⟩, Hv, Hvs⟩
    imod (Rounds.cell_open ER (sched I) (g := cell c k) (Set.mem_univ (κ (cell c k)))) $$ [Ht Hv] with Ha
    · isplitr; · iapply (recs_inv κ I c k); iexact HR
      isplitl [Ht] <;> iassumption
    imod ih $$ [Hs Hvs] with Hw
    · isplitr; · iexact HR
      isplitl [Hs] <;> iassumption
    imodintro
    isplitl [Ha] <;> iassumption

end Recs

end Cert.K
-- ==== Proof.RsSteps.lean ====
/-
# The reduce-scatter's landings and sends

One landing, one send, one copy to the result: each for a direction, a step and a tile.
-/
module

public import proofs.«01_k».proof.Proof.Talk

@[expose] public section

set_option maxRecDepth 16384

noncomputable section

namespace Cert.K

open Cert.KernelIdeal Cert.KernelIdeal.Gen
open Idealize.ShloMosaic Idealize.ShloMosaic.TcCoe
open Idealize.SL.Sem
open Idealize.SL
open Idealize.SL.BI (sProp bigSep)
open scoped Idealize.SL.BI
open Idealize.SL.BI.BIBase Idealize.SL.BI.Laws Idealize.SL.ProofMode
open Idealize.SL.RA
open Idealize.ShloMosaic.Rounds

variable {F : FTy → Type} [FloatOps F]

local notation "𝕄" => MT nD τ sig Unit (Elt F) ℕ UU ℕ

/-- Both addend counters. -/
def adds (c : Dev nD) : sProp 𝕄 := iprop(semVal ((c : Thread nD τ), SemLoc.dma (addS true)) 0 ∗ semVal ((c : Thread nD τ), SemLoc.dma (addS false)) 0)

theorem adds_take (c : Dev nD) (d : Dir) : (adds c : sProp 𝕄) ⊢ iprop(semVal ((c : Thread nD τ), SemLoc.dma (addS d)) 0
    ∗ (semVal ((c : Thread nD τ), SemLoc.dma (addS d)) 0 -∗ adds c)) := by
  unfold adds
  cases d
  · iintro ⟨Ha, Hb⟩
    isplitl [Hb]; · iexact Hb
    iintro Hb
    isplitl [Ha] <;> iassumption
  · iintro ⟨Ha, Hb⟩
    isplitl [Ha]; · iexact Ha
    iintro Ha
    isplitl [Ha] <;> iassumption

/-- What every landing uses and gives back: the operands, the scratch buffers it copies into, their counters. -/
def tools (I : Info F) (c : Dev nD) : sProp 𝕄 :=
  iprop(own c xA (I.x c) ∗ own c wV (I.w c) ∗ some' c xV ∗ some' c bV ∗ some' c hV ∗ semVal ((c : Thread nD τ), SemLoc.dma xS) 0 ∗ adds c)

theorem xS_local : ∀ k : Kd, semOf k ≠ .dma xS := by
  have h : ∀ k : Kd, semCode (semOf k) ≠ semCode (.dma xS) := by decide +kernel
  exact fun k e => h k (by rw [e])
theorem wS_local : ∀ k : Kd, semOf k ≠ .dma wS := by
  have h : ∀ k : Kd, semCode (semOf k) ≠ semCode (.dma wS) := by decide +kernel
  exact fun k e => h k (by rw [e])
theorem addS_local (d : Dir) : ∀ k : Kd, semOf k ≠ .dma (addS d) := by
  have h : ∀ (d : Dir) (k : Kd), semCode (semOf k) ≠ semCode (.dma (addS d)) := by decide +kernel
  exact fun k e => h d k (by rw [e])
theorem storeS_local (d : Dir) (t : Fin 4) : ∀ k : Kd, semOf k ≠ .dma (storeS d t) := by
  have h : ∀ (d : Dir) (t : Fin 4) (k : Kd), semCode (semOf k) ≠ semCode (.dma (storeS d t)) := by decide +kernel
  exact fun k e => h d t k (by rw [e])

section Steps
variable (κ : GSem nD τ sig → ℕ) (I : Info F) (c : Dev nD)

/-- The landed tile and the rows of `x` are copied in and read, with the columns of `w`. -/
theorem fetch_wp {e : EltTy} (src : Memref sig .tc .hbm S256x4096 e) (hsrc : src.view.WordExact) (bM : Memref sig .tc .vmem S256x4096 e) (hb : bM.view.WordExact)
    (d : Dir) (s : Fin 3) (t : Fin 4) (X : S256x4096.Idx → Elt F e) {α : Type} {k : (Vec F S256x1024 .bf16 × Vec F S1024x4096 .bf16 × Vec F S256x4096 e) → Op (F := F) α}
    {Q : α → sProp 𝕄} {O : CellTallies nD τ sig Unit} {Wt : Waits sig Unit} (hO : Above 0 O) :
    iprop(recs κ I ∗ own c src X ∗ some' c bM ∗ own c xA (I.x c) ∗ own c wV (I.w c) ∗ some' c xV ∗ semVal ((c : Thread nD τ), SemLoc.dma xS) 0 ∗ adds c ∗ owes (c : Thread nD τ) O Wt)
      ⊢ iprop((iprop(own c src X ∗ some' c bM ∗ own c xA (I.x c) ∗ own c wV (I.w c) ∗ some' c xV ∗ semVal ((c : Thread nD τ), SemLoc.dma xS) 0 ∗ adds c ∗ (∃ Wt', owes (c : Thread nD τ) O Wt'))
            -∗ W c (k (xt I d c s t, wc I d c, X)) Q)
          -∗ W c (fetchT src hsrc bM hb d c s t >>= k) Q) := by
  have hpart : own c xA (I.x c) ⊢ iprop(own c (xT d c s t) (xt I d c s t) ∗ (own c (xT d c s t) (xt I d c s t) -∗ own c xA (I.x c))) :=
    own_part c xA (Rect.unit (s := S4096x1024) (xoff d c s t) S256x1024.size (xoff_inb d c s t)) (fun _ => rfl) fullShare (I.x c)
  iintro ⟨#HR, Hs, Hb, Hx, Hw, Hv, HxS, HaS, HO⟩ Hk
  ihave HaS := (adds_take c d) $$ HaS
  icases HaS with ⟨Ha, HaB⟩
  iapply (copy_start c src bM (addS d) (q := fullShare) (X := X) (show 0 < S256x4096.numel by decide)) $$ [Hs Hb Ha]
  · isplitl [Hs]; · iexact Hs
    isplitl [Hb] <;> iassumption
  iintro HcA
  ihave Hx := hpart $$ Hx
  icases Hx with ⟨Hx, HxB⟩
  iapply (copy_start c (xT d c s t) xV xS (q := fullShare) (X := xt I d c s t) (show 0 < S256x1024.numel by decide)) $$ [Hx Hv HxS]
  · isplitl [Hx]; · iexact Hx
    isplitl [Hv] <;> iassumption
  iintro HcX
  iapply (copy_wait c (xT d c s t) xV xS (q := fullShare) (X := xt I d c s t) (O := O)) $$ [HcX HO]
  · isplitl [HcX]; · iexact HcX
    isplitl [HO]; · iexact HO
    iapply (mayWait_local c (.dma xS) xS_local O hO)
    iapply (recs_lev κ I); iexact HR
  iintro ⟨⟨Hx, Hv⟩, HxS, HO⟩
  ispecialize HxB $$ Hx
  iapply (load_full c xV (X := xt I d c s t) inb_S256x1024_S256x1024_0_0) $$ Hv
  iintro Hv
  iapply (load_own c wV (colRect d) (X := I.w c)) $$ Hw
  iintro Hw
  iapply (copy_wait c src bM (addS d) (q := fullShare) (X := X) (O := O)) $$ [HcA HO]
  · isplitl [HcA]; · iexact HcA
    isplitl [HO]; · iexact HO
    iapply (mayWait_local c (.dma (addS d)) (addS_local d) O hO)
    iapply (recs_lev κ I); iexact HR
  iintro ⟨⟨Hs, Hb⟩, Ha, HO⟩
  ispecialize HaB $$ Ha
  iapply (load_full c bM (X := X) inb_S256x4096_S256x4096_0_0) $$ Hb
  iintro Hb
  iapply Hk
  isplitl [Hs]; · iexact Hs
  isplitl [Hb]; · iexists X; iexact Hb
  isplitl [HxB]; · iexact HxB
  isplitl [Hw]; · iexact Hw
  isplitl [Hv]; · iexists _; iexact Hv
  isplitl [HxS]; · iexact HxS
  isplitl [HaB]; · iexact HaB
  iexists _; iexact HO

/-- A tile of the accumulator is stored. -/
theorem store_wp (d : Dir) (t : Fin 4) (v : FVec F S256x4096 .f32) {α : Type} {k : PUnit → Op (F := F) α} {Q : α → sProp 𝕄} :
    some' c (rowT (accV d) t) ⊢ iprop((own c (rowT (accV d) t) v -∗ W c (k ⟨⟩) Q) -∗ W c (storeT d t v >>= k) Q) := by
  iintro ⟨%X, H⟩ Hk
  iapply (load_slice c (accV d) (rowRect t) (fun _ => rfl) (X := X)) $$ H
  iintro H
  iapply (store_own c (accV d) (rowRect t) (fun _ => rfl) (w := v)) $$ [H]
  · iexists X; iexact H
  iintro H
  iapply Hk $$ H

/-! ## The stages of a link and of a tile -/

/-- A link not yet used, on its sender: its destination, and what the send and the two waits take. -/
def fresh (l : Ln) : sProp 𝕄 :=
  iprop(dstAny l c ∗ dutyTok ER (cell c (.snd l)) 0 0 ∗ reached ER (cell c (.snd l)) 0
    ∗ dutyTok ER (cell (peer l c) (.rcv l)) 0 0 ∗ reached ER (cell (peer l c) (.rcv l)) 0
    ∗ cred (tallyAt (cell c (.rcv l)) () (amt l)) ∗ atPos ER (cell c (.snd l)) 0 ∅ 0 ∗ atPos ER (cell c (.rcv l)) 0 ∅ 0)
/-- A link with its packet on the way; what the two waits take. -/
def sent (l : Ln) : sProp 𝕄 :=
  iprop(cred (tallyAt (cell c (.snd l)) () (amt l)) ∗ cred (tallyAt (cell c (.rcv l)) () (amt l)) ∗ atPos ER (cell c (.snd l)) 0 ∅ 0 ∗ atPos ER (cell c (.rcv l)) 0 ∅ 0)
/-- A link waited for at both ends. -/
def donee (l : Ln) : sProp 𝕄 := iprop(atPos ER (cell c (.snd l)) 1 ∅ 0 ∗ atPos ER (cell c (.rcv l)) 1 ∅ 0 ∗ dstGot I l ((peer l).symm c))

theorem send_wp (l : Ln) {α : Type} {hsc : ((pk l).dst c).view.ref.isScScratch = false} {hs : ((pk l).src c).view.WordExact} {hd : ((pk l).dst c).view.WordExact}
    {ht : DmaTarget.Typed (pk l).sp (SemLoc.dma (rcvS l)) (.remote (Dev.tc (τ := τ) (peer l c)) ((pk l).dst c) (.dma (sndS l)) hsc)}
    {k : PUnit → Op (F := F) α} {Q : α → sProp 𝕄} {O : CellTallies nD τ sig Unit} {Wt : Waits sig Unit} :
    iprop(recs κ I ∗ srcO I l c ∗ fresh c l ∗ owes (c : Thread nD τ) (O + owL c l) Wt)
      ⊢ iprop((iprop(sent c l ∗ owes (c : Thread nD τ) O Wt) -∗ W c (k ⟨⟩) Q)
          -∗ W c (.op (.enqueueDma ((pk l).src c) (.remote (Dev.tc (peer l c)) ((pk l).dst c) (.dma (sndS l)) hsc) (.dma (rcvS l)) hs hd ht) k) Q) := by
  unfold fresh sent
  iintro ⟨#HR, Hs, ⟨Hd, Ht, Hr, Ht', Hr', Hc, Ha, Ha'⟩, HO⟩ Hk
  iapply (send_ln κ I c l (O := O) (Wt := Wt)) $$ [Hs Hd Ht Hr Ht' Hr' HO]
  · isplitr; · iexact HR
    isplitl [Hs]; · iexact Hs
    isplitl [Hd]; · iexact Hd
    isplitl [HO]; · iexact HO
    isplitl [Ht]; · iexact Ht
    isplitl [Hr]; · iexact Hr
    isplitl [Ht']; · iexact Ht'
    iexact Hr'
  iintro ⟨Hcs, HO⟩
  iapply Hk
  isplitr [HO]
  · isplitl [Hcs]; · iexact Hcs
    isplitl [Hc]; · iexact Hc
    isplitl [Ha] <;> iassumption
  iexact HO

theorem wait_both (l : Ln) {sp sp' sq sq' : Space} {s s' : Shape} {e e' : EltTy} {src : Memref sig .tc sp s e} {dst : Memref sig .tc sp' s e}
    {src' : Memref sig .tc sq s' e'} {dst' : Memref sig .tc sq' s' e'} (hc : dst.view.dmaCredit = amt l) (hc' : dst'.view.dmaCredit = amt l)
    {hs : src.view.WordExact} {hd : dst.view.WordExact} {hs' : src'.view.WordExact} {hd' : dst'.view.WordExact} {α : Type} {k' : PUnit → Op (F := F) α} {Q : α → sProp 𝕄}
    {O : CellTallies nD τ sig Unit} {Wt : Waits sig Unit} (hO : Above (lvK (.rcv l)) O) :
    iprop(recs κ I ∗ sent c l ∗ owes (c : Thread nD τ) O Wt)
      ⊢ iprop((iprop(donee I c l ∗ srcO I l c ∗ ∃ Wt', owes (c : Thread nD τ) O Wt') -∗ W c (k' ⟨⟩) Q)
          -∗ W c (.op (.waitDma2 (sndS l) src dst hs hd) fun _ => .op (.waitDma2 (rcvS l) src' dst' hs' hd') k') Q) := by
  unfold sent donee
  iintro ⟨#HR, ⟨Hc, Hc', Ha, Ha'⟩, HO⟩ Hk
  iapply (wait_snd κ I c l hc (hO.mono (Nat.zero_le _)) (O := O) (Wt := Wt)) $$ [Hc Ha HO]
  · isplitr; · iexact HR
    isplitl [Hc]; · iexact Hc
    isplitl [HO] <;> iassumption
  iintro ⟨HO, Ha, Hs⟩
  iapply (wait_rcv κ I c l hc' hO) $$ [Hc' Ha' HO]
  · isplitr; · iexact HR
    isplitl [Hc']; · iexact Hc'
    isplitl [HO] <;> iassumption
  iintro ⟨HO, Ha', Hg⟩
  iapply Hk
  isplitl [Ha Ha' Hg]
  · isplitl [Ha]; · iexact Ha
    isplitl [Ha'] <;> iassumption
  isplitl [Hs]; · iexact Hs
  iexists _; iexact HO

/-- A copy's units depend on the shape and the type copied alone. -/
theorem credit_eq {sp sp' : Space} {s : Shape} {e : EltTy} (v : View sig .tc sp s e) (w : View sig .tc sp' s e) : v.dmaCredit = w.dmaCredit := rfl

theorem peer_symm (d : Dir) (c : Dev nD) : (prs 0 (nm d)).symm c = (nx d).symm c := by cases d <;> rfl

theorem got0 (d : Dir) (t : Fin 4) : (dstGot I (.rs0 d t) ((peer (.rs0 d t)).symm c) : sProp 𝕄) = own c (rowT (landA d) t) (pt I d ((nx d).symm c) t) := by
  unfold dstGot
  rw [Equiv.apply_symm_apply]
  show own c (rowT (landA d) t) (pt I d ((prs 0 (nm d)).symm c) t) = _
  rw [peer_symm]
theorem gotN (d : Dir) (s : Fin 2) (t : Fin 4) : (dstGot I (.rsN d s t) ((peer (.rsN d s t)).symm c) : sProp 𝕄) = own c (slotT d s t) (sumS I d ((nx d).symm c) t s) := by
  unfold dstGot
  rw [Equiv.apply_symm_apply]
  show own c (slotT d s t) (sumS I d ((prs 0 (nm d)).symm c) t s) = _
  rw [peer_symm]

/-- The sum left on a device by step `s` of the last two, before the cast to its own shape. -/
def partS (d : Dir) (t : Fin 4) (s : Fin 2) : FVec F S256x4096 .f32 := partV (xt I d c s.succ t) (wc I d c) (sumS I d ((nx d).symm c) t s)
/-- The same as stored. -/
def nextS (d : Dir) (t : Fin 4) (s : Fin 2) : FVec F S256x4096 .f32 := tileV (xt I d c s.succ t) (wc I d c) (sumS I d ((nx d).symm c) t s)

theorem land0_eq (d : Dir) (t : Fin 4) {α : Type} (k : PUnit → Op (F := F) α) :
    (land0 d c t >>= k) = .op (.waitDma2 (sndS (.rs0 d t)) (rowT (landA d) t) (halfT d t) ((landA_whole d).wordExact_slice rfl _ (words_row t)) ((Memref.isWhole_whole _).wordExact_slice rfl _ (words_half d t)))
      fun _ => .op (.waitDma2 (rcvS (.rs0 d t)) (halfT d t) (rowT (landA d) t) ((Memref.isWhole_whole _).wordExact_slice rfl _ (words_half d t)) ((landA_whole d).wordExact_slice rfl _ (words_row t)))
      fun _ => (fetchT (rowT (landA d) t) ((landA_whole d).wordExact_slice rfl _ (words_row t)) hV (Memref.isWhole_whole _).wordExact d c 0 t >>= fun r =>
        storeT d t (tile0V r.1 r.2.1 r.2.2) >>= k) := rfl

theorem landOn_eq (d : Dir) (s : Fin 2) (t : Fin 4) {α : Type} (k : FVec F S256x4096 .f32 → Op (F := F) α) :
    (landOn d c s t >>= k) = .op (.waitDma2 (sndS (.rsN d s t)) (slotT d s t) (rowT (accV d) t) ((View.wordExact_bits rfl).reshape _ _) (View.wordExact_bits rfl))
      fun _ => .op (.waitDma2 (rcvS (.rsN d s t)) (rowT (accV d) t) (slotT d s t) (View.wordExact_bits rfl) ((View.wordExact_bits rfl).reshape _ _))
      fun _ => (fetchT (slotT d s t) ((View.wordExact_bits rfl).reshape _ _) bV (Memref.isWhole_whole _).wordExact d c s.succ t >>= fun r =>
        storeT d t (tileV r.1 r.2.1 r.2.2) >>= fun _ => k (partV r.1 r.2.1 r.2.2)) := rfl

theorem land0_wp (d : Dir) (t : Fin 4) {α : Type} {k : PUnit → Op (F := F) α} {Q : α → sProp 𝕄} {O : CellTallies nD τ sig Unit} {Wt : Waits sig Unit}
    (hO : Above (lvK (.rcv (.rs0 d t))) O) :
    iprop(recs κ I ∗ tools I c ∗ sent c (.rs0 d t) ∗ some' c (rowT (accV d) t) ∗ owes (c : Thread nD τ) O Wt)
      ⊢ iprop((iprop(tools I c ∗ donee I c (.rs0 d t) ∗ srcO I (.rs0 d t) c ∗ own c (rowT (accV d) t) (sum0 I d c t) ∗ ∃ Wt', owes (c : Thread nD τ) O Wt') -∗ W c (k ⟨⟩) Q)
          -∗ W c (land0 d c t >>= k) Q) := by
  rw [land0_eq]
  unfold tools
  iintro ⟨#HR, ⟨Hx, Hw, Hv, Hb, Hh, HxS, HaS⟩, Hf, Hacc, HO⟩ Hk
  iapply (wait_both κ I c (.rs0 d t) (hO := hO) (credit_eq (halfT d t).view (rowT (landA d) t).view) (credit_eq (rowT (landA d) t).view (rowT (landA d) t).view)) $$ [Hf HO]
  · isplitr; · iexact HR
    isplitl [Hf] <;> iassumption
  unfold donee
  rw [got0]
  iintro ⟨⟨Ha, Ha', Hg⟩, Hs, ⟨%Wt', HO⟩⟩
  iapply (fetch_wp κ I c (rowT (landA d) t) _ hV _ d 0 t (X := pt I d ((nx d).symm c) t) (hO.mono (Nat.zero_le _))) $$ [Hg Hh Hx Hw Hv HxS HaS HO]
  · isplitr; · iexact HR
    isplitl [Hg]; · iexact Hg
    isplitl [Hh]; · iexact Hh
    isplitl [Hx]; · iexact Hx
    isplitl [Hw]; · iexact Hw
    isplitl [Hv]; · iexact Hv
    isplitl [HxS]; · iexact HxS
    isplitl [HaS] <;> iassumption
  iintro ⟨Hg, Hh, Hx, Hw, Hv, HxS, HaS, HO⟩
  iapply (store_wp c d t) $$ Hacc
  iintro Hacc
  iapply Hk
  isplitl [Hx Hw Hv Hb Hh HxS HaS]
  · isplitl [Hx]; · iexact Hx
    isplitl [Hw]; · iexact Hw
    isplitl [Hv]; · iexact Hv
    isplitl [Hb]; · iexact Hb
    isplitl [Hh]; · iexact Hh
    isplitl [HxS] <;> iassumption
  isplitl [Ha Ha' Hg]
  · isplitl [Ha]; · iexact Ha
    isplitl [Ha'] <;> iassumption
  isplitl [Hs]; · iexact Hs
  isplitl [Hacc]; · iexact Hacc
  iexact HO

theorem landOn_wp (d : Dir) (s : Fin 2) (t : Fin 4) {α : Type} {k : FVec F S256x4096 .f32 → Op (F := F) α} {Q : α → sProp 𝕄} {O : CellTallies nD τ sig Unit} {Wt : Waits sig Unit}
    (hO : Above (lvK (.rcv (.rsN d s t))) O) :
    iprop(recs κ I ∗ tools I c ∗ sent c (.rsN d s t) ∗ owes (c : Thread nD τ) O Wt)
      ⊢ iprop((iprop(tools I c ∗ donee I c (.rsN d s t) ∗ own c (rowT (accV d) t) (nextS I c d t s) ∗ ∃ Wt', owes (c : Thread nD τ) O Wt') -∗ W c (k (partS I c d t s)) Q)
          -∗ W c (landOn d c s t >>= k) Q) := by
  rw [landOn_eq]
  unfold tools
  iintro ⟨#HR, ⟨Hx, Hw, Hv, Hb, Hh, HxS, HaS⟩, Hf, HO⟩ Hk
  iapply (wait_both κ I c (.rsN d s t) (hO := hO) (credit_eq (rowT (accV d) t).view (slotT d s t).view) (credit_eq (slotT d s t).view (slotT d s t).view)) $$ [Hf HO]
  · isplitr; · iexact HR
    isplitl [Hf] <;> iassumption
  unfold donee
  rw [gotN]
  iintro ⟨⟨Ha, Ha', Hg⟩, Hs, ⟨%Wt', HO⟩⟩
  have hs : srcO I (.rsN d s t) c ⊢ (own c (rowT (accV d) t) (sumS I d c t s) : sProp 𝕄) := Entails.of_eq rfl
  ihave Hs := hs $$ Hs
  iapply (fetch_wp κ I c (slotT d s t) _ bV _ d s.succ t (X := sumS I d ((nx d).symm c) t s) (hO.mono (Nat.zero_le _))) $$ [Hg Hb Hx Hw Hv HxS HaS HO]
  · isplitr; · iexact HR
    isplitl [Hg]; · iexact Hg
    isplitl [Hb]; · iexact Hb
    isplitl [Hx]; · iexact Hx
    isplitl [Hw]; · iexact Hw
    isplitl [Hv]; · iexact Hv
    isplitl [HxS]; · iexact HxS
    isplitl [HaS] <;> iassumption
  iintro ⟨Hg, Hb, Hx, Hw, Hv, HxS, HaS, HO⟩
  iapply (store_wp c d t) $$ [Hs]
  · iexists _; iexact Hs
  iintro Hacc
  iapply Hk
  isplitl [Hx Hw Hv Hb Hh HxS HaS]
  · isplitl [Hx]; · iexact Hx
    isplitl [Hw]; · iexact Hw
    isplitl [Hv]; · iexact Hv
    isplitl [Hb]; · iexact Hb
    isplitl [Hh]; · iexact Hh
    isplitl [HxS] <;> iassumption
  isplitl [Ha Ha' Hg]
  · isplitl [Ha]; · iexact Ha
    isplitl [Ha'] <;> iassumption
  isplitl [Hacc]; · iexact Hacc
  iexact HO

end Steps

end Cert.K
-- ==== Proof.RsTiles.lean ====
/-
# The reduce-scatter's body

The eight tiles (four in each direction) go through five stages in turn; forty steps, each moving one tile one stage on.
-/
module

public import proofs.«01_k».proof.Proof.RsSteps

@[expose] public section

set_option maxRecDepth 16384

noncomputable section

namespace Cert.K

open Cert.KernelIdeal Cert.KernelIdeal.Gen
open Idealize.ShloMosaic Idealize.ShloMosaic.TcCoe
open Idealize.SL.Sem
open Idealize.SL
open Idealize.SL.BI (sProp bigSep)
open scoped Idealize.SL.BI
open Idealize.SL.BI.BIBase Idealize.SL.BI.Laws Idealize.SL.ProofMode
open Idealize.SL.RA
open Idealize.ShloMosaic.Rounds

variable {F : FTy → Type} [FloatOps F]

local notation "𝕄" => MT nD τ sig Unit (Elt F) ℕ UU ℕ

/-- A tile: its direction and its place. -/
abbrev J := Dir × Fin 4
/-- The order in which each stage takes the tiles. -/
def ord (j : J) : ℕ := 2 * j.2.val + if j.1 then 0 else 1
/-- A tile's stage after `k` steps. -/
def stg (k : ℕ) (j : J) : ℕ := (k + 7 - ord j) / 8

/-- Step `k` moves tile `j` from stage `n` to the next, and no other tile. -/
def Moves (k : ℕ) (j : J) (n : ℕ) : Prop := stg k j = n ∧ stg (k + 1) j = n + 1 ∧ ∀ i : J, i ≠ j → stg k i = stg (k + 1) i
instance (k : ℕ) (j : J) (n : ℕ) : Decidable (Moves k j n) := by unfold Moves; infer_instance

/-- The sends, in their order. -/
def rsOrder : List Ln :=
  [.rs0 true 0, .rs0 false 0, .rs0 true 1, .rs0 false 1, .rs0 true 2, .rs0 false 2, .rs0 true 3, .rs0 false 3,
   .rsN true 0 0, .rsN false 0 0, .rsN true 0 1, .rsN false 0 1, .rsN true 0 2, .rsN false 0 2, .rsN true 0 3, .rsN false 0 3,
   .rsN true 1 0, .rsN false 1 0, .rsN true 1 1, .rsN false 1 1, .rsN true 1 2, .rsN false 1 2, .rsN true 1 3, .rsN false 1 3]

/-- What is owed for the sends still to come, on top of `T`. -/
def owe (c : Dev nD) : List Ln → CellTallies nD τ sig Unit → CellTallies nD τ sig Unit
  | [], T => T
  | l :: ls, T => owe c ls T + owL c l

theorem owe_above {n : ℕ} (c : Dev nD) {T : CellTallies nD τ sig Unit} (hT : Above n T) : ∀ ls : List Ln, (∀ l ∈ ls, n < lvK (.rcv l)) → Above n (owe c ls T)
  | [], _ => hT
  | l :: ls, h => (owe_above c hT ls fun l' hl => h l' (List.mem_cons_of_mem _ hl)).add (Above.tally _ _ _ (h l List.mem_cons_self))

section Body
variable (κ : GSem nD τ sig → ℕ) (I : Info F) (c : Dev nD)

/-- A tile at a stage: nothing sent; the host's product sent; landed, added to and sent on; again; landed and added to the last time, and
    being copied to the result; copied. -/
def Tl (j : J) : ℕ → sProp 𝕄
  | 0 => iprop(srcO I (.rs0 j.1 j.2) c ∗ some' c (rowT (accV j.1) j.2) ∗ fresh c (.rs0 j.1 j.2) ∗ fresh c (.rsN j.1 0 j.2) ∗ fresh c (.rsN j.1 1 j.2)
      ∗ some' c (rowT (ownA j.1) j.2) ∗ semVal ((c : Thread nD τ), SemLoc.dma (storeS j.1 j.2)) 0)
  | 1 => iprop(some' c (rowT (accV j.1) j.2) ∗ sent c (.rs0 j.1 j.2) ∗ fresh c (.rsN j.1 0 j.2) ∗ fresh c (.rsN j.1 1 j.2)
      ∗ some' c (rowT (ownA j.1) j.2) ∗ semVal ((c : Thread nD τ), SemLoc.dma (storeS j.1 j.2)) 0)
  | 2 => iprop(donee I c (.rs0 j.1 j.2) ∗ srcO I (.rs0 j.1 j.2) c ∗ sent c (.rsN j.1 0 j.2) ∗ fresh c (.rsN j.1 1 j.2)
      ∗ some' c (rowT (ownA j.1) j.2) ∗ semVal ((c : Thread nD τ), SemLoc.dma (storeS j.1 j.2)) 0)
  | 3 => iprop(donee I c (.rs0 j.1 j.2) ∗ srcO I (.rs0 j.1 j.2) c ∗ donee I c (.rsN j.1 0 j.2) ∗ sent c (.rsN j.1 1 j.2)
      ∗ some' c (rowT (ownA j.1) j.2) ∗ semVal ((c : Thread nD τ), SemLoc.dma (storeS j.1 j.2)) 0)
  | 4 => iprop(donee I c (.rs0 j.1 j.2) ∗ srcO I (.rs0 j.1 j.2) c ∗ donee I c (.rsN j.1 0 j.2) ∗ donee I c (.rsN j.1 1 j.2)
      ∗ Copying c (rowT (accV j.1) j.2) (rowT (ownA j.1) j.2) (storeS j.1 j.2) fullShare (sum2 I j.1 c j.2))
  | _ => iprop(donee I c (.rs0 j.1 j.2) ∗ srcO I (.rs0 j.1 j.2) c ∗ donee I c (.rsN j.1 0 j.2) ∗ donee I c (.rsN j.1 1 j.2)
      ∗ own c (rowT (accV j.1) j.2) (sum2 I j.1 c j.2) ∗ own c (rowT (ownA j.1) j.2) (sum2 I j.1 c j.2) ∗ semVal ((c : Thread nD τ), SemLoc.dma (storeS j.1 j.2)) 0)

/-- The tiles after `k` steps. -/
def St (k : ℕ) : sProp 𝕄 := bigSep Finset.univ fun j : J => Tl I c j (stg k j)

theorem St_step {k n : ℕ} {j : J} (h : Moves k j n) : (St I c k) ⊢ iprop(Tl I c j n ∗ (Tl I c j (n + 1) -∗ St I c (k + 1))) := by
  have e := bigSep_step (Finset.mem_univ j) (Φ := fun j : J => Tl I c j (stg k j)) (Ψ := fun j : J => Tl I c j (stg (k + 1) j))
    (fun i _ hi => congrArg (Tl I c i) (h.2.2 i hi))
  rw [show stg k j = n from h.1, show stg (k + 1) j = n + 1 from h.2.1] at e
  exact e

/-- Between two steps. -/
def Mid (T : CellTallies nD τ sig Unit) (k : ℕ) : sProp 𝕄 :=
  iprop(St I c k ∗ tools I c ∗ ∃ Wt, owes (c : Thread nD τ) (owe c (rsOrder.drop k) T) Wt)

theorem stp0 {T : CellTallies nD τ sig Unit} {k : ℕ} (d : Dir) (t : Fin 4) (h : Moves k (d, t) 0) (hd : rsOrder.drop k = .rs0 d t :: rsOrder.drop (k + 1))
    {p : Dev nD} (hp : p = nx d c) {α : Type} {k' : PUnit → Op (F := F) α} {Q : α → sProp 𝕄} :
    iprop(recs κ I ∗ Mid I c T k) ⊢ iprop((Mid I c T (k + 1) -∗ W c (k' ⟨⟩) Q) -∗ W c (send0 d p t >>= k') Q) := by
  have hp' : p = peer (.rs0 d t) c := by rw [hp]; cases d <;> rfl
  subst hp'
  unfold Mid
  rw [hd]
  have hs : St I c k ⊢ iprop((srcO I (.rs0 d t) c ∗ some' c (rowT (accV d) t) ∗ fresh c (.rs0 d t) ∗ fresh c (.rsN d 0 t) ∗ fresh c (.rsN d 1 t)
      ∗ some' c (rowT (ownA d) t) ∗ semVal ((c : Thread nD τ), SemLoc.dma (storeS d t)) 0)
      ∗ ((some' c (rowT (accV d) t) ∗ sent c (.rs0 d t) ∗ fresh c (.rsN d 0 t) ∗ fresh c (.rsN d 1 t)
      ∗ some' c (rowT (ownA d) t) ∗ semVal ((c : Thread nD τ), SemLoc.dma (storeS d t)) 0) -∗ St I c (k + 1))) := St_step I c h
  iintro ⟨#HR, HS, Ht, ⟨%Wt, HO⟩⟩ Hk
  ihave HS := hs $$ HS
  icases HS with ⟨H, HB⟩
  icases H with ⟨Hs, Hacc, Hf, Hr⟩
  iapply (send_wp κ I c (.rs0 d t) (O := owe c (rsOrder.drop (k + 1)) T) (Wt := Wt)) $$ [Hs Hf HO]
  · isplitr; · iexact HR
    isplitl [Hs]; · iexact Hs
    isplitl [Hf]; · iexact Hf
    iexact HO
  iintro ⟨Hf, HO⟩
  iapply Hk
  isplitl [HB Hacc Hf Hr]
  · iapply HB
    isplitl [Hacc]; · iexact Hacc
    isplitl [Hf] <;> iassumption
  isplitl [Ht]; · iexact Ht
  iexists Wt; iexact HO

theorem sendOn_eq (d : Dir) (s : Fin 2) (t : Fin 4) {α : Type} (k : PUnit → Op (F := F) α) :
    (sendOn d (peer (.rsN d s t) c) s t >>= k) = .op (.enqueueDma ((pk (.rsN d s t)).src c) (.remote (Dev.tc (peer (.rsN d s t) c)) ((pk (.rsN d s t)).dst c) (.dma (sndS (.rsN d s t))) rfl) (.dma (rcvS (.rsN d s t)))
      (View.wordExact_bits rfl) ((View.wordExact_bits rfl).reshape _ _) ⟨⟨rfl, Or.inl rfl⟩, trivial⟩) k := rfl

theorem src_acc0 (d : Dir) (t : Fin 4) : own c (rowT (accV d) t) (sum0 I d c t) ⊢ (srcO I (.rsN d 0 t) c : sProp 𝕄) := Entails.of_eq rfl
theorem src_acc1 (d : Dir) (t : Fin 4) : own c (rowT (accV d) t) (nextS I c d t 0) ⊢ (srcO I (.rsN d 1 t) c : sProp 𝕄) := Entails.of_eq rfl

theorem stp1 {T : CellTallies nD τ sig Unit} (hT : Above 4 T) {k : ℕ} (d : Dir) (t : Fin 4) (h : Moves k (d, t) 1) (hd : rsOrder.drop k = .rsN d 0 t :: rsOrder.drop (k + 1))
    (hl : ∀ l ∈ rsOrder.drop k, lvK (.rcv (.rs0 d t)) < lvK (.rcv l))
    {p : Dev nD} (hp : p = nx d c) {α : Type} {k' : PUnit → Op (F := F) α} {Q : α → sProp 𝕄} :
    iprop(recs κ I ∗ Mid I c T k) ⊢ iprop((Mid I c T (k + 1) -∗ W c (k' ⟨⟩) Q) -∗ W c (land0 d c t >>= fun _ => sendOn d p 0 t >>= k') Q) := by
  have hp' : p = peer (.rsN d 0 t) c := by rw [hp]; cases d <;> rfl
  subst hp'
  simp only [sendOn_eq]
  unfold Mid
  have hA : Above (lvK (.rcv (.rs0 d t))) (owe c (rsOrder.drop k) T) := owe_above c (hT.mono (by show (2 : ℕ) ≤ 4; decide)) _ hl
  rw [hd] at hA ⊢
  have hs : St I c k ⊢ iprop((some' c (rowT (accV d) t) ∗ sent c (.rs0 d t) ∗ fresh c (.rsN d 0 t) ∗ fresh c (.rsN d 1 t)
      ∗ some' c (rowT (ownA d) t) ∗ semVal ((c : Thread nD τ), SemLoc.dma (storeS d t)) 0)
      ∗ ((donee I c (.rs0 d t) ∗ srcO I (.rs0 d t) c ∗ sent c (.rsN d 0 t) ∗ fresh c (.rsN d 1 t)
      ∗ some' c (rowT (ownA d) t) ∗ semVal ((c : Thread nD τ), SemLoc.dma (storeS d t)) 0) -∗ St I c (k + 1))) := St_step I c h
  iintro ⟨#HR, HS, Ht, ⟨%Wt, HO⟩⟩ Hk
  ihave HS := hs $$ HS
  icases HS with ⟨H, HB⟩
  icases H with ⟨Hacc, Hf, Hf', Hr⟩
  iapply (land0_wp κ I c d t hA) $$ [Ht Hf Hacc HO]
  · isplitr; · iexact HR
    isplitl [Ht]; · iexact Ht
    isplitl [Hf]; · iexact Hf
    isplitl [Hacc]; · iexact Hacc
    iexact HO
  iintro ⟨Ht, Hd, Hs, Hacc, ⟨%Wt', HO⟩⟩
  ihave Hacc := (src_acc0 I c d t) $$ Hacc
  iapply (send_wp κ I c (.rsN d 0 t) (O := owe c (rsOrder.drop (k + 1)) T) (Wt := Wt')) $$ [Hacc Hf' HO]
  · isplitr; · iexact HR
    isplitl [Hacc]; · iexact Hacc
    isplitl [Hf']; · iexact Hf'
    iexact HO
  iintro ⟨Hf, HO⟩
  iapply Hk
  isplitl [HB Hd Hs Hf Hr]
  · iapply HB
    isplitl [Hd]; · iexact Hd
    isplitl [Hs]; · iexact Hs
    isplitl [Hf] <;> iassumption
  isplitl [Ht]; · iexact Ht
  iexists Wt'; iexact HO

theorem stp2 {T : CellTallies nD τ sig Unit} (hT : Above 4 T) {k : ℕ} (d : Dir) (t : Fin 4) (h : Moves k (d, t) 2) (hd : rsOrder.drop k = .rsN d 1 t :: rsOrder.drop (k + 1))
    (hl : ∀ l ∈ rsOrder.drop k, lvK (.rcv (.rsN d 0 t)) < lvK (.rcv l))
    {p : Dev nD} (hp : p = nx d c) {α : Type} {k' : PUnit → Op (F := F) α} {Q : α → sProp 𝕄} :
    iprop(recs κ I ∗ Mid I c T k) ⊢ iprop((Mid I c T (k + 1) -∗ W c (k' ⟨⟩) Q) -∗ W c (landOn d c 0 t >>= fun _ => sendOn d p 1 t >>= k') Q) := by
  have hp' : p = peer (.rsN d 1 t) c := by rw [hp]; cases d <;> rfl
  subst hp'
  simp only [sendOn_eq]
  unfold Mid
  have hA : Above (lvK (.rcv (.rsN d 0 t))) (owe c (rsOrder.drop k) T) := owe_above c (hT.mono (by show (3 : ℕ) ≤ 4; decide)) _ hl
  rw [hd] at hA ⊢
  have hs : St I c k ⊢ iprop((donee I c (.rs0 d t) ∗ srcO I (.rs0 d t) c ∗ sent c (.rsN d 0 t) ∗ fresh c (.rsN d 1 t)
      ∗ some' c (rowT (ownA d) t) ∗ semVal ((c : Thread nD τ), SemLoc.dma (storeS d t)) 0)
      ∗ ((donee I c (.rs0 d t) ∗ srcO I (.rs0 d t) c ∗ donee I c (.rsN d 0 t) ∗ sent c (.rsN d 1 t)
      ∗ some' c (rowT (ownA d) t) ∗ semVal ((c : Thread nD τ), SemLoc.dma (storeS d t)) 0) -∗ St I c (k + 1))) := St_step I c h
  iintro ⟨#HR, HS, Ht, ⟨%Wt, HO⟩⟩ Hk
  ihave HS := hs $$ HS
  icases HS with ⟨H, HB⟩
  icases H with ⟨Hd, Hs, Hf, Hf', Hr⟩
  iapply (landOn_wp κ I c d 0 t hA) $$ [Ht Hf HO]
  · isplitr; · iexact HR
    isplitl [Ht]; · iexact Ht
    isplitl [Hf] <;> iassumption
  iintro ⟨Ht, Hd', Hacc, ⟨%Wt', HO⟩⟩
  ihave Hacc := (src_acc1 I c d t) $$ Hacc
  iapply (send_wp κ I c (.rsN d 1 t) (O := owe c (rsOrder.drop (k + 1)) T) (Wt := Wt')) $$ [Hacc Hf' HO]
  · isplitr; · iexact HR
    isplitl [Hacc]; · iexact Hacc
    isplitl [Hf']; · iexact Hf'
    iexact HO
  iintro ⟨Hf, HO⟩
  iapply Hk
  isplitl [HB Hd Hs Hd' Hf Hr]
  · iapply HB
    isplitl [Hd]; · iexact Hd
    isplitl [Hs]; · iexact Hs
    isplitl [Hd']; · iexact Hd'
    isplitl [Hf] <;> iassumption
  isplitl [Ht]; · iexact Ht
  iexists Wt'; iexact HO

theorem keepT_eq (d : Dir) (t : Fin 4) {α : Type} (k : PUnit → Op (F := F) α) :
    (keepT d t >>= k) = .op (.enqueueDma (rowT (accV d) t) (.here (rowT (ownA d) t)) (.dma (storeS d t)) (View.wordExact_bits rfl) (View.wordExact_bits rfl) ⟨Or.inl rfl, trivial⟩) k := rfl
theorem keptT_eq (d : Dir) (t : Fin 4) {α : Type} (k : PUnit → Op (F := F) α) :
    (keptT d t >>= k) = .op (.waitDma2 (storeS d t) (rowT (accV d) t) (rowT (ownA d) t) (View.wordExact_bits rfl) (View.wordExact_bits rfl)) k := rfl

theorem stp3 {T : CellTallies nD τ sig Unit} (hT : Above 4 T) {k : ℕ} (d : Dir) (t : Fin 4) (h : Moves k (d, t) 3) (hd : rsOrder.drop k = []) (hd' : rsOrder.drop (k + 1) = [])
    {α : Type} {k' : FVec F S256x4096 .f32 → PUnit → Op (F := F) α} {Q : α → sProp 𝕄} :
    iprop(recs κ I ∗ Mid I c T k) ⊢ iprop((Mid I c T (k + 1) -∗ W c (k' (partS I c d t 1) ⟨⟩) Q) -∗ W c (landOn d c 1 t >>= fun v => keepT d t >>= k' v) Q) := by
  unfold Mid
  rw [hd, hd']
  simp only [keepT_eq]
  have hs : St I c k ⊢ iprop((donee I c (.rs0 d t) ∗ srcO I (.rs0 d t) c ∗ donee I c (.rsN d 0 t) ∗ sent c (.rsN d 1 t)
      ∗ some' c (rowT (ownA d) t) ∗ semVal ((c : Thread nD τ), SemLoc.dma (storeS d t)) 0)
      ∗ ((donee I c (.rs0 d t) ∗ srcO I (.rs0 d t) c ∗ donee I c (.rsN d 0 t) ∗ donee I c (.rsN d 1 t)
      ∗ Copying c (rowT (accV d) t) (rowT (ownA d) t) (storeS d t) fullShare (sum2 I d c t)) -∗ St I c (k + 1))) := St_step I c h
  iintro ⟨#HR, HS, Ht, ⟨%Wt, HO⟩⟩ Hk
  ihave HS := hs $$ HS
  icases HS with ⟨H, HB⟩
  icases H with ⟨Hd, Hs, Hd', Hf, Hown, Hsem⟩
  iapply (landOn_wp κ I c d 1 t (show Above (lvK (.rcv (.rsN d 1 t))) (owe c [] T) from hT)) $$ [Ht Hf HO]
  · isplitr; · iexact HR
    isplitl [Ht]; · iexact Ht
    isplitl [Hf] <;> iassumption
  iintro ⟨Ht, Hd2, Hacc, ⟨%Wt', HO⟩⟩
  iapply (copy_start c (rowT (accV d) t) (rowT (ownA d) t) (storeS d t) (q := fullShare) (X := sum2 I d c t) (show 0 < S256x4096.numel by decide)) $$ [Hacc Hown Hsem]
  · isplitl [Hacc]; · iexact Hacc
    isplitl [Hown] <;> iassumption
  iintro Hc
  iapply Hk
  isplitl [HB Hd Hs Hd' Hd2 Hc]
  · iapply HB
    isplitl [Hd]; · iexact Hd
    isplitl [Hs]; · iexact Hs
    isplitl [Hd']; · iexact Hd'
    isplitl [Hd2] <;> iassumption
  isplitl [Ht]; · iexact Ht
  iexists Wt'; iexact HO

theorem stp4 {T : CellTallies nD τ sig Unit} (hT : Above 4 T) {k : ℕ} (d : Dir) (t : Fin 4) (h : Moves k (d, t) 4) (hd : rsOrder.drop k = []) (hd' : rsOrder.drop (k + 1) = [])
    {α : Type} {k' : PUnit → Op (F := F) α} {Q : α → sProp 𝕄} :
    iprop(recs κ I ∗ Mid I c T k) ⊢ iprop((Mid I c T (k + 1) -∗ W c (k' ⟨⟩) Q) -∗ W c (keptT d t >>= k') Q) := by
  unfold Mid
  rw [hd, hd', keptT_eq]
  have hs : St I c k ⊢ iprop((donee I c (.rs0 d t) ∗ srcO I (.rs0 d t) c ∗ donee I c (.rsN d 0 t) ∗ donee I c (.rsN d 1 t)
      ∗ Copying c (rowT (accV d) t) (rowT (ownA d) t) (storeS d t) fullShare (sum2 I d c t))
      ∗ ((donee I c (.rs0 d t) ∗ srcO I (.rs0 d t) c ∗ donee I c (.rsN d 0 t) ∗ donee I c (.rsN d 1 t)
      ∗ own c (rowT (accV d) t) (sum2 I d c t) ∗ own c (rowT (ownA d) t) (sum2 I d c t) ∗ semVal ((c : Thread nD τ), SemLoc.dma (storeS d t)) 0) -∗ St I c (k + 1))) := St_step I c h
  iintro ⟨#HR, HS, Ht, ⟨%Wt, HO⟩⟩ Hk
  ihave HS := hs $$ HS
  icases HS with ⟨H, HB⟩
  icases H with ⟨Hd, Hs, Hd', Hd2, Hc⟩
  iapply (copy_wait c (rowT (accV d) t) (rowT (ownA d) t) (storeS d t) (q := fullShare) (X := sum2 I d c t) (O := owe c [] T)) $$ [Hc HO]
  · isplitl [Hc]; · iexact Hc
    isplitl [HO]; · iexact HO
    iapply (mayWait_local c (.dma (storeS d t)) (storeS_local d t) (owe c [] T) (Above.mono (Nat.zero_le _) hT))
    iapply (recs_lev κ I); iexact HR
  iintro ⟨⟨Hacc, Hown⟩, Hsem, HO⟩
  iapply Hk
  isplitr [Ht HO]
  · iapply HB
    isplitl [Hd]; · iexact Hd
    isplitl [Hs]; · iexact Hs
    isplitl [Hd']; · iexact Hd'
    isplitl [Hd2]; · iexact Hd2
    isplitl [Hacc]; · iexact Hacc
    isplitl [Hown] <;> iassumption
  isplitl [Ht]; · iexact Ht
  iexists _; iexact HO

end Body

end Cert.K
-- ==== Proof.Ends.lean ====
/-
# The ends of a call

The counters of a call, listed; what a device holds of a link before the entry barrier and after it; the counters closed at the end.
-/
module

public import Idealize.ShloMosaic.Lib.Pipeline.Launch
public import proofs.«01_k».proof.Proof.RsSteps

@[expose] public section

set_option maxRecDepth 16384

noncomputable section

namespace Cert.K

open Cert.KernelIdeal Cert.KernelIdeal.Gen
open Idealize.ShloMosaic Idealize.ShloMosaic.TcCoe
open Idealize.SL.Sem
open Idealize.SL
open Idealize.SL.BI (sProp bigSep)
open scoped Idealize.SL.BI
open Idealize.SL.BI.BIBase Idealize.SL.BI.Laws Idealize.SL.ProofMode
open Idealize.SL.RA
open Idealize.ShloMosaic.Rounds

variable {F : FTy → Type} [FloatOps F]

local notation "𝕄" => MT nD τ sig Unit (Elt F) ℕ UU ℕ

/-- Member by member. -/
theorem bigSep_mono' {J : Type} {s : Finset J} {Φ Ψ : J → sProp 𝕄} (h : ∀ i ∈ s, Φ i ⊢ Ψ i) : bigSep s Φ ⊢ bigSep s Ψ := BI.bigSep_mono h

theorem snd_inj : Function.Injective Kd.snd := fun _ _ h => by injection h
theorem rcv_inj : Function.Injective Kd.rcv := fun _ _ h => by injection h
theorem mem_links {r : Fin 3} {l : Ln} : l ∈ links r ↔ region l = r := by simp [links]
theorem mem_kinds {r : Fin 3} {k : Kd} : k ∈ kinds r ↔ stage k = r := by simp [kinds]

/-- The counters of a call that belong to the call alone: all but its entry barrier. -/
def inner (r : Fin 3) : Finset Kd := insert (.fin r) ((links r).map ⟨Kd.snd, snd_inj⟩ ∪ (links r).map ⟨Kd.rcv, rcv_inj⟩)

theorem kinds_eq (r : Fin 3) : kinds r = insert (.bar r) (inner r) := by
  ext k
  rw [mem_kinds]
  unfold inner
  cases k <;> simp [stage, mem_links]

theorem bar_inner (r : Fin 3) : Kd.bar r ∉ inner r := by unfold inner; simp

theorem fin_rest (r : Fin 3) : Kd.fin r ∉ (links r).map ⟨Kd.snd, snd_inj⟩ ∪ (links r).map ⟨Kd.rcv, rcv_inj⟩ := by simp
theorem snd_rcv_disjoint (r : Fin 3) : Disjoint ((links r).map ⟨Kd.snd, snd_inj⟩) ((links r).map ⟨Kd.rcv, rcv_inj⟩) := by
  rw [Finset.disjoint_left]
  intro k h h'
  obtain ⟨l, -, rfl⟩ := Finset.mem_map.mp h
  obtain ⟨l', -, e⟩ := Finset.mem_map.mp h'
  exact absurd e (by simp)

theorem inner_atoms (r : Fin 3) (Φ : Kd → sProp 𝕄) :
    bigSep (inner r) Φ = iprop(Φ (.fin r) ∗ bigSep (links r) (fun l => Φ (.snd l)) ∗ bigSep (links r) (fun l => Φ (.rcv l))) := by
  have h : bigSep ((links r).map ⟨Kd.snd, snd_inj⟩ ∪ (links r).map ⟨Kd.rcv, rcv_inj⟩) Φ = iprop(bigSep ((links r).map ⟨Kd.snd, snd_inj⟩) Φ ∗ bigSep ((links r).map ⟨Kd.rcv, rcv_inj⟩) Φ) :=
    BI.bigSep_union (snd_rcv_disjoint r)
  unfold inner
  rw [bigSep_ins (fin_rest r), h, BI.bigSep_map, BI.bigSep_map]
  rfl

theorem kinds_atoms (r : Fin 3) (Φ : Kd → sProp 𝕄) : bigSep (kinds r) Φ = iprop(Φ (.bar r) ∗ bigSep (inner r) Φ) := by
  rw [kinds_eq, bigSep_ins (bar_inner r)]

section
variable (κ : GSem nD τ sig → ℕ) (I : Info F) (c : Dev nD)

theorem W_ret {α : Type} {a : α} {Q : α → sProp 𝕄} : iprop(|={Set.univ}=> Q a) ⊢ W c (.ret a) Q := BI.Entails.refl _
theorem W_dev {α : Type} {k : Dev nD → Op (F := F) α} {Q : α → sProp 𝕄} : W c (k c) Q ⊢ W c (.op .deviceId k) Q := Entails.of_eq (wp_deviceId 𝒱₀ (c : Thread nD τ) none Set.univ).symm

/-- A link before the entry barrier: the destination and its counter's state are still to come. -/
def halfL (l : Ln) : sProp 𝕄 :=
  iprop(dutyTok ER (cell c (.snd l)) 0 0 ∗ reached ER (cell c (.snd l)) 0 ∗ dutyTok ER (cell (peer l c) (.rcv l)) 0 0
    ∗ cred (tallyAt (cell c (.rcv l)) () (amt l)) ∗ atPos ER (cell c (.snd l)) 0 ∅ 0 ∗ atPos ER (cell c (.rcv l)) 0 ∅ 0)

theorem fresh_of (l : Ln) : iprop(halfL c l ∗ dstAny l c ∗ reached ER (cell (peer l c) (.rcv l)) 0) ⊢ (fresh c l : sProp 𝕄) := by
  unfold halfL fresh
  iintro ⟨⟨Ht, Hr, Ht', Hc, Ha, Ha'⟩, Hd, Hr'⟩
  isplitl [Hd]; · iexact Hd
  isplitl [Ht]; · iexact Ht
  isplitl [Hr]; · iexact Hr
  isplitl [Ht']; · iexact Ht'
  isplitl [Hr']; · iexact Hr'
  isplitl [Hc]; · iexact Hc
  isplitl [Ha] <;> iassumption

theorem freshes_of (r : Fin 3) : iprop(bigSep (links r) (halfL c) ∗ bigSep (links r) (fun l => iprop(dstAny l c ∗ reached ER (cell (peer l c) (.rcv l)) 0))) ⊢ (bigSep (links r) (fresh c) : sProp 𝕄) := by
  refine (Entails.of_eq (BI.bigSep_sep' _ _ _).symm).trans ?_
  exact bigSep_mono' fun l _ => fresh_of c l

/-- A link's two counters, waited for. -/
def doneL (l : Ln) : sProp 𝕄 := iprop(atPos ER (cell c (.snd l)) 1 ∅ 0 ∗ atPos ER (cell c (.rcv l)) 1 ∅ 0)

/-- The end of a call: every counter of it is closed. -/
theorem close_all (r : Fin 3) :
    iprop(recs κ I ∗ atPos ER (cell c (.bar r)) 1 ∅ 0 ∗ atPos ER (cell c (.fin r)) 1 ∅ 0 ∗ bigSep (links r) (doneL c))
      ⊢ (|={Set.univ}=> (semVal (cell c (.bar r)) 0 ∗ bigSep (inner r) (fun k => semVal (cell c k) 0)) : sProp 𝕄) := by
  have h1 := close_cells κ I c (kinds r)
  rw [kinds_atoms, kinds_atoms, inner_atoms] at h1
  have h2 : bigSep (links r) (doneL c) ⊢ (iprop(bigSep (links r) (fun l => atPos ER (cell c (.snd l)) 1 ∅ 0) ∗ bigSep (links r) (fun l => atPos ER (cell c (.rcv l)) 1 ∅ 0)) : sProp 𝕄) :=
    Entails.of_eq (BI.bigSep_sep' _ _ _)
  iintro ⟨#HR, Hb, Hf, Hl⟩
  ihave Hl := h2 $$ Hl
  icases Hl with ⟨Hs, Hr⟩
  iapply h1
  isplitr; · iexact HR
  isplitl [Hb]; · iexact Hb
  isplitl [Hf]; · iexact Hf
  isplitl [Hs] <;> iassumption

/-- The start of a call: every counter of it but the entry barrier is opened. -/
theorem open_all (r : Fin 3) :
    iprop(recs κ I ∗ bigSep (inner r) (fun k => openTok ER (cell c k)) ∗ bigSep (inner r) (fun k => semVal (cell c k) 0))
      ⊢ (|={Set.univ}=> (bigSep (inner r) (fun k => atPos ER (cell c k) 0 ∅ 0) ∗ bigSep (inner r) (fun k => reached ER (cell c k) 0)) : sProp 𝕄) := by
  have h1 := open_cells κ I c (inner r)
  rw [BI.bigSep_sep'] at h1
  exact h1

/-- What a device pays with at a call's barriers, to the payee of name `n`. -/
def toll (r : Fin 3) (n : Nm) : sProp 𝕄 :=
  iprop(dutyTok ER (cell ((prs r n).symm c) (.bar r)) 0 n ∗ dutyTok ER (cell ((prs r n).symm c) (.fin r)) 0 n ∗ giveAt c r n)

/-- What a call takes from the launch of the protocol, on device `c`: tokens and credits. -/
def stock (r : Fin 3) : sProp 𝕄 :=
  iprop(bigSep (inner r) (fun k => openTok ER (cell c k)) ∗ atPos ER (cell c (.bar r)) 0 ∅ 0
    ∗ bigSep (links r) (fun l => iprop(dutyTok ER (cell c (.snd l)) 0 0 ∗ dutyTok ER (cell (peer l c) (.rcv l)) 0 0 ∗ cred (tallyAt (cell c (.rcv l)) () (amt l))))
    ∗ bigSep (names r) (fun n => iprop(dutyTok ER (cell ((prs r n).symm c) (.bar r)) 0 n ∗ dutyTok ER (cell ((prs r n).symm c) (.fin r)) 0 n))
    ∗ cred (tallyAt (cell c (.bar r)) () (names r).card) ∗ cred (tallyAt (cell c (.fin r)) () (names r).card))

/-- The counters of a call, opened: what its body starts with. -/
def ready (r : Fin 3) : sProp 𝕄 :=
  iprop(atPos ER (cell c (.bar r)) 0 ∅ 0 ∗ atPos ER (cell c (.fin r)) 0 ∅ 0 ∗ reached ER (cell c (.fin r)) 0
    ∗ bigSep (links r) (halfL c) ∗ bigSep (names r) (toll c r)
    ∗ cred (tallyAt (cell c (.bar r)) () (names r).card) ∗ cred (tallyAt (cell c (.fin r)) () (names r).card))

theorem gives_of (r : Fin 3) : bigSep (links r) (fun l => iprop(slotAny c l ∗ reached ER (cell c (.rcv l)) 0)) ⊢ (bigSep (names r) (giveAt c r) : sProp 𝕄) := by
  rw [links_eq]
  unfold giveAt
  exact Entails.of_eq (BI.bigSep_biUnion_eq (names r) (linksAt r) _ fun j _ j' _ h => linksAt_disjoint r j j' h)

theorem ready_of (r : Fin 3) :
    iprop(recs κ I ∗ stock c r ∗ bigSep (inner r) (fun k => semVal (cell c k) 0) ∗ bigSep (links r) (slotAny c)) ⊢ (|={Set.univ}=> ready c r : sProp 𝕄) := by
  unfold stock ready
  iintro ⟨#HR, ⟨Hop, Hbar, Hl, Hn, HcB, HcF⟩, Hs, Hsl⟩
  imod (open_all κ I c r) $$ [Hop Hs] with ⟨Hat, #Hre⟩
  · isplitr; · iexact HR
    isplitl [Hop] <;> iassumption
  ihave Hat := (Entails.of_eq (inner_atoms r (fun k => atPos ER (cell c k) 0 ∅ 0))) $$ Hat
  ihave Hre' := (Entails.of_eq (inner_atoms r (fun k => reached ER (cell c k) 0))) $$ Hre
  icases Hat with ⟨HatF, HatS, HatR⟩
  icases Hre' with ⟨#HreF, #HreS, #HreR⟩
  imodintro
  isplitl [Hbar]; · iexact Hbar
  isplitl [HatF]; · iexact HatF
  isplitr; · iexact HreF
  isplitl [Hl HatS HatR]
  · have h : iprop(bigSep (links r) (fun l => iprop(dutyTok ER (cell c (.snd l)) 0 0 ∗ dutyTok ER (cell (peer l c) (.rcv l)) 0 0 ∗ cred (tallyAt (cell c (.rcv l)) () (amt l))))
        ∗ bigSep (links r) (fun l => atPos ER (cell c (.snd l)) 0 ∅ 0) ∗ bigSep (links r) (fun l => atPos ER (cell c (.rcv l)) 0 ∅ 0) ∗ bigSep (links r) (fun l => reached ER (cell c (.snd l)) 0))
        ⊢ (bigSep (links r) (halfL c) : sProp 𝕄) := by
      rw [← BI.bigSep_sep', ← BI.bigSep_sep', ← BI.bigSep_sep']
      refine bigSep_mono' fun l _ => ?_
      unfold halfL
      iintro ⟨⟨Ht, Ht', Hc⟩, Ha, Ha', Hr⟩
      isplitl [Ht]; · iexact Ht
      isplitl [Hr]; · iexact Hr
      isplitl [Ht']; · iexact Ht'
      isplitl [Hc]; · iexact Hc
      isplitl [Ha] <;> iassumption
    iapply h
    isplitl [Hl]; · iexact Hl
    isplitl [HatS]; · iexact HatS
    isplitl [HatR]; · iexact HatR
    iexact HreS
  isplitl [Hn Hsl]
  · have h : iprop(bigSep (links r) (slotAny c) ∗ bigSep (links r) (fun l => reached ER (cell c (.rcv l)) 0)) ⊢ (bigSep (names r) (giveAt c r) : sProp 𝕄) :=
      (Entails.of_eq (BI.bigSep_sep' _ _ _).symm).trans (gives_of c r)
    have h' : iprop(bigSep (names r) (fun n => iprop(dutyTok ER (cell ((prs r n).symm c) (.bar r)) 0 n ∗ dutyTok ER (cell ((prs r n).symm c) (.fin r)) 0 n)) ∗ bigSep (names r) (giveAt c r))
        ⊢ (bigSep (names r) (toll c r) : sProp 𝕄) := by
      rw [← BI.bigSep_sep']
      refine bigSep_mono' fun n _ => ?_
      unfold toll
      iintro ⟨⟨Ht, Ht'⟩, Hg⟩
      isplitl [Ht]; · iexact Ht
      isplitl [Ht'] <;> iassumption
    iapply h'
    isplitl [Hn]; · iexact Hn
    iapply h
    isplitl [Hsl]; · iexact Hsl
    iexact HreR
  isplitl [HcB] <;> iassumption

end

end Cert.K
-- ==== Proof.RsBody.lean ====
/-
# The reduce-scatter's body, whole

From the entry barrier to the exit barrier.
-/
module

public import proofs.«01_k».proof.Proof.RsTiles
public import proofs.«01_k».proof.Proof.Ends

@[expose] public section

set_option maxRecDepth 16384

noncomputable section

namespace Cert.K

open Cert.KernelIdeal Cert.KernelIdeal.Gen
open Idealize.ShloMosaic Idealize.ShloMosaic.TcCoe
open Idealize.SL.Sem
open Idealize.SL
open Idealize.SL.BI (sProp bigSep)
open scoped Idealize.SL.BI
open Idealize.SL.BI.BIBase Idealize.SL.BI.Laws Idealize.SL.ProofMode
open Idealize.SL.RA
open Idealize.ShloMosaic.Rounds

variable {F : FTy → Type} [FloatOps F]

local notation "𝕄" => MT nD τ sig Unit (Elt F) ℕ UU ℕ

def lnk0 : J ↪ Ln := ⟨fun j => .rs0 j.1 j.2, fun a b h => by injection h with h1 h2; exact Prod.ext h1 h2⟩
def lnkN (s : Fin 2) : J ↪ Ln := ⟨fun j => .rsN j.1 s j.2, fun a b h => by injection h with h1 h2 h3; exact Prod.ext h1 h3⟩

theorem links0_eq : links 0 = Finset.univ.map lnk0 ∪ (Finset.univ.map (lnkN 0) ∪ Finset.univ.map (lnkN 1)) := by decide +kernel

/-- The links of the reduce-scatter, tile by tile. -/
theorem links0_tiles (Φ : Ln → sProp 𝕄) :
    bigSep (links 0) Φ = bigSep Finset.univ fun j : J => iprop(Φ (.rs0 j.1 j.2) ∗ Φ (.rsN j.1 0 j.2) ∗ Φ (.rsN j.1 1 j.2)) := by
  have d1 : Disjoint (Finset.univ.map (lnkN 0)) (Finset.univ.map (lnkN 1)) := by decide +kernel
  have d0 : Disjoint (Finset.univ.map lnk0) (Finset.univ.map (lnkN 0) ∪ Finset.univ.map (lnkN 1)) := by decide +kernel
  rw [BI.bigSep_sep', BI.bigSep_sep', links0_eq]
  refine (BI.bigSep_union d0).trans ?_
  rw [BI.bigSep_map]
  refine congrArg _ ((BI.bigSep_union d1).trans ?_)
  rw [BI.bigSep_map, BI.bigSep_map]
  rfl

section Body
variable (κ : GSem nD τ sig → ℕ) (I : Info F) (c : Dev nD)

/-- A tile before: its part of the host's product, its rows of the accumulator and of the result. -/
def tileIn (j : J) : sProp 𝕄 :=
  iprop(srcO I (.rs0 j.1 j.2) c ∗ some' c (rowT (accV j.1) j.2) ∗ some' c (rowT (ownA j.1) j.2) ∗ semVal ((c : Thread nD τ), SemLoc.dma (storeS j.1 j.2)) 0)
/-- A tile after: its rows of the result hold the whole sum, the landing buffers what landed. -/
def tileOut (j : J) : sProp 𝕄 :=
  iprop(srcO I (.rs0 j.1 j.2) c ∗ own c (rowT (landA j.1) j.2) (pt I j.1 ((nx j.1).symm c) j.2)
    ∗ own c (slotT j.1 0 j.2) (sumS I j.1 ((nx j.1).symm c) j.2 0) ∗ own c (slotT j.1 1 j.2) (sumS I j.1 ((nx j.1).symm c) j.2 1)
    ∗ own c (rowT (accV j.1) j.2) (sum2 I j.1 c j.2) ∗ own c (rowT (ownA j.1) j.2) (sum2 I j.1 c j.2)
    ∗ semVal ((c : Thread nD τ), SemLoc.dma (storeS j.1 j.2)) 0)

/-- The largest absolute value of the tiles of a device. -/
def peakI : F .f32 :=
  peakV (peakV (peakV (peakV (peakV (peakV (peakV (peakV (Scalar.ofBits .f32 0x00000000#32) (partS I c true 0 1)) (partS I c false 0 1)) (partS I c true 1 1)) (partS I c false 1 1))
    (partS I c true 2 1)) (partS I c false 2 1)) (partS I c true 3 1)) (partS I c false 3 1)

theorem tiles_start : iprop(bigSep (links 0) (fresh c) ∗ bigSep Finset.univ (tileIn I c)) ⊢ (St I c 0 : sProp 𝕄) := by
  rw [links0_tiles]
  refine (Entails.of_eq (BI.bigSep_sep' _ _ _).symm).trans ?_
  refine bigSep_mono' fun j _ => ?_
  rw [show stg 0 j = 0 from by revert j; decide]
  unfold tileIn
  show _ ⊢ iprop(srcO I (.rs0 j.1 j.2) c ∗ some' c (rowT (accV j.1) j.2) ∗ fresh c (.rs0 j.1 j.2) ∗ fresh c (.rsN j.1 0 j.2) ∗ fresh c (.rsN j.1 1 j.2)
      ∗ some' c (rowT (ownA j.1) j.2) ∗ semVal ((c : Thread nD τ), SemLoc.dma (storeS j.1 j.2)) 0)
  iintro ⟨⟨H0, H1, H2⟩, ⟨Hs, Ha, Ho, Hv⟩⟩
  isplitl [Hs]; · iexact Hs
  isplitl [Ha]; · iexact Ha
  isplitl [H0]; · iexact H0
  isplitl [H1]; · iexact H1
  isplitl [H2]; · iexact H2
  isplitl [Ho] <;> iassumption

theorem tiles_end : (St I c 40 : sProp 𝕄) ⊢ iprop(bigSep (links 0) (doneL c) ∗ bigSep Finset.univ (tileOut I c)) := by
  rw [links0_tiles]
  refine BI.Entails.trans ?_ (Entails.of_eq (BI.bigSep_sep' _ _ _))
  refine bigSep_mono' fun j _ => ?_
  rw [show stg 40 j = 5 from by revert j; decide]
  unfold tileOut doneL
  have h : (Tl I c j 5 : sProp 𝕄) ⊢ iprop((atPos ER (cell c (.snd (.rs0 j.1 j.2))) 1 ∅ 0 ∗ atPos ER (cell c (.rcv (.rs0 j.1 j.2))) 1 ∅ 0 ∗ dstGot I (.rs0 j.1 j.2) ((peer (.rs0 j.1 j.2)).symm c))
      ∗ srcO I (.rs0 j.1 j.2) c
      ∗ (atPos ER (cell c (.snd (.rsN j.1 0 j.2))) 1 ∅ 0 ∗ atPos ER (cell c (.rcv (.rsN j.1 0 j.2))) 1 ∅ 0 ∗ dstGot I (.rsN j.1 0 j.2) ((peer (.rsN j.1 0 j.2)).symm c))
      ∗ (atPos ER (cell c (.snd (.rsN j.1 1 j.2))) 1 ∅ 0 ∗ atPos ER (cell c (.rcv (.rsN j.1 1 j.2))) 1 ∅ 0 ∗ dstGot I (.rsN j.1 1 j.2) ((peer (.rsN j.1 1 j.2)).symm c))
      ∗ own c (rowT (accV j.1) j.2) (sum2 I j.1 c j.2) ∗ own c (rowT (ownA j.1) j.2) (sum2 I j.1 c j.2) ∗ semVal ((c : Thread nD τ), SemLoc.dma (storeS j.1 j.2)) 0) := Entails.of_eq rfl
  refine h.trans ?_
  rw [got0, gotN, gotN]
  iintro ⟨⟨Ha, Hb, Hg⟩, Hs, ⟨Ha', Hb', Hg'⟩, ⟨Ha2, Hb2, Hg2⟩, Hacc, Ho, Hv⟩
  isplitl [Ha Hb Ha' Hb' Ha2 Hb2]
  · isplitl [Ha Hb]
    · isplitl [Ha] <;> iassumption
    isplitl [Ha' Hb']
    · isplitl [Ha'] <;> iassumption
    isplitl [Ha2] <;> iassumption
  isplitl [Hs]; · iexact Hs
  isplitl [Hg]; · iexact Hg
  isplitl [Hg']; · iexact Hg'
  isplitl [Hg2]; · iexact Hg2
  isplitl [Hacc]; · iexact Hacc
  isplitl [Ho] <;> iassumption

/-- The operands and the scratch buffers outside the tiles, with their counters. -/
def rest0 : sProp 𝕄 :=
  iprop(own c xA (I.x c) ∗ some' c xV ∗ some' c bV ∗ some' c hV ∗ semVal ((c : Thread nD τ), SemLoc.dma xS) 0 ∗ adds c
    ∗ own c wA (I.w c) ∗ some' c wV ∗ semVal ((c : Thread nD τ), SemLoc.dma wS) 0)

def rsPre (arg5 : Memref sig .tc .vmem S8x128 .f32) (T : CellTallies nD τ sig Unit) : sProp 𝕄 :=
  iprop(ready c 0 ∗ rest0 I c ∗ bigSep Finset.univ (tileIn I c) ∗ some' c arg5
    ∗ ∃ Wt, owes (c : Thread nD τ) (owe c rsOrder (T + owF c 0 1 + owF c 0 0) + owB c 0 1 + owB c 0 0) Wt)
def rsPost (arg5 : Memref sig .tc .vmem S8x128 .f32) (T : CellTallies nD τ sig Unit) : sProp 𝕄 :=
  iprop((semVal (cell c (.bar 0)) 0 ∗ bigSep (inner 0) (fun k => semVal (cell c k) 0)) ∗ rest0 I c ∗ bigSep Finset.univ (tileOut I c)
    ∗ own c arg5 (broadcast S8x128 (peakI I c)) ∗ ∃ Wt, owes (c : Thread nD τ) T Wt)

theorem openT_eq (l r : Dev nD) {α : Type} (k : PUnit → Op (F := F) α) :
    (openT l r >>= k) = .op (.enqueueDma wA (.here wV) (.dma wS) (Memref.isWhole_whole _).wordExact (Memref.isWhole_whole _).wordExact ⟨Or.inl rfl, trivial⟩) fun _ =>
      Prog.bind (semSignalWord l barS 1#32) fun _ => Prog.bind (semSignalWord r barS 1#32) fun _ => Prog.bind (semWaitWord barS 2#32) fun _ =>
      .op (.waitDma2 wS wA wV (Memref.isWhole_whole _).wordExact (Memref.isWhole_whole _).wordExact) k := rfl

theorem closeT_eq (l r : Dev nD) :
    closeT (F := F) l r = Prog.bind (semSignalWord l cc0_scratch12.sem 1#32) fun _ => Prog.bind (semSignalWord r cc0_scratch12.sem 1#32) fun _ =>
      Prog.bind (semWaitWord cc0_scratch12.sem 2#32) fun _ => .ret ⟨⟩ := rfl

theorem peakT_eq (arg5 : Memref sig .tc .vmem S8x128 .f32) (a : F .f32) {α : Type} (k : PUnit → Op (F := F) α) :
    (peakT arg5 a >>= k) = .op (.load arg5 (Rect.unit (s := S8x128) ![0, 0] S8x128.size inb_S8x128_S8x128_0_0).toLoadRect (View.loadsAt_vmem h_S8x128)) fun _ =>
      .op (.store arg5 (Rect.unit (s := S8x128) ![0, 0] S8x128.size inb_S8x128_S8x128_0_0) (broadcast S8x128 a) Finset.univ (View.stores_vmem_bits_univ h_S8x128 rfl) (.inl rfl)) k := rfl

theorem openT_wp (l r : Dev nD) (hl : l = (prs 0 0).symm c) (hr : r = (prs 0 1).symm c) {O : CellTallies nD τ sig Unit} (hO : Above 1 O) {α : Type} {k : PUnit → Op (F := F) α} {Q : α → sProp 𝕄} :
    iprop(recs κ I ∗ ready c 0 ∗ own c wA (I.w c) ∗ some' c wV ∗ semVal ((c : Thread nD τ), SemLoc.dma wS) 0 ∗ ∃ Wt, owes (c : Thread nD τ) (O + owB c 0 1 + owB c 0 0) Wt)
      ⊢ iprop((iprop(bigSep (links 0) (fresh c) ∗ own c wA (I.w c) ∗ own c wV (I.w c) ∗ semVal ((c : Thread nD τ), SemLoc.dma wS) 0
            ∗ atPos ER (cell c (.bar 0)) 1 ∅ 0 ∗ atPos ER (cell c (.fin 0)) 0 ∅ 0
            ∗ dutyTok ER (cell ((prs 0 0).symm c) (.fin 0)) 0 0 ∗ dutyTok ER (cell ((prs 0 1).symm c) (.fin 0)) 0 1
            ∗ reached ER (cell ((prs 0 0).symm c) (.fin 0)) 0 ∗ reached ER (cell ((prs 0 1).symm c) (.fin 0)) 0
            ∗ cred (tallyAt (cell c (.fin 0)) () (names 0).card) ∗ ∃ Wt, owes (c : Thread nD τ) O Wt) -∗ W c (k ⟨⟩) Q)
          -∗ W c (openT l r >>= k) Q) := by
  rw [openT_eq]
  have hn : bigSep (names 0) (toll c 0) = (iprop(toll c 0 0 ∗ toll c 0 1) : sProp 𝕄) := by
    rw [show names 0 = insert 0 {1} from by decide, bigSep_ins (by decide), BI.bigSep_singleton]
  have hn' : bigSep (names 0) (fun n => reached ER (cell (prs 0 n c) (.fin 0)) 0) = (iprop(reached ER (cell (prs 0 0 c) (.fin 0)) 0 ∗ reached ER (cell (prs 0 1 c) (.fin 0)) 0) : sProp 𝕄) := by
    rw [show names 0 = insert 0 {1} from by decide, bigSep_ins (by decide), BI.bigSep_singleton]
  unfold ready
  rw [hn]
  unfold toll
  iintro ⟨#HR, ⟨Hbar, Hfin, #HreF, Hl, ⟨⟨HtB0, HtF0, Hg0⟩, ⟨HtB1, HtF1, Hg1⟩⟩, HcB, HcF⟩, Hw, Hv, HwS, ⟨%Wt, HO⟩⟩ Hk
  iapply (copy_start c wA wV wS (q := fullShare) (X := I.w c) (show 0 < S1024x8192.numel by decide)) $$ [Hw Hv HwS]
  · isplitl [Hw]; · iexact Hw
    isplitl [Hv] <;> iassumption
  iintro Hc
  iapply (signal_bar κ I c 0 0 (by decide) (sm := barS) rfl hl (O := O + owB c 0 1) (Wt := Wt)) $$ [HO HtB0 Hg0]
  · isplitr; · iexact HR
    isplitl [HO]; · iexact HO
    isplitl [HtB0]; · iexact HtB0
    isplitl [Hg0]; · iexact Hg0
    iexact HreF
  iintro HO
  iapply (signal_bar κ I c 0 1 (by decide) (sm := barS) rfl hr (O := O) (Wt := Wt)) $$ [HO HtB1 Hg1]
  · isplitr; · iexact HR
    isplitl [HO]; · iexact HO
    isplitl [HtB1]; · iexact HtB1
    isplitl [Hg1]; · iexact Hg1
    iexact HreF
  iintro HO
  iapply (wait_bar κ I c 0 (sm := barS) rfl (m := 2) (by decide) (z := 2#32) (by decide) (O := O) (Wt := Wt) hO) $$ [HcB HO Hbar]
  · isplitr; · iexact HR
    isplitl [HcB]; · iexact HcB
    isplitl [HO] <;> iassumption
  unfold gained
  rw [hn']
  iintro ⟨⟨%Wt', HO⟩, Hbar, ⟨Hd, ⟨#Hf0, #Hf1⟩⟩⟩
  iapply (copy_wait c wA wV wS (q := fullShare) (X := I.w c) (O := O)) $$ [Hc HO]
  · isplitl [Hc]; · iexact Hc
    isplitl [HO]; · iexact HO
    iapply (mayWait_local c (.dma wS) wS_local O (hO.mono (Nat.zero_le _)))
    iapply (recs_lev κ I); iexact HR
  iintro ⟨⟨Hw, Hv⟩, HwS, HO⟩
  iapply Hk
  isplitl [Hl Hd]
  · iapply (freshes_of c 0)
    isplitl [Hl] <;> iassumption
  isplitl [Hw]; · iexact Hw
  isplitl [Hv]; · iexact Hv
  isplitl [HwS]; · iexact HwS
  isplitl [Hbar]; · iexact Hbar
  isplitl [Hfin]; · iexact Hfin
  isplitl [HtF0]; · iexact HtF0
  isplitl [HtF1]; · iexact HtF1
  isplitr; · rw [prs_symm]; iexact Hf1
  isplitr; · rw [prs_symm]; iexact Hf0
  isplitl [HcF]; · iexact HcF
  iexists _; iexact HO

theorem closeT_wp (l r : Dev nD) (hl : l = (prs 0 0).symm c) (hr : r = (prs 0 1).symm c) {T : CellTallies nD τ sig Unit} (hT : Above 5 T) {Q : PUnit → sProp 𝕄} :
    iprop(recs κ I ∗ bigSep (links 0) (doneL c) ∗ atPos ER (cell c (.bar 0)) 1 ∅ 0 ∗ atPos ER (cell c (.fin 0)) 0 ∅ 0
            ∗ dutyTok ER (cell ((prs 0 0).symm c) (.fin 0)) 0 0 ∗ dutyTok ER (cell ((prs 0 1).symm c) (.fin 0)) 0 1
            ∗ reached ER (cell ((prs 0 0).symm c) (.fin 0)) 0 ∗ reached ER (cell ((prs 0 1).symm c) (.fin 0)) 0
            ∗ cred (tallyAt (cell c (.fin 0)) () (names 0).card) ∗ ∃ Wt, owes (c : Thread nD τ) (T + owF c 0 1 + owF c 0 0) Wt)
      ⊢ iprop((iprop((semVal (cell c (.bar 0)) 0 ∗ bigSep (inner 0) (fun k => semVal (cell c k) 0)) ∗ ∃ Wt, owes (c : Thread nD τ) T Wt) -∗ Q ⟨⟩) -∗ W c (closeT l r) Q) := by
  rw [closeT_eq]
  iintro ⟨#HR, Hl, Hbar, Hfin, Ht0, Ht1, #Hr0, #Hr1, HcF, ⟨%Wt, HO⟩⟩ Hk
  iapply (signal_fin κ I c 0 0 (by decide) (sm := cc0_scratch12.sem) rfl hl (O := T + owF c 0 1) (Wt := Wt)) $$ [HO Ht0]
  · isplitr; · iexact HR
    isplitl [HO]; · iexact HO
    isplitl [Ht0]; · iexact Ht0
    iexact Hr0
  iintro HO
  iapply (signal_fin κ I c 0 1 (by decide) (sm := cc0_scratch12.sem) rfl hr (O := T) (Wt := Wt)) $$ [HO Ht1]
  · isplitr; · iexact HR
    isplitl [HO]; · iexact HO
    isplitl [Ht1]; · iexact Ht1
    iexact Hr1
  iintro HO
  iapply (wait_fin κ I c 0 (sm := cc0_scratch12.sem) rfl (m := 2) (by decide) (z := 2#32) (by decide) (O := T) (Wt := Wt) hT) $$ [HcF HO Hfin]
  · isplitr; · iexact HR
    isplitl [HcF]; · iexact HcF
    isplitl [HO] <;> iassumption
  iintro ⟨HO, Hfin⟩
  iapply (W_ret c)
  imod (close_all κ I c 0) $$ [Hbar Hfin Hl] with Hs
  · isplitr; · iexact HR
    isplitl [Hbar]; · iexact Hbar
    isplitl [Hfin] <;> iassumption
  imodintro
  iapply Hk
  isplitl [Hs] <;> iassumption

theorem left0 : ∀ c : Dev nD, (⟨k0_dev1 c, k0_dev1_lt c⟩ : Dev nD) = (prs 0 0).symm c := by decide +kernel
theorem right0 : ∀ c : Dev nD, (⟨k0_dev2 c, k0_dev2_lt c⟩ : Dev nD) = (prs 0 1).symm c := by decide +kernel
theorem left0' : ∀ c : Dev nD, (⟨k0_dev27 c, k0_dev27_lt c⟩ : Dev nD) = (prs 0 0).symm c := by decide +kernel
theorem right0' : ∀ c : Dev nD, (⟨k0_dev28 c, k0_dev28_lt c⟩ : Dev nD) = (prs 0 1).symm c := by decide +kernel
theorem k0_to3 : ∀ c : Dev nD, (⟨k0_dev3 c, k0_dev3_lt c⟩ : Dev nD) = nx true c := by decide +kernel
theorem k0_to4 : ∀ c : Dev nD, (⟨k0_dev4 c, k0_dev4_lt c⟩ : Dev nD) = nx false c := by decide +kernel
theorem k0_to5 : ∀ c : Dev nD, (⟨k0_dev5 c, k0_dev5_lt c⟩ : Dev nD) = nx true c := by decide +kernel
theorem k0_to6 : ∀ c : Dev nD, (⟨k0_dev6 c, k0_dev6_lt c⟩ : Dev nD) = nx false c := by decide +kernel
theorem k0_to7 : ∀ c : Dev nD, (⟨k0_dev7 c, k0_dev7_lt c⟩ : Dev nD) = nx true c := by decide +kernel
theorem k0_to8 : ∀ c : Dev nD, (⟨k0_dev8 c, k0_dev8_lt c⟩ : Dev nD) = nx false c := by decide +kernel
theorem k0_to9 : ∀ c : Dev nD, (⟨k0_dev9 c, k0_dev9_lt c⟩ : Dev nD) = nx true c := by decide +kernel
theorem k0_to10 : ∀ c : Dev nD, (⟨k0_dev10 c, k0_dev10_lt c⟩ : Dev nD) = nx false c := by decide +kernel
theorem k0_to11 : ∀ c : Dev nD, (⟨k0_dev11 c, k0_dev11_lt c⟩ : Dev nD) = nx true c := by decide +kernel
theorem k0_to12 : ∀ c : Dev nD, (⟨k0_dev12 c, k0_dev12_lt c⟩ : Dev nD) = nx false c := by decide +kernel
theorem k0_to13 : ∀ c : Dev nD, (⟨k0_dev13 c, k0_dev13_lt c⟩ : Dev nD) = nx true c := by decide +kernel
theorem k0_to14 : ∀ c : Dev nD, (⟨k0_dev14 c, k0_dev14_lt c⟩ : Dev nD) = nx false c := by decide +kernel
theorem k0_to15 : ∀ c : Dev nD, (⟨k0_dev15 c, k0_dev15_lt c⟩ : Dev nD) = nx true c := by decide +kernel
theorem k0_to16 : ∀ c : Dev nD, (⟨k0_dev16 c, k0_dev16_lt c⟩ : Dev nD) = nx false c := by decide +kernel
theorem k0_to17 : ∀ c : Dev nD, (⟨k0_dev17 c, k0_dev17_lt c⟩ : Dev nD) = nx true c := by decide +kernel
theorem k0_to18 : ∀ c : Dev nD, (⟨k0_dev18 c, k0_dev18_lt c⟩ : Dev nD) = nx false c := by decide +kernel
theorem k0_to19 : ∀ c : Dev nD, (⟨k0_dev19 c, k0_dev19_lt c⟩ : Dev nD) = nx true c := by decide +kernel
theorem k0_to20 : ∀ c : Dev nD, (⟨k0_dev20 c, k0_dev20_lt c⟩ : Dev nD) = nx false c := by decide +kernel
theorem k0_to21 : ∀ c : Dev nD, (⟨k0_dev21 c, k0_dev21_lt c⟩ : Dev nD) = nx true c := by decide +kernel
theorem k0_to22 : ∀ c : Dev nD, (⟨k0_dev22 c, k0_dev22_lt c⟩ : Dev nD) = nx false c := by decide +kernel
theorem k0_to23 : ∀ c : Dev nD, (⟨k0_dev23 c, k0_dev23_lt c⟩ : Dev nD) = nx true c := by decide +kernel
theorem k0_to24 : ∀ c : Dev nD, (⟨k0_dev24 c, k0_dev24_lt c⟩ : Dev nD) = nx false c := by decide +kernel
theorem k0_to25 : ∀ c : Dev nD, (⟨k0_dev25 c, k0_dev25_lt c⟩ : Dev nD) = nx true c := by decide +kernel
theorem k0_to26 : ∀ c : Dev nD, (⟨k0_dev26 c, k0_dev26_lt c⟩ : Dev nD) = nx false c := by decide +kernel

set_option maxHeartbeats 4000000 in
theorem rs_wp (arg5 : Memref sig .tc .vmem S8x128 .f32) {T : CellTallies nD τ sig Unit} (hT : Above 5 T) {Q : PUnit → sProp 𝕄} :
    iprop(recs κ I ∗ rsPre I c arg5 T) ⊢ iprop((rsPost I c arg5 T -∗ Q ⟨⟩) -∗ W c (rsProg arg5) Q) := by
  have hT4 : Above 4 (T + owF c 0 1 + owF c 0 0) := ((hT.mono (by decide)).add (Above.tally _ _ _ (by decide))).add (Above.tally _ _ _ (by decide))
  have hO1 : Above 1 (owe c rsOrder (T + owF c 0 1 + owF c 0 0)) := owe_above c (hT4.mono (by decide)) _ (by decide +kernel)
  unfold rsPre rsPost rest0
  iintro ⟨#HR, Hrd, ⟨Hx, Hxv, Hbv, Hhv, HxS, HaS, Hw, Hwv, HwS⟩, Htl, H5, HO⟩ Hk
  iapply (W_dev c)
  iapply (openT_wp κ I c _ _ (left0 c) (right0 c) hO1) $$ [Hrd Hw Hwv HwS HO]
  · isplitr; · iexact HR
    isplitl [Hrd]; · iexact Hrd
    isplitl [Hw]; · iexact Hw
    isplitl [Hwv]; · iexact Hwv
    isplitl [HwS] <;> iassumption
  iintro ⟨Hfr, Hw, Hwv, HwS, Hbar, Hfin, Ht0, Ht1, #Hr0, #Hr1, HcF, HO⟩
  ihave HS := (tiles_start I c) $$ [Hfr Htl]
  · isplitl [Hfr] <;> iassumption
  have hmid : iprop(St I c 0 ∗ (own c xA (I.x c) ∗ own c wV (I.w c) ∗ some' c xV ∗ some' c bV ∗ some' c hV ∗ semVal ((c : Thread nD τ), SemLoc.dma xS) 0 ∗ adds c)
      ∗ ∃ Wt, owes (c : Thread nD τ) (owe c rsOrder (T + owF c 0 1 + owF c 0 0)) Wt) ⊢ (Mid I c (T + owF c 0 1 + owF c 0 0) 0 : sProp 𝕄) := Entails.of_eq rfl
  ihave HM := hmid $$ [HS Hx Hwv Hxv Hbv Hhv HxS HaS HO]
  · isplitl [HS]; · iexact HS
    isplitr [HO]
    · isplitl [Hx]; · iexact Hx
      isplitl [Hwv]; · iexact Hwv
      isplitl [Hxv]; · iexact Hxv
      isplitl [Hbv]; · iexact Hbv
      isplitl [Hhv]; · iexact Hhv
      isplitl [HxS] <;> iassumption
    iexact HO
  iapply (stp0 κ I c (k := 0) true 0 (by decide +kernel) rfl (k0_to3 c)) $$ [HM]
  · isplitr; · iexact HR
    iexact HM
  iintro HM
  iapply (stp0 κ I c (k := 1) false 0 (by decide +kernel) rfl (k0_to4 c)) $$ [HM]
  · isplitr; · iexact HR
    iexact HM
  iintro HM
  iapply (stp0 κ I c (k := 2) true 1 (by decide +kernel) rfl (k0_to5 c)) $$ [HM]
  · isplitr; · iexact HR
    iexact HM
  iintro HM
  iapply (stp0 κ I c (k := 3) false 1 (by decide +kernel) rfl (k0_to6 c)) $$ [HM]
  · isplitr; · iexact HR
    iexact HM
  iintro HM
  iapply (stp0 κ I c (k := 4) true 2 (by decide +kernel) rfl (k0_to7 c)) $$ [HM]
  · isplitr; · iexact HR
    iexact HM
  iintro HM
  iapply (stp0 κ I c (k := 5) false 2 (by decide +kernel) rfl (k0_to8 c)) $$ [HM]
  · isplitr; · iexact HR
    iexact HM
  iintro HM
  iapply (stp0 κ I c (k := 6) true 3 (by decide +kernel) rfl (k0_to9 c)) $$ [HM]
  · isplitr; · iexact HR
    iexact HM
  iintro HM
  iapply (stp0 κ I c (k := 7) false 3 (by decide +kernel) rfl (k0_to10 c)) $$ [HM]
  · isplitr; · iexact HR
    iexact HM
  iintro HM
  iapply (stp1 κ I c hT4 (k := 8) true 0 (by decide +kernel) rfl (by decide +kernel) (k0_to11 c)) $$ [HM]
  · isplitr; · iexact HR
    iexact HM
  iintro HM
  iapply (stp1 κ I c hT4 (k := 9) false 0 (by decide +kernel) rfl (by decide +kernel) (k0_to12 c)) $$ [HM]
  · isplitr; · iexact HR
    iexact HM
  iintro HM
  iapply (stp1 κ I c hT4 (k := 10) true 1 (by decide +kernel) rfl (by decide +kernel) (k0_to13 c)) $$ [HM]
  · isplitr; · iexact HR
    iexact HM
  iintro HM
  iapply (stp1 κ I c hT4 (k := 11) false 1 (by decide +kernel) rfl (by decide +kernel) (k0_to14 c)) $$ [HM]
  · isplitr; · iexact HR
    iexact HM
  iintro HM
  iapply (stp1 κ I c hT4 (k := 12) true 2 (by decide +kernel) rfl (by decide +kernel) (k0_to15 c)) $$ [HM]
  · isplitr; · iexact HR
    iexact HM
  iintro HM
  iapply (stp1 κ I c hT4 (k := 13) false 2 (by decide +kernel) rfl (by decide +kernel) (k0_to16 c)) $$ [HM]
  · isplitr; · iexact HR
    iexact HM
  iintro HM
  iapply (stp1 κ I c hT4 (k := 14) true 3 (by decide +kernel) rfl (by decide +kernel) (k0_to17 c)) $$ [HM]
  · isplitr; · iexact HR
    iexact HM
  iintro HM
  iapply (stp1 κ I c hT4 (k := 15) false 3 (by decide +kernel) rfl (by decide +kernel) (k0_to18 c)) $$ [HM]
  · isplitr; · iexact HR
    iexact HM
  iintro HM
  iapply (stp2 κ I c hT4 (k := 16) true 0 (by decide +kernel) rfl (by decide +kernel) (k0_to19 c)) $$ [HM]
  · isplitr; · iexact HR
    iexact HM
  iintro HM
  iapply (stp2 κ I c hT4 (k := 17) false 0 (by decide +kernel) rfl (by decide +kernel) (k0_to20 c)) $$ [HM]
  · isplitr; · iexact HR
    iexact HM
  iintro HM
  iapply (stp2 κ I c hT4 (k := 18) true 1 (by decide +kernel) rfl (by decide +kernel) (k0_to21 c)) $$ [HM]
  · isplitr; · iexact HR
    iexact HM
  iintro HM
  iapply (stp2 κ I c hT4 (k := 19) false 1 (by decide +kernel) rfl (by decide +kernel) (k0_to22 c)) $$ [HM]
  · isplitr; · iexact HR
    iexact HM
  iintro HM
  iapply (stp2 κ I c hT4 (k := 20) true 2 (by decide +kernel) rfl (by decide +kernel) (k0_to23 c)) $$ [HM]
  · isplitr; · iexact HR
    iexact HM
  iintro HM
  iapply (stp2 κ I c hT4 (k := 21) false 2 (by decide +kernel) rfl (by decide +kernel) (k0_to24 c)) $$ [HM]
  · isplitr; · iexact HR
    iexact HM
  iintro HM
  iapply (stp2 κ I c hT4 (k := 22) true 3 (by decide +kernel) rfl (by decide +kernel) (k0_to25 c)) $$ [HM]
  · isplitr; · iexact HR
    iexact HM
  iintro HM
  iapply (stp2 κ I c hT4 (k := 23) false 3 (by decide +kernel) rfl (by decide +kernel) (k0_to26 c)) $$ [HM]
  · isplitr; · iexact HR
    iexact HM
  iintro HM
  iapply (stp3 κ I c hT4 (k := 24) true 0 (by decide +kernel) rfl rfl) $$ [HM]
  · isplitr; · iexact HR
    iexact HM
  iintro HM
  iapply (stp3 κ I c hT4 (k := 25) false 0 (by decide +kernel) rfl rfl) $$ [HM]
  · isplitr; · iexact HR
    iexact HM
  iintro HM
  iapply (stp3 κ I c hT4 (k := 26) true 1 (by decide +kernel) rfl rfl) $$ [HM]
  · isplitr; · iexact HR
    iexact HM
  iintro HM
  iapply (stp3 κ I c hT4 (k := 27) false 1 (by decide +kernel) rfl rfl) $$ [HM]
  · isplitr; · iexact HR
    iexact HM
  iintro HM
  iapply (stp3 κ I c hT4 (k := 28) true 2 (by decide +kernel) rfl rfl) $$ [HM]
  · isplitr; · iexact HR
    iexact HM
  iintro HM
  iapply (stp3 κ I c hT4 (k := 29) false 2 (by decide +kernel) rfl rfl) $$ [HM]
  · isplitr; · iexact HR
    iexact HM
  iintro HM
  iapply (stp3 κ I c hT4 (k := 30) true 3 (by decide +kernel) rfl rfl) $$ [HM]
  · isplitr; · iexact HR
    iexact HM
  iintro HM
  iapply (stp3 κ I c hT4 (k := 31) false 3 (by decide +kernel) rfl rfl) $$ [HM]
  · isplitr; · iexact HR
    iexact HM
  iintro HM
  rw [peakT_eq]
  icases H5 with ⟨%Y, H5⟩
  iapply (load_full c arg5 (X := Y) inb_S8x128_S8x128_0_0) $$ H5
  iintro H5
  iapply (store_full c arg5 inb_S8x128_S8x128_0_0) $$ [H5]
  · iexists Y; iexact H5
  iintro H5
  iapply (stp4 κ I c hT4 (k := 32) true 0 (by decide +kernel) rfl rfl) $$ [HM]
  · isplitr; · iexact HR
    iexact HM
  iintro HM
  iapply (stp4 κ I c hT4 (k := 33) false 0 (by decide +kernel) rfl rfl) $$ [HM]
  · isplitr; · iexact HR
    iexact HM
  iintro HM
  iapply (stp4 κ I c hT4 (k := 34) true 1 (by decide +kernel) rfl rfl) $$ [HM]
  · isplitr; · iexact HR
    iexact HM
  iintro HM
  iapply (stp4 κ I c hT4 (k := 35) false 1 (by decide +kernel) rfl rfl) $$ [HM]
  · isplitr; · iexact HR
    iexact HM
  iintro HM
  iapply (stp4 κ I c hT4 (k := 36) true 2 (by decide +kernel) rfl rfl) $$ [HM]
  · isplitr; · iexact HR
    iexact HM
  iintro HM
  iapply (stp4 κ I c hT4 (k := 37) false 2 (by decide +kernel) rfl rfl) $$ [HM]
  · isplitr; · iexact HR
    iexact HM
  iintro HM
  iapply (stp4 κ I c hT4 (k := 38) true 3 (by decide +kernel) rfl rfl) $$ [HM]
  · isplitr; · iexact HR
    iexact HM
  iintro HM
  iapply (stp4 κ I c hT4 (k := 39) false 3 (by decide +kernel) rfl rfl) $$ [HM]
  · isplitr; · iexact HR
    iexact HM
  iintro HM
  have hend : (Mid I c (T + owF c 0 1 + owF c 0 0) 40 : sProp 𝕄) ⊢ iprop(St I c 40 ∗ (own c xA (I.x c) ∗ own c wV (I.w c) ∗ some' c xV ∗ some' c bV ∗ some' c hV ∗ semVal ((c : Thread nD τ), SemLoc.dma xS) 0 ∗ adds c)
      ∗ ∃ Wt, owes (c : Thread nD τ) (T + owF c 0 1 + owF c 0 0) Wt) := Entails.of_eq rfl
  ihave HM := hend $$ HM
  icases HM with ⟨HS, ⟨Hx, Hwv, Hxv, Hbv, Hhv, HxS, HaS⟩, HO⟩
  ihave HS := (tiles_end I c) $$ HS
  icases HS with ⟨Hd, Htl⟩
  iapply (closeT_wp κ I c _ _ (left0' c) (right0' c) hT) $$ [Hd Hbar Hfin Ht0 Ht1 HcF HO]
  · isplitr; · iexact HR
    isplitl [Hd]; · iexact Hd
    isplitl [Hbar]; · iexact Hbar
    isplitl [Hfin]; · iexact Hfin
    isplitl [Ht0]; · iexact Ht0
    isplitl [Ht1]; · iexact Ht1
    isplitr; · iexact Hr0
    isplitr; · iexact Hr1
    isplitl [HcF] <;> iassumption
  iintro ⟨Hs, HO⟩
  iapply Hk
  isplitl [Hs]; · iexact Hs
  isplitr [Htl H5 HO]
  · isplitl [Hx]; · iexact Hx
    isplitl [Hxv]; · iexact Hxv
    isplitl [Hbv]; · iexact Hbv
    isplitl [Hhv]; · iexact Hhv
    isplitl [HxS]; · iexact HxS
    isplitl [HaS]; · iexact HaS
    isplitl [Hw]; · iexact Hw
    isplitl [Hwv]; · iexists _; iexact Hwv
    iexact HwS
  isplitl [Htl]; · iexact Htl
  isplitl [H5]; · iexact H5
  iexact HO

end Body

end Cert.K
-- ==== Proof.AmBody.lean ====
/-
# The gathering of the largest absolute values: the body

Each device puts its own eight rows in place and sends them to the three others.
-/
module

public import Idealize.ShloMosaic.Lib.MemrefSat
public import proofs.«01_k».proof.Proof.RsTiles
public import proofs.«01_k».proof.Proof.Ends

@[expose] public section

set_option maxRecDepth 16384

noncomputable section

namespace Cert.K

open Cert.KernelIdeal Cert.KernelIdeal.Gen
open Idealize.ShloMosaic Idealize.ShloMosaic.TcCoe
open Idealize.SL.Sem
open Idealize.SL
open Idealize.SL.BI (sProp bigSep)
open scoped Idealize.SL.BI
open Idealize.SL.BI.BIBase Idealize.SL.BI.Laws Idealize.SL.ProofMode
open Idealize.SL.RA
open Idealize.ShloMosaic.Rounds

variable {F : FTy → Type} [FloatOps F]

local notation "𝕄" => MT nD τ sig Unit (Elt F) ℕ UU ℕ

theorem off12 : ∀ c : Dev nD, k1_off1 c = k1_off2 c := by decide +kernel
theorem rect12 (c : Dev nD) : Rect.unit (s := S32x128) (k1_off1 c) S8x128.size (k1_off1_inb c) = Rect.unit (s := S32x128) (k1_off2 c) S8x128.size (k1_off2_inb c) := by
  simp only [off12]

section Body
variable (κ : GSem nD τ sig → ℕ) (I : Info F) (c : Dev nD)

/-- The eight rows a device gathers of device `b`. -/
def eightOf (b : Dev nD) : Vec F S8x128 .f32 := shapeCast S8x128 (I.a b) shapeCasts_S8x128_S8x128

theorem putA_eq {α : Type} (k : PUnit → Op (F := F) α) :
    (putA c >>= k) = .op (.load a0 (Rect.unit (s := S8x128) ![0, 0] S8x128.size inb_S8x128_S8x128_0_0).toLoadRect (View.loadsAt_vmem h_S8x128)) fun v =>
      .op (.load a1 (Rect.unit (s := S32x128) (k1_off1 c) S8x128.size (k1_off1_inb c)).toLoadRect (View.loadsAt_vmem h_S8x128)) fun _ =>
      .op (.store a1 (Rect.unit (s := S32x128) (k1_off1 c) S8x128.size (k1_off1_inb c)) (shapeCast S8x128 v shapeCasts_S8x128_S8x128) Finset.univ (View.stores_vmem_bits_univ h_S8x128 rfl) (.inl rfl)) k := rfl

/-- The device's own rows, named by the offset the program stores at and by the one it sends from. -/
theorem rows12 (X : S8x128.Idx → Elt F .f32) :
    (own c (a1.slice (Rect.unit (s := S32x128) (k1_off1 c) S8x128.size (k1_off1_inb c)) (fun _ => rfl)) X : sProp 𝕄) = own c (ownRows c) X := by
  have h : ∀ (o : Fin 2 → ℕ) (ho : ∀ a, o a + S8x128.size a ≤ S32x128.size a), o = k1_off2 c →
      (own c (a1.slice (Rect.unit (s := S32x128) o S8x128.size ho) (fun _ => rfl)) X : sProp 𝕄) = own c (ownRows c) X := by
    intro o ho e; subst e; rfl
  exact h _ _ (off12 c)

theorem putA_wp {α : Type} {k : PUnit → Op (F := F) α} {Q : α → sProp 𝕄} :
    iprop(own c a0 (I.a c) ∗ some' c (ownRows c)) ⊢ iprop((iprop(own c a0 (I.a c) ∗ own c (ownRows c) (eightOf I c)) -∗ W c (k ⟨⟩) Q) -∗ W c (putA c >>= k) Q) := by
  rw [putA_eq]
  have h1 : ∀ X, own c (ownRows c) X ⊢ (own c (a1.slice (Rect.unit (s := S32x128) (k1_off1 c) S8x128.size (k1_off1_inb c)) (fun _ => rfl)) X : sProp 𝕄) :=
    fun X => Entails.of_eq (rows12 c X).symm
  have h2 : ∀ X, own c (a1.slice (Rect.unit (s := S32x128) (k1_off1 c) S8x128.size (k1_off1_inb c)) (fun _ => rfl)) X ⊢ (own c (ownRows c) X : sProp 𝕄) :=
    fun X => Entails.of_eq (rows12 c X)
  have h3 : own c (a1.slice (Rect.unit (s := S32x128) (k1_off1 c) S8x128.size (k1_off1_inb c)) (fun _ => rfl)) (shapeCast S8x128 (I.a c) shapeCasts_S8x128_S8x128)
      ⊢ (own c (ownRows c) (eightOf I c) : sProp 𝕄) := h2 (eightOf I c)
  iintro ⟨Ha, ⟨%X, Hr⟩⟩ Hk
  ihave Hr := h1 X $$ Hr
  iapply (load_full c a0 (X := I.a c) inb_S8x128_S8x128_0_0) $$ Ha
  iintro Ha
  iapply (load_slice c a1 (Rect.unit (s := S32x128) (k1_off1 c) S8x128.size (k1_off1_inb c)) (fun _ => rfl) (X := X)) $$ Hr
  iintro Hr
  iapply (store_own c a1 (Rect.unit (s := S32x128) (k1_off1 c) S8x128.size (k1_off1_inb c)) (fun _ => rfl)) $$ [Hr]
  · iexists X; iexact Hr
  iintro Hr
  ihave Hr := h3 $$ Hr
  iapply Hk
  isplitl [Ha] <;> iassumption

theorem sendA_eq (k : Fin 3) {α : Type} (k' : PUnit → Op (F := F) α) :
    (sendA c (peer (.ax k) c) k >>= k') = .op (.enqueueDma ((pk (.ax k)).src c) (.remote (Dev.tc (peer (.ax k) c)) ((pk (.ax k)).dst c) (.dma (sndS (.ax k))) rfl) (.dma (rcvS (.ax k)))
      (View.wordExact_bits rfl) (View.wordExact_bits rfl) ⟨⟨rfl, Or.inl rfl⟩, trivial⟩) k' := rfl
theorem waitA_eq (k : Fin 3) {α : Type} (k' : PUnit → Op (F := F) α) :
    (waitA c k >>= k') = .op (.waitDma2 (sndS (.ax k)) (ownRows c) (ownRows c) (View.wordExact_bits rfl) (View.wordExact_bits rfl)) fun _ =>
      .op (.waitDma2 (rcvS (.ax k)) (ownRows c) (ownRows c) (View.wordExact_bits rfl) (View.wordExact_bits rfl)) k' := rfl

theorem sendA_wp (k : Fin 3) {p : Dev nD} (hp : p = peer (.ax k) c) {α : Type} {k' : PUnit → Op (F := F) α} {Q : α → sProp 𝕄} {O : CellTallies nD τ sig Unit} :
    iprop(recs κ I ∗ srcO I (.ax k) c ∗ fresh c (.ax k) ∗ ∃ Wt, owes (c : Thread nD τ) (O + owL c (.ax k)) Wt)
      ⊢ iprop((iprop(sent c (.ax k) ∗ ∃ Wt, owes (c : Thread nD τ) O Wt) -∗ W c (k' ⟨⟩) Q) -∗ W c (sendA c p k >>= k') Q) := by
  subst hp
  rw [sendA_eq]
  iintro ⟨#HR, Hs, Hf, ⟨%Wt, HO⟩⟩ Hk
  iapply (send_wp κ I c (.ax k) (O := O) (Wt := Wt)) $$ [Hs Hf HO]
  · isplitr; · iexact HR
    isplitl [Hs]; · iexact Hs
    isplitl [Hf]; · iexact Hf
    iexact HO
  iintro ⟨Hf, HO⟩
  iapply Hk
  isplitl [Hf]; · iexact Hf
  iexists _; iexact HO

theorem waitA_wp (k : Fin 3) {α : Type} {k' : PUnit → Op (F := F) α} {Q : α → sProp 𝕄} {O : CellTallies nD τ sig Unit} (hO : Above 7 O) :
    iprop(recs κ I ∗ sent c (.ax k) ∗ ∃ Wt, owes (c : Thread nD τ) O Wt)
      ⊢ iprop((iprop(donee I c (.ax k) ∗ srcO I (.ax k) c ∗ ∃ Wt, owes (c : Thread nD τ) O Wt) -∗ W c (k' ⟨⟩) Q) -∗ W c (waitA c k >>= k') Q) := by
  rw [waitA_eq]
  iintro ⟨#HR, Hf, ⟨%Wt, HO⟩⟩ Hk
  iapply (wait_both κ I c (.ax k) (hO := hO) (credit_eq (ownRows c).view (ownRows 0).view) (credit_eq (ownRows c).view (ownRows 0).view)) $$ [Hf HO]
  · isplitr; · iexact HR
    isplitl [Hf] <;> iassumption
  iexact Hk

theorem openA_eq (p q r : Dev nD) {α : Type} (k : PUnit → Op (F := F) α) :
    (openA p q r >>= k) = Prog.bind (semSignalWord p barS1 1#32) fun _ => Prog.bind (semSignalWord q barS1 1#32) fun _ => Prog.bind (semSignalWord r barS1 1#32) fun _ =>
      Prog.bind (semWaitWord barS1 3#32) k := rfl
theorem closeA_eq (p q r : Dev nD) :
    closeA (F := F) p q r = Prog.bind (semSignalWord p cc1_scratch2.sem 1#32) fun _ => Prog.bind (semSignalWord q cc1_scratch2.sem 1#32) fun _ => Prog.bind (semSignalWord r cc1_scratch2.sem 1#32) fun _ =>
      Prog.bind (semWaitWord cc1_scratch2.sem 3#32) fun _ => .ret ⟨⟩ := rfl

theorem names1 (Φ : Nm → sProp 𝕄) : bigSep (names 1) Φ = iprop(Φ 0 ∗ Φ 1 ∗ Φ 2) := by
  rw [show names 1 = insert 0 (insert 1 {2}) from by decide, bigSep_ins (by decide), bigSep_ins (by decide), BI.bigSep_singleton]

theorem openA_wp (p q r : Dev nD) (hp : p = (prs 1 2).symm c) (hq : q = (prs 1 1).symm c) (hr : r = (prs 1 0).symm c) {O : CellTallies nD τ sig Unit} (hO : Above 6 O)
    {α : Type} {k : PUnit → Op (F := F) α} {Q : α → sProp 𝕄} :
    iprop(recs κ I ∗ ready c 1 ∗ ∃ Wt, owes (c : Thread nD τ) (O + owB c 1 0 + owB c 1 1 + owB c 1 2) Wt)
      ⊢ iprop((iprop(bigSep (links 1) (fresh c) ∗ atPos ER (cell c (.bar 1)) 1 ∅ 0 ∗ atPos ER (cell c (.fin 1)) 0 ∅ 0
            ∗ (dutyTok ER (cell ((prs 1 0).symm c) (.fin 1)) 0 0 ∗ dutyTok ER (cell ((prs 1 1).symm c) (.fin 1)) 0 1 ∗ dutyTok ER (cell ((prs 1 2).symm c) (.fin 1)) 0 2)
            ∗ (reached ER (cell ((prs 1 0).symm c) (.fin 1)) 0 ∗ reached ER (cell ((prs 1 1).symm c) (.fin 1)) 0 ∗ reached ER (cell ((prs 1 2).symm c) (.fin 1)) 0)
            ∗ cred (tallyAt (cell c (.fin 1)) () (names 1).card) ∗ ∃ Wt, owes (c : Thread nD τ) O Wt) -∗ W c (k ⟨⟩) Q)
          -∗ W c (openA p q r >>= k) Q) := by
  rw [openA_eq]
  unfold ready
  rw [names1]
  unfold toll
  iintro ⟨#HR, ⟨Hbar, Hfin, #HreF, Hl, ⟨⟨HtB0, HtF0, Hg0⟩, ⟨HtB1, HtF1, Hg1⟩, ⟨HtB2, HtF2, Hg2⟩⟩, HcB, HcF⟩, ⟨%Wt, HO⟩⟩ Hk
  iapply (signal_bar κ I c 1 2 (by decide) (sm := barS1) rfl hp (O := O + owB c 1 0 + owB c 1 1) (Wt := Wt)) $$ [HO HtB2 Hg2]
  · isplitr; · iexact HR
    isplitl [HO]; · iexact HO
    isplitl [HtB2]; · iexact HtB2
    isplitl [Hg2]; · iexact Hg2
    iexact HreF
  iintro HO
  iapply (signal_bar κ I c 1 1 (by decide) (sm := barS1) rfl hq (O := O + owB c 1 0) (Wt := Wt)) $$ [HO HtB1 Hg1]
  · isplitr; · iexact HR
    isplitl [HO]; · iexact HO
    isplitl [HtB1]; · iexact HtB1
    isplitl [Hg1]; · iexact Hg1
    iexact HreF
  iintro HO
  iapply (signal_bar κ I c 1 0 (by decide) (sm := barS1) rfl hr (O := O) (Wt := Wt)) $$ [HO HtB0 Hg0]
  · isplitr; · iexact HR
    isplitl [HO]; · iexact HO
    isplitl [HtB0]; · iexact HtB0
    isplitl [Hg0]; · iexact Hg0
    iexact HreF
  iintro HO
  iapply (wait_bar κ I c 1 (sm := barS1) rfl (m := 3) (by decide) (z := 3#32) (by decide) (O := O) (Wt := Wt) hO) $$ [HcB HO Hbar]
  · isplitr; · iexact HR
    isplitl [HcB]; · iexact HcB
    isplitl [HO] <;> iassumption
  unfold gained
  rw [names1]
  iintro ⟨HO, Hbar, ⟨Hd, ⟨#Hf0, #Hf1, #Hf2⟩⟩⟩
  iapply Hk
  isplitl [Hl Hd]
  · iapply (freshes_of c 1)
    isplitl [Hl] <;> iassumption
  isplitl [Hbar]; · iexact Hbar
  isplitl [Hfin]; · iexact Hfin
  isplitl [HtF0 HtF1 HtF2]
  · isplitl [HtF0]; · iexact HtF0
    isplitl [HtF1] <;> iassumption
  isplitr
  · isplitr; · rw [prs_symm]; iexact Hf2
    isplitr; · rw [prs_symm]; iexact Hf1
    rw [prs_symm]; iexact Hf0
  isplitl [HcF] <;> iassumption

theorem closeA_wp (p q r : Dev nD) (hp : p = (prs 1 2).symm c) (hq : q = (prs 1 1).symm c) (hr : r = (prs 1 0).symm c) {T : CellTallies nD τ sig Unit} (hT : Above 8 T) {Q : PUnit → sProp 𝕄} :
    iprop(recs κ I ∗ bigSep (links 1) (doneL c) ∗ atPos ER (cell c (.bar 1)) 1 ∅ 0 ∗ atPos ER (cell c (.fin 1)) 0 ∅ 0
            ∗ (dutyTok ER (cell ((prs 1 0).symm c) (.fin 1)) 0 0 ∗ dutyTok ER (cell ((prs 1 1).symm c) (.fin 1)) 0 1 ∗ dutyTok ER (cell ((prs 1 2).symm c) (.fin 1)) 0 2)
            ∗ (reached ER (cell ((prs 1 0).symm c) (.fin 1)) 0 ∗ reached ER (cell ((prs 1 1).symm c) (.fin 1)) 0 ∗ reached ER (cell ((prs 1 2).symm c) (.fin 1)) 0)
            ∗ cred (tallyAt (cell c (.fin 1)) () (names 1).card) ∗ ∃ Wt, owes (c : Thread nD τ) (T + owF c 1 0 + owF c 1 1 + owF c 1 2) Wt)
      ⊢ iprop((iprop((semVal (cell c (.bar 1)) 0 ∗ bigSep (inner 1) (fun k => semVal (cell c k) 0)) ∗ ∃ Wt, owes (c : Thread nD τ) T Wt) -∗ Q ⟨⟩) -∗ W c (closeA p q r) Q) := by
  rw [closeA_eq]
  iintro ⟨#HR, Hl, Hbar, Hfin, ⟨Ht0, Ht1, Ht2⟩, ⟨#Hr0, #Hr1, #Hr2⟩, HcF, ⟨%Wt, HO⟩⟩ Hk
  iapply (signal_fin κ I c 1 2 (by decide) (sm := cc1_scratch2.sem) rfl hp (O := T + owF c 1 0 + owF c 1 1) (Wt := Wt)) $$ [HO Ht2]
  · isplitr; · iexact HR
    isplitl [HO]; · iexact HO
    isplitl [Ht2]; · iexact Ht2
    iexact Hr2
  iintro HO
  iapply (signal_fin κ I c 1 1 (by decide) (sm := cc1_scratch2.sem) rfl hq (O := T + owF c 1 0) (Wt := Wt)) $$ [HO Ht1]
  · isplitr; · iexact HR
    isplitl [HO]; · iexact HO
    isplitl [Ht1]; · iexact Ht1
    iexact Hr1
  iintro HO
  iapply (signal_fin κ I c 1 0 (by decide) (sm := cc1_scratch2.sem) rfl hr (O := T) (Wt := Wt)) $$ [HO Ht0]
  · isplitr; · iexact HR
    isplitl [HO]; · iexact HO
    isplitl [Ht0]; · iexact Ht0
    iexact Hr0
  iintro HO
  iapply (wait_fin κ I c 1 (sm := cc1_scratch2.sem) rfl (m := 3) (by decide) (z := 3#32) (by decide) (O := T) (Wt := Wt) hT) $$ [HcF HO Hfin]
  · isplitr; · iexact HR
    isplitl [HcF]; · iexact HcF
    isplitl [HO] <;> iassumption
  iintro ⟨HO, Hfin⟩
  iapply (W_ret c)
  imod (close_all κ I c 1) $$ [Hbar Hfin Hl] with Hs
  · isplitr; · iexact HR
    isplitl [Hbar]; · iexact Hbar
    isplitl [Hfin] <;> iassumption
  imodintro
  iapply Hk
  isplitl [Hs] <;> iassumption

theorem links1 (Φ : Ln → sProp 𝕄) : bigSep (links 1) Φ = iprop(Φ (.ax 0) ∗ Φ (.ax 1) ∗ Φ (.ax 2)) := by
  rw [show links 1 = insert (.ax 0) (insert (.ax 1) {.ax 2}) from by decide +kernel, bigSep_ins (by decide), bigSep_ins (by decide), BI.bigSep_singleton]

theorem devs (Φ : Dev nD → sProp 𝕄) : bigSep Finset.univ Φ = iprop(Φ c ∗ Φ ((prs 1 0).symm c) ∗ Φ ((prs 1 1).symm c) ∗ Φ ((prs 1 2).symm c)) := by
  have h : ∀ c : Dev nD, (Finset.univ : Finset (Dev nD)) = insert c (insert ((prs 1 0).symm c) (insert ((prs 1 1).symm c) {(prs 1 2).symm c})) := by decide
  have h1 : ∀ c : Dev nD, c ∉ insert ((prs 1 0).symm c) (insert ((prs 1 1).symm c) ({(prs 1 2).symm c} : Finset (Dev nD))) := by decide
  have h2 : ∀ c : Dev nD, (prs 1 0).symm c ∉ insert ((prs 1 1).symm c) ({(prs 1 2).symm c} : Finset (Dev nD)) := by decide
  have h3 : ∀ c : Dev nD, (prs 1 1).symm c ∉ ({(prs 1 2).symm c} : Finset (Dev nD)) := by decide
  rw [h c, bigSep_ins (h1 c), bigSep_ins (h2 c), bigSep_ins (h3 c), BI.bigSep_singleton]

theorem gotA (k : Fin 3) : (dstGot I (.ax k) ((peer (.ax k)).symm c) : sProp 𝕄) = own c (ownRows ((prs 1 k).symm c)) (eightOf I ((prs 1 k).symm c)) := by
  unfold dstGot
  rw [Equiv.apply_symm_apply]
  rfl

/-- What the body takes and what it leaves: its own value, the gathered rows, what it owes. -/
def amPre (T : CellTallies nD τ sig Unit) : sProp 𝕄 :=
  iprop(ready c 1 ∗ own c a0 (I.a c) ∗ some' c (ownRows c)
    ∗ ∃ Wt, owes (c : Thread nD τ) (owe c [.ax 0, .ax 1, .ax 2] (T + owF c 1 0 + owF c 1 1 + owF c 1 2) + owB c 1 0 + owB c 1 1 + owB c 1 2) Wt)
def amPost (T : CellTallies nD τ sig Unit) : sProp 𝕄 :=
  iprop((semVal (cell c (.bar 1)) 0 ∗ bigSep (inner 1) (fun k => semVal (cell c k) 0)) ∗ own c a0 (I.a c)
    ∗ bigSep Finset.univ (fun b : Dev nD => own c (ownRows b) (eightOf I b)) ∗ ∃ Wt, owes (c : Thread nD τ) T Wt)

theorem k1_to1 : ∀ c : Dev nD, (⟨k1_dev1 c, k1_dev1_lt c⟩ : Dev nD) = (prs 1 2).symm c := by decide +kernel
theorem k1_to2 : ∀ c : Dev nD, (⟨k1_dev2 c, k1_dev2_lt c⟩ : Dev nD) = (prs 1 1).symm c := by decide +kernel
theorem k1_to3 : ∀ c : Dev nD, (⟨k1_dev3 c, k1_dev3_lt c⟩ : Dev nD) = (prs 1 0).symm c := by decide +kernel
theorem k1_to4 : ∀ c : Dev nD, (⟨k1_dev4 c, k1_dev4_lt c⟩ : Dev nD) = peer (.ax 0) c := by decide +kernel
theorem k1_to5 : ∀ c : Dev nD, (⟨k1_dev5 c, k1_dev5_lt c⟩ : Dev nD) = peer (.ax 1) c := by decide +kernel
theorem k1_to6 : ∀ c : Dev nD, (⟨k1_dev6 c, k1_dev6_lt c⟩ : Dev nD) = peer (.ax 2) c := by decide +kernel
theorem k1_to7 : ∀ c : Dev nD, (⟨k1_dev7 c, k1_dev7_lt c⟩ : Dev nD) = (prs 1 2).symm c := by decide +kernel
theorem k1_to8 : ∀ c : Dev nD, (⟨k1_dev8 c, k1_dev8_lt c⟩ : Dev nD) = (prs 1 1).symm c := by decide +kernel
theorem k1_to9 : ∀ c : Dev nD, (⟨k1_dev9 c, k1_dev9_lt c⟩ : Dev nD) = (prs 1 0).symm c := by decide +kernel

/-- The own rows, lent to the three copies at once. -/
theorem thirds : (own c (ownRows c) (eightOf I c) : sProp 𝕄) ⊣⊢ iprop(srcO I (.ax 0) c ∗ srcO I (.ax 1) c ∗ srcO I (.ax 2) c) :=
  (owns_halves (c : Thread nD τ) (ownRows c) fullShare (eightOf I c)).trans
    (sep_congr .rfl (owns_halves (c : Thread nD τ) (ownRows c) fullShare.right (eightOf I c)))

theorem am_wp {T : CellTallies nD τ sig Unit} (hT : Above 8 T) {Q : PUnit → sProp 𝕄} :
    iprop(recs κ I ∗ amPre I c T) ⊢ iprop((amPost I c T -∗ Q ⟨⟩) -∗ W c amProg Q) := by
  have hT7 : Above 7 (T + owF c 1 0 + owF c 1 1 + owF c 1 2) :=
    (((hT.mono (by decide)).add (Above.tally _ _ _ (by decide))).add (Above.tally _ _ _ (by decide))).add (Above.tally _ _ _ (by decide))
  have hO6 : Above 6 (owe c [.ax 0, .ax 1, .ax 2] (T + owF c 1 0 + owF c 1 1 + owF c 1 2)) := owe_above c (hT7.mono (by decide)) _ (by decide +kernel)
  unfold amPre amPost
  iintro ⟨#HR, Hrd, Ha, Hr, HO⟩ Hk
  iapply (W_dev c)
  iapply (openA_wp κ I c _ _ _ (k1_to1 c) (k1_to2 c) (k1_to3 c) hO6) $$ [Hrd HO]
  · isplitr; · iexact HR
    isplitl [Hrd] <;> iassumption
  iintro ⟨Hfr, Hbar, Hfin, Ht, #Hre, HcF, HO⟩
  ihave Hfr := (Entails.of_eq (links1 (fresh c))) $$ Hfr
  icases Hfr with ⟨Hf0, Hf1, Hf2⟩
  iapply (putA_wp I c) $$ [Ha Hr]
  · isplitl [Ha] <;> iassumption
  iintro ⟨Ha, Hr⟩
  ihave Hr := (thirds I c).1 $$ Hr
  icases Hr with ⟨Hs0, Hs1, Hs2⟩
  iapply (sendA_wp κ I c 0 (k1_to4 c) (O := owe c [.ax 1, .ax 2] (T + owF c 1 0 + owF c 1 1 + owF c 1 2))) $$ [Hs0 Hf0 HO]
  · isplitr; · iexact HR
    isplitl [Hs0]; · iexact Hs0
    isplitl [Hf0]; · iexact Hf0
    iexact HO
  iintro ⟨Hf0, HO⟩
  iapply (sendA_wp κ I c 1 (k1_to5 c) (O := owe c [.ax 2] (T + owF c 1 0 + owF c 1 1 + owF c 1 2))) $$ [Hs1 Hf1 HO]
  · isplitr; · iexact HR
    isplitl [Hs1]; · iexact Hs1
    isplitl [Hf1]; · iexact Hf1
    iexact HO
  iintro ⟨Hf1, HO⟩
  iapply (sendA_wp κ I c 2 (k1_to6 c) (O := T + owF c 1 0 + owF c 1 1 + owF c 1 2)) $$ [Hs2 Hf2 HO]
  · isplitr; · iexact HR
    isplitl [Hs2]; · iexact Hs2
    isplitl [Hf2]; · iexact Hf2
    iexact HO
  iintro ⟨Hf2, HO⟩
  iapply (waitA_wp κ I c 0 hT7) $$ [Hf0 HO]
  · isplitr; · iexact HR
    isplitl [Hf0] <;> iassumption
  iintro ⟨Hd0, Hs0, HO⟩
  iapply (waitA_wp κ I c 1 hT7) $$ [Hf1 HO]
  · isplitr; · iexact HR
    isplitl [Hf1] <;> iassumption
  iintro ⟨Hd1, Hs1, HO⟩
  iapply (waitA_wp κ I c 2 hT7) $$ [Hf2 HO]
  · isplitr; · iexact HR
    isplitl [Hf2] <;> iassumption
  iintro ⟨Hd2, Hs2, HO⟩
  ihave Hr := (thirds I c).2 $$ [Hs0 Hs1 Hs2]
  · isplitl [Hs0]; · iexact Hs0
    isplitl [Hs1] <;> iassumption
  have hd : ∀ k : Fin 3, donee I c (.ax k) ⊢ (iprop(doneL c (.ax k) ∗ own c (ownRows ((prs 1 k).symm c)) (eightOf I ((prs 1 k).symm c))) : sProp 𝕄) := by
    intro k
    unfold donee doneL
    rw [gotA]
    iintro ⟨H1, H2, H3⟩
    isplitl [H1 H2]
    · isplitl [H1] <;> iassumption
    iexact H3
  ihave Hd0 := hd 0 $$ Hd0
  ihave Hd1 := hd 1 $$ Hd1
  ihave Hd2 := hd 2 $$ Hd2
  icases Hd0 with ⟨Hd0, Hr0⟩
  icases Hd1 with ⟨Hd1, Hr1⟩
  icases Hd2 with ⟨Hd2, Hr2⟩
  iapply (closeA_wp κ I c _ _ _ (k1_to7 c) (k1_to8 c) (k1_to9 c) hT) $$ [Hd0 Hd1 Hd2 Hbar Hfin Ht HcF HO]
  · isplitr; · iexact HR
    isplitl [Hd0 Hd1 Hd2]
    · iapply (Entails.of_eq (links1 (doneL c)).symm)
      isplitl [Hd0]; · iexact Hd0
      isplitl [Hd1] <;> iassumption
    isplitl [Hbar]; · iexact Hbar
    isplitl [Hfin]; · iexact Hfin
    isplitl [Ht]; · iexact Ht
    isplitr; · iexact Hre
    isplitl [HcF] <;> iassumption
  iintro ⟨Hs, HO⟩
  iapply Hk
  isplitl [Hs]; · iexact Hs
  isplitl [Ha]; · iexact Ha
  isplitr [HO]
  · iapply (Entails.of_eq (devs c (fun b : Dev nD => own c (ownRows b) (eightOf I b))).symm)
    isplitl [Hr]; · iexact Hr
    isplitl [Hr0]; · iexact Hr0
    isplitl [Hr1] <;> iassumption
  iexact HO

end Body

end Cert.K
-- ==== Proof.AgBody.lean ====
/-
# The gathering of the quantised blocks: the body

Each device puts its own two blocks in place and passes the blocks round, one ring in each direction.
-/
module

public import Idealize.ShloMosaic.Lib.MemrefSat
public import proofs.«01_k».proof.Proof.RsTiles
public import proofs.«01_k».proof.Proof.Ends

@[expose] public section

set_option maxRecDepth 16384

noncomputable section

namespace Cert.K

open Cert.KernelIdeal Cert.KernelIdeal.Gen
open Idealize.ShloMosaic Idealize.ShloMosaic.TcCoe
open Idealize.SL.Sem
open Idealize.SL
open Idealize.SL.BI (sProp bigSep)
open scoped Idealize.SL.BI
open Idealize.SL.BI.BIBase Idealize.SL.BI.Laws Idealize.SL.ProofMode
open Idealize.SL.RA
open Idealize.ShloMosaic.Rounds

variable {F : FTy → Type} [FloatOps F]

local notation "𝕄" => MT nD τ sig Unit (Elt F) ℕ UU ℕ

/-- Where the block passed on at step `t` lies: it is the one of the device `t` links back. -/
def back (d : Dir) (c : Dev nD) : ℕ → Dev nD | 0 => c | n + 1 => (nx d).symm (back d c n)

theorem soff_eq : ∀ (d : Dir) (c : Dev nD) (t : Fin 3), soff d c t = goff d (back d c t.val) := by decide +kernel

theorem sT_eq (d : Dir) (c : Dev nD) (t : Fin 3) : (sT d c t : Memref sig .tc .hbm S1024x4096 .fp8e4m3) = gT d (back d c t.val) := by
  have h : ∀ (o : Fin 2 → ℕ) (ho : ∀ a, o a + S1024x4096.size a ≤ S4096x8192.size a), o = goff d (back d c t.val) →
      gA.slice (Rect.unit o S1024x4096.size ho) (fun _ => rfl) = gT d (back d c t.val) := by
    intro o ho e; subst e; rfl
  exact h _ _ (soff_eq d c t)

section Body
variable (κ : GSem nD τ sig → ℕ) (I : Info F) (c : Dev nD)

/-- The place of device `b`'s block of direction `d`, on device `c`: at any contents; holding the block. -/
def placeAny (d : Dir) (b : Dev nD) : sProp 𝕄 := some' c (gT d b)
def placed (d : Dir) (b : Dev nD) : sProp 𝕄 := own c (gT d b) (I.q d b)

theorem gotG0 (d : Dir) : (dstGot I (.ag0 d) ((peer (.ag0 d)).symm c) : sProp 𝕄) = placed I c d (back d c 1) := by
  unfold dstGot placed
  rw [Equiv.apply_symm_apply]
  have e : (prs 2 (nm d)).symm c = (nx d).symm c := by cases d <;> rfl
  show own c (sT d ((prs 2 (nm d)).symm c) 0) (I.q d ((prs 2 (nm d)).symm c)) = _
  rw [e, sT_eq]
  rfl
theorem gotGN (d : Dir) (t : Fin 2) : (dstGot I (.agN d t) ((peer (.agN d t)).symm c) : sProp 𝕄) = placed I c d (back d c (t.val + 2)) := by
  unfold dstGot placed
  rw [Equiv.apply_symm_apply]
  have e : (prs 2 (nm d)).symm c = (nx d).symm c := by cases d <;> rfl
  show own c (sT d ((prs 2 (nm d)).symm c) t.succ) (qAt I d ((prs 2 (nm d)).symm c) t) = _
  rw [e, sT_eq]
  have hb : ∀ t : Fin 2, back d ((nx d).symm c) t.succ.val = back d c (t.val + 2) := by revert c d; decide
  rw [hb t]
  have hq : qAt I d ((nx d).symm c) t = I.q d (back d c (t.val + 2)) := by fin_cases t <;> rfl
  rw [hq]
theorem srcGN (d : Dir) (t : Fin 2) : (srcO I (.agN d t) c : sProp 𝕄) = placed I c d (back d c (t.val + 1)) := by
  show own c (sT d c t.succ) (qAt I d c t) = _
  unfold placed
  rw [sT_eq]
  have hq : qAt I d c t = I.q d (back d c (t.val + 1)) := by fin_cases t <;> rfl
  rw [hq]
  rfl

/-- The places a device offers for its peers' blocks. -/
theorem slotG0 (d : Dir) : (slotAny c (.ag0 d) : sProp 𝕄) = placeAny c d (back d c 1) := by
  unfold slotAny dstAny placeAny
  rw [Equiv.apply_symm_apply]
  have e : (prs 2 (nm d)).symm c = (nx d).symm c := by cases d <;> rfl
  show some' c (sT d ((prs 2 (nm d)).symm c) 0) = _
  rw [e, sT_eq]
  rfl
theorem slotGN (d : Dir) (t : Fin 2) : (slotAny c (.agN d t) : sProp 𝕄) = placeAny c d (back d c (t.val + 2)) := by
  unfold slotAny dstAny placeAny
  rw [Equiv.apply_symm_apply]
  have e : (prs 2 (nm d)).symm c = (nx d).symm c := by cases d <;> rfl
  show some' c (sT d ((prs 2 (nm d)).symm c) t.succ) = _
  rw [e, sT_eq]
  have hb : ∀ t : Fin 2, back d ((nx d).symm c) t.succ.val = back d c (t.val + 2) := by revert c d; decide
  rw [hb t]

theorem homeS_local (d : Dir) : ∀ k : Kd, semOf k ≠ .dma (homeS d) := by
  have h : ∀ (d : Dir) (k : Kd), semCode (semOf k) ≠ semCode (.dma (homeS d)) := by decide +kernel
  exact fun k e => h d k (by rw [e])

theorem homeG_eq (d : Dir) {α : Type} (k : PUnit → Op (F := F) α) :
    (homeG d c >>= k) = .op (.enqueueDma (qA d) (.here (gT d c)) (.dma (homeS d)) (qA_whole d).wordExact ((Memref.isWhole_whole _).wordExact_slice rfl _ (goff_words d c)) ⟨Or.inl rfl, trivial⟩) k := rfl
theorem homedG_eq (d : Dir) {α : Type} (k : PUnit → Op (F := F) α) :
    (homedG d c >>= k) = .op (.waitDma2 (homeS d) (qA d) (gT d c) (qA_whole d).wordExact ((Memref.isWhole_whole _).wordExact_slice rfl _ (goff_words d c))) k := rfl
theorem sendG0_eq (d : Dir) {α : Type} (k' : PUnit → Op (F := F) α) :
    (sendG0 d c (peer (.ag0 d) c) >>= k') = .op (.enqueueDma ((pk (.ag0 d)).src c) (.remote (Dev.tc (peer (.ag0 d) c)) ((pk (.ag0 d)).dst c) (.dma (sndS (.ag0 d))) rfl) (.dma (rcvS (.ag0 d)))
      (qA_whole d).wordExact ((Memref.isWhole_whole _).wordExact_slice rfl _ (soff_words d c 0)) ⟨⟨rfl, Or.inl rfl⟩, trivial⟩) k' := rfl
theorem sendG_eq (d : Dir) (t : Fin 2) {α : Type} (k' : PUnit → Op (F := F) α) :
    (sendG d c (peer (.agN d t) c) t >>= k') = .op (.enqueueDma ((pk (.agN d t)).src c) (.remote (Dev.tc (peer (.agN d t) c)) ((pk (.agN d t)).dst c) (.dma (sndS (.agN d t))) rfl) (.dma (rcvS (.agN d t)))
      ((Memref.isWhole_whole _).wordExact_slice rfl _ (soff_words d c t.succ)) ((Memref.isWhole_whole _).wordExact_slice rfl _ (soff_words d c t.succ)) ⟨⟨rfl, Or.inl rfl⟩, trivial⟩) k' := rfl
theorem waitG0_eq (d : Dir) {α : Type} (k' : PUnit → Op (F := F) α) :
    (waitG0 d c >>= k') = .op (.waitDma2 (sndS (.ag0 d)) (sT d c 0) (qA d) ((Memref.isWhole_whole _).wordExact_slice rfl _ (soff_words d c 0)) (qA_whole d).wordExact) fun _ =>
      .op (.waitDma2 (rcvS (.ag0 d)) (qA d) (sT d c 0) (qA_whole d).wordExact ((Memref.isWhole_whole _).wordExact_slice rfl _ (soff_words d c 0))) k' := rfl
theorem waitG_eq (d : Dir) (t : Fin 2) {α : Type} (k' : PUnit → Op (F := F) α) :
    (waitG d c t >>= k') = .op (.waitDma2 (sndS (.agN d t)) (sT d c t.succ) (sT d c t.succ) ((Memref.isWhole_whole _).wordExact_slice rfl _ (soff_words d c t.succ)) ((Memref.isWhole_whole _).wordExact_slice rfl _ (soff_words d c t.succ))) fun _ =>
      .op (.waitDma2 (rcvS (.agN d t)) (sT d c t.succ) (sT d c t.succ) ((Memref.isWhole_whole _).wordExact_slice rfl _ (soff_words d c t.succ)) ((Memref.isWhole_whole _).wordExact_slice rfl _ (soff_words d c t.succ))) k' := rfl

/-- One direction's ring at its stages: nothing begun; the own block going home; sent on; landed; sent on; landed; sent on; landed; home. -/
def Rg (d : Dir) : ℕ → sProp 𝕄
  | 0 => iprop(own c (qA d) (I.q d c) ∗ placeAny c d c ∗ semVal ((c : Thread nD τ), SemLoc.dma (homeS d)) 0 ∗ fresh c (.ag0 d) ∗ fresh c (.agN d 0) ∗ fresh c (.agN d 1))
  | 1 => iprop(Copying c (qA d) (gT d c) (homeS d) fullShare.right (I.q d c) ∗ srcO I (.ag0 d) c ∗ fresh c (.ag0 d) ∗ fresh c (.agN d 0) ∗ fresh c (.agN d 1))
  | 2 => iprop(Copying c (qA d) (gT d c) (homeS d) fullShare.right (I.q d c) ∗ sent c (.ag0 d) ∗ fresh c (.agN d 0) ∗ fresh c (.agN d 1))
  | 3 => iprop(Copying c (qA d) (gT d c) (homeS d) fullShare.right (I.q d c) ∗ srcO I (.ag0 d) c ∗ doneL c (.ag0 d) ∗ srcO I (.agN d 0) c ∗ fresh c (.agN d 0) ∗ fresh c (.agN d 1))
  | 4 => iprop(Copying c (qA d) (gT d c) (homeS d) fullShare.right (I.q d c) ∗ srcO I (.ag0 d) c ∗ doneL c (.ag0 d) ∗ sent c (.agN d 0) ∗ fresh c (.agN d 1))
  | 5 => iprop(Copying c (qA d) (gT d c) (homeS d) fullShare.right (I.q d c) ∗ srcO I (.ag0 d) c ∗ doneL c (.ag0 d) ∗ (doneL c (.agN d 0) ∗ placed I c d (back d c 1)) ∗ srcO I (.agN d 1) c ∗ fresh c (.agN d 1))
  | 6 => iprop(Copying c (qA d) (gT d c) (homeS d) fullShare.right (I.q d c) ∗ srcO I (.ag0 d) c ∗ doneL c (.ag0 d) ∗ (doneL c (.agN d 0) ∗ placed I c d (back d c 1)) ∗ sent c (.agN d 1))
  | 7 => iprop(Copying c (qA d) (gT d c) (homeS d) fullShare.right (I.q d c) ∗ srcO I (.ag0 d) c ∗ doneL c (.ag0 d) ∗ (doneL c (.agN d 0) ∗ placed I c d (back d c 1))
      ∗ (doneL c (.agN d 1) ∗ placed I c d (back d c 2)) ∗ placed I c d (back d c 3))
  | _ => iprop((own c (qA d) (I.q d c) ∗ semVal ((c : Thread nD τ), SemLoc.dma (homeS d)) 0)
      ∗ (doneL c (.ag0 d) ∗ doneL c (.agN d 0) ∗ doneL c (.agN d 1)) ∗ (placed I c d c ∗ placed I c d (back d c 1) ∗ placed I c d (back d c 2) ∗ placed I c d (back d c 3)))

theorem src_left (d : Dir) : owns (c : Thread nD τ) (qA d) fullShare.left (I.q d c) = (srcO I (.ag0 d) c : sProp 𝕄) := rfl

theorem rg0 (d : Dir) {α : Type} {k : PUnit → Op (F := F) α} {Q : α → sProp 𝕄} :
    Rg I c d 0 ⊢ iprop((Rg I c d 1 -∗ W c (k ⟨⟩) Q) -∗ W c (homeG d c >>= k) Q) := by
  rw [homeG_eq]
  show iprop(own c (qA d) (I.q d c) ∗ placeAny c d c ∗ semVal ((c : Thread nD τ), SemLoc.dma (homeS d)) 0 ∗ fresh c (.ag0 d) ∗ fresh c (.agN d 0) ∗ fresh c (.agN d 1))
    ⊢ iprop((iprop(Copying c (qA d) (gT d c) (homeS d) fullShare.right (I.q d c) ∗ srcO I (.ag0 d) c ∗ fresh c (.ag0 d) ∗ fresh c (.agN d 0) ∗ fresh c (.agN d 1)) -∗ W c (k ⟨⟩) Q) -∗ _)
  unfold placeAny
  iintro ⟨Hq, Hp, Hs, Hf⟩ Hk
  ihave Hq := (owns_halves (c : Thread nD τ) (qA d) fullShare (I.q d c)).1 $$ Hq
  icases Hq with ⟨Hl, Hr⟩
  ihave Hl := (Entails.of_eq (src_left I c d)) $$ Hl
  iapply (copy_start c (qA d) (gT d c) (homeS d) (q := fullShare.right) (X := I.q d c) (show 0 < S1024x4096.numel by decide)) $$ [Hr Hp Hs]
  · isplitl [Hr]; · iexact Hr
    isplitl [Hp] <;> iassumption
  iintro Hc
  iapply Hk
  isplitl [Hc]; · iexact Hc
  isplitl [Hl]; · iexact Hl
  iexact Hf

theorem rg1 (d : Dir) {p : Dev nD} (hp : p = nx d c) {α : Type} {k : PUnit → Op (F := F) α} {Q : α → sProp 𝕄} {O : CellTallies nD τ sig Unit} :
    iprop(recs κ I ∗ Rg I c d 1 ∗ ∃ Wt, owes (c : Thread nD τ) (O + owL c (.ag0 d)) Wt)
      ⊢ iprop((iprop(Rg I c d 2 ∗ ∃ Wt, owes (c : Thread nD τ) O Wt) -∗ W c (k ⟨⟩) Q) -∗ W c (sendG0 d c p >>= k) Q) := by
  have hp' : p = peer (.ag0 d) c := by rw [hp]; cases d <;> rfl
  subst hp'
  rw [sendG0_eq]
  show iprop(recs κ I ∗ (Copying c (qA d) (gT d c) (homeS d) fullShare.right (I.q d c) ∗ srcO I (.ag0 d) c ∗ fresh c (.ag0 d) ∗ fresh c (.agN d 0) ∗ fresh c (.agN d 1)) ∗ _)
    ⊢ iprop((iprop((Copying c (qA d) (gT d c) (homeS d) fullShare.right (I.q d c) ∗ sent c (.ag0 d) ∗ fresh c (.agN d 0) ∗ fresh c (.agN d 1)) ∗ _) -∗ W c (k ⟨⟩) Q) -∗ _)
  iintro ⟨#HR, ⟨Hc, Hs, Hf, Hr⟩, ⟨%Wt, HO⟩⟩ Hk
  iapply (send_wp κ I c (.ag0 d) (O := O) (Wt := Wt)) $$ [Hs Hf HO]
  · isplitr; · iexact HR
    isplitl [Hs]; · iexact Hs
    isplitl [Hf]; · iexact Hf
    iexact HO
  iintro ⟨Hf, HO⟩
  iapply Hk
  isplitr [HO]
  · isplitl [Hc]; · iexact Hc
    isplitl [Hf]; · iexact Hf
    iexact Hr
  iexists _; iexact HO

theorem rg2 (d : Dir) {α : Type} {k : PUnit → Op (F := F) α} {Q : α → sProp 𝕄} {O : CellTallies nD τ sig Unit} (hO : Above 10 O) :
    iprop(recs κ I ∗ Rg I c d 2 ∗ ∃ Wt, owes (c : Thread nD τ) O Wt)
      ⊢ iprop((iprop(Rg I c d 3 ∗ ∃ Wt, owes (c : Thread nD τ) O Wt) -∗ W c (k ⟨⟩) Q) -∗ W c (waitG0 d c >>= k) Q) := by
  rw [waitG0_eq]
  have h0 : dstGot I (.ag0 d) ((peer (.ag0 d)).symm c) ⊢ (srcO I (.agN d 0) c : sProp 𝕄) := by rw [gotG0, srcGN]; exact .rfl
  show iprop(recs κ I ∗ (Copying c (qA d) (gT d c) (homeS d) fullShare.right (I.q d c) ∗ sent c (.ag0 d) ∗ fresh c (.agN d 0) ∗ fresh c (.agN d 1)) ∗ _)
    ⊢ iprop((iprop((Copying c (qA d) (gT d c) (homeS d) fullShare.right (I.q d c) ∗ srcO I (.ag0 d) c ∗ doneL c (.ag0 d) ∗ srcO I (.agN d 0) c ∗ fresh c (.agN d 0) ∗ fresh c (.agN d 1)) ∗ _) -∗ W c (k ⟨⟩) Q) -∗ _)
  iintro ⟨#HR, ⟨Hc, Hf, Hr⟩, ⟨%Wt, HO⟩⟩ Hk
  iapply (wait_both κ I c (.ag0 d) (hO := hO) (credit_eq (qA d).view (sT d c 0).view) (credit_eq (sT d c 0).view (sT d c 0).view)) $$ [Hf HO]
  · isplitr; · iexact HR
    isplitl [Hf] <;> iassumption
  unfold donee doneL
  iintro ⟨⟨Ha, Ha', Hg⟩, Hs, HO⟩
  ihave Hg := h0 $$ Hg
  iapply Hk
  isplitr [HO]
  · isplitl [Hc]; · iexact Hc
    isplitl [Hs]; · iexact Hs
    isplitl [Ha Ha']
    · isplitl [Ha] <;> iassumption
    isplitl [Hg] <;> iassumption
  iexact HO

theorem rgS (d : Dir) (t : Fin 2) {p : Dev nD} (hp : p = nx d c) {α : Type} {k : PUnit → Op (F := F) α} {Q : α → sProp 𝕄} {O : CellTallies nD τ sig Unit} :
    iprop(recs κ I ∗ srcO I (.agN d t) c ∗ fresh c (.agN d t) ∗ ∃ Wt, owes (c : Thread nD τ) (O + owL c (.agN d t)) Wt)
      ⊢ iprop((iprop(sent c (.agN d t) ∗ ∃ Wt, owes (c : Thread nD τ) O Wt) -∗ W c (k ⟨⟩) Q) -∗ W c (sendG d c p t >>= k) Q) := by
  have hp' : p = peer (.agN d t) c := by rw [hp]; cases d <;> rfl
  subst hp'
  rw [sendG_eq]
  iintro ⟨#HR, Hs, Hf, ⟨%Wt, HO⟩⟩ Hk
  iapply (send_wp κ I c (.agN d t) (O := O) (Wt := Wt)) $$ [Hs Hf HO]
  · isplitr; · iexact HR
    isplitl [Hs]; · iexact Hs
    isplitl [Hf]; · iexact Hf
    iexact HO
  iintro ⟨Hf, HO⟩
  iapply Hk
  isplitl [Hf]; · iexact Hf
  iexists _; iexact HO

theorem rgW (d : Dir) (t : Fin 2) {α : Type} {k : PUnit → Op (F := F) α} {Q : α → sProp 𝕄} {O : CellTallies nD τ sig Unit} (hO : Above (11 + t.val) O) :
    iprop(recs κ I ∗ sent c (.agN d t) ∗ ∃ Wt, owes (c : Thread nD τ) O Wt)
      ⊢ iprop((iprop(doneL c (.agN d t) ∗ placed I c d (back d c (t.val + 1)) ∗ placed I c d (back d c (t.val + 2)) ∗ ∃ Wt, owes (c : Thread nD τ) O Wt) -∗ W c (k ⟨⟩) Q)
        -∗ W c (waitG d c t >>= k) Q) := by
  rw [waitG_eq]
  have h0 : dstGot I (.agN d t) ((peer (.agN d t)).symm c) ⊢ (placed I c d (back d c (t.val + 2)) : sProp 𝕄) := by rw [gotGN]
  have h1 : srcO I (.agN d t) c ⊢ (placed I c d (back d c (t.val + 1)) : sProp 𝕄) := by rw [srcGN]
  iintro ⟨#HR, Hf, ⟨%Wt, HO⟩⟩ Hk
  iapply (wait_both κ I c (.agN d t) (hO := hO) (credit_eq (sT d c t.succ).view (sT d c t.succ).view) (credit_eq (sT d c t.succ).view (sT d c t.succ).view)) $$ [Hf HO]
  · isplitr; · iexact HR
    isplitl [Hf] <;> iassumption
  unfold donee doneL
  iintro ⟨⟨Ha, Ha', Hg⟩, Hs, HO⟩
  ihave Hg := h0 $$ Hg
  ihave Hs := h1 $$ Hs
  iapply Hk
  isplitl [Ha Ha']
  · isplitl [Ha] <;> iassumption
  isplitl [Hs]; · iexact Hs
  isplitl [Hg] <;> iassumption

theorem rg3 (d : Dir) {p : Dev nD} (hp : p = nx d c) {α : Type} {k : PUnit → Op (F := F) α} {Q : α → sProp 𝕄} {O : CellTallies nD τ sig Unit} :
    iprop(recs κ I ∗ Rg I c d 3 ∗ ∃ Wt, owes (c : Thread nD τ) (O + owL c (.agN d 0)) Wt)
      ⊢ iprop((iprop(Rg I c d 4 ∗ ∃ Wt, owes (c : Thread nD τ) O Wt) -∗ W c (k ⟨⟩) Q) -∗ W c (sendG d c p 0 >>= k) Q) := by
  show iprop(recs κ I ∗ (Copying c (qA d) (gT d c) (homeS d) fullShare.right (I.q d c) ∗ srcO I (.ag0 d) c ∗ doneL c (.ag0 d) ∗ srcO I (.agN d 0) c ∗ fresh c (.agN d 0) ∗ fresh c (.agN d 1)) ∗ _)
    ⊢ iprop((iprop((Copying c (qA d) (gT d c) (homeS d) fullShare.right (I.q d c) ∗ srcO I (.ag0 d) c ∗ doneL c (.ag0 d) ∗ sent c (.agN d 0) ∗ fresh c (.agN d 1)) ∗ _) -∗ W c (k ⟨⟩) Q) -∗ _)
  iintro ⟨#HR, ⟨Hc, Hq, Hd, Hs, Hf, Hr⟩, HO⟩ Hk
  iapply (rgS κ I c d 0 hp (O := O)) $$ [Hs Hf HO]
  · isplitr; · iexact HR
    isplitl [Hs]; · iexact Hs
    isplitl [Hf] <;> iassumption
  iintro ⟨Hf, HO⟩
  iapply Hk
  isplitr [HO]
  · isplitl [Hc]; · iexact Hc
    isplitl [Hq]; · iexact Hq
    isplitl [Hd]; · iexact Hd
    isplitl [Hf] <;> iassumption
  iexact HO

theorem rg4 (d : Dir) {α : Type} {k : PUnit → Op (F := F) α} {Q : α → sProp 𝕄} {O : CellTallies nD τ sig Unit} (hO : Above 11 O) :
    iprop(recs κ I ∗ Rg I c d 4 ∗ ∃ Wt, owes (c : Thread nD τ) O Wt)
      ⊢ iprop((iprop(Rg I c d 5 ∗ ∃ Wt, owes (c : Thread nD τ) O Wt) -∗ W c (k ⟨⟩) Q) -∗ W c (waitG d c 0 >>= k) Q) := by
  have h1 : placed I c d (back d c ((0 : Fin 2).val + 2)) ⊢ (srcO I (.agN d 1) c : sProp 𝕄) := by rw [srcGN]; exact .rfl
  show iprop(recs κ I ∗ (Copying c (qA d) (gT d c) (homeS d) fullShare.right (I.q d c) ∗ srcO I (.ag0 d) c ∗ doneL c (.ag0 d) ∗ sent c (.agN d 0) ∗ fresh c (.agN d 1)) ∗ _)
    ⊢ iprop((iprop((Copying c (qA d) (gT d c) (homeS d) fullShare.right (I.q d c) ∗ srcO I (.ag0 d) c ∗ doneL c (.ag0 d) ∗ (doneL c (.agN d 0) ∗ placed I c d (back d c 1)) ∗ srcO I (.agN d 1) c ∗ fresh c (.agN d 1)) ∗ _) -∗ W c (k ⟨⟩) Q) -∗ _)
  iintro ⟨#HR, ⟨Hc, Hq, Hd, Hf, Hr⟩, HO⟩ Hk
  iapply (rgW κ I c d 0 hO) $$ [Hf HO]
  · isplitr; · iexact HR
    isplitl [Hf] <;> iassumption
  iintro ⟨Hd', Hs, Hg, HO⟩
  ihave Hg := h1 $$ Hg
  iapply Hk
  isplitr [HO]
  · isplitl [Hc]; · iexact Hc
    isplitl [Hq]; · iexact Hq
    isplitl [Hd]; · iexact Hd
    isplitl [Hd' Hs]
    · isplitl [Hd']; · iexact Hd'
      iexact Hs
    isplitl [Hg] <;> iassumption
  iexact HO

theorem rg5 (d : Dir) {p : Dev nD} (hp : p = nx d c) {α : Type} {k : PUnit → Op (F := F) α} {Q : α → sProp 𝕄} {O : CellTallies nD τ sig Unit} :
    iprop(recs κ I ∗ Rg I c d 5 ∗ ∃ Wt, owes (c : Thread nD τ) (O + owL c (.agN d 1)) Wt)
      ⊢ iprop((iprop(Rg I c d 6 ∗ ∃ Wt, owes (c : Thread nD τ) O Wt) -∗ W c (k ⟨⟩) Q) -∗ W c (sendG d c p 1 >>= k) Q) := by
  show iprop(recs κ I ∗ (Copying c (qA d) (gT d c) (homeS d) fullShare.right (I.q d c) ∗ srcO I (.ag0 d) c ∗ doneL c (.ag0 d) ∗ (doneL c (.agN d 0) ∗ placed I c d (back d c 1)) ∗ srcO I (.agN d 1) c ∗ fresh c (.agN d 1)) ∗ _)
    ⊢ iprop((iprop((Copying c (qA d) (gT d c) (homeS d) fullShare.right (I.q d c) ∗ srcO I (.ag0 d) c ∗ doneL c (.ag0 d) ∗ (doneL c (.agN d 0) ∗ placed I c d (back d c 1)) ∗ sent c (.agN d 1)) ∗ _) -∗ W c (k ⟨⟩) Q) -∗ _)
  iintro ⟨#HR, ⟨Hc, Hq, Hd, Hd', Hs, Hf⟩, HO⟩ Hk
  iapply (rgS κ I c d 1 hp (O := O)) $$ [Hs Hf HO]
  · isplitr; · iexact HR
    isplitl [Hs]; · iexact Hs
    isplitl [Hf] <;> iassumption
  iintro ⟨Hf, HO⟩
  iapply Hk
  isplitr [HO]
  · isplitl [Hc]; · iexact Hc
    isplitl [Hq]; · iexact Hq
    isplitl [Hd]; · iexact Hd
    isplitl [Hd'] <;> iassumption
  iexact HO

theorem rg6 (d : Dir) {α : Type} {k : PUnit → Op (F := F) α} {Q : α → sProp 𝕄} {O : CellTallies nD τ sig Unit} (hO : Above 12 O) :
    iprop(recs κ I ∗ Rg I c d 6 ∗ ∃ Wt, owes (c : Thread nD τ) O Wt)
      ⊢ iprop((iprop(Rg I c d 7 ∗ ∃ Wt, owes (c : Thread nD τ) O Wt) -∗ W c (k ⟨⟩) Q) -∗ W c (waitG d c 1 >>= k) Q) := by
  show iprop(recs κ I ∗ (Copying c (qA d) (gT d c) (homeS d) fullShare.right (I.q d c) ∗ srcO I (.ag0 d) c ∗ doneL c (.ag0 d) ∗ (doneL c (.agN d 0) ∗ placed I c d (back d c 1)) ∗ sent c (.agN d 1)) ∗ _)
    ⊢ iprop((iprop((Copying c (qA d) (gT d c) (homeS d) fullShare.right (I.q d c) ∗ srcO I (.ag0 d) c ∗ doneL c (.ag0 d) ∗ (doneL c (.agN d 0) ∗ placed I c d (back d c 1))
      ∗ (doneL c (.agN d 1) ∗ placed I c d (back d c 2)) ∗ placed I c d (back d c 3)) ∗ _) -∗ W c (k ⟨⟩) Q) -∗ _)
  iintro ⟨#HR, ⟨Hc, Hq, Hd, Hd', Hf⟩, HO⟩ Hk
  iapply (rgW κ I c d 1 hO) $$ [Hf HO]
  · isplitr; · iexact HR
    isplitl [Hf] <;> iassumption
  iintro ⟨Hd2, Hs, Hg, HO⟩
  iapply Hk
  isplitr [HO]
  · isplitl [Hc]; · iexact Hc
    isplitl [Hq]; · iexact Hq
    isplitl [Hd]; · iexact Hd
    isplitl [Hd']; · iexact Hd'
    isplitl [Hd2 Hs]
    · isplitl [Hd2]; · iexact Hd2
      iexact Hs
    iexact Hg
  iexact HO

theorem rg7 (d : Dir) {α : Type} {k : PUnit → Op (F := F) α} {Q : α → sProp 𝕄} {O : CellTallies nD τ sig Unit} (hO : Above 0 O) :
    iprop(recs κ I ∗ Rg I c d 7 ∗ ∃ Wt, owes (c : Thread nD τ) O Wt)
      ⊢ iprop((iprop(Rg I c d 8 ∗ ∃ Wt, owes (c : Thread nD τ) O Wt) -∗ W c (k ⟨⟩) Q) -∗ W c (homedG d c >>= k) Q) := by
  rw [homedG_eq]
  show iprop(recs κ I ∗ (Copying c (qA d) (gT d c) (homeS d) fullShare.right (I.q d c) ∗ srcO I (.ag0 d) c ∗ doneL c (.ag0 d) ∗ (doneL c (.agN d 0) ∗ placed I c d (back d c 1))
      ∗ (doneL c (.agN d 1) ∗ placed I c d (back d c 2)) ∗ placed I c d (back d c 3)) ∗ _)
    ⊢ iprop((iprop(((own c (qA d) (I.q d c) ∗ semVal ((c : Thread nD τ), SemLoc.dma (homeS d)) 0)
      ∗ (doneL c (.ag0 d) ∗ doneL c (.agN d 0) ∗ doneL c (.agN d 1)) ∗ (placed I c d c ∗ placed I c d (back d c 1) ∗ placed I c d (back d c 2) ∗ placed I c d (back d c 3))) ∗ _) -∗ W c (k ⟨⟩) Q) -∗ _)
  have hq : iprop(owns (c : Thread nD τ) (qA d) fullShare.left (I.q d c) ∗ owns (c : Thread nD τ) (qA d) fullShare.right (I.q d c)) ⊢ (own c (qA d) (I.q d c) : sProp 𝕄) :=
    (owns_halves (c : Thread nD τ) (qA d) fullShare (I.q d c)).2
  iintro ⟨#HR, ⟨Hc, Hq, Hd, ⟨Hd', H1⟩, ⟨Hd2, H2⟩, H3⟩, ⟨%Wt, HO⟩⟩ Hk
  iapply (copy_wait c (qA d) (gT d c) (homeS d) (q := fullShare.right) (X := I.q d c) (O := O)) $$ [Hc HO]
  · isplitl [Hc]; · iexact Hc
    isplitl [HO]; · iexact HO
    iapply (mayWait_local c (.dma (homeS d)) (homeS_local d) O hO)
    iapply (recs_lev κ I); iexact HR
  iintro ⟨⟨Hr, H0⟩, Hs, HO⟩
  ihave Hq := (Entails.of_eq (src_left I c d).symm) $$ Hq
  ihave H0 := (Entails.of_eq (show own c (gT d c) (I.q d c) = (placed I c d c : sProp 𝕄) from rfl)) $$ H0
  ihave Hq := hq $$ [Hq Hr]
  · isplitl [Hq]; · iexact Hq
    iexact Hr
  iapply Hk
  isplitr [HO]
  · isplitl [Hq Hs]
    · isplitl [Hq] <;> iassumption
    isplitl [Hd Hd' Hd2]
    · isplitl [Hd]; · iexact Hd
      isplitl [Hd'] <;> iassumption
    isplitl [H0]; · iexact H0
    isplitl [H1]; · iexact H1
    isplitl [H2] <;> iassumption
  iexists _; iexact HO

theorem openG_eq (l r : Dev nD) {α : Type} (k : PUnit → Op (F := F) α) :
    (openG l r >>= k) = Prog.bind (semSignalWord l barS2 1#32) fun _ => Prog.bind (semSignalWord r barS2 1#32) fun _ => Prog.bind (semWaitWord barS2 2#32) k := rfl
theorem closeG_eq (l r : Dev nD) :
    closeG (F := F) l r = Prog.bind (semSignalWord l cc3_scratch5.sem 1#32) fun _ => Prog.bind (semSignalWord r cc3_scratch5.sem 1#32) fun _ =>
      Prog.bind (semWaitWord cc3_scratch5.sem 2#32) fun _ => .ret ⟨⟩ := rfl

theorem names2 (Φ : Nm → sProp 𝕄) : bigSep (names 2) Φ = iprop(Φ 0 ∗ Φ 1) := by
  rw [show names 2 = insert 0 {1} from by decide, bigSep_ins (by decide), BI.bigSep_singleton]

theorem openG_wp (l r : Dev nD) (hl : l = (prs 2 0).symm c) (hr : r = (prs 2 1).symm c) {O : CellTallies nD τ sig Unit} (hO : Above 9 O) {α : Type} {k : PUnit → Op (F := F) α} {Q : α → sProp 𝕄} :
    iprop(recs κ I ∗ ready c 2 ∗ ∃ Wt, owes (c : Thread nD τ) (O + owB c 2 1 + owB c 2 0) Wt)
      ⊢ iprop((iprop(bigSep (links 2) (fresh c) ∗ atPos ER (cell c (.bar 2)) 1 ∅ 0 ∗ atPos ER (cell c (.fin 2)) 0 ∅ 0
            ∗ (dutyTok ER (cell ((prs 2 0).symm c) (.fin 2)) 0 0 ∗ dutyTok ER (cell ((prs 2 1).symm c) (.fin 2)) 0 1)
            ∗ (reached ER (cell ((prs 2 0).symm c) (.fin 2)) 0 ∗ reached ER (cell ((prs 2 1).symm c) (.fin 2)) 0)
            ∗ cred (tallyAt (cell c (.fin 2)) () (names 2).card) ∗ ∃ Wt, owes (c : Thread nD τ) O Wt) -∗ W c (k ⟨⟩) Q)
          -∗ W c (openG l r >>= k) Q) := by
  rw [openG_eq]
  unfold ready
  rw [names2]
  unfold toll
  iintro ⟨#HR, ⟨Hbar, Hfin, #HreF, Hl, ⟨⟨HtB0, HtF0, Hg0⟩, ⟨HtB1, HtF1, Hg1⟩⟩, HcB, HcF⟩, ⟨%Wt, HO⟩⟩ Hk
  iapply (signal_bar κ I c 2 0 (by decide) (sm := barS2) rfl hl (O := O + owB c 2 1) (Wt := Wt)) $$ [HO HtB0 Hg0]
  · isplitr; · iexact HR
    isplitl [HO]; · iexact HO
    isplitl [HtB0]; · iexact HtB0
    isplitl [Hg0]; · iexact Hg0
    iexact HreF
  iintro HO
  iapply (signal_bar κ I c 2 1 (by decide) (sm := barS2) rfl hr (O := O) (Wt := Wt)) $$ [HO HtB1 Hg1]
  · isplitr; · iexact HR
    isplitl [HO]; · iexact HO
    isplitl [HtB1]; · iexact HtB1
    isplitl [Hg1]; · iexact Hg1
    iexact HreF
  iintro HO
  iapply (wait_bar κ I c 2 (sm := barS2) rfl (m := 2) (by decide) (z := 2#32) (by decide) (O := O) (Wt := Wt) hO) $$ [HcB HO Hbar]
  · isplitr; · iexact HR
    isplitl [HcB]; · iexact HcB
    isplitl [HO] <;> iassumption
  unfold gained
  rw [names2]
  iintro ⟨HO, Hbar, ⟨Hd, ⟨#Hf0, #Hf1⟩⟩⟩
  iapply Hk
  isplitl [Hl Hd]
  · iapply (freshes_of c 2)
    isplitl [Hl] <;> iassumption
  isplitl [Hbar]; · iexact Hbar
  isplitl [Hfin]; · iexact Hfin
  isplitl [HtF0 HtF1]
  · isplitl [HtF0] <;> iassumption
  isplitr
  · isplitr; · rw [prs_symm]; iexact Hf1
    rw [prs_symm]; iexact Hf0
  isplitl [HcF] <;> iassumption

theorem closeG_wp (l r : Dev nD) (hl : l = (prs 2 0).symm c) (hr : r = (prs 2 1).symm c) {T : CellTallies nD τ sig Unit} (hT : Above 13 T) {Q : PUnit → sProp 𝕄} :
    iprop(recs κ I ∗ bigSep (links 2) (doneL c) ∗ atPos ER (cell c (.bar 2)) 1 ∅ 0 ∗ atPos ER (cell c (.fin 2)) 0 ∅ 0
            ∗ (dutyTok ER (cell ((prs 2 0).symm c) (.fin 2)) 0 0 ∗ dutyTok ER (cell ((prs 2 1).symm c) (.fin 2)) 0 1)
            ∗ (reached ER (cell ((prs 2 0).symm c) (.fin 2)) 0 ∗ reached ER (cell ((prs 2 1).symm c) (.fin 2)) 0)
            ∗ cred (tallyAt (cell c (.fin 2)) () (names 2).card) ∗ ∃ Wt, owes (c : Thread nD τ) (T + owF c 2 1 + owF c 2 0) Wt)
      ⊢ iprop((iprop((semVal (cell c (.bar 2)) 0 ∗ bigSep (inner 2) (fun k => semVal (cell c k) 0)) ∗ ∃ Wt, owes (c : Thread nD τ) T Wt) -∗ Q ⟨⟩) -∗ W c (closeG l r) Q) := by
  rw [closeG_eq]
  iintro ⟨#HR, Hl, Hbar, Hfin, ⟨Ht0, Ht1⟩, ⟨#Hr0, #Hr1⟩, HcF, ⟨%Wt, HO⟩⟩ Hk
  iapply (signal_fin κ I c 2 0 (by decide) (sm := cc3_scratch5.sem) rfl hl (O := T + owF c 2 1) (Wt := Wt)) $$ [HO Ht0]
  · isplitr; · iexact HR
    isplitl [HO]; · iexact HO
    isplitl [Ht0]; · iexact Ht0
    iexact Hr0
  iintro HO
  iapply (signal_fin κ I c 2 1 (by decide) (sm := cc3_scratch5.sem) rfl hr (O := T) (Wt := Wt)) $$ [HO Ht1]
  · isplitr; · iexact HR
    isplitl [HO]; · iexact HO
    isplitl [Ht1]; · iexact Ht1
    iexact Hr1
  iintro HO
  iapply (wait_fin κ I c 2 (sm := cc3_scratch5.sem) rfl (m := 2) (by decide) (z := 2#32) (by decide) (O := T) (Wt := Wt) hT) $$ [HcF HO Hfin]
  · isplitr; · iexact HR
    isplitl [HcF]; · iexact HcF
    isplitl [HO] <;> iassumption
  iintro ⟨HO, Hfin⟩
  iapply (W_ret c)
  imod (close_all κ I c 2) $$ [Hbar Hfin Hl] with Hs
  · isplitr; · iexact HR
    isplitl [Hbar]; · iexact Hbar
    isplitl [Hfin] <;> iassumption
  imodintro
  iapply Hk
  isplitl [Hs] <;> iassumption

/-- The links of the gather, ring by ring. -/
theorem links2 (Φ : Ln → sProp 𝕄) :
    bigSep (links 2) Φ = iprop((Φ (.ag0 true) ∗ Φ (.agN true 0) ∗ Φ (.agN true 1)) ∗ (Φ (.ag0 false) ∗ Φ (.agN false 0) ∗ Φ (.agN false 1))) := by
  have d : Disjoint ({.ag0 true, .agN true 0, .agN true 1} : Finset Ln) {.ag0 false, .agN false 0, .agN false 1} := by decide
  rw [show links 2 = {.ag0 true, .agN true 0, .agN true 1} ∪ {.ag0 false, .agN false 0, .agN false 1} from by decide +kernel]
  refine (BI.bigSep_union d).trans ?_
  rw [bigSep_ins (by decide), bigSep_ins (by decide), BI.bigSep_singleton, bigSep_ins (by decide), bigSep_ins (by decide), BI.bigSep_singleton]
  rfl

theorem blocksOf (d : Dir) (Φ : Dev nD → sProp 𝕄) : bigSep Finset.univ Φ = iprop(Φ c ∗ Φ (back d c 1) ∗ Φ (back d c 2) ∗ Φ (back d c 3)) := by
  have h : ∀ (d : Dir) (c : Dev nD), (Finset.univ : Finset (Dev nD)) = insert c (insert (back d c 1) (insert (back d c 2) {back d c 3})) := by decide
  have h1 : ∀ (d : Dir) (c : Dev nD), c ∉ insert (back d c 1) (insert (back d c 2) ({back d c 3} : Finset (Dev nD))) := by decide
  have h2 : ∀ (d : Dir) (c : Dev nD), back d c 1 ∉ insert (back d c 2) ({back d c 3} : Finset (Dev nD)) := by decide
  have h3 : ∀ (d : Dir) (c : Dev nD), back d c 2 ∉ ({back d c 3} : Finset (Dev nD)) := by decide
  rw [h d c, bigSep_ins (h1 d c), bigSep_ins (h2 d c), bigSep_ins (h3 d c), BI.bigSep_singleton]

def agOrder : List Ln := [.ag0 true, .ag0 false, .agN true 0, .agN false 0, .agN true 1, .agN false 1]

def homeIn (d : Dir) : sProp 𝕄 := iprop(own c (qA d) (I.q d c) ∗ placeAny c d c ∗ semVal ((c : Thread nD τ), SemLoc.dma (homeS d)) 0)
def homeOut (d : Dir) : sProp 𝕄 :=
  iprop((own c (qA d) (I.q d c) ∗ semVal ((c : Thread nD τ), SemLoc.dma (homeS d)) 0) ∗ bigSep Finset.univ (fun b : Dev nD => placed I c d b))

def agPre (T : CellTallies nD τ sig Unit) : sProp 𝕄 :=
  iprop(ready c 2 ∗ homeIn I c true ∗ homeIn I c false
    ∗ ∃ Wt, owes (c : Thread nD τ) (owe c agOrder (T + owF c 2 1 + owF c 2 0) + owB c 2 1 + owB c 2 0) Wt)
def agPost (T : CellTallies nD τ sig Unit) : sProp 𝕄 :=
  iprop((semVal (cell c (.bar 2)) 0 ∗ bigSep (inner 2) (fun k => semVal (cell c k) 0)) ∗ homeOut I c true ∗ homeOut I c false
    ∗ ∃ Wt, owes (c : Thread nD τ) T Wt)

theorem ring_start (d : Dir) : iprop(homeIn I c d ∗ (fresh c (.ag0 d) ∗ fresh c (.agN d 0) ∗ fresh c (.agN d 1))) ⊢ (Rg I c d 0 : sProp 𝕄) := by
  show _ ⊢ iprop(own c (qA d) (I.q d c) ∗ placeAny c d c ∗ semVal ((c : Thread nD τ), SemLoc.dma (homeS d)) 0 ∗ fresh c (.ag0 d) ∗ fresh c (.agN d 0) ∗ fresh c (.agN d 1))
  unfold homeIn
  iintro ⟨⟨Hq, Hp, Hs⟩, Hf⟩
  isplitl [Hq]; · iexact Hq
  isplitl [Hp]; · iexact Hp
  isplitl [Hs]; · iexact Hs
  iexact Hf
theorem ring_end (d : Dir) : (Rg I c d 8 : sProp 𝕄) ⊢ iprop(homeOut I c d ∗ (doneL c (.ag0 d) ∗ doneL c (.agN d 0) ∗ doneL c (.agN d 1))) := by
  show iprop((own c (qA d) (I.q d c) ∗ semVal ((c : Thread nD τ), SemLoc.dma (homeS d)) 0)
      ∗ (doneL c (.ag0 d) ∗ doneL c (.agN d 0) ∗ doneL c (.agN d 1)) ∗ (placed I c d c ∗ placed I c d (back d c 1) ∗ placed I c d (back d c 2) ∗ placed I c d (back d c 3))) ⊢ _
  have hb := Entails.of_eq (blocksOf c d (fun b : Dev nD => (placed I c d b : sProp 𝕄))).symm
  unfold homeOut
  iintro ⟨Hq, Hd, Hp⟩
  isplitr [Hd]
  · isplitl [Hq]; · iexact Hq
    iapply hb; iexact Hp
  iexact Hd

theorem k3_to1 : ∀ c : Dev nD, (⟨k3_dev1 c, k3_dev1_lt c⟩ : Dev nD) = (prs 2 0).symm c := by decide +kernel
theorem k3_to2 : ∀ c : Dev nD, (⟨k3_dev2 c, k3_dev2_lt c⟩ : Dev nD) = (prs 2 1).symm c := by decide +kernel
theorem k3_to3 : ∀ c : Dev nD, (⟨k3_dev3 c, k3_dev3_lt c⟩ : Dev nD) = nx true c := by decide +kernel
theorem k3_to4 : ∀ c : Dev nD, (⟨k3_dev4 c, k3_dev4_lt c⟩ : Dev nD) = nx false c := by decide +kernel
theorem k3_to5 : ∀ c : Dev nD, (⟨k3_dev5 c, k3_dev5_lt c⟩ : Dev nD) = nx true c := by decide +kernel
theorem k3_to6 : ∀ c : Dev nD, (⟨k3_dev6 c, k3_dev6_lt c⟩ : Dev nD) = nx false c := by decide +kernel
theorem k3_to7 : ∀ c : Dev nD, (⟨k3_dev7 c, k3_dev7_lt c⟩ : Dev nD) = nx true c := by decide +kernel
theorem k3_to8 : ∀ c : Dev nD, (⟨k3_dev8 c, k3_dev8_lt c⟩ : Dev nD) = nx false c := by decide +kernel
theorem k3_to9 : ∀ c : Dev nD, (⟨k3_dev9 c, k3_dev9_lt c⟩ : Dev nD) = (prs 2 0).symm c := by decide +kernel
theorem k3_to10 : ∀ c : Dev nD, (⟨k3_dev10 c, k3_dev10_lt c⟩ : Dev nD) = (prs 2 1).symm c := by decide +kernel

theorem ag_wp {T : CellTallies nD τ sig Unit} (hT : Above 13 T) {Q : PUnit → sProp 𝕄} :
    iprop(recs κ I ∗ agPre I c T) ⊢ iprop((agPost I c T -∗ Q ⟨⟩) -∗ W c agProg Q) := by
  have hT' : Above 12 (T + owF c 2 1 + owF c 2 0) := ((hT.mono (by decide)).add (Above.tally _ _ _ (by decide))).add (Above.tally _ _ _ (by decide))
  have hO9 : Above 9 (owe c agOrder (T + owF c 2 1 + owF c 2 0)) := owe_above c (hT'.mono (by decide)) _ (by decide +kernel)
  have hO10 : Above 10 (owe c (agOrder.drop 2) (T + owF c 2 1 + owF c 2 0)) := owe_above c (hT'.mono (by decide)) _ (by decide +kernel)
  have hO11 : Above 11 (owe c (agOrder.drop 4) (T + owF c 2 1 + owF c 2 0)) := owe_above c (hT'.mono (by decide)) _ (by decide +kernel)
  unfold agPre agPost
  iintro ⟨#HR, Hrd, Ht, Hf, HO⟩ Hk
  iapply (W_dev c)
  iapply (openG_wp κ I c _ _ (k3_to1 c) (k3_to2 c) hO9) $$ [Hrd HO]
  · isplitr; · iexact HR
    isplitl [Hrd] <;> iassumption
  iintro ⟨Hfr, Hbar, Hfin, Htk, #Hre, HcF, HO⟩
  ihave Hfr := (Entails.of_eq (links2 (fresh c))) $$ Hfr
  icases Hfr with ⟨Hft, Hff⟩
  ihave Ht := (ring_start I c true) $$ [Ht Hft]
  · isplitl [Ht] <;> iassumption
  ihave Hf := (ring_start I c false) $$ [Hf Hff]
  · isplitl [Hf] <;> iassumption
  iapply (rg0 I c true) $$ Ht
  iintro Ht
  iapply (rg0 I c false) $$ Hf
  iintro Hf
  iapply (rg1 κ I c true (k3_to3 c) (O := owe c (agOrder.drop 1) (T + owF c 2 1 + owF c 2 0))) $$ [Ht HO]
  · isplitr; · iexact HR
    isplitl [Ht]; · iexact Ht
    iexact HO
  iintro ⟨Ht, HO⟩
  iapply (rg1 κ I c false (k3_to4 c) (O := owe c (agOrder.drop 2) (T + owF c 2 1 + owF c 2 0))) $$ [Hf HO]
  · isplitr; · iexact HR
    isplitl [Hf]; · iexact Hf
    iexact HO
  iintro ⟨Hf, HO⟩
  iapply (rg2 κ I c true hO10) $$ [Ht HO]
  · isplitr; · iexact HR
    isplitl [Ht]; · iexact Ht
    iexact HO
  iintro ⟨Ht, HO⟩
  iapply (rg2 κ I c false hO10) $$ [Hf HO]
  · isplitr; · iexact HR
    isplitl [Hf]; · iexact Hf
    iexact HO
  iintro ⟨Hf, HO⟩
  iapply (rg3 κ I c true (k3_to5 c) (O := owe c (agOrder.drop 3) (T + owF c 2 1 + owF c 2 0))) $$ [Ht HO]
  · isplitr; · iexact HR
    isplitl [Ht]; · iexact Ht
    iexact HO
  iintro ⟨Ht, HO⟩
  iapply (rg3 κ I c false (k3_to6 c) (O := owe c (agOrder.drop 4) (T + owF c 2 1 + owF c 2 0))) $$ [Hf HO]
  · isplitr; · iexact HR
    isplitl [Hf]; · iexact Hf
    iexact HO
  iintro ⟨Hf, HO⟩
  iapply (rg4 κ I c true hO11) $$ [Ht HO]
  · isplitr; · iexact HR
    isplitl [Ht]; · iexact Ht
    iexact HO
  iintro ⟨Ht, HO⟩
  iapply (rg4 κ I c false hO11) $$ [Hf HO]
  · isplitr; · iexact HR
    isplitl [Hf]; · iexact Hf
    iexact HO
  iintro ⟨Hf, HO⟩
  iapply (rg5 κ I c true (k3_to7 c) (O := owe c (agOrder.drop 5) (T + owF c 2 1 + owF c 2 0))) $$ [Ht HO]
  · isplitr; · iexact HR
    isplitl [Ht]; · iexact Ht
    iexact HO
  iintro ⟨Ht, HO⟩
  iapply (rg5 κ I c false (k3_to8 c) (O := (T + owF c 2 1 + owF c 2 0))) $$ [Hf HO]
  · isplitr; · iexact HR
    isplitl [Hf]; · iexact Hf
    iexact HO
  iintro ⟨Hf, HO⟩
  iapply (rg6 κ I c true hT') $$ [Ht HO]
  · isplitr; · iexact HR
    isplitl [Ht]; · iexact Ht
    iexact HO
  iintro ⟨Ht, HO⟩
  iapply (rg6 κ I c false hT') $$ [Hf HO]
  · isplitr; · iexact HR
    isplitl [Hf]; · iexact Hf
    iexact HO
  iintro ⟨Hf, HO⟩
  iapply (rg7 κ I c true (hT'.mono (Nat.zero_le _))) $$ [Ht HO]
  · isplitr; · iexact HR
    isplitl [Ht]; · iexact Ht
    iexact HO
  iintro ⟨Ht, HO⟩
  iapply (rg7 κ I c false (hT'.mono (Nat.zero_le _))) $$ [Hf HO]
  · isplitr; · iexact HR
    isplitl [Hf]; · iexact Hf
    iexact HO
  iintro ⟨Hf, HO⟩
  ihave Ht := (ring_end I c true) $$ Ht
  ihave Hf := (ring_end I c false) $$ Hf
  icases Ht with ⟨Ht, Hdt⟩
  icases Hf with ⟨Hf, Hdf⟩
  iapply (closeG_wp κ I c _ _ (k3_to9 c) (k3_to10 c) hT) $$ [Hdt Hdf Hbar Hfin Htk HcF HO]
  · isplitr; · iexact HR
    isplitl [Hdt Hdf]
    · iapply (Entails.of_eq (links2 (doneL c)).symm)
      isplitl [Hdt] <;> iassumption
    isplitl [Hbar]; · iexact Hbar
    isplitl [Hfin]; · iexact Hfin
    isplitl [Htk]; · iexact Htk
    isplitr; · iexact Hre
    isplitl [HcF] <;> iassumption
  iintro ⟨Hs, HO⟩
  iapply Hk
  isplitl [Hs]; · iexact Hs
  isplitl [Ht]; · iexact Ht
  isplitl [Hf] <;> iassumption

end Body

end Cert.K
-- ==== Proof.Glue.lean ====
/-
# Cutting a buffer into pieces, and joining the pieces

A buffer that rectangles cut is owned when its pieces are. The pieces of the buffers the communicating calls use: the row tiles, the
slots, the halves' tiles, the devices' rows, the devices' blocks.
-/
module

public import proofs.«01_k».proof.Proof.RsBody
public import proofs.«01_k».proof.Proof.AmBody
public import proofs.«01_k».proof.Proof.AgBody

@[expose] public section

set_option maxRecDepth 16384

noncomputable section

namespace Cert.K

open Cert.KernelIdeal Cert.KernelIdeal.Gen
open Idealize.ShloMosaic Idealize.ShloMosaic.TcCoe
open Idealize.SL.Sem
open Idealize.SL
open Idealize.SL.BI (sProp bigSep)
open scoped Idealize.SL.BI
open Idealize.SL.BI.BIBase Idealize.SL.BI.Laws Idealize.SL.ProofMode
open Idealize.SL.RA
open Idealize.ShloMosaic.Rounds

variable {F : FTy → Type} [FloatOps F]

local notation "𝕄" => MT nD τ sig Unit (Elt F) ℕ UU ℕ

section Glue
variable {T : Type} [Fintype T] [DecidableEq T] {sh : Shape} {e : EltTy}

/-- The rectangles are pairwise disjoint and leave nothing out. -/
structure Cuts (r : T → Rect sh) : Prop where
  disj : ∀ t t', t ≠ t' → Disjoint (r t).set (r t').set
  cov : Finset.univ.biUnion (fun t => (r t).set) = Finset.univ

theorem Cuts.piece {r : T → Rect sh} (h : Cuts r) (i : sh.Idx) : ∃ (t : T) (j : (r t).shape.Idx), (r t).emb j = i := by
  have hi : i ∈ Finset.univ.biUnion (fun t => (r t).set) := by rw [h.cov]; exact Finset.mem_univ i
  obtain ⟨t, -, hx⟩ := Finset.mem_biUnion.mp hi
  rw [← Rect.map_emb_univ, Finset.mem_map] at hx
  obtain ⟨j, -, e⟩ := hx
  exact ⟨t, j, e⟩

/-- The contents whose pieces are given. -/
def glue {r : T → Rect sh} (h : Cuts r) (g : ∀ t, (r t).shape.Idx → Elt F e) : sh.Idx → Elt F e := fun i =>
  g (h.piece i).choose (h.piece i).choose_spec.choose

theorem Cuts.unique {r : T → Rect sh} (h : Cuts r) (g : ∀ t, (r t).shape.Idx → Elt F e) {t t' : T} {j : (r t).shape.Idx} {j' : (r t').shape.Idx}
    (he : (r t).emb j = (r t').emb j') : g t j = g t' j' := by
  by_cases e : t = t'
  · subst e; rw [(r t).emb.injective he]
  · have hm : ∀ (u : T) (x : (r u).shape.Idx), (r u).emb x ∈ (r u).set := fun u x => by
      rw [← Rect.map_emb_univ]; exact Finset.mem_map_of_mem _ (Finset.mem_univ _)
    exact absurd (he ▸ hm t' j') (Finset.disjoint_left.mp (h.disj t t' e) (hm t j))

theorem glue_emb {r : T → Rect sh} (h : Cuts r) (g : ∀ t, (r t).shape.Idx → Elt F e) (t : T) (j : (r t).shape.Idx) : glue h g ((r t).emb j) = g t j :=
  h.unique g (h.piece ((r t).emb j)).choose_spec.choose_spec

theorem own_cut (c : Dev nD) {sp : Space} (M : Memref sig .tc sp sh e) {r : T → Rect sh} (h : Cuts r) (hr : ∀ t a, (r t).stride a = 1) (X : sh.Idx → Elt F e) :
    own c M X ⊢ (bigSep Finset.univ (fun t => own c (M.slice (r t) (hr t)) (fun j => X ((r t).emb j))) : sProp 𝕄) :=
  owns_rects (c : Thread nD τ) M fullShare r hr h.disj h.cov X

theorem own_join (c : Dev nD) {sp : Space} (M : Memref sig .tc sp sh e) {r : T → Rect sh} (h : Cuts r) (hr : ∀ t a, (r t).stride a = 1)
    (g : ∀ t, (r t).shape.Idx → Elt F e) :
    (bigSep Finset.univ (fun t => own c (M.slice (r t) (hr t)) (g t)) : sProp 𝕄) ⊢ own c M (glue h g) := by
  have h1 : (bigSep Finset.univ (fun t => own c (M.slice (r t) (hr t)) (fun j => glue h g ((r t).emb j))) : sProp 𝕄) ⊢ own c M (glue h g) :=
    owns_of_rects (c : Thread nD τ) M fullShare r hr h.disj h.cov (glue h g)
  refine Entails.trans (Entails.of_eq (BI.bigSep_congr fun t _ => ?_)) h1
  exact congrArg _ (funext fun j => (glue_emb h g t j).symm)

theorem some_cut (c : Dev nD) {sp : Space} (M : Memref sig .tc sp sh e) {r : T → Rect sh} (h : Cuts r) (hr : ∀ t a, (r t).stride a = 1) :
    some' c M ⊢ (bigSep Finset.univ (fun t => some' c (M.slice (r t) (hr t))) : sProp 𝕄) := by
  iintro ⟨%X, H⟩
  ihave H := (own_cut c M h hr X) $$ H
  have h1 : (bigSep Finset.univ (fun t => own c (M.slice (r t) (hr t)) (fun j => X ((r t).emb j))) : sProp 𝕄) ⊢ bigSep Finset.univ (fun t => some' c (M.slice (r t) (hr t))) :=
    bigSep_mono' fun t _ => own_some c _ _
  iapply h1 $$ H

/-- Owning a memref with axes of size one dropped is owning the memref, the contents indexed in the same order. -/
theorem own_squeeze (c : Dev nD) {sp : Space} {s s' : Shape} (M : Memref sig .tc sp s e) (h : s.Squeezes s') (X : s'.Idx → Elt F e) :
    (own c (M.squeeze s' h) X : sProp 𝕄) ⊢ own c M (fun j => X ((Shape.reshapeEquiv h.numel_eq).symm j)) := by
  unfold own owns
  iintro ⟨%f, %hf, H⟩
  iexists f
  isplitr
  · ipureintro
    funext j
    rw [← hf]
    show M.view.read (Elt F) f j = (M.view.reshape s' h.numel_eq).read (Elt F) f _
    unfold View.read
    rw [View.emb_reshape]
    simp
  · have hs : (M.squeeze s' h).view.set = M.view.set := View.set_reshape (v := M.view) h.numel_eq
    rw [hs]
    iexact H

theorem some_unsqueeze (c : Dev nD) {sp : Space} {s s' : Shape} (M : Memref sig .tc sp s e) (h : s.Squeezes s') :
    (some' c M : sProp 𝕄) ⊢ some' c (M.squeeze s' h) := by
  unfold some' own owns
  iintro ⟨%X, %f, %hf, H⟩
  iexists (M.squeeze s' h).view.read (Elt F) f
  iexists f
  isplitr; · ipureintro; rfl
  have hs : (M.squeeze s' h).view.set = M.view.set := View.set_reshape (v := M.view) h.numel_eq
  rw [hs]
  iexact H

end Glue

/-! ## The pieces -/

theorem rowCuts : Cuts rowRect where
  disj t t' h := by
    have := Fin.val_ne_of_ne h
    refine Rect.unit_disjoint 0 ?_
    show 256 * t.val + 256 ≤ 256 * t'.val ∨ 256 * t'.val + 256 ≤ 256 * t.val
    omega
  cov := Finset.eq_univ_of_forall fun i => by
    have h0 : (i 0).val < 1024 := (i 0).isLt
    have h1 : (i 1).val < 4096 := (i 1).isLt
    refine Finset.mem_biUnion.mpr ⟨⟨(i 0).val / 256, by omega⟩, Finset.mem_univ _, Rect.mem_set_unit.mpr ?_⟩
    refine Fin.forall_fin_two.mpr ⟨?_, ?_⟩
    · show 256 * ((i 0).val / 256) ≤ (i 0).val ∧ (i 0).val < 256 * ((i 0).val / 256) + 256
      omega
    · show 0 ≤ (i 1).val ∧ (i 1).val < 0 + 4096
      omega

theorem pairCuts : Cuts fun j : Fin 2 × Fin 4 => pairRect j.1 j.2 where
  disj j j' h := by
    by_cases e : j.1 = j'.1
    · have := Fin.val_ne_of_ne fun e' => h (Prod.ext e e')
      refine Rect.unit_disjoint 1 ?_
      show 256 * j.2.val + 256 ≤ 256 * j'.2.val ∨ 256 * j'.2.val + 256 ≤ 256 * j.2.val
      omega
    · have := Fin.val_ne_of_ne e
      refine Rect.unit_disjoint 0 ?_
      show j.1.val + 1 ≤ j'.1.val ∨ j'.1.val + 1 ≤ j.1.val
      omega
  cov := Finset.eq_univ_of_forall fun i => by
    have h0 : (i 0).val < 2 := (i 0).isLt
    have h1 : (i 1).val < 1024 := (i 1).isLt
    have h2 : (i 2).val < 4096 := (i 2).isLt
    refine Finset.mem_biUnion.mpr ⟨(⟨(i 0).val, h0⟩, ⟨(i 1).val / 256, by omega⟩), Finset.mem_univ _, Rect.mem_set_unit.mpr ?_⟩
    refine Fin.forall_fin_succ.mpr ⟨?_, Fin.forall_fin_two.mpr ⟨?_, ?_⟩⟩
    · show (i 0).val ≤ (i 0).val ∧ (i 0).val < (i 0).val + 1
      omega
    · show 256 * ((i 1).val / 256) ≤ (i 1).val ∧ (i 1).val < 256 * ((i 1).val / 256) + 256
      omega
    · show 0 ≤ (i 2).val ∧ (i 2).val < 0 + 4096
      omega

theorem halfCuts : Cuts fun j : J => halfRect j.1 j.2 where
  disj j j' h := by
    by_cases e : j.2 = j'.2
    · have e1 : j.1 ≠ j'.1 := fun e' => h (Prod.ext e' e)
      refine Rect.unit_disjoint 1 ?_
      show colOf j.1 + 4096 ≤ colOf j'.1 ∨ colOf j'.1 + 4096 ≤ colOf j.1
      revert e1
      generalize j.1 = a
      generalize j'.1 = b
      revert a b
      decide
    · have := Fin.val_ne_of_ne e
      refine Rect.unit_disjoint 0 ?_
      show 256 * j.2.val + 256 ≤ 256 * j'.2.val ∨ 256 * j'.2.val + 256 ≤ 256 * j.2.val
      omega
  cov := Finset.eq_univ_of_forall fun i => by
    have h0 : (i 0).val < 1024 := (i 0).isLt
    have h1 : (i 1).val < 8192 := (i 1).isLt
    refine Finset.mem_biUnion.mpr ⟨(decide ((i 1).val < 4096), ⟨(i 0).val / 256, by omega⟩), Finset.mem_univ _, Rect.mem_set_unit.mpr ?_⟩
    refine Fin.forall_fin_two.mpr ⟨?_, ?_⟩
    · show 256 * ((i 0).val / 256) ≤ (i 0).val ∧ (i 0).val < 256 * ((i 0).val / 256) + 256
      omega
    · show colOf (decide ((i 1).val < 4096)) ≤ (i 1).val ∧ (i 1).val < colOf (decide ((i 1).val < 4096)) + 4096
      by_cases hc : (i 1).val < 4096
      · rw [decide_eq_true hc]; show 0 ≤ (i 1).val ∧ (i 1).val < 0 + 4096; omega
      · rw [decide_eq_false hc]; show 4096 ≤ (i 1).val ∧ (i 1).val < 4096 + 4096; omega

/-- Device `c`'s rows of the gathered largest absolute values, as the kernel names them. -/
abbrev axRect (c : Dev nD) : Rect S32x128 := Rect.unit (s := S32x128) (k1_off2 c) S8x128.size (k1_off2_inb c)
theorem ax_off : ∀ c : Dev nD, k1_off2 c = ![8 * c.val, 0] := by decide +kernel

theorem axCuts : Cuts axRect where
  disj c c' h := by
    have := Fin.val_ne_of_ne h
    refine Rect.unit_disjoint 0 ?_
    rw [ax_off, ax_off]
    show 8 * c.val + 8 ≤ 8 * c'.val ∨ 8 * c'.val + 8 ≤ 8 * c.val
    omega
  cov := Finset.eq_univ_of_forall fun i => by
    have h0 : (i 0).val < 32 := (i 0).isLt
    have h1 : (i 1).val < 128 := (i 1).isLt
    refine Finset.mem_biUnion.mpr ⟨⟨(i 0).val / 8, by show _ < 4; omega⟩, Finset.mem_univ _, Rect.mem_set_unit.mpr ?_⟩
    rw [ax_off]
    refine Fin.forall_fin_two.mpr ⟨?_, ?_⟩
    · show 8 * ((i 0).val / 8) ≤ (i 0).val ∧ (i 0).val < 8 * ((i 0).val / 8) + 8
      omega
    · show 0 ≤ (i 1).val ∧ (i 1).val < 0 + 128
      omega

/-- Where device `c`'s block of a direction goes: a row of blocks further on for one direction, one back for the other. -/
abbrev blkRect (d : Dir) (c : Dev nD) : Rect S4096x8192 := Rect.unit (s := S4096x8192) (goff d c) S1024x4096.size (goff_inb d c)
def blkRow (d : Dir) (c : Dev nD) : ℕ := (c.val + (if d then 1 else 3)) % 4
theorem blk_off : ∀ (d : Dir) (c : Dev nD), goff d c = ![1024 * blkRow d c, colOf d] := by decide +kernel
theorem blkRow_inj : ∀ (d : Dir) (c c' : Dev nD), c ≠ c' → blkRow d c ≠ blkRow d c' := by decide +kernel
theorem blkRow_surj : ∀ (d : Dir) (k : Fin 4), ∃ c : Dev nD, blkRow d c = k.val := by decide +kernel

theorem blkCuts : Cuts fun j : Dir × Dev nD => blkRect j.1 j.2 where
  disj j j' h := by
    by_cases e : j.1 = j'.1
    · have h2 : j.2 ≠ j'.2 := fun e' => h (Prod.ext e e')
      have := blkRow_inj j.1 j.2 j'.2 h2
      refine Rect.unit_disjoint 0 ?_
      rw [blk_off, blk_off, ← e]
      show 1024 * blkRow j.1 j.2 + 1024 ≤ 1024 * blkRow j.1 j'.2 ∨ 1024 * blkRow j.1 j'.2 + 1024 ≤ 1024 * blkRow j.1 j.2
      omega
    · refine Rect.unit_disjoint 1 ?_
      rw [blk_off, blk_off]
      show colOf j.1 + 4096 ≤ colOf j'.1 ∨ colOf j'.1 + 4096 ≤ colOf j.1
      revert e
      generalize j.1 = a
      generalize j'.1 = b
      revert a b
      decide
  cov := Finset.eq_univ_of_forall fun i => by
    have h0 : (i 0).val < 4096 := (i 0).isLt
    have h1 : (i 1).val < 8192 := (i 1).isLt
    obtain ⟨c, hc⟩ := blkRow_surj (decide ((i 1).val < 4096)) ⟨(i 0).val / 1024, by omega⟩
    refine Finset.mem_biUnion.mpr ⟨(decide ((i 1).val < 4096), c), Finset.mem_univ _, Rect.mem_set_unit.mpr ?_⟩
    rw [blk_off]
    refine Fin.forall_fin_two.mpr ⟨?_, ?_⟩
    · show 1024 * blkRow (decide ((i 1).val < 4096)) c ≤ (i 0).val ∧ (i 0).val < 1024 * blkRow (decide ((i 1).val < 4096)) c + 1024
      rw [hc]
      show 1024 * ((i 0).val / 1024) ≤ (i 0).val ∧ (i 0).val < 1024 * ((i 0).val / 1024) + 1024
      omega
    · show colOf (decide ((i 1).val < 4096)) ≤ (i 1).val ∧ (i 1).val < colOf (decide ((i 1).val < 4096)) + 4096
      by_cases hc : (i 1).val < 4096
      · rw [decide_eq_true hc]; show 0 ≤ (i 1).val ∧ (i 1).val < 0 + 4096; omega
      · rw [decide_eq_false hc]; show 4096 ≤ (i 1).val ∧ (i 1).val < 4096 + 4096; omega

/-! ## What the calls leave -/

section Left
variable (I : Info F) (d : Dir) (c : Dev nD)

/-- The whole sum a device owns; what landed first; what landed in the two slots; the gathered largest values; the gathered blocks. -/
def ownAll : S1024x4096.Idx → Elt F .f32 := glue (e := .f32) rowCuts (fun t => sum2 I d c t)
def landAll : S1024x4096.Idx → Elt F .bf16 := glue (e := .bf16) rowCuts (fun t => pt I d ((nx d).symm c) t)
def recvAll : S2x1024x4096.Idx → Elt F .f32 := glue (e := .f32) pairCuts
  (fun j x => sumS I d ((nx d).symm c) j.2 j.1 ((Shape.reshapeEquiv squeezes_S1x256x4096_S256x4096.numel_eq).symm x))
def bufAll : S32x128.Idx → Elt F .f32 := glue (e := .f32) axCuts (fun b => eightOf I b)
def blkAll : S4096x8192.Idx → Elt F .fp8e4m3 := glue (e := .fp8e4m3) blkCuts (fun j => I.q j.1 j.2)

end Left

end Cert.K
-- ==== Proof.Sides.lean ====
/-
# The communicating calls, over whole buffers

What the communicating calls take and leave, in terms of whole buffers and of the counters a call brings with it.
-/
module

public import proofs.«01_k».proof.Proof.Glue

@[expose] public section

set_option maxRecDepth 16384

noncomputable section

namespace Cert.K

open Cert.KernelIdeal Cert.KernelIdeal.Gen
open Idealize.ShloMosaic Idealize.ShloMosaic.TcCoe
open Idealize.SL.Sem
open Idealize.SL
open Idealize.SL.BI (sProp bigSep)
open scoped Idealize.SL.BI
open Idealize.SL.BI.BIBase Idealize.SL.BI.Laws Idealize.SL.ProofMode
open Idealize.SL.RA
open Idealize.ShloMosaic.Rounds

variable {F : FTy → Type} [FloatOps F]

local notation "𝕄" => MT nD τ sig Unit (Elt F) ℕ UU ℕ

/-- A pair of statements, one for each direction. -/
def both (Φ : Dir → sProp 𝕄) : sProp 𝕄 := iprop(Φ true ∗ Φ false)

theorem bigSep_dir (Φ : Dir → sProp 𝕄) : bigSep Finset.univ Φ = both Φ := by
  rw [show (Finset.univ : Finset Dir) = insert true {false} from by decide, bigSep_ins (by decide), BI.bigSep_singleton]
  rfl

theorem both_mono {Φ Ψ : Dir → sProp 𝕄} (h : ∀ d, Φ d ⊢ Ψ d) : both Φ ⊢ both Ψ := BI.sep_mono (h true) (h false)

/-- A family over the tiles, direction by direction. -/
theorem bigSep_tiles (Φ : J → sProp 𝕄) : bigSep Finset.univ Φ = both fun d => bigSep Finset.univ fun t => Φ (d, t) := by
  rw [BI.bigSep_univ_prod, bigSep_dir]

theorem bigSep_pairs (Φ : Fin 2 × Fin 4 → sProp 𝕄) : bigSep Finset.univ Φ = bigSep Finset.univ fun t => iprop(Φ (0, t) ∗ Φ (1, t)) := by
  rw [BI.bigSep_univ_prod, BI.bigSep_univ_two, ← BI.bigSep_sep']

section Sides
variable (I : Info F) (c : Dev nD)

theorem slotAny_eq (l : Ln) : (slotAny c l : sProp 𝕄) = some' c ((pk l).dst ((peer l).symm c)) := by
  unfold slotAny dstAny
  rw [Equiv.apply_symm_apply]

/-! ## The reduce-scatter -/

abbrev own0 (s : DmaSem sig) : sProp 𝕄 := semVal ((c : Thread nD τ), SemLoc.dma s) 0

/-- The buffers in main memory, before and after. -/
def rsIn : sProp 𝕄 := iprop(own c xA (I.x c) ∗ own c wA (I.w c) ∗ own c pA (I.p c)
  ∗ both (fun d => some' c (ownA d)) ∗ both (fun d => some' c (recvA d)) ∗ both (fun d => some' c (landA d)))
def rsOut : sProp 𝕄 := iprop(own c xA (I.x c) ∗ own c wA (I.w c) ∗ own c pA (I.p c)
  ∗ both (fun d => own c (ownA d) (ownAll I d c)) ∗ both (fun d => own c (recvA d) (recvAll I d c)) ∗ both (fun d => own c (landA d) (landAll I d c)))
/-- The scratch buffers; the counters of the local copies. -/
def rsScr : sProp 𝕄 := iprop(some' c wV ∗ some' c xV ∗ both (fun d => some' c (accV d)) ∗ some' c bV ∗ some' c hV)
def rsCnt : sProp 𝕄 := iprop(own0 c xS ∗ adds c ∗ own0 c wS ∗ bigSep Finset.univ (fun j : J => own0 c (storeS j.1 j.2)))

theorem p_cut : own c pA (I.p c) ⊢ (bigSep Finset.univ (fun j : J => srcO I (.rs0 j.1 j.2) c) : sProp 𝕄) := own_cut c pA halfCuts (fun _ _ => rfl) (I.p c)
theorem p_join : (bigSep Finset.univ (fun j : J => srcO I (.rs0 j.1 j.2) c) : sProp 𝕄) ⊢ own c pA (I.p c) :=
  owns_of_rects (c : Thread nD τ) pA fullShare _ (fun _ _ => rfl) halfCuts.disj halfCuts.cov (I.p c)

theorem rows_cut {sp : Space} {e : EltTy} (M : Dir → Memref sig .tc sp S1024x4096 e) :
    both (fun d => some' c (M d)) ⊢ (bigSep Finset.univ (fun j : J => some' c (rowT (M j.1) j.2)) : sProp 𝕄) := by
  rw [bigSep_tiles]
  exact both_mono fun d => some_cut c (M d) rowCuts (fun _ _ => rfl)

theorem slots_cut (d : Dir) : some' c (recvA d) ⊢ (bigSep Finset.univ (fun t => iprop(some' c (slotT d 0 t) ∗ some' c (slotT d 1 t))) : sProp 𝕄) := by
  have h1 : (some' c (recvA d) : sProp 𝕄) ⊢ bigSep Finset.univ (fun j : Fin 2 × Fin 4 => some' c ((recvA d).slice (pairRect j.1 j.2) (fun _ => rfl))) :=
    some_cut c (recvA d) pairCuts (fun _ _ => rfl)
  have h2 : (bigSep Finset.univ (fun j : Fin 2 × Fin 4 => some' c ((recvA d).slice (pairRect j.1 j.2) (fun _ => rfl))) : sProp 𝕄)
      ⊢ bigSep Finset.univ (fun j : Fin 2 × Fin 4 => some' c (slotT d j.1 j.2)) := bigSep_mono' fun j _ => some_unsqueeze c _ squeezes_S1x256x4096_S256x4096
  exact (h1.trans h2).trans (Entails.of_eq (bigSep_pairs _))
theorem slots_join (d : Dir) :
    (bigSep Finset.univ (fun t => iprop(own c (slotT d 0 t) (sumS I d ((nx d).symm c) t 0) ∗ own c (slotT d 1 t) (sumS I d ((nx d).symm c) t 1))) : sProp 𝕄)
      ⊢ own c (recvA d) (recvAll I d c) := by
  have h := own_join (e := .f32) c (recvA d) pairCuts (fun _ _ => rfl)
    (fun j x => sumS I d ((nx d).symm c) j.2 j.1 ((Shape.reshapeEquiv squeezes_S1x256x4096_S256x4096.numel_eq).symm x))
  refine Entails.trans ?_ h
  refine (Entails.of_eq (bigSep_pairs (fun j : Fin 2 × Fin 4 => own c (slotT d j.1 j.2) (sumS I d ((nx d).symm c) j.2 j.1))).symm).trans ?_
  exact bigSep_mono' fun j _ => own_squeeze c _ squeezes_S1x256x4096_S256x4096 _

theorem links0_slots : iprop(both (fun d => some' c (recvA d)) ∗ both (fun d => some' c (landA d))) ⊢ (bigSep (links 0) (slotAny c) : sProp 𝕄) := by
  rw [links0_tiles]
  have e : ∀ j : J, iprop(slotAny c (.rs0 j.1 j.2) ∗ slotAny c (.rsN j.1 0 j.2) ∗ slotAny c (.rsN j.1 1 j.2))
      = (iprop(some' c (rowT (landA j.1) j.2) ∗ some' c (slotT j.1 0 j.2) ∗ some' c (slotT j.1 1 j.2)) : sProp 𝕄) := fun j => by
    rw [slotAny_eq, slotAny_eq, slotAny_eq]; rfl
  rw [BI.bigSep_congr fun j _ => e j]
  rw [BI.bigSep_sep']
  iintro ⟨Hr, Hl⟩
  isplitl [Hl]
  · iapply (rows_cut c landA); iexact Hl
  · have h : both (fun d => some' c (recvA d)) ⊢ (bigSep Finset.univ (fun j : J => iprop(some' c (slotT j.1 0 j.2) ∗ some' c (slotT j.1 1 j.2))) : sProp 𝕄) := by
      rw [bigSep_tiles]
      exact both_mono fun d => slots_cut c d
    iapply h; iexact Hr

theorem rs_enter : iprop(rsIn I c ∗ rsScr c ∗ rsCnt c) ⊢ (iprop(rest0 I c ∗ bigSep Finset.univ (tileIn I c) ∗ bigSep (links 0) (slotAny c)) : sProp 𝕄) := by
  unfold rsIn rsScr rsCnt rest0
  iintro ⟨⟨Hx, Hw, Hp, Ho, Hr, Hl⟩, ⟨HwV, HxV, Ha, Hb, Hh⟩, ⟨HxS, Had, HwS, Hst⟩⟩
  isplitl [Hx Hw HwV HxV Hb Hh HxS Had HwS]
  · isplitl [Hx]; · iexact Hx
    isplitl [HxV]; · iexact HxV
    isplitl [Hb]; · iexact Hb
    isplitl [Hh]; · iexact Hh
    isplitl [HxS]; · iexact HxS
    isplitl [Had]; · iexact Had
    isplitl [Hw]; · iexact Hw
    isplitl [HwV] <;> iassumption
  isplitr [Hr Hl]
  · have h : iprop(bigSep Finset.univ (fun j : J => srcO I (.rs0 j.1 j.2) c) ∗ bigSep Finset.univ (fun j : J => some' c (rowT (accV j.1) j.2))
        ∗ bigSep Finset.univ (fun j : J => some' c (rowT (ownA j.1) j.2)) ∗ bigSep Finset.univ (fun j : J => own0 c (storeS j.1 j.2))) ⊢ (bigSep Finset.univ (tileIn I c) : sProp 𝕄) := by
      rw [← BI.bigSep_sep', ← BI.bigSep_sep', ← BI.bigSep_sep']
      exact BI.Entails.refl _
    iapply h
    isplitl [Hp]; · iapply (p_cut I c); iexact Hp
    isplitl [Ha]; · iapply (rows_cut c accV); iexact Ha
    isplitl [Ho]; · iapply (rows_cut c ownA); iexact Ho
    iexact Hst
  · iapply (links0_slots c)
    isplitl [Hr] <;> iassumption

theorem rs_leave : iprop(rest0 I c ∗ bigSep Finset.univ (tileOut I c)) ⊢ (iprop(rsOut I c ∗ rsScr c ∗ rsCnt c) : sProp 𝕄) := by
  have h : bigSep Finset.univ (tileOut I c) ⊢ (iprop(bigSep Finset.univ (fun j : J => srcO I (.rs0 j.1 j.2) c)
      ∗ bigSep Finset.univ (fun j : J => own c (rowT (landA j.1) j.2) (pt I j.1 ((nx j.1).symm c) j.2))
      ∗ bigSep Finset.univ (fun j : J => iprop(own c (slotT j.1 0 j.2) (sumS I j.1 ((nx j.1).symm c) j.2 0) ∗ own c (slotT j.1 1 j.2) (sumS I j.1 ((nx j.1).symm c) j.2 1)))
      ∗ bigSep Finset.univ (fun j : J => own c (rowT (accV j.1) j.2) (sum2 I j.1 c j.2))
      ∗ bigSep Finset.univ (fun j : J => own c (rowT (ownA j.1) j.2) (sum2 I j.1 c j.2))
      ∗ bigSep Finset.univ (fun j : J => own0 c (storeS j.1 j.2))) : sProp 𝕄) := by
    rw [← BI.bigSep_sep', ← BI.bigSep_sep', ← BI.bigSep_sep', ← BI.bigSep_sep', ← BI.bigSep_sep']
    refine bigSep_mono' fun j _ => ?_
    unfold tileOut
    iintro ⟨Hs, Hl, H0, H1, Ha, Ho, Hv⟩
    isplitl [Hs]; · iexact Hs
    isplitl [Hl]; · iexact Hl
    isplitl [H0 H1]; · isplitl [H0] <;> iassumption
    isplitl [Ha]; · iexact Ha
    isplitl [Ho] <;> iassumption
  have hl : (bigSep Finset.univ (fun j : J => own c (rowT (landA j.1) j.2) (pt I j.1 ((nx j.1).symm c) j.2)) : sProp 𝕄) ⊢ both (fun d => own c (landA d) (landAll I d c)) := by
    rw [bigSep_tiles]
    exact both_mono fun d => own_join (e := .bf16) c (landA d) rowCuts (fun _ _ => rfl) _
  have ho : (bigSep Finset.univ (fun j : J => own c (rowT (ownA j.1) j.2) (sum2 I j.1 c j.2)) : sProp 𝕄) ⊢ both (fun d => own c (ownA d) (ownAll I d c)) := by
    rw [bigSep_tiles]
    exact both_mono fun d => own_join (e := .f32) c (ownA d) rowCuts (fun _ _ => rfl) _
  have ha : (bigSep Finset.univ (fun j : J => own c (rowT (accV j.1) j.2) (sum2 I j.1 c j.2)) : sProp 𝕄) ⊢ both (fun d => some' c (accV d)) := by
    rw [bigSep_tiles]
    exact both_mono fun d => (own_join (e := .f32) c (accV d) rowCuts (fun _ _ => rfl) _).trans (own_some c _ _)
  have hr : (bigSep Finset.univ (fun j : J => iprop(own c (slotT j.1 0 j.2) (sumS I j.1 ((nx j.1).symm c) j.2 0) ∗ own c (slotT j.1 1 j.2) (sumS I j.1 ((nx j.1).symm c) j.2 1))) : sProp 𝕄)
      ⊢ both (fun d => own c (recvA d) (recvAll I d c)) := by
    rw [bigSep_tiles]
    exact both_mono fun d => slots_join I c d
  unfold rsOut rsScr rsCnt rest0
  iintro ⟨⟨Hx, HxV, Hb, Hh, HxS, Had, Hw, HwV, HwS⟩, Ht⟩
  ihave Ht := h $$ Ht
  icases Ht with ⟨Hs, Hl, Hr, Ha, Ho, Hst⟩
  isplitl [Hx Hw Hs Ho Hr Hl]
  · isplitl [Hx]; · iexact Hx
    isplitl [Hw]; · iexact Hw
    isplitl [Hs]; · iapply (p_join I c); iexact Hs
    isplitl [Ho]; · iapply ho; iexact Ho
    isplitl [Hr]; · iapply hr; iexact Hr
    iapply hl; iexact Hl
  isplitl [HwV HxV Ha Hb Hh]
  · isplitl [HwV]; · iexact HwV
    isplitl [HxV]; · iexact HxV
    isplitl [Ha]; · iapply ha; iexact Ha
    isplitl [Hb] <;> iassumption
  isplitl [HxS]; · iexact HxS
  isplitl [Had]; · iexact Had
  isplitl [HwS] <;> iassumption

/-! ## The gathering of the largest absolute values -/

theorem am_enter : some' c a1 ⊢ (iprop(some' c (ownRows c) ∗ bigSep (links 1) (slotAny c)) : sProp 𝕄) := by
  rw [links1, slotAny_eq, slotAny_eq, slotAny_eq]
  exact (some_cut c a1 axCuts (fun _ _ => rfl)).trans (Entails.of_eq (devs c _))

theorem am_leave : (bigSep Finset.univ (fun b : Dev nD => own c (ownRows b) (eightOf I b)) : sProp 𝕄) ⊢ own c a1 (bufAll I) :=
  own_join (e := .f32) c a1 axCuts (fun _ _ => rfl) _

/-! ## The gathering of the blocks -/

theorem ag_cut (d : Dir) : (bigSep Finset.univ (fun b : Dev nD => placeAny c d b) : sProp 𝕄)
    ⊢ iprop(placeAny c d c ∗ slotAny c (.ag0 d) ∗ slotAny c (.agN d 0) ∗ slotAny c (.agN d 1)) := by
  rw [blocksOf c d, slotG0, slotGN, slotGN]
  exact BI.Entails.refl _

/-- The own blocks, and the counters of the copies home. -/
def agIn : sProp 𝕄 := iprop(both (fun d => own c (qA d) (I.q d c)) ∗ some' c gA)
def agOut : sProp 𝕄 := iprop(both (fun d => own c (qA d) (I.q d c)) ∗ own c gA (blkAll I))
def agCnt : sProp 𝕄 := both (fun d => own0 c (homeS d))

theorem ag_enter : iprop(agIn I c ∗ agCnt c) ⊢ (iprop((homeIn I c true ∗ homeIn I c false) ∗ bigSep (links 2) (slotAny c)) : sProp 𝕄) := by
  have h : some' c gA ⊢ (both (fun d => bigSep Finset.univ (fun b : Dev nD => placeAny c d b)) : sProp 𝕄) := by
    rw [← bigSep_dir, ← BI.bigSep_univ_prod (fun j : Dir × Dev nD => placeAny c j.1 j.2)]
    exact some_cut c gA blkCuts (fun _ _ => rfl)
  unfold agIn agCnt homeIn both
  iintro ⟨⟨⟨Ht, Hf⟩, Hg⟩, ⟨Hst, Hsf⟩⟩
  ihave Hg := h $$ Hg
  unfold both
  icases Hg with ⟨Hgt, Hgf⟩
  ihave Hgt := (ag_cut c true) $$ Hgt
  icases Hgt with ⟨Ht0, Ht1, Ht2, Ht3⟩
  ihave Hgf := (ag_cut c false) $$ Hgf
  icases Hgf with ⟨Hf0, Hf1, Hf2, Hf3⟩
  isplitl [Ht Hf Hst Hsf Ht0 Hf0]
  · isplitl [Ht Hst Ht0]
    · isplitl [Ht]; · iexact Ht
      isplitl [Ht0] <;> iassumption
    · isplitl [Hf]; · iexact Hf
      isplitl [Hf0] <;> iassumption
  iapply (Entails.of_eq (links2 (slotAny c)).symm)
  isplitl [Ht1 Ht2 Ht3]
  · isplitl [Ht1]; · iexact Ht1
    isplitl [Ht2] <;> iassumption
  · isplitl [Hf1]; · iexact Hf1
    isplitl [Hf2] <;> iassumption

theorem ag_leave : iprop(homeOut I c true ∗ homeOut I c false) ⊢ (iprop(agOut I c ∗ agCnt c) : sProp 𝕄) := by
  have h : (both (fun d => bigSep Finset.univ (fun b : Dev nD => placed I c d b)) : sProp 𝕄) ⊢ own c gA (blkAll I) := by
    rw [← bigSep_dir, ← BI.bigSep_univ_prod (fun j : Dir × Dev nD => placed I c j.1 j.2)]
    exact own_join (e := .fp8e4m3) c gA blkCuts (fun _ _ => rfl) _
  unfold homeOut agOut agCnt
  iintro ⟨⟨⟨Hqt, Hst⟩, Hpt⟩, ⟨⟨Hqf, Hsf⟩, Hpf⟩⟩
  isplitr [Hst Hsf]
  · isplitl [Hqt Hqf]
    · unfold both; isplitl [Hqt] <;> iassumption
    · iapply h; unfold both; isplitl [Hpt] <;> iassumption
  · unfold both; isplitl [Hst] <;> iassumption

end Sides

end Cert.K
-- ==== Proof.Local.lean ====
/-
# The quantising and the dequantising call

The two calls that exchange nothing: each device divides its two blocks of sums by the scale and rounds them (four bands of
rows), and multiplies the gathered quotients by the scale (sixteen bands). Each is stated from any contents of the buffers at its
entry and whatever the device owes, and its results are given as whole arrays.
-/
module

public import proofs.«01_k».proof.Proof.Kit
public import proofs.«01_k».proof.Proof.Sched
public import proofs.«01_k».proof.Proof.Gen.KernelIdeal.Regions
public import proofs.«01_k».proof.Proof.Gen.KernelIdeal.Skeleton
public import Idealize.ShloMosaic.Lib.Pipeline.FrameBody
public import Idealize.ShloMosaic.Lib.Pipeline.Value
public import Idealize.ShloMosaic.Lib.Pipeline.ValueKit.Geometry
public import Idealize.ShloMosaic.Lib.Tactic

@[expose] public section

set_option maxRecDepth 16384

noncomputable section

namespace Cert.K

open Cert.KernelIdeal Cert.KernelIdeal.Gen
open Idealize.ShloMosaic Idealize.ShloMosaic.TcCoe
open Idealize.SL.Sem
open Idealize.SL
open Idealize.SL.BI (sProp bigSep)
open scoped Idealize.SL.BI
open Idealize.SL.BI.BIBase Idealize.SL.BI.Laws Idealize.SL.ProofMode
open Idealize.SL.RA
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

/-! ## The results as whole arrays -/

/-- A block of sums divided by the scale and rounded. -/
def quant (buf : Vec F S32x128 .f32) (y : S1024x4096.Idx → Elt F .f32) : S1024x4096.Idx → Elt F .fp8e4m3 :=
  fun i => (FloatOps.truncf .fp8e4m3 bitsLt_fp8e4m3_f32 (FloatOps.divf (y i) (k2_pay1 buf)) : F .fp8e4m3)
/-- The gathered quotients multiplied by the scale. -/
def dequant (buf : Vec F S32x128 .f32) (q : S4096x8192.Idx → Elt F .fp8e4m3) : S4096x8192.Idx → Elt F .bf16 :=
  fun i => (FloatOps.truncf .bf16 bitsLt_bf16_f32 (FloatOps.mulf (FloatOps.extf .f32 bitsLt_fp8e4m3_f32 (q i)) (k2_pay1 buf)) : F .bf16)

theorem k2_pay2_apply (buf : Vec F S32x128 .f32) (y : Vec F S256x4096 .f32) (i : S256x4096.Idx) :
    k2_pay2 buf y i = (FloatOps.truncf .fp8e4m3 bitsLt_fp8e4m3_f32 (FloatOps.divf (y i) (k2_pay1 buf)) : F .fp8e4m3) := by
  unfold k2_pay2
  rw [shapeCast_self]
  rfl
theorem k2_pay3_apply (buf : Vec F S32x128 .f32) (y : Vec F S256x4096 .f32) (i : S256x4096.Idx) :
    k2_pay3 buf y i = (FloatOps.truncf .fp8e4m3 bitsLt_fp8e4m3_f32 (FloatOps.divf (y i) (k2_pay1 buf)) : F .fp8e4m3) := by
  unfold k2_pay3
  rw [shapeCast_self]
  rfl
theorem k4_pay1_apply (buf : Vec F S32x128 .f32) (q : Vec F S256x8192 .fp8e4m3) (i : S256x8192.Idx) :
    k4_pay1 buf q i = (FloatOps.truncf .bf16 bitsLt_bf16_f32 (FloatOps.mulf (FloatOps.extf .f32 bitsLt_fp8e4m3_f32 (q i)) (k2_pay1 buf)) : F .bf16) := by
  unfold k4_pay1 k2_pay1
  rw [shapeCast_self (s := S256x8192)]
  rfl

theorem off00 : (![0, 0] : Fin 2 → Nat) = fun _ => 0 := funext fun a => by fin_cases a <;> rfl

/-- What a store over the whole of a buffer leaves. -/
theorem stored_whole {sp : Space} {s : Shape} {e : EltTy} (M : Memref sig .tc sp s e) {off : Fin s.rank → Nat} (h : off = fun _ => 0)
    (inb : ∀ a, off a + s.size a ≤ s.size a) (w : s.Idx → Elt F e) (f) :
    M.view.read (Elt F) (M.view.writes (Elt F) f [⟨Rect.unit off s.size inb, w⟩]) = w :=
  (View.read_writes_eq_canon _ _ _ (fun y => ⟨_, List.mem_singleton_self _, by
    rw [← Rect.map_emb_univ]; exact Finset.mem_map.mpr ⟨y, Finset.mem_univ _, emb_unit_zero inb y⟩⟩)).trans (View.canon_unit_zero h inb w)

/-! ## The bodies -/

set_option maxHeartbeats 1000000 in
theorem quant_wp (c : Dev nD) (i : grid2.Coords) (arg1 : Memref sig .tc .vmem S256x4096 .f32) (h1 : arg1.IsWhole) (arg2 : Memref sig .tc .vmem S256x4096 .f32) (h2 : arg2.IsWhole)
    (arg3 : Memref sig .tc .vmem S32x128 .f32) (h3 : arg3.IsWhole) (arg4 : Memref sig .tc .vmem S256x4096 .fp8e4m3) (h4 : arg4.IsWhole)
    (arg5 : Memref sig .tc .vmem S256x4096 .fp8e4m3) (h5 : arg5.IsWhole)
    (x1 x2 : Vec F S256x4096 .f32) (x3 : Vec F S32x128 .f32) (K : PUnit → sProp 𝕄) :
    iprop(own c arg1 x1 ∗ own c arg2 x2 ∗ own c arg3 x3 ∗ some' c arg4 ∗ some' c arg5
        ∗ (iprop(own c arg1 x1 ∗ own c arg2 x2 ∗ own c arg3 x3 ∗ own c arg4 (k2_pay2 x3 x1) ∗ own c arg5 (k2_pay3 x3 x2)) -∗ K ⟨⟩))
      ⊢ W c (cc2__quantize_body i arg1 h1 arg2 h2 arg3 h3 arg4 h4 arg5 h5) K := by
  simp only [cc2__quantize_body_eq_skeleton]; unfold cc2__quantize_body_skel
  unfold W some' own owns
  iintro ⟨⟨%f1, %hf1, H1⟩, ⟨%f2, %hf2, H2⟩, ⟨%f3, %hf3, H3⟩, ⟨%d4, %f4, -, H4⟩, ⟨%d5, %f5, -, H5⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (stored_whole arg4 off00 _ _ _).trans ?_
    exact congrArg₂ k2_pay2 (View.ld_unit_zero off00 _ _) (View.ld_unit_zero off00 _ _)
  iexists _; isplitr
  swap; · iexact H5
  ipureintro
  refine (stored_whole arg5 off00 _ _ _).trans ?_
  exact congrArg₂ k2_pay3 (View.ld_unit_zero off00 _ _) (View.ld_unit_zero off00 _ _)

set_option maxHeartbeats 1000000 in
theorem dequant_wp (c : Dev nD) (i : grid4.Coords) (arg1 : Memref sig .tc .vmem S256x8192 .fp8e4m3) (h1 : arg1.IsWhole) (arg2 : Memref sig .tc .vmem S32x128 .f32) (h2 : arg2.IsWhole)
    (arg3 : Memref sig .tc .vmem S256x8192 .bf16) (h3 : arg3.IsWhole)
    (x1 : Vec F S256x8192 .fp8e4m3) (x2 : Vec F S32x128 .f32) (K : PUnit → sProp 𝕄) :
    iprop(own c arg1 x1 ∗ own c arg2 x2 ∗ some' c arg3
        ∗ (iprop(own c arg1 x1 ∗ own c arg2 x2 ∗ own c arg3 (k4_pay1 x2 x1)) -∗ K ⟨⟩))
      ⊢ W c (cc4__dequantize_body i arg1 h1 arg2 h2 arg3 h3) K := by
  simp only [cc4__dequantize_body_eq_skeleton]; unfold cc4__dequantize_body_skel
  unfold W some' own owns
  iintro ⟨⟨%f1, %hf1, H1⟩, ⟨%f2, %hf2, H2⟩, ⟨%d4, %f4, -, H4⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H4
  ipureintro
  refine (stored_whole arg3 off00 _ _ _).trans ?_
  exact congrArg₂ k4_pay1 (View.ld_unit_zero off00 _ _) (View.ld_unit_zero off00 _ _)

/-! ## The regions' data -/

section Data
variable (V : Dev nD → Valuation τ sig (Elt F)) (D : Dev nD → CellTallies nD τ sig Unit)

def iblk2 (c : Dev nD) (w : Fin cfg2.W) (t : Fin cfg2.N) : ((cfg2.win w).xblock (cfg2.grid.coords t)).Idx → Elt F (cfg2.win w).elt :=
  ((cfg2.win w).blk t).view.read (Elt F) (V c (Proc.devRef .tc (Pipeline.arrRef spec2 w)))
def iblk4 (c : Dev nD) (w : Fin cfg4.W) (t : Fin cfg4.N) : ((cfg4.win w).xblock (cfg4.grid.coords t)).Idx → Elt F (cfg4.win w).elt :=
  ((cfg4.win w).blk t).view.read (Elt F) (V c (Proc.devRef .tc (Pipeline.arrRef spec4 w)))

def dat2 (c : Dev nD) : Dat τ (Elt F) Unit ℕ UU ℕ cfg2 c where
  A w := V c (Proc.devRef .tc (Pipeline.arrRef spec2 w))
  after w t := match w with
    | ⟨0, _⟩ => iblk2 V c 0 t
    | ⟨1, _⟩ => iblk2 V c 1 t
    | ⟨2, _⟩ => iblk2 V c 2 t
    | ⟨3, _⟩ => k2_pay2 (iblk2 V c 2 t) (iblk2 V c 0 t)
    | ⟨4, _⟩ => k2_pay3 (iblk2 V c 2 t) (iblk2 V c 1 t)
  Φ _ := Pipeline.ΦA spec2 c
  q _ := fullShare
  owed _ := D c
def dat4 (c : Dev nD) : Dat τ (Elt F) Unit ℕ UU ℕ cfg4 c where
  A w := V c (Proc.devRef .tc (Pipeline.arrRef spec4 w))
  after w t := match w with
    | ⟨0, _⟩ => iblk4 V c 0 t
    | ⟨1, _⟩ => iblk4 V c 1 t
    | ⟨2, _⟩ => k4_pay1 (iblk4 V c 1 t) (iblk4 V c 0 t)
  Φ _ := Pipeline.ΦA spec4 c
  q _ := fullShare
  owed _ := D c

theorem A2_0 (c : Dev nD) : (dat2 V D c).A 0 = V c (Proc.devRef .tc (Pipeline.arrRef spec2 0)) := by dsimp only [dat2]
theorem after2_0 (c : Dev nD) (t : Fin cfg2.N) : (dat2 V D c).after 0 t = iblk2 V c 0 t := by dsimp only [dat2]
theorem before2_0 (c : Dev nD) (t : Fin cfg2.N) (d) : (dat2 V D c).before 0 t d = iblk2 V c 0 t :=
  ((dat2 V D c).before_in_eq_fetched 0 rfl (fun _ => rfl) (fun _ _ _ => rfl) (fun t => by rw [after2_0]; unfold Dat.blockOf iblk2; rw [A2_0]; try rfl) t d).trans
    (by unfold Dat.fetched Dat.blockOf iblk2; rw [A2_0]; try rfl)
theorem A2_1 (c : Dev nD) : (dat2 V D c).A 1 = V c (Proc.devRef .tc (Pipeline.arrRef spec2 1)) := by dsimp only [dat2]
theorem after2_1 (c : Dev nD) (t : Fin cfg2.N) : (dat2 V D c).after 1 t = iblk2 V c 1 t := by dsimp only [dat2]
theorem before2_1 (c : Dev nD) (t : Fin cfg2.N) (d) : (dat2 V D c).before 1 t d = iblk2 V c 1 t :=
  ((dat2 V D c).before_in_eq_fetched 1 rfl (fun _ => rfl) (fun _ _ _ => rfl) (fun t => by rw [after2_1]; unfold Dat.blockOf iblk2; rw [A2_1]; try rfl) t d).trans
    (by unfold Dat.fetched Dat.blockOf iblk2; rw [A2_1]; try rfl)
theorem A2_2 (c : Dev nD) : (dat2 V D c).A 2 = V c (Proc.devRef .tc (Pipeline.arrRef spec2 2)) := by dsimp only [dat2]
theorem after2_2 (c : Dev nD) (t : Fin cfg2.N) : (dat2 V D c).after 2 t = iblk2 V c 2 t := by dsimp only [dat2]
theorem before2_2 (c : Dev nD) (t : Fin cfg2.N) (d) : (dat2 V D c).before 2 t d = iblk2 V c 2 t :=
  ((dat2 V D c).before_in_eq_fetched 2 rfl (fun _ => rfl) (fun _ _ _ => rfl) (fun t => by rw [after2_2]; unfold Dat.blockOf iblk2; rw [A2_2]; try rfl) t d).trans
    (by unfold Dat.fetched Dat.blockOf iblk2; rw [A2_2]; try rfl)
theorem A2_3 (c : Dev nD) : (dat2 V D c).A 3 = V c (Proc.devRef .tc (Pipeline.arrRef spec2 3)) := by dsimp only [dat2]
theorem after2_3 (c : Dev nD) (t : Fin cfg2.N) : (dat2 V D c).after 3 t = k2_pay2 (iblk2 V c 2 t) (iblk2 V c 0 t) := by dsimp only [dat2]
theorem A2_4 (c : Dev nD) : (dat2 V D c).A 4 = V c (Proc.devRef .tc (Pipeline.arrRef spec2 4)) := by dsimp only [dat2]
theorem after2_4 (c : Dev nD) (t : Fin cfg2.N) : (dat2 V D c).after 4 t = k2_pay3 (iblk2 V c 2 t) (iblk2 V c 1 t) := by dsimp only [dat2]
theorem A4_0 (c : Dev nD) : (dat4 V D c).A 0 = V c (Proc.devRef .tc (Pipeline.arrRef spec4 0)) := by dsimp only [dat4]
theorem after4_0 (c : Dev nD) (t : Fin cfg4.N) : (dat4 V D c).after 0 t = iblk4 V c 0 t := by dsimp only [dat4]
theorem before4_0 (c : Dev nD) (t : Fin cfg4.N) (d) : (dat4 V D c).before 0 t d = iblk4 V c 0 t :=
  ((dat4 V D c).before_in_eq_fetched 0 rfl (fun _ => rfl) (fun _ _ _ => rfl) (fun t => by rw [after4_0]; unfold Dat.blockOf iblk4; rw [A4_0]; try rfl) t d).trans
    (by unfold Dat.fetched Dat.blockOf iblk4; rw [A4_0]; try rfl)
theorem A4_1 (c : Dev nD) : (dat4 V D c).A 1 = V c (Proc.devRef .tc (Pipeline.arrRef spec4 1)) := by dsimp only [dat4]
theorem after4_1 (c : Dev nD) (t : Fin cfg4.N) : (dat4 V D c).after 1 t = iblk4 V c 1 t := by dsimp only [dat4]
theorem before4_1 (c : Dev nD) (t : Fin cfg4.N) (d) : (dat4 V D c).before 1 t d = iblk4 V c 1 t :=
  ((dat4 V D c).before_in_eq_fetched 1 rfl (fun _ => rfl) (fun _ _ _ => rfl) (fun t => by rw [after4_1]; unfold Dat.blockOf iblk4; rw [A4_1]; try rfl) t d).trans
    (by unfold Dat.fetched Dat.blockOf iblk4; rw [A4_1]; try rfl)
theorem A4_2 (c : Dev nD) : (dat4 V D c).A 2 = V c (Proc.devRef .tc (Pipeline.arrRef spec4 2)) := by dsimp only [dat4]
theorem after4_2 (c : Dev nD) (t : Fin cfg4.N) : (dat4 V D c).after 2 t = k4_pay1 (iblk4 V c 1 t) (iblk4 V c 0 t) := by dsimp only [dat4]

def pre2 (c : Dev nD) (t : Fin cfg2.N) : sProp 𝕄 :=
  iprop((dat2 V D c).Φ t.castSucc ∗ (dat2 V D c).owesAt () t.castSucc
    ∗ (∃ d, own c (st2_0 t) ((dat2 V D c).before 0 t d))
    ∗ (∃ d, own c (st2_1 t) ((dat2 V D c).before 1 t d))
    ∗ (∃ d, own c (st2_2 t) ((dat2 V D c).before 2 t d))
    ∗ (∃ d, own c (st2_3 t) ((dat2 V D c).before 3 t d))
    ∗ (∃ d, own c (st2_4 t) ((dat2 V D c).before 4 t d)))
def post2 (c : Dev nD) (t : Fin cfg2.N) : sProp 𝕄 :=
  iprop((dat2 V D c).Φ t.succ ∗ (dat2 V D c).owesAt () t.succ
    ∗ own c (st2_0 t) ((dat2 V D c).after 0 t)
    ∗ own c (st2_1 t) ((dat2 V D c).after 1 t)
    ∗ own c (st2_2 t) ((dat2 V D c).after 2 t)
    ∗ own c (st2_3 t) ((dat2 V D c).after 3 t)
    ∗ own c (st2_4 t) ((dat2 V D c).after 4 t))

theorem body2 (c : Dev nD) (t : Fin cfg2.N) : pre2 V D c t ⊢ W c (bodyAt2 t) (fun _ => post2 V D c t) := by
  unfold pre2 post2 bodyAt2
  simp only [before2_0, before2_1, before2_2]
  rw [show (dat2 V D c).Φ t.succ = (dat2 V D c).Φ t.castSucc from rfl,
    show (dat2 V D c).owesAt () t.succ = (dat2 V D c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (quant_wp c _ _ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem row2 (t : Fin cfg2.N) : defs₀ (F := F) .tc cfg2.body (cfg2.bodyArgs t (cfg2.slots t)) = bodyAt2 t := by
  unfold defs₀; rw [Defs.onTc_tc]

theorem obl2 (c : Dev nD) : BodyObligation (dat2 V D c) (defs₀ (F := F)) 𝒱₀ () Set.univ := fun t => by
  rw [bigSep_W2, bigSep_W2, row2]
  exact triple_restated (body2 V D c t) rfl .rfl fun _ => .rfl

def pre4 (c : Dev nD) (t : Fin cfg4.N) : sProp 𝕄 :=
  iprop((dat4 V D c).Φ t.castSucc ∗ (dat4 V D c).owesAt () t.castSucc
    ∗ (∃ d, own c (st4_0 t) ((dat4 V D c).before 0 t d))
    ∗ (∃ d, own c (st4_1 t) ((dat4 V D c).before 1 t d))
    ∗ (∃ d, own c (st4_2 t) ((dat4 V D c).before 2 t d)))
def post4 (c : Dev nD) (t : Fin cfg4.N) : sProp 𝕄 :=
  iprop((dat4 V D c).Φ t.succ ∗ (dat4 V D c).owesAt () t.succ
    ∗ own c (st4_0 t) ((dat4 V D c).after 0 t)
    ∗ own c (st4_1 t) ((dat4 V D c).after 1 t)
    ∗ own c (st4_2 t) ((dat4 V D c).after 2 t))

theorem body4 (c : Dev nD) (t : Fin cfg4.N) : pre4 V D c t ⊢ W c (bodyAt4 t) (fun _ => post4 V D c t) := by
  unfold pre4 post4 bodyAt4
  simp only [before4_0, before4_1]
  rw [show (dat4 V D c).Φ t.succ = (dat4 V D c).Φ t.castSucc from rfl,
    show (dat4 V D c).owesAt () t.succ = (dat4 V D c).owesAt () t.castSucc from rfl,
    after4_0, after4_1, after4_2]
  iintro ⟨HΦ, Ho, ⟨%d0, H0⟩, ⟨%d1, H1⟩, ⟨%d2, H2⟩⟩
  iapply (dequant_wp c _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem row4 (t : Fin cfg4.N) : defs₀ (F := F) .tc cfg4.body (cfg4.bodyArgs t (cfg4.slots t)) = bodyAt4 t := by
  unfold defs₀; rw [Defs.onTc_tc]

theorem obl4 (c : Dev nD) : BodyObligation (dat4 V D c) (defs₀ (F := F)) 𝒱₀ () Set.univ := fun t => by
  rw [bigSep_W4, bigSep_W4, row4]
  exact triple_restated (body4 V D c t) rfl .rfl fun _ => .rfl

/-! ## The arrays at the end -/

theorem idx2_0 : ∀ t : Fin cfg2.N, win2_0.index t (0 : Fin 2) = t.val ∧ win2_0.index t (1 : Fin 2) = 0 := (by decide +kernel : ∀ t : Fin grid2.N, _)
theorem idx2_1 : ∀ t : Fin cfg2.N, win2_1.index t (0 : Fin 2) = t.val ∧ win2_1.index t (1 : Fin 2) = 0 := (by decide +kernel : ∀ t : Fin grid2.N, _)
theorem idx2_2 : ∀ t : Fin cfg2.N, win2_2.index t (0 : Fin 2) = 0 ∧ win2_2.index t (1 : Fin 2) = 0 := (by decide +kernel : ∀ t : Fin grid2.N, _)
theorem idx2_3 : ∀ t : Fin cfg2.N, win2_3.index t (0 : Fin 2) = t.val ∧ win2_3.index t (1 : Fin 2) = 0 := (by decide +kernel : ∀ t : Fin grid2.N, _)
theorem idx2_4 : ∀ t : Fin cfg2.N, win2_4.index t (0 : Fin 2) = t.val ∧ win2_4.index t (1 : Fin 2) = 0 := (by decide +kernel : ∀ t : Fin grid2.N, _)
theorem idx4_0 : ∀ t : Fin cfg4.N, win4_0.index t (0 : Fin 2) = t.val ∧ win4_0.index t (1 : Fin 2) = 0 := (by decide +kernel : ∀ t : Fin grid4.N, _)
theorem idx4_1 : ∀ t : Fin cfg4.N, win4_1.index t (0 : Fin 2) = 0 ∧ win4_1.index t (1 : Fin 2) = 0 := (by decide +kernel : ∀ t : Fin grid4.N, _)
theorem idx4_2 : ∀ t : Fin cfg4.N, win4_2.index t (0 : Fin 2) = t.val ∧ win4_2.index t (1 : Fin 2) = 0 := (by decide +kernel : ∀ t : Fin grid4.N, _)

theorem emb2_0_3 (t : Fin cfg2.N) (j : S256x4096.Idx) : (((cfg2.win 0).blk t).view.emb j : _) = ((cfg2.win 3).blk t).view.emb j := by
  obtain ⟨e0, e1⟩ := idx2_0 t
  obtain ⟨g0, g1⟩ := idx2_3 t
  funext a; apply Fin.ext
  match a with
  | ⟨0, _⟩ => show win2_0.index t (0 : Fin 2) * 256 + 1 * (j 0).val = win2_3.index t (0 : Fin 2) * 256 + 1 * (j 0).val; omega
  | ⟨1, _⟩ => show win2_0.index t (1 : Fin 2) * 4096 + 1 * (j 1).val = win2_3.index t (1 : Fin 2) * 4096 + 1 * (j 1).val; omega
theorem emb2_1_4 (t : Fin cfg2.N) (j : S256x4096.Idx) : (((cfg2.win 1).blk t).view.emb j : _) = ((cfg2.win 4).blk t).view.emb j := by
  obtain ⟨e0, e1⟩ := idx2_1 t
  obtain ⟨g0, g1⟩ := idx2_4 t
  funext a; apply Fin.ext
  match a with
  | ⟨0, _⟩ => show win2_1.index t (0 : Fin 2) * 256 + 1 * (j 0).val = win2_4.index t (0 : Fin 2) * 256 + 1 * (j 0).val; omega
  | ⟨1, _⟩ => show win2_1.index t (1 : Fin 2) * 4096 + 1 * (j 1).val = win2_4.index t (1 : Fin 2) * 4096 + 1 * (j 1).val; omega
theorem emb4_0_2 (t : Fin cfg4.N) (j : S256x8192.Idx) : (((cfg4.win 0).blk t).view.emb j : _) = ((cfg4.win 2).blk t).view.emb j := by
  obtain ⟨e0, e1⟩ := idx4_0 t
  obtain ⟨g0, g1⟩ := idx4_2 t
  funext a; apply Fin.ext
  match a with
  | ⟨0, _⟩ => show win4_0.index t (0 : Fin 2) * 256 + 1 * (j 0).val = win4_2.index t (0 : Fin 2) * 256 + 1 * (j 0).val; omega
  | ⟨1, _⟩ => show win4_0.index t (1 : Fin 2) * 8192 + 1 * (j 1).val = win4_2.index t (1 : Fin 2) * 8192 + 1 * (j 1).val; omega
theorem iblk2_2_eq (c : Dev nD) (t : Fin cfg2.N) : iblk2 V c 2 t = V c (Proc.devRef .tc main_v13) := by
  funext j
  show V c (Proc.devRef .tc main_v13) (((cfg2.win 2).blk t).view.emb j) = V c (Proc.devRef .tc main_v13) j
  congr 1
  obtain ⟨e0, e1⟩ := idx2_2 t
  funext a; apply Fin.ext
  match a with
  | ⟨0, _⟩ => show win2_2.index t (0 : Fin 2) * 32 + 1 * (j 0).val = (j 0).val; omega
  | ⟨1, _⟩ => show win2_2.index t (1 : Fin 2) * 128 + 1 * (j 1).val = (j 1).val; omega
theorem iblk4_1_eq (c : Dev nD) (t : Fin cfg4.N) : iblk4 V c 1 t = V c (Proc.devRef .tc main_v13) := by
  funext j
  show V c (Proc.devRef .tc main_v13) (((cfg4.win 1).blk t).view.emb j) = V c (Proc.devRef .tc main_v13) j
  congr 1
  obtain ⟨e0, e1⟩ := idx4_1 t
  funext a; apply Fin.ext
  match a with
  | ⟨0, _⟩ => show win4_1.index t (0 : Fin 2) * 32 + 1 * (j 0).val = (j 0).val; omega
  | ⟨1, _⟩ => show win4_1.index t (1 : Fin 2) * 128 + 1 * (j 1).val = (j 1).val; omega

theorem final2_3 (c : Dev nD) : (dat2 V D c).arrAt 3 cfg2.N = quant (V c (Proc.devRef .tc main_v13)) (V c (Proc.devRef .tc main_v12_0)) := by
  refine (dat2 V D c).arrAt_eq_of_covers 3 _ (by decide +kernel) fun t hf y => ?_
  show (dat2 V D c).after 3 t y = quant (V c (Proc.devRef .tc main_v13)) (V c (Proc.devRef .tc main_v12_0)) (((cfg2.win 3).blk t).view.emb y)
  rw [after2_3, k2_pay2_apply, iblk2_2_eq]
  unfold quant
  rw [show iblk2 V c 0 t y = V c (Proc.devRef .tc main_v12_0) (((cfg2.win 3).blk t).view.emb y) from congrArg (V c (Proc.devRef .tc main_v12_0)) (emb2_0_3 t y)]

theorem final2_4 (c : Dev nD) : (dat2 V D c).arrAt 4 cfg2.N = quant (V c (Proc.devRef .tc main_v13)) (V c (Proc.devRef .tc main_v12_1)) := by
  refine (dat2 V D c).arrAt_eq_of_covers 4 _ (by decide +kernel) fun t hf y => ?_
  show (dat2 V D c).after 4 t y = quant (V c (Proc.devRef .tc main_v13)) (V c (Proc.devRef .tc main_v12_1)) (((cfg2.win 4).blk t).view.emb y)
  rw [after2_4, k2_pay3_apply, iblk2_2_eq]
  unfold quant
  rw [show iblk2 V c 1 t y = V c (Proc.devRef .tc main_v12_1) (((cfg2.win 4).blk t).view.emb y) from congrArg (V c (Proc.devRef .tc main_v12_1)) (emb2_1_4 t y)]

theorem final4_2 (c : Dev nD) : (dat4 V D c).arrAt 2 cfg4.N = dequant (V c (Proc.devRef .tc main_v13)) (V c (Proc.devRef .tc main_v15)) := by
  refine (dat4 V D c).arrAt_eq_of_covers 2 _ (by decide +kernel) fun t hf y => ?_
  show (dat4 V D c).after 2 t y = dequant (V c (Proc.devRef .tc main_v13)) (V c (Proc.devRef .tc main_v15)) (((cfg4.win 2).blk t).view.emb y)
  rw [after4_2, k4_pay1_apply, iblk4_1_eq]
  unfold dequant
  rw [show iblk4 V c 0 t y = V c (Proc.devRef .tc main_v15) (((cfg4.win 2).blk t).view.emb y) from congrArg (V c (Proc.devRef .tc main_v15)) (emb4_0_2 t y)]

end Data

end Cert.K
-- ==== Proof.Contents.lean ====
/-
# What the program's buffers hold, call by call

The contents the communicating calls are run with, the device's buffers after each of the five calls, and what each
call still owes the other devices.
-/
module

public import proofs.«01_k».proof.Proof.Sides
public import proofs.«01_k».proof.Proof.Local

@[expose] public section

set_option maxRecDepth 16384

noncomputable section

namespace Cert.K

open Cert.KernelIdeal Cert.KernelIdeal.Gen
open Idealize.ShloMosaic Idealize.ShloMosaic.TcCoe
open Idealize.SL.Sem
open Idealize.SL
open Idealize.SL.BI (sProp bigSep)
open scoped Idealize.SL.BI
open Idealize.SL.BI.BIBase Idealize.SL.BI.Laws Idealize.SL.ProofMode
open Idealize.SL.RA
open Idealize.ShloMosaic.Rounds
open Pipeline

variable {F : FTy → Type} [FloatOps F]

local notation "𝕄" => MT nD τ sig Unit (Elt F) ℕ UU ℕ

/-! ## The contents -/

section Mk
variable (x : Dev nD → S4096x1024.Idx → Elt F .bf16) (w p : Dev nD → S1024x8192.Idx → Elt F .bf16)

/-- The product's operands; the rest not yet chosen. -/
def mk0 : Info F where
  x := x
  w := w
  p := p
  a := fun _ _ => (Scalar.ofBits .f32 0x00000000#32 : F .f32)
  q := fun _ _ _ => (FloatOps.truncf .fp8e4m3 bitsLt_fp8e4m3_f32 (Scalar.ofBits .f32 0x00000000#32 : F .f32) : F .fp8e4m3)
/-- With the block each device adds to the gathered maxima. -/
def mk1 : Info F := { mk0 x w p with a := fun c => broadcast S8x128 (peakI (mk0 x w p) c) }
/-- With the quotients each device sends. -/
def mk2 : Info F := { mk1 x w p with q := fun d c => quant (bufAll (mk1 x w p)) (ownAll (mk1 x w p) d c) }

theorem peakI_congr {a a' : Dev nD → S8x128.Idx → Elt F .f32} {q q' : Dir → Dev nD → S1024x4096.Idx → Elt F .fp8e4m3} (c : Dev nD) :
    peakI ⟨x, w, p, a, q⟩ c = peakI ⟨x, w, p, a', q'⟩ c := rfl
theorem ownAll_congr {a a' : Dev nD → S8x128.Idx → Elt F .f32} {q q' : Dir → Dev nD → S1024x4096.Idx → Elt F .fp8e4m3} (d : Dir) (c : Dev nD) :
    ownAll ⟨x, w, p, a, q⟩ d c = ownAll ⟨x, w, p, a', q'⟩ d c := rfl
theorem bufAll_congr {a : Dev nD → S8x128.Idx → Elt F .f32} {q q' : Dir → Dev nD → S1024x4096.Idx → Elt F .fp8e4m3} :
    bufAll ⟨x, w, p, a, q⟩ = bufAll ⟨x, w, p, a, q'⟩ := rfl

theorem mk2_a (c : Dev nD) : (mk2 x w p).a c = broadcast S8x128 (peakI (mk2 x w p) c) :=
  congrArg (broadcast S8x128) (peakI_congr x w p c)
theorem mk2_q (d : Dir) (c : Dev nD) : (mk2 x w p).q d c = quant (bufAll (mk2 x w p)) (ownAll (mk2 x w p) d c) :=
  congrArg₂ quant (bufAll_congr x w p) (ownAll_congr x w p d c)
end Mk

/-! ## The buffers after each call -/

/-- One buffer changed. -/
def upd (b : Ref sig .tc) (f : b.ty.Contents (Elt F)) (V : Valuation τ sig (Elt F)) : Valuation τ sig (Elt F) :=
  Function.update V (Proc.devRef .tc b) f
theorem upd_self (b : Ref sig .tc) (f : b.ty.Contents (Elt F)) (V : Valuation τ sig (Elt F)) : upd b f V (Proc.devRef .tc b) = f :=
  Function.update_self _ _ _
theorem upd_of (b : Ref sig .tc) (f : b.ty.Contents (Elt F)) (V : Valuation τ sig (Elt F)) {r : DevRef τ sig} (h : r ≠ Proc.devRef .tc b) : upd b f V r = V r :=
  Function.update_of_ne h _ _
theorem upd_ne (b : Ref sig .tc) (f : b.ty.Contents (Elt F)) (V : Valuation τ sig (Elt F)) {b' : Ref sig .tc} (h : b' ≠ b) :
    upd b f V (Proc.devRef .tc b') = V (Proc.devRef .tc b') := upd_of b f V (StableHlo.devRef_ne_of_ne h)

section Vals
variable (X : Dev nD → Valuation τ sig (Elt F))

/-- The contents, read of the buffers before the first call. -/
def info : Info F := mk2 (fun c => X c (Proc.devRef .tc main_arg0)) (fun c => X c (Proc.devRef .tc main_arg1)) (fun c => X c (Proc.devRef .tc main_v11))

def X2 (c : Dev nD) : Valuation τ sig (Elt F) :=
  upd main_v12_2 (broadcast S8x128 (peakI (info X) c)) <| upd main_v12_0 (ownAll (info X) true c) <| upd main_v12_1 (ownAll (info X) false c)
    <| upd main_v12_3 (recvAll (info X) true c) <| upd main_v12_4 (recvAll (info X) false c)
    <| upd main_v12_5 (landAll (info X) true c) <| upd main_v12_6 (landAll (info X) false c) (X c)
def X3 (c : Dev nD) : Valuation τ sig (Elt F) := upd main_v13 (bufAll (info X)) (X2 X c)
def X4 (c : Dev nD) : Valuation τ sig (Elt F) := upd main_v14_0 ((info X).q true c) <| upd main_v14_1 ((info X).q false c) (X3 X c)
def X5 (c : Dev nD) : Valuation τ sig (Elt F) := upd main_v15 (blkAll (info X)) (X4 X c)
def X6 (c : Dev nD) : Valuation τ sig (Elt F) := upd main_v16 (dequant (bufAll (info X)) (blkAll (info X))) (X5 X c)

theorem X2_of {r : DevRef τ sig} (c : Dev nD) (h : r ∉ ([main_v12_2, main_v12_0, main_v12_1, main_v12_3, main_v12_4, main_v12_5, main_v12_6].map (Proc.devRef .tc) : List (DevRef τ sig))) :
    X2 X c r = X c r := by
  simp only [List.map_cons, List.map_nil, List.mem_cons, List.not_mem_nil, or_false, not_or] at h
  unfold X2
  rw [upd_of _ _ _ h.1, upd_of _ _ _ h.2.1, upd_of _ _ _ h.2.2.1, upd_of _ _ _ h.2.2.2.1, upd_of _ _ _ h.2.2.2.2.1, upd_of _ _ _ h.2.2.2.2.2.1, upd_of _ _ _ h.2.2.2.2.2.2]
theorem X2_amax (c : Dev nD) : X2 X c (Proc.devRef .tc main_v12_2) = broadcast S8x128 (peakI (info X) c) := upd_self _ _ _
theorem X2_v12_0 (c : Dev nD) : X2 X c (Proc.devRef .tc main_v12_0) = ownAll (info X) true c := by
  unfold X2; rw [upd_ne main_v12_2 _ _ (by decide)]; exact upd_self _ _ _
theorem X2_v12_1 (c : Dev nD) : X2 X c (Proc.devRef .tc main_v12_1) = ownAll (info X) false c := by
  unfold X2; rw [upd_ne main_v12_2 _ _ (by decide), upd_ne main_v12_0 _ _ (by decide)]; exact upd_self _ _ _
theorem X2_v12_3 (c : Dev nD) : X2 X c (Proc.devRef .tc main_v12_3) = recvAll (info X) true c := by
  unfold X2; rw [upd_ne main_v12_2 _ _ (by decide), upd_ne main_v12_0 _ _ (by decide), upd_ne main_v12_1 _ _ (by decide)]; exact upd_self _ _ _
theorem X2_v12_4 (c : Dev nD) : X2 X c (Proc.devRef .tc main_v12_4) = recvAll (info X) false c := by
  unfold X2; rw [upd_ne main_v12_2 _ _ (by decide), upd_ne main_v12_0 _ _ (by decide), upd_ne main_v12_1 _ _ (by decide), upd_ne main_v12_3 _ _ (by decide)]; exact upd_self _ _ _
theorem X2_v12_5 (c : Dev nD) : X2 X c (Proc.devRef .tc main_v12_5) = landAll (info X) true c := by
  unfold X2; rw [upd_ne main_v12_2 _ _ (by decide), upd_ne main_v12_0 _ _ (by decide), upd_ne main_v12_1 _ _ (by decide), upd_ne main_v12_3 _ _ (by decide), upd_ne main_v12_4 _ _ (by decide)]; exact upd_self _ _ _
theorem X2_v12_6 (c : Dev nD) : X2 X c (Proc.devRef .tc main_v12_6) = landAll (info X) false c := by
  unfold X2; rw [upd_ne main_v12_2 _ _ (by decide), upd_ne main_v12_0 _ _ (by decide), upd_ne main_v12_1 _ _ (by decide), upd_ne main_v12_3 _ _ (by decide), upd_ne main_v12_4 _ _ (by decide), upd_ne main_v12_5 _ _ (by decide)]; exact upd_self _ _ _

theorem X3_v13 (c : Dev nD) : X3 X c (Proc.devRef .tc main_v13) = bufAll (info X) := upd_self _ _ _
theorem X3_of {r : DevRef τ sig} (c : Dev nD) (h : r ≠ Proc.devRef .tc main_v13) : X3 X c r = X2 X c r := upd_of _ _ _ h
theorem X4_of {r : DevRef τ sig} (c : Dev nD) (h : r ≠ Proc.devRef .tc main_v14_0) (h' : r ≠ Proc.devRef .tc main_v14_1) : X4 X c r = X3 X c r :=
  (upd_of _ _ _ h).trans (upd_of _ _ _ h')
theorem X4_v14_0 (c : Dev nD) : X4 X c (Proc.devRef .tc main_v14_0) = (info X).q true c := upd_self _ _ _
theorem X4_v14_1 (c : Dev nD) : X4 X c (Proc.devRef .tc main_v14_1) = (info X).q false c := (upd_ne _ _ _ (by decide)).trans (upd_self _ _ _)
theorem X4_v13 (c : Dev nD) : X4 X c (Proc.devRef .tc main_v13) = bufAll (info X) :=
  (X4_of X c (StableHlo.devRef_ne_of_ne (by decide)) (StableHlo.devRef_ne_of_ne (by decide))).trans (X3_v13 X c)
theorem X5_of {r : DevRef τ sig} (c : Dev nD) (h : r ≠ Proc.devRef .tc main_v15) : X5 X c r = X4 X c r := upd_of _ _ _ h
theorem X5_v15 (c : Dev nD) : X5 X c (Proc.devRef .tc main_v15) = blkAll (info X) := upd_self _ _ _
theorem X5_v13 (c : Dev nD) : X5 X c (Proc.devRef .tc main_v13) = bufAll (info X) := (X5_of X c (StableHlo.devRef_ne_of_ne (by decide))).trans (X4_v13 X c)
theorem X6_of {r : DevRef τ sig} (c : Dev nD) (h : r ≠ Proc.devRef .tc main_v16) : X6 X c r = X5 X c r := upd_of _ _ _ h
theorem X6_v16 (c : Dev nD) : X6 X c (Proc.devRef .tc main_v16) = dequant (bufAll (info X)) (blkAll (info X)) := upd_self _ _ _

theorem info_a (c : Dev nD) : (info X).a c = X2 X c (Proc.devRef .tc main_v12_2) := (mk2_a _ _ _ c).trans (X2_amax X c).symm
theorem info_q (d : Dir) (c : Dev nD) : (info X).q d c = quant (bufAll (info X)) (ownAll (info X) d c) := mk2_q _ _ _ d c
theorem X3_v12_0 (c : Dev nD) : X3 X c (Proc.devRef .tc main_v12_0) = ownAll (info X) true c := (X3_of X c (StableHlo.devRef_ne_of_ne (by decide))).trans (X2_v12_0 X c)
theorem X3_v12_1 (c : Dev nD) : X3 X c (Proc.devRef .tc main_v12_1) = ownAll (info X) false c := (X3_of X c (StableHlo.devRef_ne_of_ne (by decide))).trans (X2_v12_1 X c)

/-- An argument is never written. -/
theorem X6_arg (c : Dev nD) {b : Ref sig .tc} (h : b ∈ [main_arg0, main_arg1]) : X6 X c (Proc.devRef .tc b) = X c (Proc.devRef .tc b) := by
  simp only [List.mem_cons, List.not_mem_nil, or_false] at h
  rcases h with rfl | rfl
  · rw [X6_of X c (StableHlo.devRef_ne_of_ne (by decide)), X5_of X c (StableHlo.devRef_ne_of_ne (by decide)),
      X4_of X c (StableHlo.devRef_ne_of_ne (by decide)) (StableHlo.devRef_ne_of_ne (by decide)), X3_of X c (StableHlo.devRef_ne_of_ne (by decide)), X2_of X c (by decide)]
  · rw [X6_of X c (StableHlo.devRef_ne_of_ne (by decide)), X5_of X c (StableHlo.devRef_ne_of_ne (by decide)),
      X4_of X c (StableHlo.devRef_ne_of_ne (by decide)) (StableHlo.devRef_ne_of_ne (by decide)), X3_of X c (StableHlo.devRef_ne_of_ne (by decide)), X2_of X c (by decide)]

end Vals

/-! ## What a device still owes -/

section Owed
variable (c : Dev nD)

theorem owe_add (T U : CellTallies nD τ sig Unit) : ∀ ls : List Ln, owe c ls (T + U) = T + owe c ls U
  | [] => rfl
  | l :: ls => by
    show owe c ls (T + U) + owL c l = T + (owe c ls U + owL c l)
    rw [owe_add T U ls, add_assoc]

def due2 : CellTallies nD τ sig Unit := owe c agOrder (owF c 2 1 + owF c 2 0) + owB c 2 1 + owB c 2 0
def due1 : CellTallies nD τ sig Unit := owe c [.ax 0, .ax 1, .ax 2] (owF c 1 0 + owF c 1 1 + owF c 1 2) + owB c 1 0 + owB c 1 1 + owB c 1 2
def due0 : CellTallies nD τ sig Unit := owe c rsOrder (owF c 0 1 + owF c 0 0) + owB c 0 1 + owB c 0 0
def T2 : CellTallies nD τ sig Unit := 0 + due2 c
def T1 : CellTallies nD τ sig Unit := T2 c + due1 c
def T0 : CellTallies nD τ sig Unit := T1 c + due0 c

theorem due2_eq (T : CellTallies nD τ sig Unit) : T + due2 c = owe c agOrder (T + owF c 2 1 + owF c 2 0) + owB c 2 1 + owB c 2 0 := by
  rw [show T + owF c 2 1 + owF c 2 0 = T + (owF c 2 1 + owF c 2 0) from add_assoc _ _ _, owe_add]; unfold due2; rw [add_assoc, add_assoc, add_assoc]
theorem due1_eq (T : CellTallies nD τ sig Unit) :
    T + due1 c = owe c [.ax 0, .ax 1, .ax 2] (T + owF c 1 0 + owF c 1 1 + owF c 1 2) + owB c 1 0 + owB c 1 1 + owB c 1 2 := by
  rw [show T + owF c 1 0 + owF c 1 1 + owF c 1 2 = T + (owF c 1 0 + owF c 1 1 + owF c 1 2) from by rw [add_assoc, add_assoc, add_assoc], owe_add]; unfold due1
  simp only [← add_assoc]
theorem due0_eq (T : CellTallies nD τ sig Unit) : T + due0 c = owe c rsOrder (T + owF c 0 1 + owF c 0 0) + owB c 0 1 + owB c 0 0 := by
  rw [show T + owF c 0 1 + owF c 0 0 = T + (owF c 0 1 + owF c 0 0) from add_assoc _ _ _, owe_add]; unfold due0; rw [add_assoc, add_assoc, add_assoc]

theorem above_T2 : Above 8 (T2 c) := by
  refine (Above.zero _).add (((owe_above c ?_ _ (by decide +kernel)).add (Above.tally _ _ _ (by decide))).add (Above.tally _ _ _ (by decide)))
  exact (Above.tally _ _ _ (by decide)).add (Above.tally _ _ _ (by decide))
theorem above_T1 : Above 5 (T1 c) := by
  refine ((above_T2 c).mono (by decide)).add ((((owe_above c ?_ _ (by decide +kernel)).add (Above.tally _ _ _ (by decide))).add (Above.tally _ _ _ (by decide))).add (Above.tally _ _ _ (by decide)))
  exact ((Above.tally _ _ _ (by decide)).add (Above.tally _ _ _ (by decide))).add (Above.tally _ _ _ (by decide))
theorem above_T0 : Above 0 (T0 c) := by
  refine ((above_T1 c).mono (by decide)).add (((owe_above c ?_ _ (by decide +kernel)).add (Above.tally _ _ _ (by decide))).add (Above.tally _ _ _ (by decide)))
  exact (Above.tally _ _ _ (by decide)).add (Above.tally _ _ _ (by decide))

end Owed

end Cert.K
-- ==== Proof.Call0.lean ====
/-
# The first call's record

The reduce-scatter as a region of the program: the data of its one window, what its body keeps, and the obligation of the body.
-/
module

public import proofs.«01_k».proof.Proof.Contents

@[expose] public section

set_option maxRecDepth 16384

noncomputable section

namespace Cert.K

open Cert.KernelIdeal Cert.KernelIdeal.Gen
open Idealize.ShloMosaic Idealize.ShloMosaic.TcCoe
open Idealize.SL.Sem
open Idealize.SL
open Idealize.SL.BI (sProp bigSep)
open scoped Idealize.SL.BI
open Idealize.SL.BI.BIBase Idealize.SL.BI.Laws Idealize.SL.ProofMode
open Idealize.SL.RA
open Idealize.ShloMosaic.Rounds
open Pipeline

variable {F : FTy → Type} [FloatOps F]

local notation "𝕄" => MT nD τ sig Unit (Elt F) ℕ UU ℕ

/-! ## Shared by the three communicating calls -/

/-- The invariants of every counter the calls share, and the levels. -/
def know (I : Info F) : sProp 𝕄 := iprop(∃ κ, recs κ I)

theorem owes_in {cfg : Pipeline.Cfg sig Λ₀} {c : Dev nD} (dat : Dat τ (Elt F) Unit ℕ UU ℕ cfg c) (t : Fin (cfg.N + 1)) (O : CellTallies nD τ sig Unit)
    (h : dat.owed t = O) (hr : dat.recorded t = Set.univ) : iprop(∃ Wt, owes (c : Thread nD τ) O Wt) ⊢ (dat.owesAt () t : sProp 𝕄) := by
  unfold Dat.owesAt Pipeline.owesWithin Dat.bound
  rw [h, hr]
  iintro ⟨%Wt, HO⟩
  iexists Wt
  isplitr; · ipureintro; exact fun _ _ => Or.inl trivial
  iexact HO
theorem owes_out {cfg : Pipeline.Cfg sig Λ₀} {c : Dev nD} (dat : Dat τ (Elt F) Unit ℕ UU ℕ cfg c) (t : Fin (cfg.N + 1)) (O : CellTallies nD τ sig Unit)
    (h : dat.owed t = O) : (dat.owesAt () t : sProp 𝕄) ⊢ iprop(∃ Wt, owes (c : Thread nD τ) O Wt) := by
  unfold Dat.owesAt Pipeline.owesWithin
  rw [h]
  iintro ⟨%Wt, -, HO⟩
  iexists Wt
  iexact HO

theorem both_ways {P Q : sProp 𝕄} (h : P ⊢ Q) (h' : Q ⊢ P) : P = Q := BI.Entails.antisymm h h'

theorem bigSep_mem {J : Type} [DecidableEq J] (s : Finset J) (Φ : J → sProp 𝕄) : (bigSep Finset.univ fun k : {k // k ∈ s} => Φ k.1) = bigSep s Φ := by
  have h : (Finset.univ : Finset {k // k ∈ s}).map (Function.Embedding.subtype _) = s := by
    ext k
    rw [Finset.mem_map]
    exact ⟨fun ⟨y, _, hy⟩ => hy ▸ y.2, fun hk => ⟨⟨k, hk⟩, Finset.mem_univ _, rfl⟩⟩
  have e : bigSep ((Finset.univ : Finset {k // k ∈ s}).map (Function.Embedding.subtype _)) Φ = (bigSep Finset.univ fun k : {k // k ∈ s} => Φ k.1) :=
    BI.bigSep_map (Function.Embedding.subtype _)
  rw [← e, h]

theorem some_whole (c : Dev nD) (b : Ref sig .tc) : (some' c (Memref.whole b) : sProp 𝕄) = iprop(∃ f : Buf (Elt F) ((c : Thread nD τ).loc b), ((c : Thread nD τ).loc b) ↦{fullShare} f) := by
  have h : ∀ X : b.ty.Contents (Elt F), (own c (Memref.whole b) X : sProp 𝕄) = (((c : Thread nD τ).loc b) ↦{fullShare} X) := own_whole_iff c b
  exact congrArg (fun Φ : b.ty.Contents (Elt F) → sProp 𝕄 => iprop(∃ X, Φ X)) (funext h)

/-! ## The first call's own counters -/

abbrev K0 : Type := {k // k ∈ inner 0} ⊕ (J ⊕ Fin 4)
def osem0 : K0 → SemLoc sig
  | .inl k => semOf k.1
  | .inr (.inl j) => .dma (storeS j.1 j.2)
  | .inr (.inr 0) => .dma xS
  | .inr (.inr 1) => .dma (addS true)
  | .inr (.inr 2) => .dma (addS false)
  | .inr (.inr 3) => .dma wS

theorem osem0_ok : Pipeline.OwnSemFacts spec0 osem0 := by decide +kernel

theorem own_sems0 (c : Dev nD) : (Pipeline.ownSems0 osem0 c : sProp 𝕄) = iprop(bigSep (inner 0) (fun k => semVal (cell c k) 0) ∗ rsCnt c) := by
  unfold Pipeline.ownSems0
  rw [BI.bigSep_univ_sum, BI.bigSep_univ_sum]
  have h1 : (bigSep Finset.univ fun k : {k // k ∈ inner 0} => (semVal ((c.tc : Thread nD τ), osem0 (.inl k)) 0 : sProp 𝕄)) = bigSep (inner 0) (fun k => semVal (cell c k) 0) :=
    bigSep_mem (inner 0) (fun k => semVal (cell c k) 0)
  have h2 : (bigSep Finset.univ fun n : Fin 4 => (semVal ((c.tc : Thread nD τ), osem0 (.inr (.inr n))) 0 : sProp 𝕄))
      = iprop(own0 c xS ∗ own0 c (addS true) ∗ own0 c (addS false) ∗ own0 c wS) := by
    rw [show (Finset.univ : Finset (Fin 4)) = insert 0 (insert 1 (insert 2 {3})) from by decide, bigSep_ins (by decide), bigSep_ins (by decide), bigSep_ins (by decide), BI.bigSep_singleton]
    rfl
  refine congrArg₂ BI.sep h1 ?_
  rw [h2]
  unfold rsCnt adds
  show iprop((bigSep Finset.univ fun j : J => own0 c (storeS j.1 j.2)) ∗ own0 c xS ∗ own0 c (addS true) ∗ own0 c (addS false) ∗ own0 c wS) = _
  refine both_ways ?_ ?_
  · iintro ⟨Hs, Hx, Ha, Hb, Hw⟩
    isplitl [Hx]; · iexact Hx
    isplitl [Ha Hb]
    · isplitl [Ha] <;> iassumption
    isplitl [Hw]; · iexact Hw
    iexact Hs
  · iintro ⟨Hx, ⟨Ha, Hb⟩, Hw, Hs⟩
    isplitl [Hs]; · iexact Hs
    isplitl [Hx]; · iexact Hx
    isplitl [Ha]; · iexact Ha
    isplitl [Hb] <;> iassumption

/-! ## Its buffers and its scratch -/

def H0 : Finset (Ref sig .tc) := {main_arg0, main_arg1, main_v11, main_v12_0, main_v12_1, main_v12_3, main_v12_4, main_v12_5, main_v12_6}

section Body
variable (X : Dev nD → Valuation τ sig (Elt F))

theorem held0 (c : Dev nD) (V : Valuation τ sig (Elt F)) : (StableHlo.held (c.tc : Thread nD τ) (hbmRefs (τ := τ) H0) V : sProp 𝕄)
    = iprop(own c xA (V (Proc.devRef .tc main_arg0)) ∗ own c wA (V (Proc.devRef .tc main_arg1)) ∗ own c pA (V (Proc.devRef .tc main_v11))
      ∗ own c (ownA true) (V (Proc.devRef .tc main_v12_0)) ∗ own c (ownA false) (V (Proc.devRef .tc main_v12_1))
      ∗ own c (recvA true) (V (Proc.devRef .tc main_v12_3)) ∗ own c (recvA false) (V (Proc.devRef .tc main_v12_4))
      ∗ own c (landA true) (V (Proc.devRef .tc main_v12_5)) ∗ own c (landA false) (V (Proc.devRef .tc main_v12_6))) := by
  rw [held_hbm, BI.bigSep_eq_bigSepL_of_eq [main_arg0, main_arg1, main_v11, main_v12_0, main_v12_1, main_v12_3, main_v12_4, main_v12_5, main_v12_6] (by decide) (by decide)]
  unfold ownA recvA landA
  rw [own_whole_iff, own_whole_iff, own_whole_iff, own_whole_iff, own_whole_iff, own_whole_iff, own_whole_iff, own_whole_iff, own_whole_iff]
  rfl

theorem held0_in (c : Dev nD) : (StableHlo.held (c.tc : Thread nD τ) (hbmRefs (τ := τ) H0) (X c) : sProp 𝕄) ⊢ rsIn (info X) c := by
  rw [held0]
  unfold rsIn both
  iintro ⟨Hx, Hw, Hp, Ho1, Ho2, Hr1, Hr2, Hl1, Hl2⟩
  isplitl [Hx]; · iexact Hx
  isplitl [Hw]; · iexact Hw
  isplitl [Hp]; · iexact Hp
  isplitl [Ho1 Ho2]
  · isplitl [Ho1]
    · iexists _; iexact Ho1
    · iexists _; iexact Ho2
  isplitl [Hr1 Hr2]
  · isplitl [Hr1]
    · iexists _; iexact Hr1
    · iexists _; iexact Hr2
  isplitl [Hl1]
  · iexists _; iexact Hl1
  · iexists _; iexact Hl2

theorem held0_out (c : Dev nD) : rsOut (info X) c ⊢ (StableHlo.held (c.tc : Thread nD τ) (hbmRefs (τ := τ) H0) (X2 X c) : sProp 𝕄) := by
  rw [held0, X2_v12_0, X2_v12_1, X2_v12_3, X2_v12_4, X2_v12_5, X2_v12_6, X2_of X c (r := Proc.devRef .tc main_arg0) (by decide),
    X2_of X c (r := Proc.devRef .tc main_arg1) (by decide), X2_of X c (r := Proc.devRef .tc main_v11) (by decide)]
  unfold rsOut both
  iintro ⟨Hx, Hw, Hp, ⟨Ho1, Ho2⟩, ⟨Hr1, Hr2⟩, ⟨Hl1, Hl2⟩⟩
  isplitl [Hx]; · iexact Hx
  isplitl [Hw]; · iexact Hw
  isplitl [Hp]; · iexact Hp
  isplitl [Ho1]; · iexact Ho1
  isplitl [Ho2]; · iexact Ho2
  isplitl [Hr1]; · iexact Hr1
  isplitl [Hr2]; · iexact Hr2
  isplitl [Hl1]; · iexact Hl1
  iexact Hl2

def scr : List (Ref sig .tc) := [cc0_scratch0, cc0_scratch1, cc0_scratch2, cc0_scratch3, cc0_scratch4, cc0_scratch5]

theorem scratch0 (c : Dev nD) : (Pipeline.scopedRest (Pipeline.pin (pcfgs (F := F)) adm 0).spec c : sProp 𝕄) = iprop(rsScr c ∗ Pipeline.scopedRestBut spec0 c scr) := by
  have h : (Pipeline.scopedRest (Pipeline.pin (pcfgs (F := F)) adm 0).spec c : sProp 𝕄) = _ :=
    Pipeline.scopedRest_split_of_list spec0 c scr (by decide +kernel) (by decide)
  rw [h]
  unfold rsScr both
  show _ = iprop((some' c (Memref.whole cc0_scratch0) ∗ some' c (Memref.whole cc0_scratch1) ∗ (some' c (Memref.whole cc0_scratch2) ∗ some' c (Memref.whole cc0_scratch3))
    ∗ some' c (Memref.whole cc0_scratch4) ∗ some' c (Memref.whole cc0_scratch5)) ∗ _)
  rw [some_whole, some_whole, some_whole, some_whole, some_whole, some_whole]
  refine congrArg₂ BI.sep ?_ rfl
  show iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f)) = _
  refine both_ways ?_ ?_
  · iintro ⟨H0, H1, H2, H3, H4, H5⟩
    isplitl [H0]; · iexact H0
    isplitl [H1]; · iexact H1
    isplitl [H2 H3]
    · isplitl [H2]; · iexact H2
      iexact H3
    isplitl [H4]; · iexact H4
    iexact H5
  · iintro ⟨H0, H1, ⟨H2, H3⟩, H4, H5⟩
    isplitl [H0]; · iexact H0
    isplitl [H1]; · iexact H1
    isplitl [H2]; · iexact H2
    isplitl [H3]; · iexact H3
    isplitl [H4]; · iexact H4
    iexact H5

/-! ## The data and the obligation -/

/-- What the first call takes of the program's shared state, and what it gives back. -/
def Tk0 (c : Dev nD) : sProp 𝕄 := iprop(know (info X) ∗ stock c 0)
def Yk0 (c : Dev nD) : sProp 𝕄 := iprop(know (info X) ∗ semVal (cell c (.bar 0)) 0)

def dat0 (c : Dev nD) : Dat τ (Elt F) Unit ℕ UU ℕ cfg0 c where
  A w := X c (Proc.devRef .tc (Pipeline.arrRef spec0 w))
  after w t := match w with
    | ⟨0, _⟩ => broadcast S8x128 (peakI (info X) c)
  Φ t := if t.val = 0 then
      iprop(Pipeline.scopedRest (Pipeline.pin (pcfgs (F := F)) adm 0).spec c ∗ (∃ r, prngReg c r) ∗ StableHlo.held (c.tc : Thread nD τ) (hbmRefs (τ := τ) H0) (X c) ∗ Tk0 X c ∗ Pipeline.ownSems0 osem0 c)
    else iprop(Pipeline.scopedRest (Pipeline.pin (pcfgs (F := F)) adm 0).spec c ∗ (∃ r, prngReg c r) ∗ StableHlo.held (c.tc : Thread nD τ) (hbmRefs (τ := τ) H0) (X2 X c) ∗ Pipeline.ownSems0 osem0 c ∗ Yk0 X c)
  q _ := fullShare
  owed t := if t.val = 0 then T0 c else T1 c

def pre0 (c : Dev nD) (t : Fin cfg0.N) : sProp 𝕄 :=
  iprop((dat0 X c).Φ t.castSucc ∗ (dat0 X c).owesAt () t.castSucc ∗ (∃ d, own c (st0_0 t) ((dat0 X c).before 0 t d)))
def post0 (c : Dev nD) (t : Fin cfg0.N) : sProp 𝕄 :=
  iprop((dat0 X c).Φ t.succ ∗ (dat0 X c).owesAt () t.succ ∗ own c (st0_0 t) ((dat0 X c).after 0 t))

theorem first0 (t : Fin cfg0.N) : t.castSucc.val = 0 := (by decide +kernel : ∀ t : Fin grid0.N, t.castSucc.val = 0) t
theorem later0 (t : Fin cfg0.N) : ¬ t.succ.val = 0 := by rw [Fin.val_succ]; exact Nat.succ_ne_zero _

theorem Φ0_first (c : Dev nD) (t : Fin cfg0.N) : (dat0 X c).Φ t.castSucc
    = iprop(Pipeline.scopedRest (Pipeline.pin (pcfgs (F := F)) adm 0).spec c ∗ (∃ r, prngReg c r) ∗ StableHlo.held (c.tc : Thread nD τ) (hbmRefs (τ := τ) H0) (X c) ∗ Tk0 X c ∗ Pipeline.ownSems0 osem0 c) :=
  if_pos (first0 t)
theorem Φ0_later (c : Dev nD) (t : Fin cfg0.N) : (dat0 X c).Φ t.succ
    = iprop(Pipeline.scopedRest (Pipeline.pin (pcfgs (F := F)) adm 0).spec c ∗ (∃ r, prngReg c r) ∗ StableHlo.held (c.tc : Thread nD τ) (hbmRefs (τ := τ) H0) (X2 X c) ∗ Pipeline.ownSems0 osem0 c ∗ Yk0 X c) :=
  by dsimp only [dat0]; rw [if_neg (later0 t)]

theorem owes0_first (c : Dev nD) (t : Fin cfg0.N) : ((dat0 X c).owesAt () t.castSucc : sProp 𝕄) ⊢ iprop(∃ Wt, owes (c : Thread nD τ) (T0 c) Wt) :=
  owes_out (dat0 X c) t.castSucc (T0 c) (if_pos (first0 t))
theorem owes0_later (c : Dev nD) (t : Fin cfg0.N) : iprop(∃ Wt, owes (c : Thread nD τ) (T1 c) Wt) ⊢ ((dat0 X c).owesAt () t.succ : sProp 𝕄) :=
  owes_in (dat0 X c) t.succ (T1 c) (by dsimp only [dat0]; rw [if_neg (later0 t)]) rfl

/-- The body, in terms of what the call takes and leaves. -/
theorem call0_wp (κ : GSem nD τ sig → ℕ) (c : Dev nD) (M : Memref sig .tc .vmem S8x128 .f32) {Q : PUnit → sProp 𝕄} :
    iprop(recs κ (info X) ∗ stock c 0 ∗ rsIn (info X) c ∗ rsScr c ∗ (bigSep (inner 0) (fun k => semVal (cell c k) 0) ∗ rsCnt c) ∗ some' c M
        ∗ ∃ Wt, owes (c : Thread nD τ) (T0 c) Wt)
      ⊢ iprop((rsOut (info X) c ∗ rsScr c ∗ (bigSep (inner 0) (fun k => semVal (cell c k) 0) ∗ rsCnt c) ∗ semVal (cell c (.bar 0)) 0
          ∗ own c M (broadcast S8x128 (peakI (info X) c)) ∗ (∃ Wt, owes (c : Thread nD τ) (T1 c) Wt) -∗ Q ⟨⟩) -∗ W c (rsProg M) Q) := by
  unfold T0
  rw [due0_eq]
  iintro ⟨#HR, Hst, Hin, Hsc, ⟨Hse, Hcn⟩, HM, HO⟩ Hk
  ihave Hen := (rs_enter (info X) c) $$ [Hin Hsc Hcn]
  · isplitl [Hin]; · iexact Hin
    isplitl [Hsc] <;> iassumption
  icases Hen with ⟨Hre, Hti, Hsl⟩
  iapply (fupd_wp _ _ _ _ _)
  imod (ready_of κ (info X) c 0) $$ [Hst Hse Hsl] with Hrd
  · isplitr; · iexact HR
    isplitl [Hst]; · iexact Hst
    isplitl [Hse] <;> iassumption
  imodintro
  iapply (rs_wp κ (info X) c M (above_T1 c)) $$ [Hrd Hre Hti HM HO]
  · isplitr; · iexact HR
    unfold rsPre
    isplitl [Hrd]; · iexact Hrd
    isplitl [Hre]; · iexact Hre
    isplitl [Hti]; · iexact Hti
    isplitl [HM] <;> iassumption
  unfold rsPost
  iintro ⟨⟨Hb, Hse⟩, Hre, Hto, HM, HO⟩
  ihave Hle := (rs_leave (info X) c) $$ [Hre Hto]
  · isplitl [Hre] <;> iassumption
  icases Hle with ⟨Ho, Hsc, Hcn⟩
  iapply Hk
  isplitl [Ho]; · iexact Ho
  isplitl [Hsc]; · iexact Hsc
  isplitl [Hse Hcn]
  · isplitl [Hse] <;> iassumption
  isplitl [Hb]; · iexact Hb
  isplitl [HM] <;> iassumption

theorem post0_of (κ : GSem nD τ sig → ℕ) (c : Dev nD) (t : Fin cfg0.N) :
    iprop(recs κ (info X) ∗ Pipeline.scopedRestBut spec0 c scr ∗ (∃ r, prngReg c r) ∗ rsOut (info X) c ∗ rsScr c
      ∗ (bigSep (inner 0) (fun k => semVal (cell c k) 0) ∗ rsCnt c) ∗ semVal (cell c (.bar 0)) 0
      ∗ own c (st0_0 t) (broadcast S8x128 (peakI (info X) c)) ∗ (∃ Wt, owes (c : Thread nD τ) (T1 c) Wt)) ⊢ post0 X c t := by
  unfold post0
  rw [Φ0_later, own_sems0, scratch0]
  unfold Yk0 know
  iintro ⟨#HR, Hr, Hp, Ho, Hsc, Hos, Hb, HM, HO⟩
  isplitl [Hsc Hr Hp Ho Hos Hb]
  · isplitl [Hsc Hr]; · isplitl [Hsc] <;> iassumption
    isplitl [Hp]; · iexact Hp
    isplitl [Ho]; · iapply (held0_out X c); iexact Ho
    isplitl [Hos]; · iexact Hos
    isplitr; · iexists κ; iexact HR
    iexact Hb
  isplitl [HO]; · iapply (owes0_later X c t); iexact HO
  iexact HM

theorem body0 (c : Dev nD) (t : Fin cfg0.N) : pre0 X c t ⊢ W c (bodyAt0 t) (fun _ => post0 X c t) := by
  unfold pre0
  rw [rs_eq, Φ0_first, own_sems0, scratch0]
  unfold Tk0 know
  iintro ⟨⟨⟨Hsc, Hr⟩, Hp, HH, ⟨⟨%κ, #HR⟩, Hst⟩, Hos⟩, HO, ⟨%d, HM⟩⟩
  ihave Hin := (held0_in X c) $$ HH
  ihave HO := (owes0_first X c t) $$ HO
  iapply (call0_wp X κ c (st0_0 t)) $$ [Hst Hin Hsc Hos HM HO]
  · isplitr; · iexact HR
    isplitl [Hst]; · iexact Hst
    isplitl [Hin]; · iexact Hin
    isplitl [Hsc]; · iexact Hsc
    isplitl [Hos]; · iexact Hos
    isplitl [HM]; · iexists _; iexact HM
    iexact HO
  iintro ⟨Ho, Hsc, Hos, Hb, HM, HO⟩
  iapply (post0_of X κ c t)
  isplitr; · iexact HR
  isplitl [Hr]; · iexact Hr
  isplitl [Hp]; · iexact Hp
  isplitl [Ho]; · iexact Ho
  isplitl [Hsc]; · iexact Hsc
  isplitl [Hos]; · iexact Hos
  isplitl [Hb]; · iexact Hb
  isplitl [HM] <;> iassumption

theorem row0 (t : Fin cfg0.N) : defs₀ (F := F) .tc cfg0.body (cfg0.bodyArgs t (cfg0.slots t)) = bodyAt0 t := by
  unfold defs₀; rw [Defs.onTc_tc]

theorem obl0 (c : Dev nD) : BodyObligation (dat0 X c) (defs₀ (F := F)) 𝒱₀ () Set.univ := fun t => by
  rw [bigSep_W0, bigSep_W0, row0]
  exact triple_restated (body0 X c t) rfl .rfl fun _ => .rfl

theorem final0_0 (c : Dev nD) : (dat0 X c).arrAt 0 cfg0.N = X2 X c (Proc.devRef .tc main_v12_2) := by
  rw [X2_amax]
  refine (dat0 X c).arrAt_eq_of_covers 0 _ (by decide +kernel) fun t hf y => ?_
  rfl

end Body

end Cert.K
-- ==== Proof.Call1.lean ====
/-
# The second call's record

The all-gather of the maxima as a region of the program.
-/
module

public import proofs.«01_k».proof.Proof.Call0

@[expose] public section

set_option maxRecDepth 16384

noncomputable section

namespace Cert.K

open Cert.KernelIdeal Cert.KernelIdeal.Gen
open Idealize.ShloMosaic Idealize.ShloMosaic.TcCoe
open Idealize.SL.Sem
open Idealize.SL
open Idealize.SL.BI (sProp bigSep)
open scoped Idealize.SL.BI
open Idealize.SL.BI.BIBase Idealize.SL.BI.Laws Idealize.SL.ProofMode
open Idealize.SL.RA
open Idealize.ShloMosaic.Rounds
open Pipeline

variable {F : FTy → Type} [FloatOps F]

local notation "𝕄" => MT nD τ sig Unit (Elt F) ℕ UU ℕ

def osem1 : {k // k ∈ inner 1} → SemLoc sig := fun k => semOf k.1

theorem osem1_ok : Pipeline.OwnSemFacts spec1 osem1 := by decide +kernel

theorem own_sems1 (c : Dev nD) : (Pipeline.ownSems0 osem1 c : sProp 𝕄) = bigSep (inner 1) (fun k => semVal (cell c k) 0) :=
  bigSep_mem (inner 1) (fun k => semVal (cell c k) 0)

section Body
variable (X : Dev nD → Valuation τ sig (Elt F))

def Tk1 (c : Dev nD) : sProp 𝕄 := iprop(know (info X) ∗ stock c 1)
def Yk1 (c : Dev nD) : sProp 𝕄 := iprop(know (info X) ∗ semVal (cell c (.bar 1)) 0)

def iblk1 (c : Dev nD) (w : Fin cfg1.W) (t : Fin cfg1.N) : ((cfg1.win w).xblock (cfg1.grid.coords t)).Idx → Elt F (cfg1.win w).elt :=
  ((cfg1.win w).blk t).view.read (Elt F) (X2 X c (Proc.devRef .tc (Pipeline.arrRef spec1 w)))

def dat1 (c : Dev nD) : Dat τ (Elt F) Unit ℕ UU ℕ cfg1 c where
  A w := X2 X c (Proc.devRef .tc (Pipeline.arrRef spec1 w))
  after w t := match w with
    | ⟨0, _⟩ => iblk1 X c 0 t
    | ⟨1, _⟩ => bufAll (info X)
  Φ t := if t.val = 0 then
      iprop(Pipeline.scopedRest (Pipeline.pin (pcfgs (F := F)) adm 1).spec c ∗ (∃ r, prngReg c r) ∗ StableHlo.held (c.tc : Thread nD τ) ∅ (X2 X c) ∗ Tk1 X c ∗ Pipeline.ownSems0 osem1 c)
    else iprop(Pipeline.scopedRest (Pipeline.pin (pcfgs (F := F)) adm 1).spec c ∗ (∃ r, prngReg c r) ∗ StableHlo.held (c.tc : Thread nD τ) ∅ (X3 X c) ∗ Pipeline.ownSems0 osem1 c ∗ Yk1 X c)
  q _ := fullShare
  owed t := if t.val = 0 then T1 c else T2 c

theorem idx1_0 : ∀ t : Fin cfg1.N, win1_0.index t (0 : Fin 2) = 0 ∧ win1_0.index t (1 : Fin 2) = 0 := (by decide +kernel : ∀ t : Fin grid1.N, _)
theorem idx1_1 : ∀ t : Fin cfg1.N, win1_1.index t (0 : Fin 2) = 0 ∧ win1_1.index t (1 : Fin 2) = 0 := (by decide +kernel : ∀ t : Fin grid1.N, _)

/-- The first window is the whole of its array. -/
theorem iblk1_0_eq (c : Dev nD) (t : Fin cfg1.N) : iblk1 X c 0 t = (info X).a c := by
  rw [info_a]
  funext j
  show X2 X c (Proc.devRef .tc main_v12_2) (((cfg1.win 0).blk t).view.emb j) = X2 X c (Proc.devRef .tc main_v12_2) j
  congr 1
  obtain ⟨e0, e1⟩ := idx1_0 t
  funext a; apply Fin.ext
  match a with
  | ⟨0, _⟩ => show win1_0.index t (0 : Fin 2) * 8 + 1 * (j 0).val = (j 0).val; omega
  | ⟨1, _⟩ => show win1_0.index t (1 : Fin 2) * 128 + 1 * (j 1).val = (j 1).val; omega

theorem A1_0 (c : Dev nD) : (dat1 X c).A 0 = X2 X c (Proc.devRef .tc (Pipeline.arrRef spec1 0)) := by dsimp only [dat1]
theorem after1_0 (c : Dev nD) (t : Fin cfg1.N) : (dat1 X c).after 0 t = iblk1 X c 0 t := by dsimp only [dat1]
theorem after1_1 (c : Dev nD) (t : Fin cfg1.N) : (dat1 X c).after 1 t = bufAll (info X) := by dsimp only [dat1]
theorem before1_0 (c : Dev nD) (t : Fin cfg1.N) (d) : (dat1 X c).before 0 t d = iblk1 X c 0 t :=
  ((dat1 X c).before_in_eq_fetched 0 rfl (fun _ => rfl) (fun _ _ _ => rfl) (fun t => by rw [after1_0]; unfold Dat.blockOf iblk1; rw [A1_0]; try rfl) t d).trans
    (by unfold Dat.fetched Dat.blockOf iblk1; rw [A1_0]; try rfl)

def pre1 (c : Dev nD) (t : Fin cfg1.N) : sProp 𝕄 :=
  iprop((dat1 X c).Φ t.castSucc ∗ (dat1 X c).owesAt () t.castSucc ∗ (∃ d, own c (st1_0 t) ((dat1 X c).before 0 t d)) ∗ (∃ d, own c (st1_1 t) ((dat1 X c).before 1 t d)))
def post1 (c : Dev nD) (t : Fin cfg1.N) : sProp 𝕄 :=
  iprop((dat1 X c).Φ t.succ ∗ (dat1 X c).owesAt () t.succ ∗ own c (st1_0 t) ((dat1 X c).after 0 t) ∗ own c (st1_1 t) ((dat1 X c).after 1 t))

theorem first1 (t : Fin cfg1.N) : t.castSucc.val = 0 := (by decide +kernel : ∀ t : Fin grid1.N, t.castSucc.val = 0) t
theorem later1 (t : Fin cfg1.N) : ¬ t.succ.val = 0 := by rw [Fin.val_succ]; exact Nat.succ_ne_zero _

theorem Φ1_first (c : Dev nD) (t : Fin cfg1.N) : (dat1 X c).Φ t.castSucc
    = iprop(Pipeline.scopedRest (Pipeline.pin (pcfgs (F := F)) adm 1).spec c ∗ (∃ r, prngReg c r) ∗ StableHlo.held (c.tc : Thread nD τ) ∅ (X2 X c) ∗ Tk1 X c ∗ Pipeline.ownSems0 osem1 c) :=
  by dsimp only [dat1]; rw [if_pos (first1 t)]
theorem Φ1_later (c : Dev nD) (t : Fin cfg1.N) : (dat1 X c).Φ t.succ
    = iprop(Pipeline.scopedRest (Pipeline.pin (pcfgs (F := F)) adm 1).spec c ∗ (∃ r, prngReg c r) ∗ StableHlo.held (c.tc : Thread nD τ) ∅ (X3 X c) ∗ Pipeline.ownSems0 osem1 c ∗ Yk1 X c) :=
  by dsimp only [dat1]; rw [if_neg (later1 t)]
theorem owes1_first (c : Dev nD) (t : Fin cfg1.N) : ((dat1 X c).owesAt () t.castSucc : sProp 𝕄) ⊢ iprop(∃ Wt, owes (c : Thread nD τ) (T1 c) Wt) :=
  owes_out (dat1 X c) t.castSucc (T1 c) (by dsimp only [dat1]; rw [if_pos (first1 t)])
theorem owes1_later (c : Dev nD) (t : Fin cfg1.N) : iprop(∃ Wt, owes (c : Thread nD τ) (T2 c) Wt) ⊢ ((dat1 X c).owesAt () t.succ : sProp 𝕄) :=
  owes_in (dat1 X c) t.succ (T2 c) (by dsimp only [dat1]; rw [if_neg (later1 t)]) rfl

/-- The body, in terms of what the call takes and leaves. -/
theorem call1_wp (κ : GSem nD τ sig → ℕ) (c : Dev nD) {Q : PUnit → sProp 𝕄} :
    iprop(recs κ (info X) ∗ (stock c 1 : sProp 𝕄) ∗ (bigSep (inner 1) (fun k => semVal (cell c k) 0) : sProp 𝕄) ∗ own c a0 ((info X).a c) ∗ some' c a1
        ∗ ∃ Wt, owes (c : Thread nD τ) (T1 c) Wt)
      ⊢ iprop(((bigSep (inner 1) (fun k => semVal (cell c k) 0) : sProp 𝕄) ∗ semVal (cell c (.bar 1)) 0
          ∗ own c a0 ((info X).a c) ∗ own c a1 (bufAll (info X)) ∗ (∃ Wt, owes (c : Thread nD τ) (T2 c) Wt) -∗ Q ⟨⟩) -∗ W c (amProg (F := F)) Q) := by
  unfold T1
  rw [due1_eq]
  iintro ⟨#HR, Hst, Hse, H0, H1, HO⟩ Hk
  ihave Hen := (am_enter c) $$ H1
  icases Hen with ⟨Hrow, Hsl⟩
  iapply (fupd_wp _ _ _ _ _)
  imod (ready_of κ (info X) c 1) $$ [Hst Hse Hsl] with Hrd
  · isplitr; · iexact HR
    isplitl [Hst]; · iexact Hst
    isplitl [Hse] <;> iassumption
  imodintro
  iapply (am_wp κ (info X) c (above_T2 c)) $$ [Hrd H0 Hrow HO]
  · isplitr; · iexact HR
    unfold amPre
    isplitl [Hrd]; · iexact Hrd
    isplitl [H0]; · iexact H0
    isplitl [Hrow] <;> iassumption
  unfold amPost
  iintro ⟨⟨Hb, Hse⟩, H0, H1, HO⟩
  ihave H1 := (am_leave (info X) c) $$ H1
  iapply Hk
  isplitl [Hse]; · iexact Hse
  isplitl [Hb]; · iexact Hb
  isplitl [H0]; · iexact H0
  isplitl [H1] <;> iassumption

theorem post1_of (κ : GSem nD τ sig → ℕ) (c : Dev nD) (t : Fin cfg1.N) :
    iprop(recs κ (info X) ∗ Pipeline.scopedRest (Pipeline.pin (pcfgs (F := F)) adm 1).spec c ∗ (∃ r, prngReg c r)
      ∗ bigSep (inner 1) (fun k => semVal (cell c k) 0) ∗ semVal (cell c (.bar 1)) 0
      ∗ own c (st1_0 t) ((info X).a c) ∗ own c (st1_1 t) (bufAll (info X)) ∗ (∃ Wt, owes (c : Thread nD τ) (T2 c) Wt)) ⊢ post1 X c t := by
  unfold post1
  rw [Φ1_later, own_sems1, after1_0, after1_1, iblk1_0_eq]
  unfold Yk1 know
  rw [show (StableHlo.held (c.tc : Thread nD τ) ∅ (X3 X c) : sProp 𝕄) = BI.emp from BI.bigSep_empty]
  iintro ⟨#HR, Hr, Hp, Hos, Hb, H0, H1, HO⟩
  isplitl [Hr Hp Hos Hb]
  · isplitl [Hr]; · iexact Hr
    isplitl [Hp]; · iexact Hp
    isplitr; · iempintro
    isplitl [Hos]; · iexact Hos
    isplitr; · iexists κ; iexact HR
    iexact Hb
  isplitl [HO]; · iapply (owes1_later X c t); iexact HO
  isplitl [H0] <;> iassumption

theorem body1 (c : Dev nD) (t : Fin cfg1.N) : pre1 X c t ⊢ W c (bodyAt1 t) (fun _ => post1 X c t) := by
  unfold pre1
  rw [am_eq, Φ1_first, own_sems1]
  simp only [before1_0, iblk1_0_eq]
  unfold Tk1 know
  iintro ⟨⟨Hr, Hp, -, ⟨⟨%κ, #HR⟩, Hst⟩, Hos⟩, HO, ⟨%d0, H0⟩, ⟨%d1, H1⟩⟩
  ihave HO := (owes1_first X c t) $$ HO
  iapply (call1_wp X κ c) $$ [Hst Hos H0 H1 HO]
  · isplitr; · iexact HR
    isplitl [Hst]; · iexact Hst
    isplitl [Hos]; · iexact Hos
    isplitl [H0]; · iexact H0
    isplitl [H1]; · iexists _; iexact H1
    iexact HO
  iintro ⟨Hos, Hb, H0, H1, HO⟩
  iapply (post1_of X κ c t)
  isplitr; · iexact HR
  isplitl [Hr]; · iexact Hr
  isplitl [Hp]; · iexact Hp
  isplitl [Hos]; · iexact Hos
  isplitl [Hb]; · iexact Hb
  isplitl [H0]; · iexact H0
  isplitl [H1] <;> iassumption

theorem row1 (t : Fin cfg1.N) : defs₀ (F := F) .tc cfg1.body (cfg1.bodyArgs t (cfg1.slots t)) = bodyAt1 t := by
  unfold defs₀; rw [Defs.onTc_tc]

theorem obl1 (c : Dev nD) : BodyObligation (dat1 X c) (defs₀ (F := F)) 𝒱₀ () Set.univ := fun t => by
  rw [bigSep_W1, bigSep_W1, row1]
  exact triple_restated (body1 X c t) rfl .rfl fun _ => .rfl

theorem final1_1 (c : Dev nD) : (dat1 X c).arrAt 1 cfg1.N = X3 X c (Proc.devRef .tc main_v13) := by
  rw [X3_v13]
  refine (dat1 X c).arrAt_eq_of_covers 1 _ (by decide +kernel) fun t hf y => ?_
  show (dat1 X c).after 1 t y = bufAll (info X) (((cfg1.win 1).blk t).view.emb y)
  rw [after1_1]
  congr 1
  obtain ⟨e0, e1⟩ := idx1_1 t
  funext a; apply Fin.ext
  match a with
  | ⟨0, _⟩ => show (y 0).val = win1_1.index t (0 : Fin 2) * 32 + 1 * (y 0).val; omega
  | ⟨1, _⟩ => show (y 1).val = win1_1.index t (1 : Fin 2) * 128 + 1 * (y 1).val; omega

end Body

end Cert.K
-- ==== Proof.Call3.lean ====
/-
# The fourth call's record

The all-gather of the quotients as a region of the program.
-/
module

public import proofs.«01_k».proof.Proof.Call1

@[expose] public section

set_option maxRecDepth 16384

noncomputable section

namespace Cert.K

open Cert.KernelIdeal Cert.KernelIdeal.Gen
open Idealize.ShloMosaic Idealize.ShloMosaic.TcCoe
open Idealize.SL.Sem
open Idealize.SL
open Idealize.SL.BI (sProp bigSep)
open scoped Idealize.SL.BI
open Idealize.SL.BI.BIBase Idealize.SL.BI.Laws Idealize.SL.ProofMode
open Idealize.SL.RA
open Idealize.ShloMosaic.Rounds
open Pipeline

variable {F : FTy → Type} [FloatOps F]

local notation "𝕄" => MT nD τ sig Unit (Elt F) ℕ UU ℕ

abbrev K3 : Type := {k // k ∈ inner 2} ⊕ Dir
def osem3 : K3 → SemLoc sig
  | .inl k => semOf k.1
  | .inr d => .dma (homeS d)

theorem osem3_ok : Pipeline.OwnSemFacts spec3 osem3 := by decide +kernel

theorem own_sems3 (c : Dev nD) : (Pipeline.ownSems0 osem3 c : sProp 𝕄) = iprop(bigSep (inner 2) (fun k => semVal (cell c k) 0) ∗ agCnt c) := by
  unfold Pipeline.ownSems0
  rw [BI.bigSep_univ_sum]
  exact congrArg₂ BI.sep (bigSep_mem (inner 2) (fun k => semVal (cell c k) 0)) (bigSep_dir (fun d => own0 c (homeS d)))

def H3 : Finset (Ref sig .tc) := {main_v14_0, main_v14_1, main_v15}

section Body
variable (X : Dev nD → Valuation τ sig (Elt F))

theorem held3 (c : Dev nD) (V : Valuation τ sig (Elt F)) : (StableHlo.held (c.tc : Thread nD τ) (hbmRefs (τ := τ) H3) V : sProp 𝕄)
    = iprop(own c (qA true) (V (Proc.devRef .tc main_v14_0)) ∗ own c (qA false) (V (Proc.devRef .tc main_v14_1)) ∗ own c gA (V (Proc.devRef .tc main_v15))) := by
  rw [held_hbm, BI.bigSep_eq_bigSepL_of_eq [main_v14_0, main_v14_1, main_v15] (by decide) (by decide)]
  unfold qA
  rw [own_whole_iff, own_whole_iff, own_whole_iff]
  rfl

theorem held3_in (c : Dev nD) : (StableHlo.held (c.tc : Thread nD τ) (hbmRefs (τ := τ) H3) (X4 X c) : sProp 𝕄) ⊢ agIn (info X) c := by
  rw [held3, X4_v14_0, X4_v14_1]
  unfold agIn both
  iintro ⟨H0, H1, H2⟩
  isplitl [H0 H1]
  · isplitl [H0] <;> iassumption
  iexists _; iexact H2

theorem held3_out (c : Dev nD) : agOut (info X) c ⊢ (StableHlo.held (c.tc : Thread nD τ) (hbmRefs (τ := τ) H3) (X5 X c) : sProp 𝕄) := by
  rw [held3, X5_v15, X5_of X c (r := Proc.devRef .tc main_v14_0) (StableHlo.devRef_ne_of_ne (by decide)), X5_of X c (r := Proc.devRef .tc main_v14_1) (StableHlo.devRef_ne_of_ne (by decide)), X4_v14_0, X4_v14_1]
  unfold agOut both
  iintro ⟨⟨H0, H1⟩, H2⟩
  isplitl [H0]; · iexact H0
  isplitl [H1] <;> iassumption

def Tk3 (c : Dev nD) : sProp 𝕄 := iprop(know (info X) ∗ stock c 2)
def Yk3 (c : Dev nD) : sProp 𝕄 := iprop(know (info X) ∗ semVal (cell c (.bar 2)) 0)

def dat3 (c : Dev nD) : Dat τ (Elt F) Unit ℕ UU ℕ cfg3 c where
  A w := w.elim0
  after w := w.elim0
  Φ t := if t.val = 0 then
      iprop(Pipeline.scopedRest (Pipeline.pin (pcfgs (F := F)) adm 3).spec c ∗ (∃ r, prngReg c r) ∗ StableHlo.held (c.tc : Thread nD τ) (hbmRefs (τ := τ) H3) (X4 X c) ∗ Tk3 X c ∗ Pipeline.ownSems0 osem3 c)
    else iprop(Pipeline.scopedRest (Pipeline.pin (pcfgs (F := F)) adm 3).spec c ∗ (∃ r, prngReg c r) ∗ StableHlo.held (c.tc : Thread nD τ) (hbmRefs (τ := τ) H3) (X5 X c) ∗ Pipeline.ownSems0 osem3 c ∗ Yk3 X c)
  q w := w.elim0
  owed t := if t.val = 0 then T2 c else 0

def pre3 (c : Dev nD) (t : Fin cfg3.N) : sProp 𝕄 := iprop((dat3 X c).Φ t.castSucc ∗ (dat3 X c).owesAt () t.castSucc ∗ BI.emp)
def post3 (c : Dev nD) (t : Fin cfg3.N) : sProp 𝕄 := iprop((dat3 X c).Φ t.succ ∗ (dat3 X c).owesAt () t.succ ∗ BI.emp)

theorem first3 (t : Fin cfg3.N) : t.castSucc.val = 0 := (by decide +kernel : ∀ t : Fin grid3.N, t.castSucc.val = 0) t
theorem later3 (t : Fin cfg3.N) : ¬ t.succ.val = 0 := by rw [Fin.val_succ]; exact Nat.succ_ne_zero _

theorem Φ3_first (c : Dev nD) (t : Fin cfg3.N) : (dat3 X c).Φ t.castSucc
    = iprop(Pipeline.scopedRest (Pipeline.pin (pcfgs (F := F)) adm 3).spec c ∗ (∃ r, prngReg c r) ∗ StableHlo.held (c.tc : Thread nD τ) (hbmRefs (τ := τ) H3) (X4 X c) ∗ Tk3 X c ∗ Pipeline.ownSems0 osem3 c) :=
  by dsimp only [dat3]; rw [if_pos (first3 t)]
theorem Φ3_later (c : Dev nD) (t : Fin cfg3.N) : (dat3 X c).Φ t.succ
    = iprop(Pipeline.scopedRest (Pipeline.pin (pcfgs (F := F)) adm 3).spec c ∗ (∃ r, prngReg c r) ∗ StableHlo.held (c.tc : Thread nD τ) (hbmRefs (τ := τ) H3) (X5 X c) ∗ Pipeline.ownSems0 osem3 c ∗ Yk3 X c) :=
  by dsimp only [dat3]; rw [if_neg (later3 t)]
theorem owes3_first (c : Dev nD) (t : Fin cfg3.N) : ((dat3 X c).owesAt () t.castSucc : sProp 𝕄) ⊢ iprop(∃ Wt, owes (c : Thread nD τ) (T2 c) Wt) :=
  owes_out (dat3 X c) t.castSucc (T2 c) (by dsimp only [dat3]; rw [if_pos (first3 t)])
theorem owes3_later (c : Dev nD) (t : Fin cfg3.N) : iprop(∃ Wt, owes (c : Thread nD τ) (0 : CellTallies nD τ sig Unit) Wt) ⊢ ((dat3 X c).owesAt () t.succ : sProp 𝕄) :=
  owes_in (dat3 X c) t.succ 0 (by dsimp only [dat3]; rw [if_neg (later3 t)]) rfl

/-- The body, in terms of what the call takes and leaves. -/
theorem call3_wp (κ : GSem nD τ sig → ℕ) (c : Dev nD) {Q : PUnit → sProp 𝕄} :
    iprop(recs κ (info X) ∗ stock c 2 ∗ agIn (info X) c ∗ (bigSep (inner 2) (fun k => semVal (cell c k) 0) ∗ agCnt c) ∗ ∃ Wt, owes (c : Thread nD τ) (T2 c) Wt)
      ⊢ iprop((agOut (info X) c ∗ (bigSep (inner 2) (fun k => semVal (cell c k) 0) ∗ agCnt c) ∗ semVal (cell c (.bar 2)) 0
          ∗ (∃ Wt, owes (c : Thread nD τ) (0 : CellTallies nD τ sig Unit) Wt) -∗ Q ⟨⟩) -∗ W c (agProg (F := F)) Q) := by
  unfold T2
  rw [due2_eq]
  iintro ⟨#HR, Hst, Hin, ⟨Hse, Hcn⟩, HO⟩ Hk
  ihave Hen := (ag_enter (info X) c) $$ [Hin Hcn]
  · isplitl [Hin] <;> iassumption
  icases Hen with ⟨⟨Ht, Hf⟩, Hsl⟩
  iapply (fupd_wp _ _ _ _ _)
  imod (ready_of κ (info X) c 2) $$ [Hst Hse Hsl] with Hrd
  · isplitr; · iexact HR
    isplitl [Hst]; · iexact Hst
    isplitl [Hse] <;> iassumption
  imodintro
  iapply (ag_wp κ (info X) c (Above.zero 13)) $$ [Hrd Ht Hf HO]
  · isplitr; · iexact HR
    unfold agPre
    isplitl [Hrd]; · iexact Hrd
    isplitl [Ht]; · iexact Ht
    isplitl [Hf] <;> iassumption
  unfold agPost
  iintro ⟨⟨Hb, Hse⟩, Ht, Hf, HO⟩
  ihave Hle := (ag_leave (info X) c) $$ [Ht Hf]
  · isplitl [Ht] <;> iassumption
  icases Hle with ⟨Ho, Hcn⟩
  iapply Hk
  isplitl [Ho]; · iexact Ho
  isplitl [Hse Hcn]; · isplitl [Hse] <;> iassumption
  isplitl [Hb] <;> iassumption

theorem post3_of (κ : GSem nD τ sig → ℕ) (c : Dev nD) (t : Fin cfg3.N) :
    iprop(recs κ (info X) ∗ Pipeline.scopedRest (Pipeline.pin (pcfgs (F := F)) adm 3).spec c ∗ (∃ r, prngReg c r) ∗ agOut (info X) c
      ∗ (bigSep (inner 2) (fun k => semVal (cell c k) 0) ∗ agCnt c) ∗ semVal (cell c (.bar 2)) 0
      ∗ (∃ Wt, owes (c : Thread nD τ) (0 : CellTallies nD τ sig Unit) Wt)) ⊢ post3 X c t := by
  unfold post3
  rw [Φ3_later, own_sems3]
  unfold Yk3 know
  iintro ⟨#HR, Hr, Hp, Ho, Hos, Hb, HO⟩
  isplitl [Hr Hp Ho Hos Hb]
  · isplitl [Hr]; · iexact Hr
    isplitl [Hp]; · iexact Hp
    isplitl [Ho]; · iapply (held3_out X c); iexact Ho
    isplitl [Hos]; · iexact Hos
    isplitr; · iexists κ; iexact HR
    iexact Hb
  isplitl [HO]; · iapply (owes3_later X c t); iexact HO
  iempintro

theorem body3 (c : Dev nD) (t : Fin cfg3.N) : pre3 X c t ⊢ W c (bodyAt3 t) (fun _ => post3 X c t) := by
  unfold pre3
  rw [ag_eq, Φ3_first, own_sems3]
  unfold Tk3 know
  iintro ⟨⟨Hr, Hp, HH, ⟨⟨%κ, #HR⟩, Hst⟩, Hos⟩, HO, -⟩
  ihave Hin := (held3_in X c) $$ HH
  ihave HO := (owes3_first X c t) $$ HO
  iapply (call3_wp X κ c) $$ [Hst Hin Hos HO]
  · isplitr; · iexact HR
    isplitl [Hst]; · iexact Hst
    isplitl [Hin]; · iexact Hin
    isplitl [Hos] <;> iassumption
  iintro ⟨Ho, Hos, Hb, HO⟩
  iapply (post3_of X κ c t)
  isplitr; · iexact HR
  isplitl [Hr]; · iexact Hr
  isplitl [Hp]; · iexact Hp
  isplitl [Ho]; · iexact Ho
  isplitl [Hos]; · iexact Hos
  isplitl [Hb] <;> iassumption

theorem row3 (t : Fin cfg3.N) : defs₀ (F := F) .tc cfg3.body (cfg3.bodyArgs t (cfg3.slots t)) = bodyAt3 t := by
  unfold defs₀; rw [Defs.onTc_tc]

theorem no_windows (Φ : Fin cfg3.W → sProp 𝕄) : bigSep Finset.univ Φ = BI.emp := BI.bigSep_univ_eq_bigSepL [] (by decide) (by decide) Φ

theorem obl3 (c : Dev nD) : BodyObligation (dat3 X c) (defs₀ (F := F)) 𝒱₀ () Set.univ := fun t => by
  rw [no_windows, no_windows, row3]
  exact triple_restated (body3 X c t) rfl .rfl fun _ => .rfl

end Body

end Cert.K
-- ==== Proof.Regs.lean ====
/-
# The five calls as regions

The record of each call, entered with the device's buffers, its share of the program's invariants and what it still owes,
and left with the same after the call.
-/
module

public import proofs.«01_k».proof.Proof.Call3

@[expose] public section

set_option maxRecDepth 16384

noncomputable section

namespace Cert.K

open Cert.KernelIdeal Cert.KernelIdeal.Gen
open Idealize.ShloMosaic Idealize.ShloMosaic.TcCoe
open Idealize.SL.Sem
open Idealize.SL
open Idealize.SL.BI (sProp bigSep)
open scoped Idealize.SL.BI
open Idealize.SL.BI.BIBase Idealize.SL.BI.Laws Idealize.SL.ProofMode
open Idealize.SL.RA
open Idealize.ShloMosaic.Rounds
open Pipeline

variable {F : FTy → Type} [FloatOps F]

local notation "𝕄" => MT nD τ sig Unit (Elt F) ℕ UU ℕ

section Regs
variable (X : Dev nD → Valuation τ sig (Elt F))

def dats : (p : Fin 5) → (c : Dev nD) → Dat τ (Elt F) Unit ℕ UU ℕ (Pipeline.pin (pcfgs (F := F)) adm p) c
  | 0 => dat0 X
  | 1 => dat1 X
  | 2 => dat2 (X3 X) T2
  | 3 => dat3 X
  | 4 => dat4 (X5 X) (fun _ => 0)

local notation "ℝ𝕊" => Pipeline.RegionSeg (pcfgs (F := F)) adm (dats X) () defs₀ 𝒱₀ L lv

theorem mem_L (c : Dev nD) (sm : SemLoc sig) : () ∈ L ((c : Thread nD τ), sm) := by rw [L_tc]; exact Finset.mem_singleton_self _
theorem cut_of {O : CellTallies nD τ sig Unit} (h : Above 0 O) (g : GSem nD τ sig) (i : Unit) (hg : 0 < O g i) : i ∈ L g ∧ 0 < lv g i :=
  ⟨by unfold L; rw [if_pos (h g i hg).1]; exact Finset.mem_singleton_self _, (h g i hg).2⟩

theorem stag0 : ∀ (w : Fin cfg0.W) (s : Fin (cfg0.win w).nbuf) (k : Kd), semOf k ≠ .dma ((cfg0.win w).sem s) := by decide +kernel
theorem stag1 : ∀ (w : Fin cfg1.W) (s : Fin (cfg1.win w).nbuf) (k : Kd), semOf k ≠ .dma ((cfg1.win w).sem s) := by decide +kernel
theorem stag2 : ∀ (w : Fin cfg2.W) (s : Fin (cfg2.win w).nbuf) (k : Kd), semOf k ≠ .dma ((cfg2.win w).sem s) := by decide +kernel
theorem stag4 : ∀ (w : Fin cfg4.W) (s : Fin (cfg4.win w).nbuf) (k : Kd), semOf k ≠ .dma ((cfg4.win w).sem s) := by decide +kernel

/-! ## The buffers that are no array of a call -/

def rest (p : Fin 5) : Finset (DevRef τ sig) := Pipeline.ucRefs τ sig \ Pipeline.arrRefs (τ := τ) (pcfgs (F := F) p).spec

theorem arr_sub0 : Pipeline.arrRefs (τ := τ) (pcfgs (F := F) 0).spec ⊆ Pipeline.ucRefs τ sig := arrRefs_sub_ucRefs spec0 (by decide)
theorem arr_sub1 : Pipeline.arrRefs (τ := τ) (pcfgs (F := F) 1).spec ⊆ Pipeline.ucRefs τ sig := arrRefs_sub_ucRefs spec1 (by decide)
theorem arr_sub2 : Pipeline.arrRefs (τ := τ) (pcfgs (F := F) 2).spec ⊆ Pipeline.ucRefs τ sig := arrRefs_sub_ucRefs spec2 (by decide)
theorem arr_sub3 : Pipeline.arrRefs (τ := τ) (pcfgs (F := F) 3).spec ⊆ Pipeline.ucRefs τ sig := arrRefs_sub_ucRefs spec3 (by decide)
theorem arr_sub4 : Pipeline.arrRefs (τ := τ) (pcfgs (F := F) 4).spec ⊆ Pipeline.ucRefs τ sig := arrRefs_sub_ucRefs spec4 (by decide)

theorem not_arr {gr n : ℕ} (win : Fin n → WinSpec sig gr) {r : Ref sig .tc} (h : ∀ w, Pipeline.arrRef win w ≠ r) : (Proc.devRef .tc r : DevRef τ sig) ∉ Pipeline.arrRefs (τ := τ) win := by
  intro hm
  obtain ⟨r', hr, e⟩ := Finset.mem_map.mp hm
  obtain ⟨w, -, rfl⟩ := Finset.mem_image.mp hr
  exact h w (Proc.devRef_injective _ e)
theorem is_arr {gr n : ℕ} (win : Fin n → WinSpec sig gr) (w : Fin n) : (Proc.devRef .tc (Pipeline.arrRef win w) : DevRef τ sig) ∈ Pipeline.arrRefs (τ := τ) win :=
  Finset.mem_map_of_mem _ (Finset.mem_image_of_mem _ (Finset.mem_univ w))
theorem is_hbm {H : Finset (Ref sig .tc)} {r : Ref sig .tc} (h : r ∈ H) : (Proc.devRef .tc r : DevRef τ sig) ∈ hbmRefs (τ := τ) H :=
  Finset.mem_map_of_mem _ h

theorem sub0 : hbmRefs (τ := τ) H0 ⊆ rest (F := F) 0 := fun b hb => by
  refine Finset.mem_sdiff.mpr ⟨hbmRefs_sub_ucRefs H0 (by decide) hb, ?_⟩
  obtain ⟨r, hr, rfl⟩ := Finset.mem_map.mp hb
  exact not_arr spec0 ((by decide : ∀ r ∈ H0, ∀ w, Pipeline.arrRef spec0 w ≠ r) r hr)
theorem sub3 : hbmRefs (τ := τ) H3 ⊆ rest (F := F) 3 := fun b hb => by
  refine Finset.mem_sdiff.mpr ⟨hbmRefs_sub_ucRefs H3 (by decide) hb, ?_⟩
  obtain ⟨r, hr, rfl⟩ := Finset.mem_map.mp hb
  exact not_arr spec3 fun w => w.elim0

theorem keep0 (c : Dev nD) : ∀ b ∈ rest (F := F) 0 \ hbmRefs (τ := τ) H0, X2 X c b = X c b := fun b hb => by
  have hn := (Finset.mem_sdiff.mp hb).2
  have ha := (Finset.mem_sdiff.mp (Finset.mem_sdiff.mp hb).1).2
  refine X2_of X c fun hm => ?_
  simp only [List.map_cons, List.map_nil, List.mem_cons, List.not_mem_nil, or_false] at hm
  rcases hm with rfl | rfl | rfl | rfl | rfl | rfl | rfl
  · exact ha (is_arr spec0 0)
  all_goals exact hn (is_hbm (by decide))
theorem keep1 (c : Dev nD) : ∀ b ∈ rest (F := F) 1 \ ∅, X3 X c b = X2 X c b := fun b hb =>
  X3_of X c fun e => (Finset.mem_sdiff.mp (Finset.mem_sdiff.mp hb).1).2 (e ▸ is_arr spec1 1)
theorem keep2 (c : Dev nD) : ∀ b ∈ rest (F := F) 2 \ ∅, X4 X c b = X3 X c b := fun b hb =>
  X4_of X c (fun e => (Finset.mem_sdiff.mp (Finset.mem_sdiff.mp hb).1).2 (e ▸ is_arr spec2 3)) (fun e => (Finset.mem_sdiff.mp (Finset.mem_sdiff.mp hb).1).2 (e ▸ is_arr spec2 4))
theorem keep3 (c : Dev nD) : ∀ b ∈ rest (F := F) 3 \ hbmRefs (τ := τ) H3, X5 X c b = X4 X c b := fun b hb =>
  X5_of X c fun e => (Finset.mem_sdiff.mp hb).2 (e ▸ is_hbm (by decide))
theorem keep4 (c : Dev nD) : ∀ b ∈ rest (F := F) 4 \ ∅, X6 X c b = X5 X c b := fun b hb =>
  X6_of X c fun e => (Finset.mem_sdiff.mp (Finset.mem_sdiff.mp hb).1).2 (e ▸ is_arr spec4 2)

/-! ## What the windows' arrays hold at the end -/

theorem end0 (c : Dev nD) : ∀ w, (dat0 X c).arrAt w cfg0.N = X2 X c (Proc.devRef .tc (Pipeline.arrRef spec0 w))
  | ⟨0, _⟩ => final0_0 X c
theorem end1 (c : Dev nD) : ∀ w, (dat1 X c).arrAt w cfg1.N = X3 X c (Proc.devRef .tc (Pipeline.arrRef spec1 w))
  | ⟨0, _⟩ => ((dat1 X c).arrAt_in 0 rfl _).trans (X3_of X c (r := Proc.devRef .tc main_v12_2) (StableHlo.devRef_ne_of_ne (by decide))).symm
  | ⟨1, _⟩ => final1_1 X c
theorem end2 (c : Dev nD) : ∀ w, (dat2 (X3 X) T2 c).arrAt w cfg2.N = X4 X c (Proc.devRef .tc (Pipeline.arrRef spec2 w))
  | ⟨0, _⟩ => ((dat2 (X3 X) T2 c).arrAt_in 0 rfl _).trans (X4_of X c (r := Proc.devRef .tc main_v12_0) (StableHlo.devRef_ne_of_ne (by decide)) (StableHlo.devRef_ne_of_ne (by decide))).symm
  | ⟨1, _⟩ => ((dat2 (X3 X) T2 c).arrAt_in 1 rfl _).trans (X4_of X c (r := Proc.devRef .tc main_v12_1) (StableHlo.devRef_ne_of_ne (by decide)) (StableHlo.devRef_ne_of_ne (by decide))).symm
  | ⟨2, _⟩ => ((dat2 (X3 X) T2 c).arrAt_in 2 rfl _).trans (X4_of X c (r := Proc.devRef .tc main_v13) (StableHlo.devRef_ne_of_ne (by decide)) (StableHlo.devRef_ne_of_ne (by decide))).symm
  | ⟨3, _⟩ => by
    refine (final2_3 (X3 X) T2 c).trans ?_
    rw [X3_v13, X3_v12_0, ← info_q]
    exact (X4_v14_0 X c).symm
  | ⟨4, _⟩ => by
    refine (final2_4 (X3 X) T2 c).trans ?_
    rw [X3_v13, X3_v12_1, ← info_q]
    exact (X4_v14_1 X c).symm
theorem end4 (c : Dev nD) : ∀ w, (dat4 (X5 X) (fun _ => 0) c).arrAt w cfg4.N = X6 X c (Proc.devRef .tc (Pipeline.arrRef spec4 w))
  | ⟨0, _⟩ => ((dat4 (X5 X) (fun _ => 0) c).arrAt_in 0 rfl _).trans (X6_of X c (r := Proc.devRef .tc main_v15) (StableHlo.devRef_ne_of_ne (by decide))).symm
  | ⟨1, _⟩ => ((dat4 (X5 X) (fun _ => 0) c).arrAt_in 1 rfl _).trans (X6_of X c (r := Proc.devRef .tc main_v13) (StableHlo.devRef_ne_of_ne (by decide))).symm
  | ⟨2, _⟩ => by
    refine (final4_2 (X5 X) (fun _ => 0) c).trans ?_
    rw [X5_v13, X5_v15]
    exact (X6_v16 X c).symm

/-! ## The records -/

theorem owed0_start (c : Dev nD) : (dat0 X c).owed 0 = T1 c + due0 c := by
  dsimp only [dat0]; rw [if_pos (by decide : (0 : Fin (cfg0.N + 1)).val = 0)]; rfl
theorem owed0_end (c : Dev nD) : (dat0 X c).owed (Fin.last _) = T1 c := by
  dsimp only [dat0]; rw [if_neg (by decide)]
theorem phi0_end (c : Dev nD) : (dat0 X c).Φ (Fin.last _) = iprop(Pipeline.scopedRest (Pipeline.pin (pcfgs (F := F)) adm 0).spec c ∗ (∃ r, prngReg c r) ∗ StableHlo.held (c.tc : Thread nD τ) (hbmRefs (τ := τ) H0) (X2 X c) ∗ Pipeline.ownSems0 osem0 c ∗ Yk0 X c) := by
  dsimp only [dat0]; rw [if_neg (by decide)]
theorem owed1_start (c : Dev nD) : (dat1 X c).owed 0 = T2 c + due1 c := by
  dsimp only [dat1]; rw [if_pos (by decide : (0 : Fin (cfg1.N + 1)).val = 0)]; rfl
theorem owed1_end (c : Dev nD) : (dat1 X c).owed (Fin.last _) = T2 c := by
  dsimp only [dat1]; rw [if_neg (by decide)]
theorem phi1_end (c : Dev nD) : (dat1 X c).Φ (Fin.last _) = iprop(Pipeline.scopedRest (Pipeline.pin (pcfgs (F := F)) adm 1).spec c ∗ (∃ r, prngReg c r) ∗ StableHlo.held (c.tc : Thread nD τ) ∅ (X3 X c) ∗ Pipeline.ownSems0 osem1 c ∗ Yk1 X c) := by
  dsimp only [dat1]; rw [if_neg (by decide)]
theorem owed3_start (c : Dev nD) : (dat3 X c).owed 0 = 0 + due2 c := by
  dsimp only [dat3]; rw [if_pos (by decide : (0 : Fin (cfg3.N + 1)).val = 0)]; rfl
theorem owed3_end (c : Dev nD) : (dat3 X c).owed (Fin.last _) = 0 := by
  dsimp only [dat3]; rw [if_neg (by decide)]
theorem phi3_end (c : Dev nD) : (dat3 X c).Φ (Fin.last _) = iprop(Pipeline.scopedRest (Pipeline.pin (pcfgs (F := F)) adm 3).spec c ∗ (∃ r, prngReg c r) ∗ StableHlo.held (c.tc : Thread nD τ) (hbmRefs (τ := τ) H3) (X5 X c) ∗ Pipeline.ownSems0 osem3 c ∗ Yk3 X c) := by
  dsimp only [dat3]; rw [if_neg (by decide)]
theorem osem3_ok' : Pipeline.OwnSemFacts (pcfgs (F := F) 3).spec osem3 := ⟨osem3_ok.isScoped, osem3_ok.inj, fun k w => w.elim0⟩
theorem no_sems (c : Dev nD) : (Pipeline.ownSems0 (fun k : PEmpty => k.elim) c : sProp 𝕄) = BI.emp := by
  unfold Pipeline.ownSems0; rw [Finset.univ_eq_empty, BI.bigSep_empty]

theorem cut0 (c : Dev nD) (t : Fin (cfg0.N + 1)) (g : GSem nD τ sig) (i : Unit) (h : 0 < (dat0 X c).owed t g i) : i ∈ L g ∧ 0 < lv g i := by
  dsimp only [dat0] at h
  split at h
  · exact cut_of (above_T0 c) g i h
  · exact cut_of ((above_T1 c).mono (by decide)) g i h
theorem cut1 (c : Dev nD) (t : Fin (cfg1.N + 1)) (g : GSem nD τ sig) (i : Unit) (h : 0 < (dat1 X c).owed t g i) : i ∈ L g ∧ 0 < lv g i := by
  dsimp only [dat1] at h
  split at h
  · exact cut_of ((above_T1 c).mono (by decide)) g i h
  · exact cut_of ((above_T2 c).mono (by decide)) g i h
theorem cut3 (c : Dev nD) (t : Fin (cfg3.N + 1)) (g : GSem nD τ sig) (i : Unit) (h : 0 < (dat3 X c).owed t g i) : i ∈ L g ∧ 0 < lv g i := by
  dsimp only [dat3] at h
  split at h
  · exact cut_of ((above_T2 c).mono (by decide)) g i h
  · exact cut_of (Above.zero 0) g i h

/-- What the second and later calls need of the program's shared state, while the first runs. -/
def Er0 (c : Dev nD) : sProp 𝕄 := iprop(stock c 1 ∗ stock c 2)
def Er1 (c : Dev nD) : sProp 𝕄 := iprop(semVal (cell c (.bar 0)) 0 ∗ stock c 2)
def Er2 (I : Info F) (c : Dev nD) : sProp 𝕄 := iprop(know I ∗ semVal (cell c (.bar 0)) 0 ∗ semVal (cell c (.bar 1)) 0 ∗ stock c 2)
def Er3 (c : Dev nD) : sProp 𝕄 := iprop(semVal (cell c (.bar 0)) 0 ∗ semVal (cell c (.bar 1)) 0)
def Er4k (I : Info F) (c : Dev nD) : sProp 𝕄 := iprop(know I ∗ semVal (cell c (.bar 0)) 0 ∗ semVal (cell c (.bar 1)) 0 ∗ semVal (cell c (.bar 2)) 0)

theorem upd_id (P : sProp 𝕄) : P ⊢ |={Set.univ}=> P := by iintro H; imodintro; iexact H
theorem take_sems (P Q R : sProp 𝕄) : iprop(P ∗ Q ∗ R) ⊢ |={Set.univ}=> iprop(P ∗ Q) := by
  iintro ⟨H, K, -⟩; imodintro; isplitl [H] <;> iassumption

theorem quiet_open (P Q : sProp 𝕄) : iprop(BI.emp ∗ P ∗ Q) ⊢ |={Set.univ}=> (BI.emp : sProp 𝕄) := by
  iintro H; imodintro; iempintro
theorem quiet_in (P Q R : sProp 𝕄) : iprop(P ∗ Q ∗ R ∗ BI.emp) ⊢ iprop(P ∗ Q) := by
  iintro ⟨H, K, -, -⟩; isplitl [H] <;> iassumption
theorem quiet_out (P Q : sProp 𝕄) (c : Dev nD) (V : Valuation τ sig (Elt F)) {S : sProp 𝕄} (h : S = BI.emp) :
    iprop(P ∗ Q) ⊢ iprop(P ∗ Q ∗ StableHlo.held (c.tc : Thread nD τ) ∅ V ∗ S ∗ BI.emp) := by
  rw [h, show (StableHlo.held (c.tc : Thread nD τ) ∅ V : sProp 𝕄) = BI.emp from BI.bigSep_empty]
  iintro ⟨H, K⟩
  isplitl [H]; · iexact H
  isplitl [K]; · iexact K
  isplitr; · iempintro
  isplitr; · iempintro
  iempintro

set_option backward.isDefEq.respectTransparency.types false in
def reg0 : ℝ𝕊 0 :=
  Pipeline.RegionSeg.ofTalk (pcfgs (F := F)) adm (dats X) () defs₀ 𝒱₀ L lv 0 osem0 osem0_ok
    (hbmRefs (τ := τ) H0) (rest (F := F) 0) sub0 launch0.toP rfl (fun c => (obl0 X c).loose)
    T1 due0 (owed0_start X) (owed0_end X) (fun _ => rfl) (fun c => (dat0 X c).share_full fun _ => rfl)
    X (X2 X) (keep0 X) (Tk0 X) (Yk0 X) (fun c => iprop(Tk0 X c ∗ Pipeline.ownSems0 osem0 c)) (Yk0 X)
    (fun c => take_sems _ _ _)
    (fun c => .rfl) (fun c => Entails.of_eq (phi0_end X c)) (fun c => upd_id _)
    (fun _ => 0) ⟨fun c w s => mem_L c _, fun c w s => le_of_eq (lv_none c _ (fun k => stag0 w s k) ()), fun c t g i h => cut0 X c t g i h⟩
    Er0 (fun _ _ => rfl) (fun c w => end0 X c w)

set_option backward.isDefEq.respectTransparency.types false in
def reg1 : ℝ𝕊 1 :=
  Pipeline.RegionSeg.ofTalk (pcfgs (F := F)) adm (dats X) () defs₀ 𝒱₀ L lv 1 osem1 osem1_ok
    ∅ (rest (F := F) 1) (Finset.empty_subset _) launch1.toP rfl (fun c => (obl1 X c).loose)
    T2 due1 (owed1_start X) (owed1_end X) (fun _ => rfl) (fun c => (dat1 X c).share_full fun _ => rfl)
    (X2 X) (X3 X) (keep1 X) (Tk1 X) (Yk1 X) (fun c => iprop(Tk1 X c ∗ Pipeline.ownSems0 osem1 c)) (Yk1 X)
    (fun c => take_sems _ _ _)
    (fun c => .rfl) (fun c => Entails.of_eq (phi1_end X c)) (fun c => upd_id _)
    (fun _ => 0) ⟨fun c w s => mem_L c _, fun c w s => le_of_eq (lv_none c _ (fun k => stag1 w s k) ()), fun c t g i h => cut1 X c t g i h⟩
    Er1 (fun _ _ => rfl) (fun c w => end1 X c w)

set_option backward.isDefEq.respectTransparency.types false in
def reg2 : ℝ𝕊 2 :=
  Pipeline.RegionSeg.ofTalk (pcfgs (F := F)) adm (dats X) () defs₀ 𝒱₀ L lv 2 (fun k : PEmpty => k.elim) (Pipeline.OwnSemFacts.none _)
    ∅ (rest (F := F) 2) (Finset.empty_subset _) launch2.toP rfl (fun c => (obl2 (X3 X) T2 c).loose)
    T2 (fun _ => 0) (fun c => (add_zero _).symm) (fun c => rfl) (fun _ => rfl) (fun c => (dat2 (X3 X) T2 c).share_full fun _ => rfl)
    (X3 X) (X4 X) (keep2 X) (fun _ => BI.emp) (fun _ => BI.emp) (fun _ => BI.emp) (fun _ => BI.emp)
    (fun c => quiet_open _ _) (fun c => quiet_in _ _ _) (fun c => quiet_out _ _ _ _ (no_sems c)) (fun c => upd_id _)
    (fun _ => 0) ⟨fun c w s => mem_L c _, fun c w s => le_of_eq (lv_none c _ (fun k => stag2 w s k) ()), fun c t g i h => cut_of ((above_T2 c).mono (by decide)) g i h⟩
    (Er2 (info X)) (fun _ _ => rfl) (fun c w => end2 X c w)

set_option backward.isDefEq.respectTransparency.types false in
def reg3 : ℝ𝕊 3 :=
  Pipeline.RegionSeg.ofTalk (pcfgs (F := F)) adm (dats X) () defs₀ 𝒱₀ L lv 3 osem3 osem3_ok'
    (hbmRefs (τ := τ) H3) (rest (F := F) 3) sub3 launch3.toP rfl (fun c => (obl3 X c).loose)
    (fun _ => 0) due2 (owed3_start X) (owed3_end X) (fun _ => rfl) (fun c w => w.elim0)
    (X4 X) (X5 X) (keep3 X) (Tk3 X) (Yk3 X) (fun c => iprop(Tk3 X c ∗ Pipeline.ownSems0 osem3 c)) (Yk3 X)
    (fun c => take_sems _ _ _)
    (fun c => .rfl) (fun c => Entails.of_eq (phi3_end X c)) (fun c => upd_id _)
    (fun _ => 0) ⟨fun c w s => w.elim0, fun c w s => w.elim0, fun c t g i h => cut3 X c t g i h⟩
    Er3 (fun _ w => w.elim0) (fun c w => w.elim0)

set_option backward.isDefEq.respectTransparency.types false in
def reg4 : ℝ𝕊 4 :=
  Pipeline.RegionSeg.ofTalk (pcfgs (F := F)) adm (dats X) () defs₀ 𝒱₀ L lv 4 (fun k : PEmpty => k.elim) (Pipeline.OwnSemFacts.none _)
    ∅ (rest (F := F) 4) (Finset.empty_subset _) launch4.toP rfl (fun c => (obl4 (X5 X) (fun _ => 0) c).loose)
    (fun _ => 0) (fun _ => 0) (fun c => (add_zero _).symm) (fun c => rfl) (fun _ => rfl) (fun c => (dat4 (X5 X) (fun _ => 0) c).share_full fun _ => rfl)
    (X5 X) (X6 X) (keep4 X) (fun _ => BI.emp) (fun _ => BI.emp) (fun _ => BI.emp) (fun _ => BI.emp)
    (fun c => quiet_open _ _) (fun c => quiet_in _ _ _) (fun c => quiet_out _ _ _ _ (no_sems c)) (fun c => upd_id _)
    (fun _ => 0) ⟨fun c w s => mem_L c _, fun c w s => le_of_eq (lv_none c _ (fun k => stag4 w s k) ()), fun c t g i h => cut_of (Above.zero 0) g i h⟩
    (Er4k (info X)) (fun _ _ => rfl) (fun c w => end4 X c w)

/-! ## The state between two calls -/

/-- What a device holds beside its buffers, before call `p` (`5`: at the end). -/
def shared (c : Dev nD) : Fin 6 → sProp 𝕄
  | 0 => iprop(stock c 0 ∗ stock c 1 ∗ stock c 2)
  | 1 => iprop(semVal (cell c (.bar 0)) 0 ∗ stock c 1 ∗ stock c 2)
  | 2 => iprop(semVal (cell c (.bar 0)) 0 ∗ semVal (cell c (.bar 1)) 0 ∗ stock c 2)
  | 3 => iprop(semVal (cell c (.bar 0)) 0 ∗ semVal (cell c (.bar 1)) 0 ∗ stock c 2)
  | 4 => iprop(semVal (cell c (.bar 0)) 0 ∗ semVal (cell c (.bar 1)) 0 ∗ semVal (cell c (.bar 2)) 0)
  | 5 => iprop(semVal (cell c (.bar 0)) 0 ∗ semVal (cell c (.bar 1)) 0 ∗ semVal (cell c (.bar 2)) 0)
def due (c : Dev nD) : Fin 6 → CellTallies nD τ sig Unit
  | 0 => T0 c
  | 1 => T1 c
  | 2 => T2 c
  | 3 => T2 c
  | 4 => 0
  | 5 => 0
def Ex (p : Fin 6) (c : Dev nD) : sProp 𝕄 :=
  iprop((∃ r, prngReg c r) ∗ know (info X) ∗ shared c p ∗ ∃ Wd, owes (c : Thread nD τ) (due c p) Wd)

theorem pre0_of (c : Dev nD) : iprop(StableHlo.held (c : Thread nD τ) (Pipeline.ucRefs τ sig) (X c) ∗ Ex X 0 c) ⊢ (reg0 X).pre c := by
  show _ ⊢ iprop(StableHlo.held (c.tc : Thread nD τ) (Pipeline.arrRefs (τ := τ) (pcfgs (F := F) 0).spec) (X c) ∗ (∃ r, prngReg c r) ∗ (StableHlo.held (c.tc : Thread nD τ) (rest (F := F) 0) (X c) ∗ Er0 c) ∗ Tk0 X c ∗ ∃ Wd, owes (c : Thread nD τ) (T1 c + due0 c : CellTallies nD τ sig Unit) Wd)
  unfold Ex
  rw [show due c 0 = T1 c + due0 c from rfl]
  rw [StableHlo.held_sub_split (c.tc : Thread nD τ) (arr_sub0 (F := F)) (X c)]
  unfold shared Tk0 Er0
  iintro ⟨⟨Ha, Hr⟩, Hp, HK, ⟨S0, S1, S2⟩, HO⟩
  isplitl [Ha]
  · iexact Ha
  isplitl [Hp]
  · iexact Hp
  isplitl [Hr S1 S2]
  · isplitl [Hr]
    · iexact Hr
    isplitl [S1]
    · iexact S1
    iexact S2
  isplitl [HK S0]
  · isplitl [HK]
    · iexact HK
    iexact S0
  iexact HO

theorem post0_to (c : Dev nD) : (reg0 X).post c ⊢ iprop(StableHlo.held (c : Thread nD τ) (Pipeline.ucRefs τ sig) (X2 X c) ∗ Ex X 1 c) := by
  show iprop(StableHlo.held (c.tc : Thread nD τ) (Pipeline.arrRefs (τ := τ) (pcfgs (F := F) 0).spec) (X2 X c) ∗ (∃ r, prngReg c r) ∗ (StableHlo.held (c.tc : Thread nD τ) (rest (F := F) 0) (X2 X c) ∗ Er0 c) ∗ Yk0 X c ∗ ∃ Wd, owes (c : Thread nD τ) (T1 c : CellTallies nD τ sig Unit) Wd) ⊢ _
  unfold Ex
  rw [StableHlo.held_sub_split (c.tc : Thread nD τ) (arr_sub0 (F := F)) (X2 X c)]
  unfold shared Yk0 Er0
  iintro ⟨Ha, Hp, ⟨Hr, ⟨S1, S2⟩⟩, ⟨HK, B0⟩, HO⟩
  isplitl [Ha Hr]
  · isplitl [Ha]
    · iexact Ha
    iexact Hr
  isplitl [Hp]
  · iexact Hp
  isplitl [HK]
  · iexact HK
  isplitl [B0 S1 S2]
  · isplitl [B0]
    · iexact B0
    isplitl [S1]
    · iexact S1
    iexact S2
  iexact HO

theorem pre1_of (c : Dev nD) : iprop(StableHlo.held (c : Thread nD τ) (Pipeline.ucRefs τ sig) (X2 X c) ∗ Ex X 1 c) ⊢ (reg1 X).pre c := by
  show _ ⊢ iprop(StableHlo.held (c.tc : Thread nD τ) (Pipeline.arrRefs (τ := τ) (pcfgs (F := F) 1).spec) (X2 X c) ∗ (∃ r, prngReg c r) ∗ (StableHlo.held (c.tc : Thread nD τ) (rest (F := F) 1) (X2 X c) ∗ Er1 c) ∗ Tk1 X c ∗ ∃ Wd, owes (c : Thread nD τ) (T2 c + due1 c : CellTallies nD τ sig Unit) Wd)
  unfold Ex
  rw [show due c 1 = T2 c + due1 c from rfl]
  rw [StableHlo.held_sub_split (c.tc : Thread nD τ) (arr_sub1 (F := F)) (X2 X c)]
  unfold shared Tk1 Er1
  iintro ⟨⟨Ha, Hr⟩, Hp, HK, ⟨B0, S1, S2⟩, HO⟩
  isplitl [Ha]
  · iexact Ha
  isplitl [Hp]
  · iexact Hp
  isplitl [Hr B0 S2]
  · isplitl [Hr]
    · iexact Hr
    isplitl [B0]
    · iexact B0
    iexact S2
  isplitl [HK S1]
  · isplitl [HK]
    · iexact HK
    iexact S1
  iexact HO

theorem post1_to (c : Dev nD) : (reg1 X).post c ⊢ iprop(StableHlo.held (c : Thread nD τ) (Pipeline.ucRefs τ sig) (X3 X c) ∗ Ex X 2 c) := by
  show iprop(StableHlo.held (c.tc : Thread nD τ) (Pipeline.arrRefs (τ := τ) (pcfgs (F := F) 1).spec) (X3 X c) ∗ (∃ r, prngReg c r) ∗ (StableHlo.held (c.tc : Thread nD τ) (rest (F := F) 1) (X3 X c) ∗ Er1 c) ∗ Yk1 X c ∗ ∃ Wd, owes (c : Thread nD τ) (T2 c : CellTallies nD τ sig Unit) Wd) ⊢ _
  unfold Ex
  rw [StableHlo.held_sub_split (c.tc : Thread nD τ) (arr_sub1 (F := F)) (X3 X c)]
  unfold shared Yk1 Er1
  iintro ⟨Ha, Hp, ⟨Hr, ⟨B0, S2⟩⟩, ⟨HK, B1⟩, HO⟩
  isplitl [Ha Hr]
  · isplitl [Ha]
    · iexact Ha
    iexact Hr
  isplitl [Hp]
  · iexact Hp
  isplitl [HK]
  · iexact HK
  isplitl [B0 B1 S2]
  · isplitl [B0]
    · iexact B0
    isplitl [B1]
    · iexact B1
    iexact S2
  iexact HO

theorem pre2_of (c : Dev nD) : iprop(StableHlo.held (c : Thread nD τ) (Pipeline.ucRefs τ sig) (X3 X c) ∗ Ex X 2 c) ⊢ (reg2 X).pre c := by
  show _ ⊢ iprop(StableHlo.held (c.tc : Thread nD τ) (Pipeline.arrRefs (τ := τ) (pcfgs (F := F) 2).spec) (X3 X c) ∗ (∃ r, prngReg c r) ∗ (StableHlo.held (c.tc : Thread nD τ) (rest (F := F) 2) (X3 X c) ∗ Er2 (info X) c) ∗ BI.emp ∗ ∃ Wd, owes (c : Thread nD τ) (T2 c + 0 : CellTallies nD τ sig Unit) Wd)
  unfold Ex
  rw [show due c 2 = T2 c + 0 from (add_zero _).symm]
  rw [StableHlo.held_sub_split (c.tc : Thread nD τ) (arr_sub2 (F := F)) (X3 X c)]
  unfold shared Er2
  iintro ⟨⟨Ha, Hr⟩, Hp, HK, ⟨B0, B1, S2⟩, HO⟩
  isplitl [Ha]
  · iexact Ha
  isplitl [Hp]
  · iexact Hp
  isplitl [Hr HK B0 B1 S2]
  · isplitl [Hr]
    · iexact Hr
    isplitl [HK]
    · iexact HK
    isplitl [B0]
    · iexact B0
    isplitl [B1]
    · iexact B1
    iexact S2
  isplitr
  · iempintro
  iexact HO

theorem post2_to (c : Dev nD) : (reg2 X).post c ⊢ iprop(StableHlo.held (c : Thread nD τ) (Pipeline.ucRefs τ sig) (X4 X c) ∗ Ex X 3 c) := by
  show iprop(StableHlo.held (c.tc : Thread nD τ) (Pipeline.arrRefs (τ := τ) (pcfgs (F := F) 2).spec) (X4 X c) ∗ (∃ r, prngReg c r) ∗ (StableHlo.held (c.tc : Thread nD τ) (rest (F := F) 2) (X4 X c) ∗ Er2 (info X) c) ∗ BI.emp ∗ ∃ Wd, owes (c : Thread nD τ) (T2 c : CellTallies nD τ sig Unit) Wd) ⊢ _
  unfold Ex
  rw [StableHlo.held_sub_split (c.tc : Thread nD τ) (arr_sub2 (F := F)) (X4 X c)]
  unfold shared Er2
  iintro ⟨Ha, Hp, ⟨Hr, ⟨HK, B0, B1, S2⟩⟩, -, HO⟩
  isplitl [Ha Hr]
  · isplitl [Ha]
    · iexact Ha
    iexact Hr
  isplitl [Hp]
  · iexact Hp
  isplitl [HK]
  · iexact HK
  isplitl [B0 B1 S2]
  · isplitl [B0]
    · iexact B0
    isplitl [B1]
    · iexact B1
    iexact S2
  iexact HO

theorem pre3_of (c : Dev nD) : iprop(StableHlo.held (c : Thread nD τ) (Pipeline.ucRefs τ sig) (X4 X c) ∗ Ex X 3 c) ⊢ (reg3 X).pre c := by
  show _ ⊢ iprop(StableHlo.held (c.tc : Thread nD τ) (Pipeline.arrRefs (τ := τ) (pcfgs (F := F) 3).spec) (X4 X c) ∗ (∃ r, prngReg c r) ∗ (StableHlo.held (c.tc : Thread nD τ) (rest (F := F) 3) (X4 X c) ∗ Er3 c) ∗ Tk3 X c ∗ ∃ Wd, owes (c : Thread nD τ) (0 + due2 c : CellTallies nD τ sig Unit) Wd)
  unfold Ex
  rw [show due c 3 = 0 + due2 c from rfl]
  rw [StableHlo.held_sub_split (c.tc : Thread nD τ) (arr_sub3 (F := F)) (X4 X c)]
  unfold shared Tk3 Er3
  iintro ⟨⟨Ha, Hr⟩, Hp, HK, ⟨B0, B1, S2⟩, HO⟩
  isplitl [Ha]
  · iexact Ha
  isplitl [Hp]
  · iexact Hp
  isplitl [Hr B0 B1]
  · isplitl [Hr]
    · iexact Hr
    isplitl [B0]
    · iexact B0
    iexact B1
  isplitl [HK S2]
  · isplitl [HK]
    · iexact HK
    iexact S2
  iexact HO

theorem post3_to (c : Dev nD) : (reg3 X).post c ⊢ iprop(StableHlo.held (c : Thread nD τ) (Pipeline.ucRefs τ sig) (X5 X c) ∗ Ex X 4 c) := by
  show iprop(StableHlo.held (c.tc : Thread nD τ) (Pipeline.arrRefs (τ := τ) (pcfgs (F := F) 3).spec) (X5 X c) ∗ (∃ r, prngReg c r) ∗ (StableHlo.held (c.tc : Thread nD τ) (rest (F := F) 3) (X5 X c) ∗ Er3 c) ∗ Yk3 X c ∗ ∃ Wd, owes (c : Thread nD τ) (0 : CellTallies nD τ sig Unit) Wd) ⊢ _
  unfold Ex
  rw [StableHlo.held_sub_split (c.tc : Thread nD τ) (arr_sub3 (F := F)) (X5 X c)]
  unfold shared Yk3 Er3
  iintro ⟨Ha, Hp, ⟨Hr, ⟨B0, B1⟩⟩, ⟨HK, B2⟩, HO⟩
  isplitl [Ha Hr]
  · isplitl [Ha]
    · iexact Ha
    iexact Hr
  isplitl [Hp]
  · iexact Hp
  isplitl [HK]
  · iexact HK
  isplitl [B0 B1 B2]
  · isplitl [B0]
    · iexact B0
    isplitl [B1]
    · iexact B1
    iexact B2
  iexact HO

theorem pre4_of (c : Dev nD) : iprop(StableHlo.held (c : Thread nD τ) (Pipeline.ucRefs τ sig) (X5 X c) ∗ Ex X 4 c) ⊢ (reg4 X).pre c := by
  show _ ⊢ iprop(StableHlo.held (c.tc : Thread nD τ) (Pipeline.arrRefs (τ := τ) (pcfgs (F := F) 4).spec) (X5 X c) ∗ (∃ r, prngReg c r) ∗ (StableHlo.held (c.tc : Thread nD τ) (rest (F := F) 4) (X5 X c) ∗ Er4k (info X) c) ∗ BI.emp ∗ ∃ Wd, owes (c : Thread nD τ) (0 + 0 : CellTallies nD τ sig Unit) Wd)
  unfold Ex
  rw [show due c 4 = 0 + 0 from (add_zero _).symm]
  rw [StableHlo.held_sub_split (c.tc : Thread nD τ) (arr_sub4 (F := F)) (X5 X c)]
  unfold shared Er4k
  iintro ⟨⟨Ha, Hr⟩, Hp, HK, ⟨B0, B1, B2⟩, HO⟩
  isplitl [Ha]
  · iexact Ha
  isplitl [Hp]
  · iexact Hp
  isplitl [Hr HK B0 B1 B2]
  · isplitl [Hr]
    · iexact Hr
    isplitl [HK]
    · iexact HK
    isplitl [B0]
    · iexact B0
    isplitl [B1]
    · iexact B1
    iexact B2
  isplitr
  · iempintro
  iexact HO

theorem post4_to (c : Dev nD) : (reg4 X).post c ⊢ iprop(StableHlo.held (c : Thread nD τ) (Pipeline.ucRefs τ sig) (X6 X c) ∗ Ex X 5 c) := by
  show iprop(StableHlo.held (c.tc : Thread nD τ) (Pipeline.arrRefs (τ := τ) (pcfgs (F := F) 4).spec) (X6 X c) ∗ (∃ r, prngReg c r) ∗ (StableHlo.held (c.tc : Thread nD τ) (rest (F := F) 4) (X6 X c) ∗ Er4k (info X) c) ∗ BI.emp ∗ ∃ Wd, owes (c : Thread nD τ) (0 : CellTallies nD τ sig Unit) Wd) ⊢ _
  unfold Ex
  rw [StableHlo.held_sub_split (c.tc : Thread nD τ) (arr_sub4 (F := F)) (X6 X c)]
  unfold shared Er4k
  iintro ⟨Ha, Hp, ⟨Hr, ⟨HK, B0, B1, B2⟩⟩, -, HO⟩
  isplitl [Ha Hr]
  · isplitl [Ha]
    · iexact Ha
    iexact Hr
  isplitl [Hp]
  · iexact Hp
  isplitl [HK]
  · iexact HK
  isplitl [B0 B1 B2]
  · isplitl [B0]
    · iexact B0
    isplitl [B1]
    · iexact B1
    iexact B2
  iexact HO

end Regs

end Cert.K
-- ==== Proof.Start.lean ====
/-
# The protocol at the start

From the whole program's launch state to each device's share of it: every counter's invariant, the tokens of the copies it
sends and of the barriers it signals, and the credit of the copies and signals it receives.
-/
module

public import proofs.«01_k».proof.Proof.Regs

@[expose] public section

set_option maxRecDepth 16384

noncomputable section

namespace Cert.K

open Cert.KernelIdeal Cert.KernelIdeal.Gen
open Idealize.ShloMosaic Idealize.ShloMosaic.TcCoe
open Idealize.SL.Sem
open Idealize.SL
open Idealize.SL.BI (sProp bigSep)
open scoped Idealize.SL.BI
open Idealize.SL.BI.BIBase Idealize.SL.BI.Laws Idealize.SL.ProofMode
open Idealize.SL.RA
open Idealize.ShloMosaic.Rounds

variable {F : FTy → Type} [FloatOps F]

local notation "𝕄" => MT nD τ sig Unit (Elt F) ℕ UU ℕ

/-! ## Families over the links, the calls and the devices -/

theorem links_split (Φ : Ln → sProp 𝕄) : bigSep Finset.univ Φ = bigSep Finset.univ fun r : Fin 3 => bigSep (links r) Φ := by
  rw [show (Finset.univ : Finset Ln) = Finset.univ.biUnion links from by decide +kernel]
  exact BI.bigSep_biUnion_eq _ _ _ (by decide +kernel)

theorem three_calls (Φ : Fin 3 → sProp 𝕄) : bigSep Finset.univ Φ = iprop(Φ 0 ∗ Φ 1 ∗ Φ 2) :=
  BI.bigSep_univ_eq_bigSepL ([0, 1, 2] : List (Fin 3)) (by decide) (by decide) Φ

/-- Moving every member of a family to another device, by a permutation of the devices for each member. -/
def turn {ι : Type} (e : ι → Dev nD ≃ Dev nD) : Dev nD × ι ≃ Dev nD × ι where
  toFun x := (e x.2 x.1, x.2)
  invFun x := ((e x.2).symm x.1, x.2)
  left_inv x := by simp
  right_inv x := by simp

theorem turned {ι : Type} [Fintype ι] (e : ι → Dev nD ≃ Dev nD) (Φ : Dev nD → ι → sProp 𝕄) :
    bigSep Finset.univ (fun c => bigSep Finset.univ fun i => Φ c i) = bigSep Finset.univ (fun c => bigSep Finset.univ fun i => Φ (e i c) i) := by
  have h1 : bigSep Finset.univ (fun x : Dev nD × ι => Φ x.1 x.2) = bigSep Finset.univ (fun c => bigSep Finset.univ fun i => Φ c i) := BI.bigSep_univ_prod _
  have h2 : bigSep Finset.univ (fun x : Dev nD × ι => Φ (e x.2 x.1) x.2) = bigSep Finset.univ (fun c => bigSep Finset.univ fun i => Φ (e i c) i) := BI.bigSep_univ_prod _
  rw [← h1, ← h2]
  exact BI.bigSep_univ_equiv (turn e) _

/-- The names of a call among all the names. -/
theorem names_some (Φ : Fin 3 → Nm → sProp 𝕄) :
    bigSep Finset.univ (fun x : Fin 3 × Nm => Φ x.1 x.2) ⊢ (bigSep Finset.univ fun r : Fin 3 => bigSep (names r) (Φ r) : sProp 𝕄) := by
  have h : bigSep Finset.univ (fun x : Fin 3 × Nm => Φ x.1 x.2) = bigSep Finset.univ (fun r : Fin 3 => bigSep Finset.univ fun n : Nm => Φ r n) := BI.bigSep_univ_prod _
  rw [h]
  exact bigSep_mono' fun r _ => BI.bigSep_subset (Finset.subset_univ _)

/-! ## The counters -/

theorem cell_inj {c c' : Dev nD} {k k' : Kd} (h : cell c k = cell c' k') : c = c' ∧ k = k' :=
  ⟨congrArg (fun g : GSem nD τ sig => g.1.1) h, semOf_inj (congrArg Prod.snd h)⟩

/-- A family of counters, on every device. -/
def cellsOf {ι : Type} (f : ι ↪ Kd) : Dev nD × ι ↪ GSem nD τ sig :=
  ⟨fun x => cell x.1 (f x.2), fun _ _ h => Prod.ext (cell_inj h).1 (f.injective (cell_inj h).2)⟩

def barK : Fin 3 ↪ Kd := ⟨.bar, fun _ _ h => by injection h⟩
abbrev Inn : Type := Fin 3 ⊕ Ln ⊕ Ln
def innK : Inn ↪ Kd := ⟨fun | .inl r => .fin r | .inr (.inl l) => .snd l | .inr (.inr l) => .rcv l, by decide +kernel⟩

abbrev entryCells : Finset (GSem nD τ sig) := Finset.univ.map (cellsOf barK)
abbrev callCells : Finset (GSem nD τ sig) := Finset.univ.map (cellsOf innK)

theorem entry_call : Disjoint (entryCells : Finset (GSem nD τ sig)) callCells := by
  rw [Finset.disjoint_left]
  intro g h h'
  obtain ⟨x, -, rfl⟩ := Finset.mem_map.mp h
  obtain ⟨y, -, e⟩ := Finset.mem_map.mp h'
  exact (by decide +kernel : ∀ (i : Inn) (r : Fin 3), innK i ≠ barK r) _ _ (cell_inj e).2

theorem cell_mem (x : Dev nD × Kd) : cell x.1 x.2 ∈ (entryCells ∪ callCells : Finset (GSem nD τ sig)) := by
  obtain ⟨c, k⟩ := x
  cases k with
  | bar r => exact Finset.mem_union_left _ (Finset.mem_map_of_mem (cellsOf barK) (Finset.mem_univ (c, r)))
  | fin r => exact Finset.mem_union_right _ (Finset.mem_map_of_mem (cellsOf innK) (Finset.mem_univ (c, (.inl r : Inn))))
  | snd l => exact Finset.mem_union_right _ (Finset.mem_map_of_mem (cellsOf innK) (Finset.mem_univ (c, (.inr (.inl l) : Inn))))
  | rcv l => exact Finset.mem_union_right _ (Finset.mem_map_of_mem (cellsOf innK) (Finset.mem_univ (c, (.inr (.inr l) : Inn))))

def everyCell : Dev nD × Kd ↪ GSem nD τ sig := ⟨fun x => cell x.1 x.2, fun _ _ h => Prod.ext (cell_inj h).1 (cell_inj h).2⟩

theorem all_cells (Φ : GSem nD τ sig → sProp 𝕄) : bigSep (entryCells ∪ callCells) Φ ⊢ bigSep Finset.univ fun x : Dev nD × Kd => Φ (cell x.1 x.2) := by
  have h : bigSep (Finset.univ.map everyCell) Φ = bigSep Finset.univ fun x : Dev nD × Kd => Φ (cell x.1 x.2) := BI.bigSep_map _
  rw [← h]
  refine BI.bigSep_subset fun g hg => ?_
  obtain ⟨x, -, rfl⟩ := Finset.mem_map.mp hg
  exact cell_mem x

theorem entry_eq (Φ : GSem nD τ sig → sProp 𝕄) : bigSep entryCells Φ = bigSep Finset.univ fun x : Dev nD × Fin 3 => Φ (cell x.1 (.bar x.2)) := BI.bigSep_map _
theorem entry_dev (Φ : GSem nD τ sig → sProp 𝕄) : bigSep entryCells Φ = bigSep Finset.univ fun c : Dev nD => bigSep Finset.univ fun r : Fin 3 => Φ (cell c (.bar r)) := by
  rw [entry_eq]
  exact BI.bigSep_univ_prod _

theorem inn_eq (Ψ : Kd → sProp 𝕄) : bigSep Finset.univ (fun i : Inn => Ψ (innK i)) = bigSep Finset.univ fun r : Fin 3 => bigSep (inner r) Ψ := by
  have h : (fun r : Fin 3 => bigSep (inner r) Ψ) = fun r => iprop(Ψ (.fin r) ∗ bigSep (links r) (fun l => Ψ (.snd l)) ∗ bigSep (links r) (fun l => Ψ (.rcv l))) :=
    funext fun r => inner_atoms r Ψ
  rw [h, BI.bigSep_sep', BI.bigSep_sep', ← links_split, ← links_split, BI.bigSep_univ_sum, BI.bigSep_univ_sum]
  rfl

theorem call_dev (Φ : GSem nD τ sig → sProp 𝕄) :
    bigSep callCells Φ = bigSep Finset.univ fun c : Dev nD => bigSep Finset.univ fun r : Fin 3 => bigSep (inner r) fun k => Φ (cell c k) := by
  have h : bigSep callCells Φ = bigSep Finset.univ fun x : Dev nD × Inn => Φ (cell x.1 (innK x.2)) := BI.bigSep_map _
  have h2 : (bigSep Finset.univ fun x : Dev nD × Inn => Φ (cell x.1 (innK x.2))) = bigSep Finset.univ fun c : Dev nD => bigSep Finset.univ fun i : Inn => Φ (cell c (innK i)) := BI.bigSep_univ_prod _
  rw [h, h2]
  exact BI.bigSep_congr fun c _ => inn_eq fun k => Φ (cell c k)

/-! ## The tokens -/

abbrev Tok : Type := (Ln ⊕ Ln) ⊕ ((Fin 3 × Nm) ⊕ (Fin 3 × Nm))
def tokK : Tok → Kd × Nm
  | .inl (.inl l) => (.snd l, 0)
  | .inl (.inr l) => (.rcv l, 0)
  | .inr (.inl x) => (.bar x.1, x.2)
  | .inr (.inr x) => (.fin x.1, x.2)
theorem tokK_inj : Function.Injective tokK := by decide +kernel

def tokEmb : Dev nD × Tok ↪ GSem nD τ sig × ℕ × Nm :=
  ⟨fun x => (cell x.1 (tokK x.2).1, 0, (tokK x.2).2), fun _ _ h =>
    have hc := cell_inj (congrArg Prod.fst h)
    Prod.ext hc.1 (tokK_inj (Prod.ext hc.2 (congrArg (fun t : GSem nD τ sig × ℕ × Nm => t.2.2) h)))⟩
def tokens : Finset (GSem nD τ sig × ℕ × Nm) := Finset.univ.map tokEmb

/-- The tokens of what a device pays: on the counters it pays into. -/
def purse (c : Dev nD) : sProp 𝕄 :=
  iprop((bigSep Finset.univ (fun l => dutyTok ER (cell c (.snd l)) 0 0) ∗ bigSep Finset.univ (fun l => dutyTok ER (cell (peer l c) (.rcv l)) 0 0))
    ∗ bigSep Finset.univ (fun x : Fin 3 × Nm => dutyTok ER (cell ((prs x.1 x.2).symm c) (.bar x.1)) 0 x.2)
    ∗ bigSep Finset.univ (fun x : Fin 3 × Nm => dutyTok ER (cell ((prs x.1 x.2).symm c) (.fin x.1)) 0 x.2))

theorem tokens_purses : bigSep tokens (fun x => (dutyTok ER x.1 x.2.1 x.2.2 : sProp 𝕄)) = bigSep Finset.univ purse := by
  have h : bigSep tokens (fun x => (dutyTok ER x.1 x.2.1 x.2.2 : sProp 𝕄)) = bigSep Finset.univ fun x : Dev nD × Tok => dutyTok ER (cell x.1 (tokK x.2).1) 0 (tokK x.2).2 := BI.bigSep_map _
  have h2 : (bigSep Finset.univ fun x : Dev nD × Tok => (dutyTok ER (cell x.1 (tokK x.2).1) 0 (tokK x.2).2 : sProp 𝕄))
      = bigSep Finset.univ fun c : Dev nD => bigSep Finset.univ fun i : Tok => dutyTok ER (cell c (tokK i).1) 0 (tokK i).2 := BI.bigSep_univ_prod _
  have h3 (c : Dev nD) : (bigSep Finset.univ fun i : Tok => (dutyTok ER (cell c (tokK i).1) 0 (tokK i).2 : sProp 𝕄))
      = iprop((bigSep Finset.univ (fun l => dutyTok ER (cell c (.snd l)) 0 0) ∗ bigSep Finset.univ (fun l => dutyTok ER (cell c (.rcv l)) 0 0))
        ∗ bigSep Finset.univ (fun x : Fin 3 × Nm => dutyTok ER (cell c (.bar x.1)) 0 x.2)
        ∗ bigSep Finset.univ (fun x : Fin 3 × Nm => dutyTok ER (cell c (.fin x.1)) 0 x.2)) := by
    rw [BI.bigSep_univ_sum, BI.bigSep_univ_sum, BI.bigSep_univ_sum]; rfl
  rw [h, h2, BI.bigSep_congr fun c _ => h3 c]
  unfold purse
  rw [BI.bigSep_sep', BI.bigSep_sep', BI.bigSep_sep', BI.bigSep_sep', BI.bigSep_sep', BI.bigSep_sep',
    turned (fun l : Ln => peer l) (fun c l => (dutyTok ER (cell c (.rcv l)) 0 0 : sProp 𝕄)),
    turned (fun x : Fin 3 × Nm => (prs x.1 x.2).symm) (fun c x => (dutyTok ER (cell c (.bar x.1)) 0 x.2 : sProp 𝕄)),
    turned (fun x : Fin 3 × Nm => (prs x.1 x.2).symm) (fun c x => (dutyTok ER (cell c (.fin x.1)) 0 x.2 : sProp 𝕄))]

/-! ## The credit -/

/-- What the devices together owe a counter. -/
def owedTo (O : Dev nD → CellTallies nD τ sig Unit) (c : Dev nD) (k : Kd) : ℕ := ∑ d : Dev nD, O d (cell c k) ()

theorem owedTo_add (O P : Dev nD → CellTallies nD τ sig Unit) (c : Dev nD) (k : Kd) : owedTo (fun d => O d + P d) c k = owedTo O c k + owedTo P c k := by
  unfold owedTo
  rw [← Finset.sum_add_distrib]
  rfl

theorem owedTo_zero (c : Dev nD) (k : Kd) : owedTo (fun _ => 0) c k = 0 := by
  unfold owedTo
  exact Finset.sum_eq_zero fun _ _ => rfl

/-- One device each owes a counter of another, by a permutation: every device is owed once. -/
theorem owedTo_at (e : Dev nD ≃ Dev nD) (k' : Kd) (n : ℕ) (c : Dev nD) (k : Kd) :
    owedTo (fun d => tallyAt (cell (e d) k') () n) c k = if k = k' then n else 0 := by
  unfold owedTo
  rw [Finset.sum_congr rfl fun d _ => tallyAt_apply (cell (e d) k') () n (cell c k) ()]
  by_cases hk : k = k'
  · subst hk
    rw [if_pos rfl, Finset.sum_eq_single (e.symm c)]
    · rw [if_pos ⟨by rw [Equiv.apply_symm_apply], rfl⟩]
    · intro d _ hd
      exact if_neg fun h => hd (by rw [(cell_inj h.1).1, Equiv.symm_apply_apply])
    · exact fun h => absurd (Finset.mem_univ _) h
  · rw [if_neg hk]
    exact Finset.sum_eq_zero fun d _ => if_neg fun h => hk (cell_inj h.1).2

theorem owedTo_owe (T : Dev nD → CellTallies nD τ sig Unit) (c : Dev nD) (k : Kd) : ∀ ls : List Ln,
    owedTo (fun d => owe d ls (T d)) c k = owedTo T c k + (ls.map fun l => if k = .rcv l then amt l else 0).sum
  | [] => by simp [owe]
  | l :: ls => by
    have h : owedTo (fun d => owe d (l :: ls) (T d)) c k = owedTo (fun d => owe d ls (T d)) c k + owedTo (fun d => owL d l) c k :=
      owedTo_add (fun d => owe d ls (T d)) (fun d => owL d l) c k
    rw [h, owedTo_owe T c k ls, owedTo_at (peer l) (.rcv l) (amt l) c k, List.map_cons, List.sum_cons]
    omega

theorem owedTo_owB (r : Fin 3) (n : Nm) (c : Dev nD) (k : Kd) : owedTo (fun d => owB d r n) c k = if k = .bar r then 1 else 0 :=
  owedTo_at (prs r n).symm (.bar r) 1 c k
theorem owedTo_owF (r : Fin 3) (n : Nm) (c : Dev nD) (k : Kd) : owedTo (fun d => owF d r n) c k = if k = .fin r then 1 else 0 :=
  owedTo_at (prs r n).symm (.fin r) 1 c k

/-- What a counter is owed over the whole program. -/
def dueK : Kd → ℕ
  | .snd _ => 0
  | .rcv l => amt l
  | .bar r => (names r).card
  | .fin r => (names r).card

/-- The sum of a list in which one member alone counts. -/
theorem sum_one (k : Kd) (a : Ln → ℕ) : ∀ ls : List Ln, (ls.map fun l => if k = .rcv l then a l else 0).sum = ((ls.filter fun l => k = .rcv l).map a).sum
  | [] => rfl
  | l :: ls => by
    rw [List.map_cons, List.sum_cons, sum_one k a ls]
    by_cases h : k = .rcv l <;> simp [h]

def linkList : List Ln := agOrder ++ [.ax 0, .ax 1, .ax 2] ++ rsOrder
theorem linkList_filter : ∀ l : Ln, (linkList.filter fun l' => Kd.rcv l = .rcv l') = [l] := by decide +kernel

theorem owedTo_T0 (c : Dev nD) (k : Kd) : owedTo T0 c k
    = (linkList.map fun l => if k = .rcv l then amt l else 0).sum
      + ((if k = .bar 0 then 2 else 0) + (if k = .bar 1 then 3 else 0) + (if k = .bar 2 then 2 else 0)
        + (if k = .fin 0 then 2 else 0) + (if k = .fin 1 then 3 else 0) + (if k = .fin 2 then 2 else 0)) := by
  have e2 : owedTo due2 c k = (agOrder.map fun l => if k = .rcv l then amt l else 0).sum + (if k = .bar 2 then 2 else 0) + (if k = .fin 2 then 2 else 0) := by
    have h : owedTo due2 c k = owedTo (fun d => owe d agOrder (owF d 2 1 + owF d 2 0)) c k + owedTo (fun d => owB d 2 1) c k + owedTo (fun d => owB d 2 0) c k := by
      rw [← owedTo_add, ← owedTo_add]; rfl
    rw [h, owedTo_owe, owedTo_add, owedTo_owF, owedTo_owF, owedTo_owB, owedTo_owB]
    split <;> split <;> omega
  have e0 : owedTo due0 c k = (rsOrder.map fun l => if k = .rcv l then amt l else 0).sum + (if k = .bar 0 then 2 else 0) + (if k = .fin 0 then 2 else 0) := by
    have h : owedTo due0 c k = owedTo (fun d => owe d rsOrder (owF d 0 1 + owF d 0 0)) c k + owedTo (fun d => owB d 0 1) c k + owedTo (fun d => owB d 0 0) c k := by
      rw [← owedTo_add, ← owedTo_add]; rfl
    rw [h, owedTo_owe, owedTo_add, owedTo_owF, owedTo_owF, owedTo_owB, owedTo_owB]
    split <;> split <;> omega
  have e1 : owedTo due1 c k = (([.ax 0, .ax 1, .ax 2] : List Ln).map fun l => if k = .rcv l then amt l else 0).sum + (if k = .bar 1 then 3 else 0) + (if k = .fin 1 then 3 else 0) := by
    have h : owedTo due1 c k = owedTo (fun d => owe d [.ax 0, .ax 1, .ax 2] (owF d 1 0 + owF d 1 1 + owF d 1 2)) c k + owedTo (fun d => owB d 1 0) c k + owedTo (fun d => owB d 1 1) c k
        + owedTo (fun d => owB d 1 2) c k := by
      rw [← owedTo_add, ← owedTo_add, ← owedTo_add]; rfl
    rw [h, owedTo_owe, owedTo_add, owedTo_add, owedTo_owF, owedTo_owF, owedTo_owF, owedTo_owB, owedTo_owB, owedTo_owB]
    split <;> split <;> omega
  have h : owedTo T0 c k = owedTo (fun _ => 0) c k + owedTo due2 c k + owedTo due1 c k + owedTo due0 c k := by
    rw [← owedTo_add, ← owedTo_add, ← owedTo_add]; rfl
  rw [h, e2, e1, e0, owedTo_zero]
  unfold linkList
  rw [List.map_append, List.map_append, List.sum_append, List.sum_append]
  omega

theorem owedTo_dueK (c : Dev nD) : ∀ k, owedTo T0 c k = (match k with | .snd _ => 0 | k => dueK k)
  | .snd l => by rw [owedTo_T0, sum_one]; simp
  | .rcv l => by rw [owedTo_T0, sum_one, linkList_filter]; simp [dueK]
  | .bar r => by rw [owedTo_T0, sum_one]; fin_cases r <;> simp [dueK, names]
  | .fin r => by rw [owedTo_T0, sum_one]; fin_cases r <;> simp [dueK, names]

theorem launch_due (c : Dev nD) (k : Kd) (h : owedTo T0 c k = dueK k) :
    tallyOn (cell c k) (launchCredit (Pipeline.owing T0) 0 (cell c k)) = (tallyAt (cell c k) () (dueK k) : CellTallies nD τ sig Unit) := by
  unfold tallyAt
  refine congrArg _ (Finsupp.ext fun u => ?_)
  cases u
  rw [Pipeline.launchCredit_owing, Finsupp.single_eq_same, ← h]
  rfl

/-- The counters that are owed to. -/
abbrev Owed : Type := Ln ⊕ (Fin 3 ⊕ Fin 3)
def owedK : Owed → Kd | .inl l => .rcv l | .inr (.inl r) => .bar r | .inr (.inr r) => .fin r
def owedSem : Owed ↪ SemLoc sig := ⟨fun i => semOf (owedK i), fun _ _ h => (by decide +kernel : Function.Injective owedK) (semOf_inj h)⟩

theorem owed_dueK (c : Dev nD) (i : Owed) : owedTo T0 c (owedK i) = dueK (owedK i) := by
  rw [owedTo_dueK]
  rcases i with l | r | r <;> rfl

theorem credits (c : Dev nD) :
    Pipeline.launchCred T0 c ⊢ (iprop(bigSep Finset.univ (fun l => cred (tallyAt (cell c (.rcv l)) () (amt l)))
      ∗ bigSep Finset.univ (fun r : Fin 3 => cred (tallyAt (cell c (.bar r)) () (names r).card))
      ∗ bigSep Finset.univ (fun r : Fin 3 => cred (tallyAt (cell c (.fin r)) () (names r).card))) : sProp 𝕄) := by
  have h1 : Pipeline.launchCred T0 c ⊢ (bigSep (Finset.univ.map owedSem) fun sm : SemLoc sig =>
      cred (tallyOn ((c : Thread nD τ), sm) (launchCredit (Pipeline.owing T0) 0 ((c : Thread nD τ), sm))) : sProp 𝕄) :=
    BI.bigSep_subset (Finset.subset_univ _)
  have h2 : (bigSep (Finset.univ.map owedSem) fun sm : SemLoc sig =>
      (cred (tallyOn ((c : Thread nD τ), sm) (launchCredit (Pipeline.owing T0) 0 ((c : Thread nD τ), sm))) : sProp 𝕄))
      = bigSep Finset.univ fun i : Owed => cred (tallyOn (cell c (owedK i)) (launchCredit (Pipeline.owing T0) 0 (cell c (owedK i)))) := BI.bigSep_map _
  refine h1.trans (Entails.of_eq ?_)
  rw [h2, BI.bigSep_congr fun i _ => congrArg cred (launch_due c (owedK i) (owed_dueK c i)), BI.bigSep_univ_sum, BI.bigSep_univ_sum]
  rfl

/-! ## Each device's share -/

/-- What a device takes from the launch for its three calls. -/
def linear (c : Dev nD) : sProp 𝕄 :=
  iprop((bigSep Finset.univ fun r : Fin 3 => bigSep (inner r) fun k => openTok ER (cell c k))
    ∗ (bigSep Finset.univ fun r : Fin 3 => atPos ER (cell c (.bar r)) 0 ∅ 0) ∗ purse c)

theorem stocks_eq (c : Dev nD) : bigSep Finset.univ (stock c)
    = (iprop((bigSep Finset.univ fun r : Fin 3 => bigSep (inner r) fun k => openTok ER (cell c k))
      ∗ (bigSep Finset.univ fun r : Fin 3 => atPos ER (cell c (.bar r)) 0 ∅ 0)
      ∗ (bigSep Finset.univ (fun l => dutyTok ER (cell c (.snd l)) 0 0) ∗ bigSep Finset.univ (fun l => dutyTok ER (cell (peer l c) (.rcv l)) 0 0)
        ∗ bigSep Finset.univ (fun l => cred (tallyAt (cell c (.rcv l)) () (amt l))))
      ∗ ((bigSep Finset.univ fun r : Fin 3 => bigSep (names r) fun n => dutyTok ER (cell ((prs r n).symm c) (.bar r)) 0 n)
        ∗ (bigSep Finset.univ fun r : Fin 3 => bigSep (names r) fun n => dutyTok ER (cell ((prs r n).symm c) (.fin r)) 0 n))
      ∗ bigSep Finset.univ (fun r : Fin 3 => cred (tallyAt (cell c (.bar r)) () (names r).card))
      ∗ bigSep Finset.univ (fun r : Fin 3 => cred (tallyAt (cell c (.fin r)) () (names r).card))) : sProp 𝕄) := by
  unfold stock
  rw [links_split (fun l => dutyTok ER (cell c (.snd l)) 0 0), links_split (fun l => dutyTok ER (cell (peer l c) (.rcv l)) 0 0),
    links_split (fun l => cred (tallyAt (cell c (.rcv l)) () (amt l)))]
  simp only [BI.bigSep_sep']

theorem stocks_of (c : Dev nD) : iprop(linear c ∗ Pipeline.launchCred T0 c) ⊢ (iprop(stock c 0 ∗ stock c 1 ∗ stock c 2) : sProp 𝕄) := by
  rw [← three_calls, stocks_eq]
  unfold linear purse
  iintro ⟨⟨Ho, Ha, ⟨Hs, Hr⟩, Hb, Hf⟩, Hc⟩
  ihave Hc := (credits (F := F) c) $$ Hc
  icases Hc with ⟨Hcr, Hcb, Hcf⟩
  ihave Hb := (names_some (F := F) fun r n => dutyTok ER (cell ((prs r n).symm c) (.bar r)) 0 n) $$ Hb
  ihave Hf := (names_some (F := F) fun r n => dutyTok ER (cell ((prs r n).symm c) (.fin r)) 0 n) $$ Hf
  isplitl [Ho]; · iexact Ho
  isplitl [Ha]; · iexact Ha
  isplitl [Hs Hr Hcr]
  · isplitl [Hs]; · iexact Hs
    isplitl [Hr] <;> iassumption
  isplitl [Hb Hf]
  · isplitl [Hb] <;> iassumption
  isplitl [Hcb] <;> iassumption

/-- The protocol's launch element, with no local copy in flight. -/
def talk₀ : RR := launchOf entryCells callCells tokens

/-- A resource held by one device alone. -/
def held₀ (Y : sProp 𝕄) (c : Dev nD) : sProp 𝕄 := if c = (0 : Fin 4) then Y else iprop(emp)
theorem held₀_all (Y : sProp 𝕄) : bigSep Finset.univ (held₀ Y) = Y := by
  have h : bigSep (Finset.univ.erase (0 : Fin 4)) (held₀ Y) = iprop(emp) := by
    have h' : bigSep (Finset.univ.erase (0 : Fin 4)) (held₀ Y) = bigSep (Finset.univ.erase (0 : Fin 4)) fun _ => iprop(emp) :=
      BI.bigSep_congr fun c hc => by unfold held₀; rw [if_neg (Finset.ne_of_mem_erase hc)]
    rw [h']
    exact BI.bigSep_emp_const _
  rw [BI.bigSep_univ_at _ (0 : Fin 4), h]
  show iprop((if (0 : Fin 4) = 0 then Y else iprop(emp)) ∗ emp) = Y
  rw [if_pos rfl]
  have e1 : iprop(Y ∗ emp) ⊢ Y := sep_emp.1
  have e2 : Y ⊢ iprop(Y ∗ emp) := sep_emp.2
  exact both_ways e1 e2

theorem entry_sems (c : Dev nD) : unscopedSems0 c ⊢ (bigSep Finset.univ fun r : Fin 3 => semVal (cell c (.bar r)) 0 : sProp 𝕄) := by
  have h : bigSep (Finset.univ.map (⟨fun r => semOf (.bar r), fun _ _ e => by injection semOf_inj e⟩ : Fin 3 ↪ SemLoc sig)) (fun sm => (semVal ((c : Thread nD τ), sm) 0 : sProp 𝕄))
      = bigSep Finset.univ fun r : Fin 3 => semVal (cell c (.bar r)) 0 := BI.bigSep_map _
  rw [← h]
  unfold unscopedSems0
  refine BI.bigSep_subset fun sm hs => ?_
  obtain ⟨r, -, rfl⟩ := Finset.mem_map.mp hs
  exact Finset.mem_filter.mpr ⟨Finset.mem_univ _, by revert r; decide⟩

instance know_persistent (I : Info F) : BI.Persistent (know I) := by unfold know; infer_instance

section Init
variable (m : (ℓ : Loc nD τ sig) → Buf (Elt F) ℓ) (ρ : Dev nD → PrngReg)

/-- The contents each device's calls start from. -/
abbrev X₁ (c : Dev nD) : Valuation τ sig (Elt F) := V1 m c

abbrev G₀ : Dev nD → sProp 𝕄 := held₀ (BI.own (ER talk₀))

abbrev Start (c : Dev nD) : sProp 𝕄 := iprop(StableHlo.held (c : Thread nD τ) (Pipeline.ucRefs τ sig) (V0 m c) ∗ Ex (X₁ m) 0 c)

theorem share_of (I : Info F) (c : Dev nD) (Y : sProp 𝕄) :
    iprop(know I ∗ (linear c ∗ (Y ∗ owes (c : Thread nD τ) (T0 c) ∅ ∗ Pipeline.launchCred T0 c ∗ prngReg c (ρ c))))
      ⊢ iprop(Y ∗ ((∃ r, prngReg c r) ∗ know I ∗ (stock c 0 ∗ stock c 1 ∗ stock c 2) ∗ ∃ Wd, owes (c : Thread nD τ) (T0 c) Wd)) := by
  iintro ⟨#HK, Hl, HY, HO, Hc, Hp⟩
  isplitl [HY]; · iexact HY
  isplitl [Hp]; · iexists (ρ c); iexact Hp
  isplitr; · iexact HK
  isplitr [HO]
  · iapply (stocks_of (F := F) c)
    isplitl [Hl] <;> iassumption
  iexists ∅; iexact HO

theorem start_split (c : Dev nD) :
    iprop(unscopedBufs c (fun b => m ((c : Thread nD τ).loc b)) ∗ unscopedSems0 c ∗ owes (c : Thread nD τ) (T0 c) ∅ ∗ Pipeline.launchCred T0 c ∗ prngReg c (ρ c) ∗ G₀ c)
      ⊢ (iprop((StableHlo.held (c : Thread nD τ) (Pipeline.ucRefs τ sig) (V0 m c) ∗ owes (c : Thread nD τ) (T0 c) ∅ ∗ Pipeline.launchCred T0 c ∗ prngReg c (ρ c))
        ∗ ((bigSep Finset.univ fun r : Fin 3 => semVal (cell c (.bar r)) 0) ∗ G₀ c)) : sProp 𝕄) := by
  rw [show unscopedBufs c (fun b => m ((c : Thread nD τ).loc b)) = (StableHlo.held (c : Thread nD τ) (Pipeline.ucRefs τ sig) (V0 m c) : sProp 𝕄) from
    Pipeline.unscopedBufs_held c (V0 m c)]
  iintro ⟨Hh, Hs, HO, Hc, Hp, HG⟩
  ihave Hs := (entry_sems (F := F) c) $$ Hs
  isplitr [Hs HG]
  · isplitl [Hh]; · iexact Hh
    isplitl [HO]; · iexact HO
    isplitl [Hc] <;> iassumption
  isplitl [Hs] <;> iassumption

theorem start_all :
    iprop((bigSep Finset.univ fun c : Dev nD => iprop(unscopedBufs c (fun b => m ((c : Thread nD τ).loc b)) ∗ unscopedSems0 c
          ∗ owes (c : Thread nD τ) (T0 c) ∅ ∗ Pipeline.launchCred T0 c ∗ prngReg c (ρ c) ∗ G₀ c)) ∗ levAts L lv)
      ⊢ (|={Set.univ}=> bigSep Finset.univ (Start m) : sProp 𝕄) := by
  have hs : (bigSep Finset.univ fun c : Dev nD => iprop(unscopedBufs c (fun b => m ((c : Thread nD τ).loc b)) ∗ unscopedSems0 c
          ∗ owes (c : Thread nD τ) (T0 c) ∅ ∗ Pipeline.launchCred T0 c ∗ prngReg c (ρ c) ∗ G₀ c))
      ⊢ (iprop((bigSep Finset.univ fun c : Dev nD =>
          iprop(StableHlo.held (c : Thread nD τ) (Pipeline.ucRefs τ sig) (V0 m c) ∗ owes (c : Thread nD τ) (T0 c) ∅ ∗ Pipeline.launchCred T0 c ∗ prngReg c (ρ c)))
        ∗ (bigSep Finset.univ fun c : Dev nD => bigSep Finset.univ fun r : Fin 3 => semVal (cell c (.bar r)) 0) ∗ bigSep Finset.univ G₀) : sProp 𝕄) := by
    refine (bigSep_mono' (s := (Finset.univ : Finset (Dev nD))) (fun c _ => start_split m ρ c)).trans (Entails.of_eq ?_)
    rw [BI.bigSep_sep', BI.bigSep_sep' _ (fun c : Dev nD => bigSep Finset.univ fun r : Fin 3 => (semVal (cell c (.bar r)) 0 : sProp 𝕄)) G₀]
  have hG : bigSep Finset.univ (G₀ (F := F)) ⊢ (BI.own (ER talk₀) : sProp 𝕄) := Entails.of_eq (held₀_all _)
  have hv : (bigSep Finset.univ fun c : Dev nD => bigSep Finset.univ fun r : Fin 3 => (semVal (cell c (.bar r)) 0 : sProp 𝕄)) ⊢ bigSep entryCells fun g => semVal g 0 :=
    Entails.of_eq (entry_dev fun g => (semVal g 0 : sProp 𝕄)).symm
  have hlin : iprop(bigSep callCells (fun g => openTok ER g) ∗ bigSep entryCells (fun g => atPos ER g 0 ∅ 0) ∗ bigSep tokens (fun x => dutyTok ER x.1 x.2.1 x.2.2))
      ⊢ (bigSep Finset.univ linear : sProp 𝕄) := by
    refine Entails.of_eq ?_
    unfold linear
    rw [call_dev, entry_dev, tokens_purses, BI.bigSep_sep', BI.bigSep_sep']
  have hk (κ : GSem nD τ sig → ℕ) : iprop(bigSep (entryCells ∪ callCells) (fun g => cellInv ER (sched (info (X₁ m))) (κ g) g) ∗ bigSep entryCells (fun g => reached ER g 0) ∗ levAts L lv)
      ⊢ know (info (X₁ m)) := by
    unfold know recs
    rw [entry_eq]
    iintro ⟨HI, HR, HL⟩
    iexists κ
    isplitl [HI]
    · iapply (all_cells fun g => cellInv ER (sched (info (X₁ m))) (κ g) g); iexact HI
    isplitl [HR] <;> iassumption
  have hend : iprop(know (info (X₁ m)) ∗ (bigSep Finset.univ linear ∗ bigSep Finset.univ fun c : Dev nD =>
        iprop(StableHlo.held (c : Thread nD τ) (Pipeline.ucRefs τ sig) (V0 m c) ∗ owes (c : Thread nD τ) (T0 c) ∅ ∗ Pipeline.launchCred T0 c ∗ prngReg c (ρ c))))
      ⊢ bigSep Finset.univ (Start m) := by
    rw [← BI.bigSep_sep']
    exact BI.bigSep_with_persistent (R := know (info (X₁ m))) fun c _ => share_of ρ (info (X₁ m)) c _
  iintro ⟨H, #HL⟩
  ihave H := hs $$ H
  icases H with ⟨HB, Hv, HG⟩
  ihave Hv := hv $$ Hv
  ihave HG := hG $$ HG
  imod (Rounds.fund_launch ER (sched (info (X₁ m))) entry_call (fun g _ h => h) tokens) $$ [Hv HG] with ⟨%κ, -, Hinv, Hr, Hat, Hopen, Htok⟩
  · isplitl [Hv]
    · iexact Hv
    · iexact HG
  imodintro
  iapply hend
  isplitl [Hinv Hr]
  · iapply (hk κ)
    isplitl [Hinv]; · iexact Hinv
    isplitl [Hr]; · iexact Hr
    iexact HL
  isplitr [HB]
  · iapply hlin
    isplitl [Hopen]; · iexact Hopen
    isplitl [Hat] <;> iassumption
  iexact HB

end Init

end Cert.K
-- ==== Proof.Run.lean ====
/-
# The run

From any memory with every counter at zero the program ends on every device: the arguments as they were, the result the
dequantised blocks, every counter at zero.
-/
module

public import proofs.«01_k».proof.Proof.Start

@[expose] public section

set_option maxRecDepth 16384

noncomputable section

namespace Cert.K

open Cert.KernelIdeal Cert.KernelIdeal.Gen
open Idealize.ShloMosaic Idealize.ShloMosaic.TcCoe
open Idealize.SL.Sem
open Idealize.SL
open Idealize.SL.BI (sProp bigSep)
open scoped Idealize.SL.BI
open Idealize.SL.BI.BIBase Idealize.SL.BI.Laws Idealize.SL.ProofMode
open Idealize.SL.RA
open Idealize.ShloMosaic.Rounds

variable {F : FTy → Type} [FloatOps F]

local notation "𝕄" => MT nD τ sig Unit (Elt F) ℕ UU ℕ

section Run
variable (m : (ℓ : Loc nD τ sig) → Buf (Elt F) ℓ) (ρ : Dev nD → PrngReg)

/-- The launch element: the pipelines' own, the protocol's, no local copy in flight. -/
def u₀ : UU :=
  (initOf (Pipeline.cells (Pipeline.pin (pcfgs (F := F)) adm) cellOf_inj) (Pipeline.launchToks (Pipeline.pin (pcfgs (F := F)) adm) cellOf_inj), (talk₀, 1))

theorem u₀_split : (ownU (u₀ (F := F)) : sProp 𝕄) ⊢ |={Set.univ}=> iprop(BI.own (EP (initOf (Pipeline.cells (Pipeline.pin (pcfgs (F := F)) adm) cellOf_inj)
    (Pipeline.launchToks (Pipeline.pin (pcfgs (F := F)) adm) cellOf_inj))) ∗ bigSep Finset.univ G₀) := by
  have hG : BI.own (embR ((talk₀, 1) : RR × Counters)) ⊢ (bigSep Finset.univ G₀ : sProp 𝕄) := Entails.of_eq (held₀_all _).symm
  unfold u₀
  iintro Hu
  ihave H := (ownU_pair _ _) $$ Hu
  icases H with ⟨HP, HX⟩
  imodintro
  isplitl [HP]; · iexact HP
  iapply hG; iexact HX

/-- What a device holds at the end. -/
abbrev Finish (c : Dev nD) : sProp 𝕄 := iprop(StableHlo.held (c : Thread nD τ) (Pipeline.ucRefs τ sig) (X6 (X₁ m) c) ∗ shared c 5)

theorem finish_of (c : Dev nD) : (reg4 (X₁ m)).post c ⊢ iprop(Finish m c ∗ ∃ Wd, owes (c : Thread nD τ) (0 : CellTallies nD τ sig Unit) Wd) := by
  refine (post4_to (X₁ m) c).trans ?_
  unfold Ex Finish
  iintro ⟨Hh, -, -, Hs, HO⟩
  isplitr [HO]
  · isplitl [Hh] <;> iassumption
  iexact HO

theorem entry_of_unscoped : ∀ sm : SemLoc sig, sm.isScoped .tc = false → ∃ r, sm = semOf (.bar r) := by decide

theorem sems_zero (s' : Phys nD τ sig (Elt F)) (c : Dev nD) : iprop(shared c 5 ∗ SI s') ⊢ (iprop(⌜∀ r, s'.mem.sem (cell c (.bar r)) = 0⌝ ∗ SI s') : sProp 𝕄) := by
  show iprop((semVal (cell c (.bar 0)) 0 ∗ semVal (cell c (.bar 1)) 0 ∗ semVal (cell c (.bar 2)) 0) ∗ SI s') ⊢ _
  iintro ⟨⟨H0, H1, H2⟩, HSI⟩
  icombine HSI H0 gives %h0
  icombine HSI H1 gives %h1
  icombine HSI H2 gives %h2
  isplitr
  · ipureintro
    intro r
    fin_cases r
    · simpa using h0
    · simpa using h1
    · simpa using h2
  iexact HSI

set_option backward.isDefEq.respectTransparency.types false in
theorem run_main : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v16) = dequant (bufAll (info (X₁ m))) (blkAll (info (X₁ m)))) ∧ r.2.sem = fun _ => 0) := by
  refine Pipeline.θ_run_regions_kit_dev_sems (pcfgs (F := F)) adm (dats (X₁ m)) () cellOf_inj EP defs₀ 𝒱₀ L lv m ρ main
    (segs m 𝒱₀ L lv (Ex (X₁ m)) () (dats (X₁ m)) (reg0 (X₁ m)) (reg1 (X₁ m)) (reg2 (X₁ m)) (reg3 (X₁ m)) (reg4 (X₁ m)))
    (fun c Q => by
      rewrite [main_chain c, Pipeline.Seg.run_eq_chain,
        show (segs m 𝒱₀ L lv (Ex (X₁ m)) () (dats (X₁ m)) (reg0 (X₁ m)) (reg1 (X₁ m)) (reg2 (X₁ m)) (reg3 (X₁ m)) (reg4 (X₁ m)) c).map Pipeline.Seg.prog = [
          StableHlo.seq (hostOps0 c),
          Prog.lift (.customCall (Pipeline.entry 0) ()),
          Prog.lift (.customCall (Pipeline.entry 1) ()),
          Prog.lift (.customCall (Pipeline.entry 2) ()),
          Prog.lift (.customCall (Pipeline.entry 3) ()),
          Prog.lift (.customCall (Pipeline.entry 4) ()) ] from rfl]
      exact .rfl)
    (fun c => by simp only [segs, Pipeline.Seg.pipes_host, Pipeline.Seg.pipes_region, Pipeline.Seg.pipes_nil]; decide) T0 L_of_ne G₀ u₀ u₀_split
    (T₀ := Start m) (Tₙ := Finish m)
    (hch := fun c => ⟨.rfl, pre0_of (X₁ m) c, (post0_to (X₁ m) c).trans (pre1_of (X₁ m) c), (post1_to (X₁ m) c).trans (pre2_of (X₁ m) c),
      (post2_to (X₁ m) c).trans (pre3_of (X₁ m) c), (post3_to (X₁ m) c).trans (pre4_of (X₁ m) c), finish_of m c⟩)
    (hinit := start_all m ρ)
    (QY := fun c s => (∀ b ∈ Pipeline.ucRefs τ sig, s.mem (c, b) = X6 (X₁ m) c b) ∧ ∀ r, s.sem (cell c (.bar r)) = 0)
    (hfin := fun c s' => ?_) (hQ := fun s h hs => ⟨fun c => ?_, sem_eq_zero hs fun c sm hsm => ?_⟩)
  · have hb := sems_zero (F := F) s' c
    unfold Finish StableHlo.held
    iintro ⟨⟨Hh, Hs⟩, HSI⟩
    ihave Hr := (pointsTo_read_all (Pipeline.ucRefs τ sig) (fun b => ((c : Thread nD τ).1, b)) (X6 (X₁ m) c) s') $$ [Hh HSI]
    · isplitl [Hh] <;> iassumption
    icases Hr with ⟨%h, HSI⟩
    ihave Hz := hb $$ [Hs HSI]
    · isplitl [Hs] <;> iassumption
    icases Hz with ⟨%hz, HSI⟩
    imodintro
    isplitr
    · ipureintro
      exact ⟨h, hz⟩
    · iexact HSI
  · have hr (b : Ref sig .tc) (hb : Proc.devRef (τ := τ) .tc b ∈ Pipeline.ucRefs τ sig) : s.mem ((c.tc : Thread nD τ).loc b) = X6 (X₁ m) c (Proc.devRef .tc b) := (h c).1 _ hb
    refine ⟨(hr main_arg0 (Finset.mem_filter.mpr ⟨StableHlo.devRef_mem_tcRefs main_arg0, by decide⟩)).trans ?_,
      (hr main_arg1 (Finset.mem_filter.mpr ⟨StableHlo.devRef_mem_tcRefs main_arg1, by decide⟩)).trans ?_,
      (hr main_v16 (Finset.mem_filter.mpr ⟨StableHlo.devRef_mem_tcRefs main_v16, by decide⟩)).trans (X6_v16 (X₁ m) c)⟩
    · exact (X6_arg (X₁ m) c (by decide)).trans (V1_of m c main_arg0 (by decide))
    · exact (X6_arg (X₁ m) c (by decide)).trans (V1_of m c main_arg1 (by decide))
  · obtain ⟨r, rfl⟩ := entry_of_unscoped sm hsm
    exact (h c).2 r

end Run

end Cert.K
-- ==== Proof.RefVal.lean ====
/-
# What the reference leaves

The reference's result as one expression of its two arguments: the product, the largest absolute value, the scale, the clipped
and rounded quotients, and the quotients multiplied back.
-/
module

public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Lib.Pipeline.ValueKit.Geometry
public import Idealize.ShloMosaic.Lib.Tactic

@[expose] public section

set_option maxRecDepth 16384

noncomputable section

namespace Cert.R

open Cert.ReferenceIdeal Cert.ReferenceIdeal.Gen
open Idealize.ShloMosaic Idealize.ShloMosaic.TcCoe Idealize.ShloMosaic.StableHlo
open Idealize.SL.Sem
open Idealize.ShloMosaic.Pipeline (Dat Cfg)

variable {F : FTy → Type} [FloatOps F]

section Expr
variable (x : FVec F S4096x4096 .bf16) (w : FVec F S4096x8192 .bf16)

/-- The product. -/
def refY : FVec F S4096x8192 .f32 :=
  Host.dotGeneral dot_S4096x4096_S4096x8192_S4096x8192_1_0_0_1_n_n none (extf .f32 x bitsLt_bf16_f32) (extf .f32 w bitsLt_bf16_f32)
/-- Its largest absolute value. -/
def refPeak : FVec F S_ .f32 :=
  Host.reduce FloatOps.maximumf (Host.absf (refY x w)) (constant S_ .f32 0xFF800000#32) reducesTo_S4096x8192_S_d0_1 h_S_
/-- The scale. -/
def refScale : FVec F S_ .f32 := Host.divf (refPeak x w) (constant S_ .f32 0x43E00000#32)
/-- The rounded quotients. -/
def refQ : FVec F S4096x8192 .fp8e4m3 :=
  Host.convertf .fp8e4m3 (minimumf (broadcastInDim S4096x8192 ![] bcast_S_S4096x8192 (constant S_ .f32 0x43E00000#32))
    (maximumf (broadcastInDim S4096x8192 ![] bcast_S_S4096x8192 (constant S_ .f32 0xC3E00000#32))
      (Host.divf (refY x w) (broadcastInDim S4096x8192 ![] bcast_S_S4096x8192 (refScale x w)))))
/-- The result. -/
def refOut : FVec F S4096x8192 .bf16 :=
  truncf .bf16 (mulf (extf .f32 (refQ x w) bitsLt_fp8e4m3_f32) (broadcastInDim S4096x8192 ![] bcast_S_S4096x8192 (refScale x w))) bitsLt_bf16_f32

end Expr

variable (m : (ℓ : Loc nD τ sig) → Buf (Elt F) ℓ) (ρ : Dev nD → PrngReg)

theorem before_v9 (c : Dev nD) :
    V0 m c (Proc.devRef .tc main_v9) = refQ (m ((c : Thread nD τ).loc main_arg0)) (m ((c : Thread nD τ).loc main_arg1)) := by
  show StableHlo.after [_, _, _, _, _, _, _, _, _, _, _, _, _, _, _, _, _, _, _] _ _ = _
  after_results
  rfl
theorem before_v5 (c : Dev nD) :
    V0 m c (Proc.devRef .tc main_v5) = refScale (m ((c : Thread nD τ).loc main_arg0)) (m ((c : Thread nD τ).loc main_arg1)) := by
  show StableHlo.after [_, _, _, _, _, _, _, _, _, _, _, _, _, _, _, _, _, _, _] _ _ = _
  after_results
  rfl

theorem idx0 (t : Fin cfg0.N) : win0_0.index t (0 : Fin 2) = 0 ∧ win0_0.index t (1 : Fin 2) = 0 := by
  revert t; decide +kernel
theorem idx1 (t : Fin cfg0.N) : win0_1.index t (0 : Fin 2) = 0 ∧ win0_1.index t (1 : Fin 2) = 0 := by
  revert t; decide +kernel
theorem emb01 (t : Fin cfg0.N) (j : S4096x8192.Idx) : (((cfg0.win 0).blk t).view.emb j : _) = ((cfg0.win 1).blk t).view.emb j := by
  obtain ⟨e0, e1⟩ := idx0 t
  obtain ⟨g0, g1⟩ := idx1 t
  funext a; apply Fin.ext
  match a with
  | ⟨0, _⟩ => show win0_0.index t (0 : Fin 2) * 4096 + 1 * (j 0).val = win0_1.index t (0 : Fin 2) * 4096 + 1 * (j 0).val; omega
  | ⟨1, _⟩ => show win0_0.index t (1 : Fin 2) * 8192 + 1 * (j 1).val = win0_1.index t (1 : Fin 2) * 8192 + 1 * (j 1).val; omega

theorem out0_1_apply (v : Vec F S4096x8192 .fp8e4m3) (j : S4096x8192.Idx) : out0_1 v j = (FloatOps.extf .f32 bitsLt_fp8e4m3_f32 (v j) : F .f32) := by
  unfold out0_1 k0_pay1
  rw [View.canon_unit_zero (by decide), shapeCast_self]
  show FloatOps.extf .f32 bitsLt_fp8e4m3_f32 (View.ld v r0_0 j) = _
  congr 1
  show v (r0_0.emb j) = v j
  congr 1
  funext a; apply Fin.ext
  match a with
  | ⟨0, _⟩ => show 0 + 1 * (j 0).val = (j 0).val; omega
  | ⟨1, _⟩ => show 0 + 1 * (j 1).val = (j 1).val; omega

theorem final_v10 (c : Dev nD) :
    (dats m 0 c).arrAt 1 cfg0.N = (fun i => (FloatOps.extf .f32 bitsLt_fp8e4m3_f32 (V0 m c (Proc.devRef .tc main_v9) i) : F .f32)) := by
  refine (dats m 0 c).arrAt_eq_of_covers 1 _ (by decide +kernel) fun t hf y => ?_
  show (dats m 0 c).after 1 t y = FloatOps.extf .f32 bitsLt_fp8e4m3_f32 (V0 m c (Proc.devRef .tc main_v9) (((cfg0.win 1).blk t).view.emb y))
  rw [after0_1, out0_1_apply]
  exact congrArg (fun i => (FloatOps.extf .f32 bitsLt_fp8e4m3_f32 (V0 m c (Proc.devRef .tc main_v9) i) : F .f32)) (emb01 t y)

/-- The reference ends with `refOut` of its arguments in its result, the arguments as they were. -/
theorem run_main : θ_run defs (onTc (τ := τ) (main (F := F))) ⟨m, fun _ => 0, ρ⟩ (fun r => ∀ c : Dev nD,
      r.2.mem (c.tc.loc main_v13) = refOut (m (c.tc.loc main_arg0)) (m (c.tc.loc main_arg1))
      ∧ r.2.mem (c.tc.loc main_arg0) = m (c.tc.loc main_arg0) ∧ r.2.mem (c.tc.loc main_arg1) = m (c.tc.loc main_arg1)) := by
  refine (θ_run defs _ _).mono (fun r h c => ⟨?_, ?_, ?_⟩) (Cert.ReferenceIdeal.Gen.run_main m ρ)
  · refine ((h c).2 main_v13 (Pipeline.mem_restRefs_of main_v13 (by decide) (by decide))).trans ?_
    unfold Pipeline.afterTail₀
    have e10 : Pipeline.withArrays (cfgs 0).spec c (V0 m c) (fun w => (dats m 0 c).arrAt w (cfgs 0).N) (Proc.devRef .tc main_v10)
        = (fun i => (FloatOps.extf .f32 bitsLt_fp8e4m3_f32 (V0 m c (Proc.devRef .tc main_v9) i) : F .f32)) :=
      (Pipeline.withArrays_arr (τ := τ) spec0 (by decide +kernel) c (V0 m c) (fun w => (dats m 0 c).arrAt w (cfgs 0).N) 1).trans (final_v10 m c)
    have e5 : Pipeline.withArrays (cfgs 0).spec c (V0 m c) (fun w => (dats m 0 c).arrAt w (cfgs 0).N) (Proc.devRef .tc main_v5)
        = V0 m c (Proc.devRef .tc main_v5) :=
      Pipeline.withArrays_of_ne (τ := τ) spec0 c (V0 m c) _ main_v5 (by exact (by decide : ∀ w, Pipeline.arrRef spec0 w ≠ main_v5))
    generalize Pipeline.withArrays (cfgs 0).spec c (V0 m c) (fun w => (dats m 0 c).arrAt w (cfgs 0).N) = W at e10 e5
    have tail : StableHlo.after (List.flatten [hostOps1]) W (Proc.devRef .tc main_v13)
        = truncf .bf16 (mulf (W (Proc.devRef .tc main_v10)) (broadcastInDim S4096x8192 ![] bcast_S_S4096x8192 (W (Proc.devRef .tc main_v5)))) bitsLt_bf16_f32 := by
      show StableHlo.after [_, _, _] _ _ = _
      after_results
    rw [tail, e10, e5, before_v9, before_v5]
    rfl
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)

end Cert.R
-- ==== Proof.HostVal.lean ====
/-
# The product the host computes

Before the first call each device multiplies its own band of rows of its first argument by its second, and rounds the product.
-/
module

public import proofs.«01_k».proof.Proof.Start
public import Idealize.ShloMosaic.Lib.StableHlo.RunClose

@[expose] public section

set_option maxRecDepth 16384

noncomputable section

namespace Cert.K

open Cert.KernelIdeal Cert.KernelIdeal.Gen
open Idealize.ShloMosaic Idealize.ShloMosaic.TcCoe
open Idealize.SL.Sem
open Idealize.SL
open Idealize.SL.BI (sProp bigSep)
open scoped Idealize.SL.BI
open Idealize.SL.BI.BIBase Idealize.SL.BI.Laws Idealize.SL.ProofMode
open Idealize.SL.RA
open Idealize.ShloMosaic.Rounds
open Idealize.ShloMosaic.StableHlo

variable {F : FTy → Type} [FloatOps F]

local notation "𝕄" => MT nD τ sig Unit (Elt F) ℕ UU ℕ

variable (m : (ℓ : Loc nD τ sig) → Buf (Elt F) ℓ)

/-- Where a device's band of rows starts, as the host computes it. -/
def bandWord (c : Dev nD) : Fin 2 → IVec S_ 32 :=
  ![select (cmpi .slt (muli (id (Host.remui (Host.divui (constantI S_ 32 (Dev.word c)) (constantI S_ 32 1#32)) (constantI S_ 32 4#32))) (constantI S_ 32 1024#32)) (constantI S_ 32 0#32))
      (addi (muli (id (Host.remui (Host.divui (constantI S_ 32 (Dev.word c)) (constantI S_ 32 1#32)) (constantI S_ 32 4#32))) (constantI S_ 32 1024#32)) (constantI S_ 32 4096#32))
      (muli (id (Host.remui (Host.divui (constantI S_ 32 (Dev.word c)) (constantI S_ 32 1#32)) (constantI S_ 32 4#32))) (constantI S_ 32 1024#32)),
    constantI S_ 32 0#32]

theorem bandWord_eq : ∀ (c : Dev nD) (k : Fin 2), (bandWord c k (Shape.Idx.first h_S_)).toInt = ((![1024 * c.val, 0] : Fin 2 → ℕ) k : ℤ) := by
  decide +kernel

/-- The band of rows. -/
def band (c : Dev nD) (x : FVec F S4096x1024 .bf16) : FVec F S1024x1024 .bf16 :=
  Host.dynamicSlice S1024x1024 x (fun k => (bandWord c k (Shape.Idx.first h_S_)).toInt) sliceFits_S4096x1024_S1024x1024

/-- The rounded product of the band. -/
def chunk (c : Dev nD) (x : FVec F S4096x1024 .bf16) (w : FVec F S1024x8192 .bf16) : FVec F S1024x8192 .bf16 :=
  truncf .bf16 (Host.dotGeneral dot_S1024x1024_S1024x8192_S1024x8192_1_0_0_1_n_n none (band c x) w) bitsLt_bf16_f32

theorem V1_chunk (c : Dev nD) :
    V1 m c (Proc.devRef .tc main_v11) = chunk c (m (c.tc.loc main_arg0)) (m (c.tc.loc main_arg1)) := by
  show StableHlo.after [_, _, _, _, _, _, _, _, _, _, _, _, _, _, _, _, _] _ _ = _
  after_results_simp_entrywise
  rfl

end Cert.K
-- ==== Proof.Sums.lean ====
/-
# The sums over the reals

What a device's block of sums holds when values are extended reals: every position is the whole product's entry there. A
device's contribution to a position is the sum of 1024 products, one for each of its columns of the first argument. A block
gathers the contributions of the four devices in the order the ring visits them, and addition is commutative and associative.
-/
module

public import proofs.«01_k».proof.Proof.HostVal
public import proofs.«01_k».proof.Proof.RefVal
public import Idealize.ShloMosaic.Lib.MatmulPlain
public import Idealize.ShloMosaic.Lib.ValueIdxCore
public import Idealize.ShloMosaic.Lib.Layout

@[expose] public section

set_option maxRecDepth 16384

noncomputable section

namespace Cert.K

open Cert.KernelIdeal Cert.KernelIdeal.Gen
open Idealize.ShloMosaic Idealize.ShloMosaic.TcCoe
open Idealize.SL.Sem
open Idealize.SL
open Idealize.SL.BI (sProp bigSep)
open scoped Idealize.SL.BI
open Idealize.SL.BI.BIBase Idealize.SL.BI.Laws Idealize.SL.ProofMode
open Idealize.SL.RA
open Idealize.ShloMosaic.Rounds
open Idealize.ShloMosaic.ValueIdx
open scoped BigOperators

variable {F : FTy → Type} [FloatOps F]

local notation "𝕄" => MT nD τ sig Unit (Elt F) ℕ UU ℕ

/-! ## The products -/

theorem tile_product (x : FVec Ideal S256x1024 .bf16) (w : FVec Ideal S1024x4096 .bf16) (r : Fin 256) (n : Fin 4096) :
    matmul dot_S256x1024_S1024x4096_S256x4096_1_0_0_1_n_n none x w (constant S256x4096 .f32 0x00000000#32) (ix2 r n)
      = ∑ k : Fin 1024, x (ix2 r k) * w (ix2 k n) := by
  refine (Ideal.matmul_plain_apply (M := 256) (K := 1024) (N := 4096) none x w (constant S256x4096 .f32 0x00000000#32) r n).trans ?_
  rw [show (constant S256x4096 .f32 0x00000000#32 : FVec Ideal S256x4096 .f32) (ix2 r n) = (0 : EReal) from Ideal.ofBits_zero_f32]
  exact zero_add _

theorem band_product (x : FVec Ideal S1024x1024 .bf16) (w : FVec Ideal S1024x8192 .bf16) (r : Fin 1024) (n : Fin 8192) :
    Host.dotGeneral dot_S1024x1024_S1024x8192_S1024x8192_1_0_0_1_n_n none x w (ix2 r n) = (∑ k : Fin 1024, x (ix2 r k) * w (ix2 k n) : EReal) :=
  (Ideal.matmul_plain_apply (M := 1024) (K := 1024) (N := 8192) none x w (fun _ => (0 : EReal)) r n).trans (zero_add _)

theorem whole_product (x : FVec Ideal Cert.ReferenceIdeal.S4096x4096 .bf16) (w : FVec Ideal Cert.ReferenceIdeal.S4096x8192 .bf16) (r : Fin 4096) (n : Fin 8192) :
    Cert.R.refY x w (ix2 r n) = (∑ k : Fin 4096, x (ix2 r k) * w (ix2 k n) : EReal) :=
  (Ideal.matmul_plain_apply (M := 4096) (K := 4096) (N := 8192) (φ₁ := .f32) (φ₂ := .f32) none (fun i => (x i : EReal)) (fun i => (w i : EReal)) (fun _ => (0 : EReal)) r n).trans (zero_add _)

/-! ## Positions -/

/-- Row `r` of tile `t` of the band `q` of rows, and column `n` of the half a direction moves. -/
def rowAt (q t : Fin 4) (r : Fin 256) : Fin 4096 := ⟨1024 * q.val + 256 * t.val + r.val, by omega⟩
def colAt (d : Dir) (n : Fin 4096) : Fin 8192 := ⟨colOf d + n.val, by cases d <;> simp only [colOf] <;> omega⟩
/-- The band of rows a device adds to at a step. -/
def bandOf (d : Dir) (c : Dev nD) (s : Fin 3) : Fin 4 := ⟨(c.val + (if d then 3 - s.val else s.val + 1)) % 4, Nat.mod_lt _ (by decide)⟩

theorem xoff_eq : ∀ (d : Dir) (c : Dev nD) (s : Fin 3) (t : Fin 4), xoff d c s t = ![1024 * (bandOf d c s).val + 256 * t.val, 0] := by
  decide +kernel

section Values
variable (I : Info Ideal)

/-- Device `b`'s contribution to a position. -/
def part (b : Dev nD) (R : Fin 4096) (N : Fin 8192) : EReal := ∑ k : Fin 1024, I.x b (ix2 R k) * I.w b (ix2 k N)

theorem xt_apply (d : Dir) (c : Dev nD) (s : Fin 3) (t : Fin 4) (r : Fin 256) (k : Fin 1024) :
    xt I d c s t (ix2 r k) = I.x c (ix2 (rowAt (bandOf d c s) t r) k) := by
  unfold xt
  congr 1
  funext a; apply Fin.ext
  have h := xoff_eq d c s t
  match a with
  | ⟨0, _⟩ =>
    show xoff d c s t 0 + 1 * r.val = 1024 * (bandOf d c s).val + 256 * t.val + r.val
    rw [h]; show 1024 * (bandOf d c s).val + 256 * t.val + 1 * r.val = _; omega
  | ⟨1, _⟩ =>
    show xoff d c s t 1 + 1 * k.val = k.val
    rw [h]; show 0 + 1 * k.val = _; omega

theorem wc_apply (d : Dir) (c : Dev nD) (k : Fin 1024) (n : Fin 4096) : wc I d c (ix2 k n) = I.w c (ix2 k (colAt d n)) := by
  unfold wc
  congr 1
  funext a; apply Fin.ext
  match a with
  | ⟨0, _⟩ => show 0 + 1 * k.val = k.val; omega
  | ⟨1, _⟩ => show colOf d + 1 * n.val = colOf d + n.val; omega

theorem pt_apply (d : Dir) (c : Dev nD) (t : Fin 4) (r : Fin 256) (n : Fin 4096) :
    pt I d c t (ix2 r n) = I.p c (ix2 (⟨256 * t.val + r.val, by omega⟩ : Fin 1024) (colAt d n)) := by
  unfold pt
  congr 1
  funext a; apply Fin.ext
  match a with
  | ⟨0, _⟩ => show 256 * t.val + 1 * r.val = 256 * t.val + r.val; omega
  | ⟨1, _⟩ => show colOf d + 1 * n.val = colOf d + n.val; omega

/-- A step adds the device's contribution. -/
theorem step_apply (d : Dir) (c : Dev nD) (s : Fin 3) (t : Fin 4) (b : FVec Ideal S256x4096 .f32) (r : Fin 256) (n : Fin 4096) :
    partV (xt I d c s t) (wc I d c) b (ix2 r n) = part I c (rowAt (bandOf d c s) t r) (colAt d n) + (b (ix2 r n) : EReal) := by
  show (matmul dot_S256x1024_S1024x4096_S256x4096_1_0_0_1_n_n none (xt I d c s t) (wc I d c) (constant S256x4096 .f32 0x00000000#32) (ix2 r n) : EReal) + b (ix2 r n) = _
  rw [tile_product]
  unfold part
  congr 1
  refine Finset.sum_congr rfl fun k _ => ?_
  rw [xt_apply, wc_apply]

theorem tileV_apply (x : Vec Ideal S256x1024 .bf16) (w : Vec Ideal S1024x4096 .bf16) (b : Vec Ideal S256x4096 .f32) : tileV x w b = partV x w b := by
  unfold tileV; rw [shapeCast_self]
theorem tile0V_apply (x : Vec Ideal S256x1024 .bf16) (w : Vec Ideal S1024x4096 .bf16) (b : Vec Ideal S256x4096 .bf16) : tile0V x w b = partV x w (extf .f32 b bitsLt_bf16_f32) := by
  unfold tile0V; rw [shapeCast_self]

/-- The band a device is left with, as one number. -/
def homeBand (d : Dir) (c : Dev nD) : Fin 4 := ⟨blkRow d c, Nat.mod_lt _ (by decide)⟩

theorem bands : ∀ (d : Dir) (c : Dev nD),
    bandOf d c 2 = homeBand d c ∧ bandOf d ((nx d).symm c) 1 = homeBand d c ∧ bandOf d ((nx d).symm ((nx d).symm c)) 0 = homeBand d c
      ∧ ((nx d).symm ((nx d).symm ((nx d).symm c))).val = (homeBand d c).val := by
  decide +kernel

/-- The four devices met going backwards round the ring are all four. -/
theorem round (d : Dir) (c : Dev nD) (f : Dev nD → EReal) :
    f c + (f ((nx d).symm c) + (f ((nx d).symm ((nx d).symm c)) + f ((nx d).symm ((nx d).symm ((nx d).symm c))))) = ∑ b : Dev nD, f b := by
  have hs : ∑ b : Dev nD, f b = f 0 + f 1 + f 2 + f 3 := Fin.sum_univ_four f
  have key : ∀ (d : Dir) (c : Dev nD), (c = 0 ∧ (nx d).symm c = 1 ∧ (nx d).symm ((nx d).symm c) = 2 ∧ (nx d).symm ((nx d).symm ((nx d).symm c)) = 3)
      ∨ (c = 1 ∧ (nx d).symm c = 2 ∧ (nx d).symm ((nx d).symm c) = 3 ∧ (nx d).symm ((nx d).symm ((nx d).symm c)) = 0)
      ∨ (c = 2 ∧ (nx d).symm c = 3 ∧ (nx d).symm ((nx d).symm c) = 0 ∧ (nx d).symm ((nx d).symm ((nx d).symm c)) = 1)
      ∨ (c = 3 ∧ (nx d).symm c = 0 ∧ (nx d).symm ((nx d).symm c) = 1 ∧ (nx d).symm ((nx d).symm ((nx d).symm c)) = 2)
      ∨ (c = 0 ∧ (nx d).symm c = 3 ∧ (nx d).symm ((nx d).symm c) = 2 ∧ (nx d).symm ((nx d).symm ((nx d).symm c)) = 1)
      ∨ (c = 1 ∧ (nx d).symm c = 0 ∧ (nx d).symm ((nx d).symm c) = 3 ∧ (nx d).symm ((nx d).symm ((nx d).symm c)) = 2)
      ∨ (c = 2 ∧ (nx d).symm c = 1 ∧ (nx d).symm ((nx d).symm c) = 0 ∧ (nx d).symm ((nx d).symm ((nx d).symm c)) = 3)
      ∨ (c = 3 ∧ (nx d).symm c = 2 ∧ (nx d).symm ((nx d).symm c) = 1 ∧ (nx d).symm ((nx d).symm ((nx d).symm c)) = 0) := by decide +kernel
  rw [hs]
  rcases key d c with ⟨a, b, e, g⟩ | ⟨a, b, e, g⟩ | ⟨a, b, e, g⟩ | ⟨a, b, e, g⟩ | ⟨a, b, e, g⟩ | ⟨a, b, e, g⟩ | ⟨a, b, e, g⟩ | ⟨a, b, e, g⟩ <;>
    (rw [g, e, b, a]; abel)

/-- The host's product is each device's contribution to its own band of rows. -/
def HostParts : Prop := ∀ (b : Dev nD) (r : Fin 1024) (N : Fin 8192),
  I.p b (ix2 r N) = part I b (⟨1024 * b.val + r.val, by have : b.val < 4 := b.isLt; omega⟩ : Fin 4096) N

/-- A finished tile holds, at each position, the contributions of all four devices. -/
theorem sum2_apply (hp : HostParts I) (d : Dir) (c : Dev nD) (t : Fin 4) (r : Fin 256) (n : Fin 4096) :
    sum2 I d c t (ix2 r n) = (∑ b : Dev nD, part I b (rowAt (homeBand d c) t r) (colAt d n) : EReal) := by
  obtain ⟨h2, h1, h0, h3⟩ := bands d c
  unfold sum2
  rw [tileV_apply, step_apply, h2]
  unfold sum1
  rw [tileV_apply, step_apply, h1]
  unfold sum0
  rw [tile0V_apply, step_apply, h0]
  rw [show (extf .f32 (pt I d ((nx d).symm ((nx d).symm ((nx d).symm c))) t) bitsLt_bf16_f32 : FVec Ideal S256x4096 .f32) (ix2 r n)
      = (part I ((nx d).symm ((nx d).symm ((nx d).symm c))) (rowAt (homeBand d c) t r) (colAt d n) : EReal) from ?_]
  · exact round d c fun b => part I b (rowAt (homeBand d c) t r) (colAt d n)
  · refine (pt_apply I d _ t r n).trans ((hp _ _ _).trans ?_)
    congr 1
    apply Fin.ext
    show 1024 * ((nx d).symm ((nx d).symm ((nx d).symm c))).val + (256 * t.val + r.val) = 1024 * (homeBand d c).val + 256 * t.val + r.val
    rw [h3]; omega

end Values

/-! ## The whole product, cut -/

/-- A sum over 4096 is a sum over four runs of 1024. -/
theorem sum_runs (f : Fin 4096 → EReal) :
    ∑ k : Fin 4096, f k = ∑ b : Fin 4, ∑ k : Fin 1024, f (⟨1024 * b.val + k.val, by omega⟩ : Fin 4096) := by
  rw [← Fintype.sum_prod_type' (f := fun (b : Fin 4) (k : Fin 1024) => f (⟨1024 * b.val + k.val, by omega⟩ : Fin 4096))]
  refine (Equiv.sum_comp (finProdFinEquiv (m := 4) (n := 1024)) (fun k : Fin (4 * 1024) => f k)).symm.trans ?_
  refine Finset.sum_congr rfl fun j _ => congrArg f (Fin.ext ?_)
  show j.2.val + 1024 * j.1.val = 1024 * j.1.val + j.2.val
  omega

section Whole
variable (I : Info Ideal) (X : FVec Ideal Cert.ReferenceIdeal.S4096x4096 .bf16) (W : FVec Ideal Cert.ReferenceIdeal.S4096x8192 .bf16)

/-- The devices hold the two arguments cut as the program's inputs are. -/
def Held : Prop :=
  (∀ b : Dev nD, I.x b = Layout.block ⟨2, ![4096, 1024]⟩ ⟨2, ![4096, 4096]⟩ 1 4 b X) ∧
  (∀ b : Dev nD, I.w b = Layout.block ⟨2, ![1024, 8192]⟩ ⟨2, ![4096, 8192]⟩ 0 4 b W)

theorem x_held (h : Held I X W) (b : Dev nD) (R : Fin 4096) (k : Fin 1024) :
    I.x b (ix2 R k) = X (ix2 R (⟨1024 * b.val + k.val, by have : b.val < 4 := b.isLt; omega⟩ : Fin 4096)) := by
  rw [h.1 b, Layout.block_apply]
  congr 1
  funext a; apply Fin.ext
  match a with
  | ⟨0, _⟩ => rw [Layout.Tiles.idx_val]; rfl
  | ⟨1, _⟩ => rw [Layout.Tiles.idx_val]; show b.val * 1024 + k.val = 1024 * b.val + k.val; omega
theorem w_held (h : Held I X W) (b : Dev nD) (k : Fin 1024) (N : Fin 8192) :
    I.w b (ix2 k N) = W (ix2 (⟨1024 * b.val + k.val, by have : b.val < 4 := b.isLt; omega⟩ : Fin 4096) N) := by
  rw [h.2 b, Layout.block_apply]
  congr 1
  funext a; apply Fin.ext
  match a with
  | ⟨0, _⟩ => rw [Layout.Tiles.idx_val]; show b.val * 1024 + k.val = 1024 * b.val + k.val; omega
  | ⟨1, _⟩ => rw [Layout.Tiles.idx_val]; rfl

theorem parts_sum (h : Held I X W) (R : Fin 4096) (N : Fin 8192) : (∑ b : Dev nD, part I b R N : EReal) = Cert.R.refY X W (ix2 R N) := by
  rw [whole_product, sum_runs]
  refine Finset.sum_congr rfl fun b _ => Finset.sum_congr rfl fun k _ => ?_
  rw [x_held I X W h, w_held I X W h]

/-- What a device is left with is its block of the whole product. -/
theorem own_apply (hp : HostParts I) (h : Held I X W) (d : Dir) (c : Dev nD) (j : S1024x4096.Idx) :
    ownAll I d c j = Cert.R.refY X W ((blkRect d c).emb j) := by
  obtain ⟨t, l, rfl⟩ := rowCuts.piece j
  unfold ownAll
  rw [glue_emb rowCuts]
  have hl : ∃ (r : Fin 256) (n : Fin 4096), l = ix2 r n := ⟨l 0, l 1, eq_ix2 (n0 := 256) (n1 := 4096) l⟩
  obtain ⟨r, n, rfl⟩ := hl
  refine (sum2_apply I hp d c t r n).trans ((parts_sum I X W h _ _).trans ?_)
  congr 1
  have hb := blk_off d c
  funext a; apply Fin.ext
  match a with
  | ⟨0, _⟩ =>
    show 1024 * blkRow d c + 256 * t.val + r.val = goff d c 0 + 1 * (256 * t.val + 1 * r.val)
    rw [hb]; show _ = 1024 * blkRow d c + 1 * (256 * t.val + 1 * r.val); omega
  | ⟨1, _⟩ =>
    show colOf d + n.val = goff d c 1 + 1 * (0 + 1 * n.val)
    rw [hb]; show _ = colOf d + 1 * (0 + 1 * n.val); omega

end Whole

/-! ## The host's product -/

theorem band_apply (c : Dev nD) (x : FVec Ideal S4096x1024 .bf16) (r : Fin 1024) (k : Fin 1024) :
    band c x (ix2 r k) = x (ix2 (⟨1024 * c.val + r.val, by have : c.val < 4 := c.isLt; omega⟩ : Fin 4096) k) := by
  have hc : c.val < 4 := c.isLt
  unfold band Host.dynamicSlice extractStridedSlice
  congr 1
  funext a; apply Fin.ext
  match a with
  | ⟨0, _⟩ =>
    show (min (max (bandWord c 0 (Shape.Idx.first h_S_)).toInt 0) ((4096 - 1024 : ℕ) : ℤ)).toNat + r.val = 1024 * c.val + r.val
    rw [bandWord_eq c 0]
    show (min (max ((1024 * c.val : ℕ) : ℤ) 0) ((4096 - 1024 : ℕ) : ℤ)).toNat + r.val = 1024 * c.val + r.val
    omega
  | ⟨1, _⟩ =>
    show (min (max (bandWord c 1 (Shape.Idx.first h_S_)).toInt 0) ((1024 - 1024 : ℕ) : ℤ)).toNat + k.val = k.val
    rw [bandWord_eq c 1]
    show (min (max ((0 : ℕ) : ℤ) 0) ((1024 - 1024 : ℕ) : ℤ)).toNat + k.val = k.val
    omega

theorem host_parts (m : (ℓ : Loc nD τ sig) → Buf (Elt Ideal) ℓ) : HostParts (info (X₁ m)) := by
  intro b r N
  show V1 m b (Proc.devRef .tc main_v11) (ix2 r N) = _
  rw [V1_chunk]
  refine (band_product _ _ r N).trans ?_
  unfold part
  refine Finset.sum_congr rfl fun k _ => ?_
  rw [band_apply]
  rw [show (info (X₁ m)).x b = m (b.tc.loc main_arg0) from V1_of m b main_arg0 (by decide),
    show (info (X₁ m)).w b = m (b.tc.loc main_arg1) from V1_of m b main_arg1 (by decide)]

end Cert.K
-- ==== Proof.Scale.lean ====
/-
# The scale and the result over the reals

The largest absolute value the devices gather is the whole product's, so both programs divide by the same scale. Dividing by it,
clipping to the range of the narrow format and multiplying back gives what dividing and multiplying back gives: a quotient lies
in the range, except where the scale is zero, and there both products are zero.
-/
module

public import proofs.«01_k».proof.Proof.Sums

@[expose] public section

set_option maxRecDepth 16384

noncomputable section

namespace Cert.K

open Cert.KernelIdeal Cert.KernelIdeal.Gen
open Idealize.ShloMosaic Idealize.ShloMosaic.TcCoe
open Idealize.SL.Sem
open Idealize.SL
open Idealize.SL.BI (sProp bigSep)
open scoped Idealize.SL.BI
open Idealize.SL.BI.BIBase Idealize.SL.BI.Laws Idealize.SL.ProofMode
open Idealize.SL.RA
open Idealize.ShloMosaic.Rounds
open Idealize.ShloMosaic.ValueIdx
open scoped BigOperators

variable {F : FTy → Type} [FloatOps F]

local notation "𝕄" => MT nD τ sig Unit (Elt F) ℕ UU ℕ

/-! ## Constants -/

theorem bits_bot : Ideal.ofBits .f32 0xFF800000#32 = ⊥ := by simp [Ideal.ofBits, Ideal.ieee]
theorem bits_top : Ideal.ofBits .f32 0x43E00000#32 = ((448 : ℝ) : EReal) := by simp [Ideal.ofBits, Ideal.ieee, -EReal.coe_mul]; norm_num
theorem bits_low : Ideal.ofBits .f32 0xC3E00000#32 = ((-448 : ℝ) : EReal) := by simp [Ideal.ofBits, Ideal.ieee, -EReal.coe_mul]; norm_num

/-! ## The clipped quotient multiplied back -/

/-- The absolute value. -/
def mag (x : EReal) : EReal := max x (-x)

theorem mag_nonneg (x : EReal) : 0 ≤ mag x := by
  unfold mag
  rcases le_total 0 x with h | h
  · exact le_max_of_le_left h
  · exact le_max_of_le_right (by rwa [EReal.le_neg, neg_zero])

theorem clip_back (y a : EReal) (h : mag y ≤ a) :
    min ((448 : ℝ) : EReal) (max ((-448 : ℝ) : EReal) (Ideal.div y (Ideal.div a ((448 : ℝ) : EReal)))) * Ideal.div a ((448 : ℝ) : EReal)
      = Ideal.div y (Ideal.div a ((448 : ℝ) : EReal)) * Ideal.div a ((448 : ℝ) : EReal) := by
  have ha : 0 ≤ a := (mag_nonneg y).trans h
  have hy : y ≤ a := (le_max_left _ _).trans h
  have hy' : -y ≤ a := (le_max_right _ _).trans h
  have h448 : ((448 : ℝ) : EReal) ≠ 0 := by norm_num
  have hd : Ideal.div a ((448 : ℝ) : EReal) = a * ((448 : ℝ) : EReal)⁻¹ := if_neg h448
  rw [hd]
  induction a using EReal.rec with
  | bot => exact absurd ha (by simp)
  | top =>
    have ht : (⊤ : EReal) * ((448 : ℝ) : EReal)⁻¹ = ⊤ := by
      rw [← EReal.coe_inv]; exact EReal.top_mul_coe_of_pos (by norm_num)
    rw [ht]
    have hz : Ideal.div y ⊤ = 0 := by
      unfold Ideal.div; rw [if_neg (by simp), EReal.inv_top, mul_zero]
    rw [hz, max_eq_right (by norm_num : ((-448 : ℝ) : EReal) ≤ 0), min_eq_right (by norm_num : (0 : EReal) ≤ ((448 : ℝ) : EReal))]
  | coe a =>
    induction y using EReal.rec with
    | bot => exact absurd hy' (by simp)
    | top => exact absurd hy (by simp)
    | coe y =>
      have hs : ((a : ℝ) : EReal) * ((448 : ℝ) : EReal)⁻¹ = ((a * (448 : ℝ)⁻¹ : ℝ) : EReal) := by
        rw [← EReal.coe_inv, ← EReal.coe_mul]
      rw [hs]
      have ha' : 0 ≤ a := by exact_mod_cast ha
      have hy1 : y ≤ a := by exact_mod_cast hy
      have hy2 : -y ≤ a := by exact_mod_cast hy'
      rcases ha'.eq_or_lt with e | e
      · subst e
        simp
      · have hpos : 0 < a * (448 : ℝ)⁻¹ := by positivity
        have hv : Ideal.div (y : EReal) ((a * (448 : ℝ)⁻¹ : ℝ) : EReal) = ((y * (a * (448 : ℝ)⁻¹)⁻¹ : ℝ) : EReal) := by
          unfold Ideal.div
          rw [if_neg (by exact_mod_cast hpos.ne'), ← EReal.coe_inv, ← EReal.coe_mul]
        have hq : y * (a * (448 : ℝ)⁻¹)⁻¹ = y / a * 448 := by
          rw [mul_inv, inv_inv]; ring
        have h1 : y / a ≤ 1 := (div_le_one e).mpr hy1
        have h2 : -1 ≤ y / a := by rw [le_div_iff₀ e]; linarith
        rw [hv, hq, max_eq_right (by exact_mod_cast (by linarith : (-448 : ℝ) ≤ y / a * 448)),
          min_eq_right (by exact_mod_cast (by linarith : y / a * 448 ≤ (448 : ℝ)))]

/-! ## The largest absolute value -/

/-- A maximum over everything is at most a bound exactly when every entry is. -/
theorem reduce_le {s t : Shape} {axes : List (Fin s.rank)} (h : s.Reduces axes t) (src : FVec Ideal s .f32) (hφ : FKind.Formats .f32)
    (hacc : 0xFF800000#32 = FKind.maximumf.neutral .f32 hφ) (j : t.Idx) (hj : ∀ i, h.drop i = j) (B : EReal) :
    (multiReduction .maximumf axes t src 0xFF800000#32 h hφ hacc j : EReal) ≤ B ↔ ∀ i, (src i : EReal) ≤ B := by
  rw [multiReduction_maximumf_eq_fold, Finset.filter_true_of_mem (fun i _ => hj i)]
  show (Finset.univ.fold max (Ideal.ofBits .f32 0xFF800000#32) (fun i => (src i : EReal))) ≤ B ↔ _
  rw [Finset.fold_max_le, bits_bot]
  simp

theorem one_S1 (a b : S1.Idx) : a = b := by
  funext i; apply Fin.ext
  have h1 := (a i).isLt
  have h2 := (b i).isLt
  match i with
  | ⟨0, _⟩ =>
    have h1 : (a 0).val < 1 := h1
    have h2 : (b 0).val < 1 := h2
    show (a 0).val = (b 0).val
    omega

theorem peakV_le (a : Ideal .f32) (v : FVec Ideal S256x4096 .f32) (B : EReal) :
    (peakV a v : EReal) ≤ B ↔ (a : EReal) ≤ B ∧ ∀ j, mag (v j) ≤ B := by
  unfold peakV extractAt
  show max (a : EReal) _ ≤ B ↔ _
  rw [max_le_iff]
  refine and_congr Iff.rfl ?_
  unfold shapeCast
  refine (reduce_le _ _ _ _ _ (fun i => one_S1 _ _) B).trans ?_
  constructor
  · intro h j
    obtain ⟨i, rfl⟩ := (Shape.reshapeEquiv shapeCasts_S256x4096_S1x256x4096).surjective j
    exact h i
  · intro h i
    exact h _

theorem partS_last (I : Info Ideal) (d : Dir) (c : Dev nD) (t : Fin 4) : partS I c d t 1 = sum2 I d c t := (tileV_apply _ _ _).symm

theorem peakI_le (I : Info Ideal) (c : Dev nD) (B : EReal) :
    (peakI I c : EReal) ≤ B ↔ 0 ≤ B ∧ ∀ (d : Dir) (t : Fin 4) (j : S256x4096.Idx), mag (sum2 I d c t j) ≤ B := by
  unfold peakI
  simp only [peakV_le, partS_last]
  rw [show (Scalar.ofBits .f32 0x00000000#32 : Ideal .f32) = (0 : EReal) from Ideal.ofBits_zero_f32]
  constructor
  · rintro ⟨⟨⟨⟨⟨⟨⟨⟨h0, a0⟩, b0⟩, a1⟩, b1⟩, a2⟩, b2⟩, a3⟩, b3⟩
    refine ⟨h0, fun d t => ?_⟩
    match d, t with
    | true, 0 => exact a0
    | true, 1 => exact a1
    | true, 2 => exact a2
    | true, 3 => exact a3
    | false, 0 => exact b0
    | false, 1 => exact b1
    | false, 2 => exact b2
    | false, 3 => exact b3
  · rintro ⟨h0, h⟩
    exact ⟨⟨⟨⟨⟨⟨⟨⟨h0, h true 0⟩, h false 0⟩, h true 1⟩, h false 1⟩, h true 2⟩, h false 2⟩, h true 3⟩, h false 3⟩

/-- The largest value the devices gather. -/
def gathered (buf : Vec Ideal S32x128 .f32) : Ideal .f32 :=
  extractAt ![0, 0, 0] (shapeCast S1x1x1 (multiReduction .maximumf [1, 2] S1 (shapeCast S1x32x128 (shapeCast S32x128 buf shapeCasts_S32x128_S32x128) shapeCasts_S32x128_S1x32x128)
    0xFF800000#32 reduces_S1x32x128_S1 (.inl rfl) rfl) shapeCasts_S1_S1x1x1) inpos_S1x1x1_p0_0_0

theorem scale_gathered (buf : Vec Ideal S32x128 .f32) : (k2_pay1 buf : EReal) = Ideal.div (gathered buf) ((448 : ℝ) : EReal) := by
  refine Eq.trans (b := Ideal.div (gathered buf) (Ideal.ofBits .f32 0x43E00000#32)) ?_ (congrArg _ bits_top)
  unfold k2_pay1 gathered
  rfl

theorem gathered_le (buf : Vec Ideal S32x128 .f32) (B : EReal) : (gathered buf : EReal) ≤ B ↔ ∀ i, (buf i : EReal) ≤ B := by
  unfold gathered extractAt
  rw [shapeCast_self]
  unfold shapeCast
  refine (reduce_le _ _ _ _ _ (fun i => one_S1 _ _) B).trans ?_
  constructor
  · intro h i
    obtain ⟨k, rfl⟩ := (Shape.reshapeEquiv shapeCasts_S32x128_S1x32x128).surjective i
    exact h k
  · intro h i
    exact h _

theorem broadcast_at (v : Ideal .f32) (j : S8x128.Idx) : broadcast S8x128 v j = v := rfl

theorem bufAll_at (I : Info Ideal) (ha : ∀ b, I.a b = broadcast S8x128 (peakI I b)) (b : Dev nD) (j : S8x128.Idx) :
    bufAll I ((axRect b).emb j) = peakI I b := by
  refine (glue_emb axCuts (fun b => eightOf I b) b j).trans ?_
  unfold eightOf
  rw [shapeCast_self, ha b]
  exact broadcast_at _ _

theorem bufAll_le (I : Info Ideal) (ha : ∀ b, I.a b = broadcast S8x128 (peakI I b)) (B : EReal) :
    (∀ i, (bufAll I i : EReal) ≤ B) ↔ ∀ b, (peakI I b : EReal) ≤ B := by
  constructor
  · intro h b
    have h1 := h ((axRect b).emb (ix2 (0 : Fin 8) (0 : Fin 128) : S8x128.Idx))
    rw [bufAll_at I ha] at h1
    exact h1
  · intro h i
    obtain ⟨b, j, rfl⟩ := axCuts.piece i
    rw [bufAll_at I ha]
    exact h b

section Whole
variable (I : Info Ideal) (X : FVec Ideal Cert.ReferenceIdeal.S4096x4096 .bf16) (W : FVec Ideal Cert.ReferenceIdeal.S4096x8192 .bf16)

theorem refPeak_le (j : Cert.ReferenceIdeal.S_.Idx) (B : EReal) : (Cert.R.refPeak X W j : EReal) ≤ B ↔ ∀ i, mag (Cert.R.refY X W i) ≤ B := by
  unfold Cert.R.refPeak
  rw [Host.reduce_eq_fold, Finset.filter_true_of_mem (fun i _ => funext fun a => a.elim0)]
  show (Finset.univ.fold max (Ideal.ofBits .f32 0xFF800000#32) (fun i => mag (Cert.R.refY X W i))) ≤ B ↔ _
  rw [Finset.fold_max_le, bits_bot]
  simp

/-- Both programs find the same largest absolute value. -/
theorem peaks_eq (hp : HostParts I) (h : Held I X W) (ha : ∀ b, I.a b = broadcast S8x128 (peakI I b)) (j : Cert.ReferenceIdeal.S_.Idx) :
    (gathered (bufAll I) : EReal) = Cert.R.refPeak X W j := by
  refine eq_of_forall_ge_iff fun B => ?_
  rw [gathered_le, bufAll_le I ha, refPeak_le]
  simp only [peakI_le]
  have hs : ∀ d c t l, (sum2 I d c t l : EReal) = Cert.R.refY X W ((blkRect d c).emb ((rowRect t).emb l)) := fun d c t l =>
    (glue_emb rowCuts (fun t => sum2 I d c t) t l).symm.trans (own_apply I X W hp h d c _)
  constructor
  · intro g i
    obtain ⟨⟨d, c⟩, k, rfl⟩ := blkCuts.piece i
    obtain ⟨t, l, rfl⟩ := rowCuts.piece k
    rw [← hs]
    exact (g c).2 d t l
  · intro g c
    refine ⟨(mag_nonneg _).trans (g ((blkRect true 0).emb ((rowRect 0).emb (ix2 (0 : Fin 256) (0 : Fin 4096) : S256x4096.Idx)))), fun d t l => ?_⟩
    rw [hs]
    exact g _

/-- Both programs compute the same result. -/
theorem result_eq (hp : HostParts I) (h : Held I X W) (ha : ∀ b, I.a b = broadcast S8x128 (peakI I b))
    (hq : ∀ d c, I.q d c = quant (bufAll I) (ownAll I d c)) : dequant (bufAll I) (blkAll I) = Cert.R.refOut X W := by
  funext i
  obtain ⟨⟨d, c⟩, k, rfl⟩ := blkCuts.piece i
  have hb : blkAll I ((blkRect d c).emb k) = quant (bufAll I) (ownAll I d c) k := by
    exact (glue_emb blkCuts (fun j => I.q j.1 j.2) (d, c) k).trans (congrFun (hq d c) k)
  have hs := scale_gathered (bufAll I)
  rw [peaks_eq I X W hp h ha (fun a => a.elim0)] at hs
  show (blkAll I ((blkRect d c).emb k) : EReal) * k2_pay1 (bufAll I)
    = min (Ideal.ofBits .f32 0x43E00000#32) (max (Ideal.ofBits .f32 0xC3E00000#32)
        (Ideal.div (Cert.R.refY X W ((blkRect d c).emb k)) (Ideal.div (Cert.R.refPeak X W _) (Ideal.ofBits .f32 0x43E00000#32))))
      * Ideal.div (Cert.R.refPeak X W _) (Ideal.ofBits .f32 0x43E00000#32)
  rw [hb, bits_top, bits_low, clip_back _ _ ((refPeak_le X W _ _).mp le_rfl _)]
  show Ideal.div (ownAll I d c k) (k2_pay1 (bufAll I)) * (k2_pay1 (bufAll I) : EReal) = _
  rw [hs, own_apply I X W hp h]
  rfl

end Whole

end Cert.K
-- ==== Proof.Same.lean ====
/- The kernel as printed and the kernel as idealized are one text: no operation was rewritten. Here that
   is said of the two programs, so that what is proved of the one, at any values, holds of the other. -/
module

public import proofs.«01_k».proof.Proof.Gen.Kernel
public import proofs.«01_k».proof.Proof.Gen.KernelIdeal
public import proofs.«01_k».proof.Proof.Gen.Kernel.Launch
public import proofs.«01_k».proof.Proof.Gen.KernelIdeal.Launch
public import Idealize.ShloMosaic.PureOps.BitExact

@[expose] public section

set_option maxRecDepth 16384

noncomputable section

namespace Cert.Same

open Idealize.ShloMosaic Idealize.SL.Sem

variable [Cert.Kernel.Facts] [Cert.KernelIdeal.Facts]

/-- The host programs are the same. -/
theorem main_eq : Cert.Kernel.main (F := Bits) = Cert.KernelIdeal.main (F := Bits) := rfl

/-- Each kernel body is the same, at each grid point and on each choice of staging buffers. -/
theorem body_eq (l : Fin 5) (a : Cert.Kernel.Λ₀.Args l) :
    Cert.Kernel.defs₀ (F := Bits) .tc l a = Cert.KernelIdeal.defs₀ (F := Bits) .tc l a := by
  match l, a with
  | 0, (t, s) => exact rfl
  | 1, (t, s) => exact rfl
  | 2, (t, s) => exact rfl
  | 3, (t, s) => exact rfl
  | 4, (t, s) => exact rfl

/-- The tables of bodies are the same. -/
theorem bodies_eq : Cert.Kernel.defs₀ (F := Bits) = Cert.KernelIdeal.defs₀ (F := Bits) := by
  funext p l a
  cases p with
  | tc => exact body_eq l a
  | scScalar _ => exact rfl
  | scVector _ _ => exact rfl

/-- The tables with the pipelines around the bodies are the same. -/
theorem defs_eq : Cert.Kernel.defs (F := Bits) = Cert.KernelIdeal.defs (F := Bits) :=
  congrArg (Pipeline.defs (Cert.KernelIdeal.pcfgs (F := Bits))) bodies_eq

end Cert.Same
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Run
public import proofs.«01_k».proof.Proof.RefVal
public import proofs.«01_k».proof.Proof.Scale
public import proofs.«01_k».proof.Proof.Same
public import Idealize.ShloMosaic.Adequacy
public import Idealize.ShloMosaic.Init

@[expose] public section

set_option maxRecDepth 16384

noncomputable section

namespace Cert.Proof

open Idealize.ShloMosaic Idealize.SL.Sem Cert.Kernel

/-- The run at any values, without the result. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c).1, (h.1 c).2.1⟩, h.2⟩) (Cert.K.run_main (F := F) m ρ)

/-- The kernel on bit patterns: its text is the idealized program's. -/
theorem frame_kernel : Cert.quiescent_Kernel := fun m ρ _ =>
  Eq.mpr (congrArg (fun D => θ_run D (onTc (τ := Cert.Kernel.τ) (Cert.Kernel.main (F := Bits))) ⟨m, fun _ => 0, ρ⟩ _)
    Cert.Same.defs_eq) (frame_any (F := Bits) m ρ)

theorem frame_kernelIdeal : Cert.quiescent_KernelIdeal := fun m ρ _ => frame_any (F := Ideal) m ρ

theorem frame_referenceIdeal : Cert.quiescent_ReferenceIdeal := fun m ρ _ => Cert.ReferenceIdeal.Gen.frame m ρ

/-- Every device of the kernel ends with the reference's result. -/
theorem same_result : Cert.algebraic_KernelIdeal_ReferenceIdeal := by
  intro m g m' g' _ hin
  have held : Cert.K.Held (Cert.K.info (Cert.K.X₁ m))
      (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) :=
    ⟨fun b => (Cert.KernelIdeal.Gen.V1_of m b Cert.KernelIdeal.main_arg0 (by decide)).trans (hin b).1,
      fun b => (Cert.KernelIdeal.Gen.V1_of m b Cert.KernelIdeal.main_arg1 (by decide)).trans (hin b).2⟩
  refine ⟨Cert.R.refOut (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r h c => ?_) (Cert.K.run_main (F := Ideal) m g)
    obtain ⟨h0, h1, h2⟩ := h.1 c
    refine ⟨h2.trans ?_, h0, h1⟩
    exact Cert.K.result_eq _ _ _ (Cert.K.host_parts m) held (fun b => Cert.K.mk2_a _ _ _ b) (fun d b => Cert.K.info_q (Cert.K.X₁ m) d b)
  · exact (θ_run Cert.ReferenceIdeal.defs _ _).mono (fun r h => h 0) (Cert.R.run_main (F := Ideal) m' g')

theorem claim : Cert.Claim :=
  ⟨Cert.Kernel.Gen.facts, Cert.KernelIdeal.Gen.facts, Cert.ReferenceIdeal.Gen.facts,
    frame_kernel, frame_kernelIdeal, frame_referenceIdeal, trivial, same_result⟩

end Cert.Proof

end
